-- ==== Defs.lean ====
def Pre_Kernel [hPre_balls_nonempty : Cert.Pre_balls_nonempty.Facts] (m : (ℓ : Loc Cert.Kernel.nD Cert.Kernel.τ Cert.Kernel.sig) → Buf (Elt Bits) ℓ) : Prop :=
  ∀ c : Dev Cert.Kernel.nD,
    (Cert.Pre_balls_nonempty.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_balls_nonempty : Cert.Pre_balls_nonempty.Facts] (m : (ℓ : Loc Cert.KernelIdeal.nD Cert.KernelIdeal.τ Cert.KernelIdeal.sig) → Buf (Elt Ideal) ℓ) : Prop :=
  ∀ c : Dev Cert.KernelIdeal.nD,
    (Cert.Pre_balls_nonempty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_balls_nonempty : Cert.Pre_balls_nonempty.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_balls_nonempty.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_TransformMax (m : (ℓ : Loc Cert.TransformMax.nD Cert.TransformMax.τ Cert.TransformMax.sig) → Buf (Elt Bits) ℓ) : Prop :=
  True

def Pre_TransformMaxIdeal (m : (ℓ : Loc Cert.TransformMaxIdeal.nD Cert.TransformMaxIdeal.τ Cert.TransformMaxIdeal.sig) → Buf (Elt Ideal) ℓ) : Prop :=
  True

def Pre_TransformMaxReferenceIdeal (m : (ℓ : Loc Cert.TransformMaxReferenceIdeal.nD Cert.TransformMaxReferenceIdeal.τ Cert.TransformMaxReferenceIdeal.sig) → Buf (Elt Ideal) ℓ) : Prop :=
  True

def Pre_InputTransform (m : (ℓ : Loc Cert.InputTransform.nD Cert.InputTransform.τ Cert.InputTransform.sig) → Buf (Elt Bits) ℓ) : Prop :=
  True

def Pre_InputTransformIdeal (m : (ℓ : Loc Cert.InputTransformIdeal.nD Cert.InputTransformIdeal.τ Cert.InputTransformIdeal.sig) → Buf (Elt Ideal) ℓ) : Prop :=
  True

def Pre_InputTransformReferenceIdeal (m : (ℓ : Loc Cert.InputTransformReferenceIdeal.nD Cert.InputTransformReferenceIdeal.τ Cert.InputTransformReferenceIdeal.sig) → Buf (Elt Ideal) ℓ) : Prop :=
  True

def Pre_Features (m : (ℓ : Loc Cert.Features.nD Cert.Features.τ Cert.Features.sig) → Buf (Elt Bits) ℓ) : Prop :=
  True

def Pre_FeaturesIdeal (m : (ℓ : Loc Cert.FeaturesIdeal.nD Cert.FeaturesIdeal.τ Cert.FeaturesIdeal.sig) → Buf (Elt Ideal) ℓ) : Prop :=
  True

def Pre_FeaturesReferenceIdeal (m : (ℓ : Loc Cert.FeaturesReferenceIdeal.nD Cert.FeaturesReferenceIdeal.τ Cert.FeaturesReferenceIdeal.sig) → Buf (Elt Ideal) ℓ) : Prop :=
  True

def Pre_FeatureTransform (m : (ℓ : Loc Cert.FeatureTransform.nD Cert.FeatureTransform.τ Cert.FeatureTransform.sig) → Buf (Elt Bits) ℓ) : Prop :=
  True

def Pre_FeatureTransformIdeal (m : (ℓ : Loc Cert.FeatureTransformIdeal.nD Cert.FeatureTransformIdeal.τ Cert.FeatureTransformIdeal.sig) → Buf (Elt Ideal) ℓ) : Prop :=
  True

def Pre_FeatureTransformReferenceIdeal (m : (ℓ : Loc Cert.FeatureTransformReferenceIdeal.nD Cert.FeatureTransformReferenceIdeal.τ Cert.FeatureTransformReferenceIdeal.sig) → Buf (Elt Ideal) ℓ) : Prop :=
  True

def Pre_OutputFeatures (m : (ℓ : Loc Cert.OutputFeatures.nD Cert.OutputFeatures.τ Cert.OutputFeatures.sig) → Buf (Elt Bits) ℓ) : Prop :=
  True

def Pre_OutputFeaturesIdeal (m : (ℓ : Loc Cert.OutputFeaturesIdeal.nD Cert.OutputFeaturesIdeal.τ Cert.OutputFeaturesIdeal.sig) → Buf (Elt Ideal) ℓ) : Prop :=
  True

def Pre_OutputFeaturesReferenceIdeal (m : (ℓ : Loc Cert.OutputFeaturesReferenceIdeal.nD Cert.OutputFeaturesReferenceIdeal.τ Cert.OutputFeaturesReferenceIdeal.sig) → Buf (Elt Ideal) ℓ) : Prop :=
  True

def Pre_Sampling (m : (ℓ : Loc Cert.Sampling.nD Cert.Sampling.τ Cert.Sampling.sig) → Buf (Elt Bits) ℓ) : Prop :=
  True

def Pre_SamplingIdeal (m : (ℓ : Loc Cert.SamplingIdeal.nD Cert.SamplingIdeal.τ Cert.SamplingIdeal.sig) → Buf (Elt Ideal) ℓ) : Prop :=
  True

def Pre_SamplingReferenceIdeal (m : (ℓ : Loc Cert.SamplingReferenceIdeal.nD Cert.SamplingReferenceIdeal.τ Cert.SamplingReferenceIdeal.sig) → Buf (Elt Ideal) ℓ) : Prop :=
  True

def quiescent_Kernel [hKernel : Cert.Kernel.Facts] [hPre_balls_nonempty : Cert.Pre_balls_nonempty.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_balls_nonempty : Cert.Pre_balls_nonempty.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_balls_nonempty : Cert.Pre_balls_nonempty.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_TransformMax [hTransformMax : Cert.TransformMax.Facts] : Prop :=
  ∀ (m : (ℓ : Loc Cert.TransformMax.nD Cert.TransformMax.τ Cert.TransformMax.sig) → Buf (Elt Bits) ℓ) (g : Dev Cert.TransformMax.nD → PrngReg), Pre_TransformMax m →
    θ_run (Cert.TransformMax.defs (F := Bits)) (onTc (τ := Cert.TransformMax.τ) (Cert.TransformMax.main (F := Bits))) ⟨m, fun _ => 0, g⟩ (fun r => (∀ c : Dev Cert.TransformMax.nD,
      r.2.mem ((c.tc : Thread Cert.TransformMax.nD Cert.TransformMax.τ).loc Cert.TransformMax.main_arg0) = m ((c.tc : Thread Cert.TransformMax.nD Cert.TransformMax.τ).loc Cert.TransformMax.main_arg0)
      ∧ r.2.mem ((c.tc : Thread Cert.TransformMax.nD Cert.TransformMax.τ).loc Cert.TransformMax.main_arg1) = m ((c.tc : Thread Cert.TransformMax.nD Cert.TransformMax.τ).loc Cert.TransformMax.main_arg1)
      ∧ r.2.mem ((c.tc : Thread Cert.TransformMax.nD Cert.TransformMax.τ).loc Cert.TransformMax.main_arg2) = m ((c.tc : Thread Cert.TransformMax.nD Cert.TransformMax.τ).loc Cert.TransformMax.main_arg2)
      ∧ r.2.mem ((c.tc : Thread Cert.TransformMax.nD Cert.TransformMax.τ).loc Cert.TransformMax.main_arg3) = m ((c.tc : Thread Cert.TransformMax.nD Cert.TransformMax.τ).loc Cert.TransformMax.main_arg3)
      ∧ r.2.mem ((c.tc : Thread Cert.TransformMax.nD Cert.TransformMax.τ).loc Cert.TransformMax.main_arg4) = m ((c.tc : Thread Cert.TransformMax.nD Cert.TransformMax.τ).loc Cert.TransformMax.main_arg4))
      ∧ r.2.sem = fun _ => 0)

def quiescent_TransformMaxIdeal [hTransformMaxIdeal : Cert.TransformMaxIdeal.Facts] : Prop :=
  ∀ (m : (ℓ : Loc Cert.TransformMaxIdeal.nD Cert.TransformMaxIdeal.τ Cert.TransformMaxIdeal.sig) → Buf (Elt Ideal) ℓ) (g : Dev Cert.TransformMaxIdeal.nD → PrngReg), Pre_TransformMaxIdeal m →
    θ_run (Cert.TransformMaxIdeal.defs (F := Ideal)) (onTc (τ := Cert.TransformMaxIdeal.τ) (Cert.TransformMaxIdeal.main (F := Ideal))) ⟨m, fun _ => 0, g⟩ (fun r => (∀ c : Dev Cert.TransformMaxIdeal.nD,
      r.2.mem ((c.tc : Thread Cert.TransformMaxIdeal.nD Cert.TransformMaxIdeal.τ).loc Cert.TransformMaxIdeal.main_arg0) = m ((c.tc : Thread Cert.TransformMaxIdeal.nD Cert.TransformMaxIdeal.τ).loc Cert.TransformMaxIdeal.main_arg0)
      ∧ r.2.mem ((c.tc : Thread Cert.TransformMaxIdeal.nD Cert.TransformMaxIdeal.τ).loc Cert.TransformMaxIdeal.main_arg1) = m ((c.tc : Thread Cert.TransformMaxIdeal.nD Cert.TransformMaxIdeal.τ).loc Cert.TransformMaxIdeal.main_arg1)
      ∧ r.2.mem ((c.tc : Thread Cert.TransformMaxIdeal.nD Cert.TransformMaxIdeal.τ).loc Cert.TransformMaxIdeal.main_arg2) = m ((c.tc : Thread Cert.TransformMaxIdeal.nD Cert.TransformMaxIdeal.τ).loc Cert.TransformMaxIdeal.main_arg2)
      ∧ r.2.mem ((c.tc : Thread Cert.TransformMaxIdeal.nD Cert.TransformMaxIdeal.τ).loc Cert.TransformMaxIdeal.main_arg3) = m ((c.tc : Thread Cert.TransformMaxIdeal.nD Cert.TransformMaxIdeal.τ).loc Cert.TransformMaxIdeal.main_arg3)
      ∧ r.2.mem ((c.tc : Thread Cert.TransformMaxIdeal.nD Cert.TransformMaxIdeal.τ).loc Cert.TransformMaxIdeal.main_arg4) = m ((c.tc : Thread Cert.TransformMaxIdeal.nD Cert.TransformMaxIdeal.τ).loc Cert.TransformMaxIdeal.main_arg4))
      ∧ r.2.sem = fun _ => 0)

def quiescent_TransformMaxReferenceIdeal [hTransformMaxReferenceIdeal : Cert.TransformMaxReferenceIdeal.Facts] : Prop :=
  ∀ (m : (ℓ : Loc Cert.TransformMaxReferenceIdeal.nD Cert.TransformMaxReferenceIdeal.τ Cert.TransformMaxReferenceIdeal.sig) → Buf (Elt Ideal) ℓ) (g : Dev Cert.TransformMaxReferenceIdeal.nD → PrngReg), Pre_TransformMaxReferenceIdeal m →
    θ_run (Cert.TransformMaxReferenceIdeal.defs (F := Ideal)) (onTc (τ := Cert.TransformMaxReferenceIdeal.τ) (Cert.TransformMaxReferenceIdeal.main (F := Ideal))) ⟨m, fun _ => 0, g⟩ (fun r => (∀ c : Dev Cert.TransformMaxReferenceIdeal.nD,
      r.2.mem ((c.tc : Thread Cert.TransformMaxReferenceIdeal.nD Cert.TransformMaxReferenceIdeal.τ).loc Cert.TransformMaxReferenceIdeal.main_arg0) = m ((c.tc : Thread Cert.TransformMaxReferenceIdeal.nD Cert.TransformMaxReferenceIdeal.τ).loc Cert.TransformMaxReferenceIdeal.main_arg0)
      ∧ r.2.mem ((c.tc : Thread Cert.TransformMaxReferenceIdeal.nD Cert.TransformMaxReferenceIdeal.τ).loc Cert.TransformMaxReferenceIdeal.main_arg1) = m ((c.tc : Thread Cert.TransformMaxReferenceIdeal.nD Cert.TransformMaxReferenceIdeal.τ).loc Cert.TransformMaxReferenceIdeal.main_arg1)
      ∧ r.2.mem ((c.tc : Thread Cert.TransformMaxReferenceIdeal.nD Cert.TransformMaxReferenceIdeal.τ).loc Cert.TransformMaxReferenceIdeal.main_arg2) = m ((c.tc : Thread Cert.TransformMaxReferenceIdeal.nD Cert.TransformMaxReferenceIdeal.τ).loc Cert.TransformMaxReferenceIdeal.main_arg2)
      ∧ r.2.mem ((c.tc : Thread Cert.TransformMaxReferenceIdeal.nD Cert.TransformMaxReferenceIdeal.τ).loc Cert.TransformMaxReferenceIdeal.main_arg3) = m ((c.tc : Thread Cert.TransformMaxReferenceIdeal.nD Cert.TransformMaxReferenceIdeal.τ).loc Cert.TransformMaxReferenceIdeal.main_arg3)
      ∧ r.2.mem ((c.tc : Thread Cert.TransformMaxReferenceIdeal.nD Cert.TransformMaxReferenceIdeal.τ).loc Cert.TransformMaxReferenceIdeal.main_arg4) = m ((c.tc : Thread Cert.TransformMaxReferenceIdeal.nD Cert.TransformMaxReferenceIdeal.τ).loc Cert.TransformMaxReferenceIdeal.main_arg4))
      ∧ r.2.sem = fun _ => 0)

def quiescent_InputTransform [hInputTransform : Cert.InputTransform.Facts] : Prop :=
  ∀ (m : (ℓ : Loc Cert.InputTransform.nD Cert.InputTransform.τ Cert.InputTransform.sig) → Buf (Elt Bits) ℓ) (g : Dev Cert.InputTransform.nD → PrngReg), Pre_InputTransform m →
    θ_run (Cert.InputTransform.defs (F := Bits)) (onTc (τ := Cert.InputTransform.τ) (Cert.InputTransform.main (F := Bits))) ⟨m, fun _ => 0, g⟩ (fun r => (∀ c : Dev Cert.InputTransform.nD,
      r.2.mem ((c.tc : Thread Cert.InputTransform.nD Cert.InputTransform.τ).loc Cert.InputTransform.main_arg0) = m ((c.tc : Thread Cert.InputTransform.nD Cert.InputTransform.τ).loc Cert.InputTransform.main_arg0)
      ∧ r.2.mem ((c.tc : Thread Cert.InputTransform.nD Cert.InputTransform.τ).loc Cert.InputTransform.main_arg1) = m ((c.tc : Thread Cert.InputTransform.nD Cert.InputTransform.τ).loc Cert.InputTransform.main_arg1)
      ∧ r.2.mem ((c.tc : Thread Cert.InputTransform.nD Cert.InputTransform.τ).loc Cert.InputTransform.main_arg2) = m ((c.tc : Thread Cert.InputTransform.nD Cert.InputTransform.τ).loc Cert.InputTransform.main_arg2))
      ∧ r.2.sem = fun _ => 0)

def quiescent_InputTransformIdeal [hInputTransformIdeal : Cert.InputTransformIdeal.Facts] : Prop :=
  ∀ (m : (ℓ : Loc Cert.InputTransformIdeal.nD Cert.InputTransformIdeal.τ Cert.InputTransformIdeal.sig) → Buf (Elt Ideal) ℓ) (g : Dev Cert.InputTransformIdeal.nD → PrngReg), Pre_InputTransformIdeal m →
    θ_run (Cert.InputTransformIdeal.defs (F := Ideal)) (onTc (τ := Cert.InputTransformIdeal.τ) (Cert.InputTransformIdeal.main (F := Ideal))) ⟨m, fun _ => 0, g⟩ (fun r => (∀ c : Dev Cert.InputTransformIdeal.nD,
      r.2.mem ((c.tc : Thread Cert.InputTransformIdeal.nD Cert.InputTransformIdeal.τ).loc Cert.InputTransformIdeal.main_arg0) = m ((c.tc : Thread Cert.InputTransformIdeal.nD Cert.InputTransformIdeal.τ).loc Cert.InputTransformIdeal.main_arg0)
      ∧ r.2.mem ((c.tc : Thread Cert.InputTransformIdeal.nD Cert.InputTransformIdeal.τ).loc Cert.InputTransformIdeal.main_arg1) = m ((c.tc : Thread Cert.InputTransformIdeal.nD Cert.InputTransformIdeal.τ).loc Cert.InputTransformIdeal.main_arg1)
      ∧ r.2.mem ((c.tc : Thread Cert.InputTransformIdeal.nD Cert.InputTransformIdeal.τ).loc Cert.InputTransformIdeal.main_arg2) = m ((c.tc : Thread Cert.InputTransformIdeal.nD Cert.InputTransformIdeal.τ).loc Cert.InputTransformIdeal.main_arg2))
      ∧ r.2.sem = fun _ => 0)

def quiescent_InputTransformReferenceIdeal [hInputTransformReferenceIdeal : Cert.InputTransformReferenceIdeal.Facts] : Prop :=
  ∀ (m : (ℓ : Loc Cert.InputTransformReferenceIdeal.nD Cert.InputTransformReferenceIdeal.τ Cert.InputTransformReferenceIdeal.sig) → Buf (Elt Ideal) ℓ) (g : Dev Cert.InputTransformReferenceIdeal.nD → PrngReg), Pre_InputTransformReferenceIdeal m →
    θ_run (Cert.InputTransformReferenceIdeal.defs (F := Ideal)) (onTc (τ := Cert.InputTransformReferenceIdeal.τ) (Cert.InputTransformReferenceIdeal.main (F := Ideal))) ⟨m, fun _ => 0, g⟩ (fun r => (∀ c : Dev Cert.InputTransformReferenceIdeal.nD,
      r.2.mem ((c.tc : Thread Cert.InputTransformReferenceIdeal.nD Cert.InputTransformReferenceIdeal.τ).loc Cert.InputTransformReferenceIdeal.main_arg0) = m ((c.tc : Thread Cert.InputTransformReferenceIdeal.nD Cert.InputTransformReferenceIdeal.τ).loc Cert.InputTransformReferenceIdeal.main_arg0)
      ∧ r.2.mem ((c.tc : Thread Cert.InputTransformReferenceIdeal.nD Cert.InputTransformReferenceIdeal.τ).loc Cert.InputTransformReferenceIdeal.main_arg1) = m ((c.tc : Thread Cert.InputTransformReferenceIdeal.nD Cert.InputTransformReferenceIdeal.τ).loc Cert.InputTransformReferenceIdeal.main_arg1)
      ∧ r.2.mem ((c.tc : Thread Cert.InputTransformReferenceIdeal.nD Cert.InputTransformReferenceIdeal.τ).loc Cert.InputTransformReferenceIdeal.main_arg2) = m ((c.tc : Thread Cert.InputTransformReferenceIdeal.nD Cert.InputTransformReferenceIdeal.τ).loc Cert.InputTransformReferenceIdeal.main_arg2))
      ∧ r.2.sem = fun _ => 0)

def quiescent_Features [hFeatures : Cert.Features.Facts] : Prop :=
  ∀ (m : (ℓ : Loc Cert.Features.nD Cert.Features.τ Cert.Features.sig) → Buf (Elt Bits) ℓ) (g : Dev Cert.Features.nD → PrngReg), Pre_Features m →
    θ_run (Cert.Features.defs (F := Bits)) (onTc (τ := Cert.Features.τ) (Cert.Features.main (F := Bits))) ⟨m, fun _ => 0, g⟩ (fun r => (∀ c : Dev Cert.Features.nD,
      r.2.mem ((c.tc : Thread Cert.Features.nD Cert.Features.τ).loc Cert.Features.main_arg0) = m ((c.tc : Thread Cert.Features.nD Cert.Features.τ).loc Cert.Features.main_arg0)
      ∧ r.2.mem ((c.tc : Thread Cert.Features.nD Cert.Features.τ).loc Cert.Features.main_arg1) = m ((c.tc : Thread Cert.Features.nD Cert.Features.τ).loc Cert.Features.main_arg1)
      ∧ r.2.mem ((c.tc : Thread Cert.Features.nD Cert.Features.τ).loc Cert.Features.main_arg2) = m ((c.tc : Thread Cert.Features.nD Cert.Features.τ).loc Cert.Features.main_arg2)
      ∧ r.2.mem ((c.tc : Thread Cert.Features.nD Cert.Features.τ).loc Cert.Features.main_arg3) = m ((c.tc : Thread Cert.Features.nD Cert.Features.τ).loc Cert.Features.main_arg3)
      ∧ r.2.mem ((c.tc : Thread Cert.Features.nD Cert.Features.τ).loc Cert.Features.main_arg4) = m ((c.tc : Thread Cert.Features.nD Cert.Features.τ).loc Cert.Features.main_arg4)
      ∧ r.2.mem ((c.tc : Thread Cert.Features.nD Cert.Features.τ).loc Cert.Features.main_arg5) = m ((c.tc : Thread Cert.Features.nD Cert.Features.τ).loc Cert.Features.main_arg5)
      ∧ r.2.mem ((c.tc : Thread Cert.Features.nD Cert.Features.τ).loc Cert.Features.main_arg6) = m ((c.tc : Thread Cert.Features.nD Cert.Features.τ).loc Cert.Features.main_arg6)
      ∧ r.2.mem ((c.tc : Thread Cert.Features.nD Cert.Features.τ).loc Cert.Features.main_arg7) = m ((c.tc : Thread Cert.Features.nD Cert.Features.τ).loc Cert.Features.main_arg7))
      ∧ r.2.sem = fun _ => 0)

def quiescent_FeaturesIdeal [hFeaturesIdeal : Cert.FeaturesIdeal.Facts] : Prop :=
  ∀ (m : (ℓ : Loc Cert.FeaturesIdeal.nD Cert.FeaturesIdeal.τ Cert.FeaturesIdeal.sig) → Buf (Elt Ideal) ℓ) (g : Dev Cert.FeaturesIdeal.nD → PrngReg), Pre_FeaturesIdeal m →
    θ_run (Cert.FeaturesIdeal.defs (F := Ideal)) (onTc (τ := Cert.FeaturesIdeal.τ) (Cert.FeaturesIdeal.main (F := Ideal))) ⟨m, fun _ => 0, g⟩ (fun r => (∀ c : Dev Cert.FeaturesIdeal.nD,
      r.2.mem ((c.tc : Thread Cert.FeaturesIdeal.nD Cert.FeaturesIdeal.τ).loc Cert.FeaturesIdeal.main_arg0) = m ((c.tc : Thread Cert.FeaturesIdeal.nD Cert.FeaturesIdeal.τ).loc Cert.FeaturesIdeal.main_arg0)
      ∧ r.2.mem ((c.tc : Thread Cert.FeaturesIdeal.nD Cert.FeaturesIdeal.τ).loc Cert.FeaturesIdeal.main_arg1) = m ((c.tc : Thread Cert.FeaturesIdeal.nD Cert.FeaturesIdeal.τ).loc Cert.FeaturesIdeal.main_arg1)
      ∧ r.2.mem ((c.tc : Thread Cert.FeaturesIdeal.nD Cert.FeaturesIdeal.τ).loc Cert.FeaturesIdeal.main_arg2) = m ((c.tc : Thread Cert.FeaturesIdeal.nD Cert.FeaturesIdeal.τ).loc Cert.FeaturesIdeal.main_arg2)
      ∧ r.2.mem ((c.tc : Thread Cert.FeaturesIdeal.nD Cert.FeaturesIdeal.τ).loc Cert.FeaturesIdeal.main_arg3) = m ((c.tc : Thread Cert.FeaturesIdeal.nD Cert.FeaturesIdeal.τ).loc Cert.FeaturesIdeal.main_arg3)
      ∧ r.2.mem ((c.tc : Thread Cert.FeaturesIdeal.nD Cert.FeaturesIdeal.τ).loc Cert.FeaturesIdeal.main_arg4) = m ((c.tc : Thread Cert.FeaturesIdeal.nD Cert.FeaturesIdeal.τ).loc Cert.FeaturesIdeal.main_arg4)
      ∧ r.2.mem ((c.tc : Thread Cert.FeaturesIdeal.nD Cert.FeaturesIdeal.τ).loc Cert.FeaturesIdeal.main_arg5) = m ((c.tc : Thread Cert.FeaturesIdeal.nD Cert.FeaturesIdeal.τ).loc Cert.FeaturesIdeal.main_arg5)
      ∧ r.2.mem ((c.tc : Thread Cert.FeaturesIdeal.nD Cert.FeaturesIdeal.τ).loc Cert.FeaturesIdeal.main_arg6) = m ((c.tc : Thread Cert.FeaturesIdeal.nD Cert.FeaturesIdeal.τ).loc Cert.FeaturesIdeal.main_arg6)
      ∧ r.2.mem ((c.tc : Thread Cert.FeaturesIdeal.nD Cert.FeaturesIdeal.τ).loc Cert.FeaturesIdeal.main_arg7) = m ((c.tc : Thread Cert.FeaturesIdeal.nD Cert.FeaturesIdeal.τ).loc Cert.FeaturesIdeal.main_arg7))
      ∧ r.2.sem = fun _ => 0)

def quiescent_FeaturesReferenceIdeal [hFeaturesReferenceIdeal : Cert.FeaturesReferenceIdeal.Facts] : Prop :=
  ∀ (m : (ℓ : Loc Cert.FeaturesReferenceIdeal.nD Cert.FeaturesReferenceIdeal.τ Cert.FeaturesReferenceIdeal.sig) → Buf (Elt Ideal) ℓ) (g : Dev Cert.FeaturesReferenceIdeal.nD → PrngReg), Pre_FeaturesReferenceIdeal m →
    θ_run (Cert.FeaturesReferenceIdeal.defs (F := Ideal)) (onTc (τ := Cert.FeaturesReferenceIdeal.τ) (Cert.FeaturesReferenceIdeal.main (F := Ideal))) ⟨m, fun _ => 0, g⟩ (fun r => (∀ c : Dev Cert.FeaturesReferenceIdeal.nD,
      r.2.mem ((c.tc : Thread Cert.FeaturesReferenceIdeal.nD Cert.FeaturesReferenceIdeal.τ).loc Cert.FeaturesReferenceIdeal.main_arg0) = m ((c.tc : Thread Cert.FeaturesReferenceIdeal.nD Cert.FeaturesReferenceIdeal.τ).loc Cert.FeaturesReferenceIdeal.main_arg0)
      ∧ r.2.mem ((c.tc : Thread Cert.FeaturesReferenceIdeal.nD Cert.FeaturesReferenceIdeal.τ).loc Cert.FeaturesReferenceIdeal.main_arg1) = m ((c.tc : Thread Cert.FeaturesReferenceIdeal.nD Cert.FeaturesReferenceIdeal.τ).loc Cert.FeaturesReferenceIdeal.main_arg1)
      ∧ r.2.mem ((c.tc : Thread Cert.FeaturesReferenceIdeal.nD Cert.FeaturesReferenceIdeal.τ).loc Cert.FeaturesReferenceIdeal.main_arg2) = m ((c.tc : Thread Cert.FeaturesReferenceIdeal.nD Cert.FeaturesReferenceIdeal.τ).loc Cert.FeaturesReferenceIdeal.main_arg2)
      ∧ r.2.mem ((c.tc : Thread Cert.FeaturesReferenceIdeal.nD Cert.FeaturesReferenceIdeal.τ).loc Cert.FeaturesReferenceIdeal.main_arg3) = m ((c.tc : Thread Cert.FeaturesReferenceIdeal.nD Cert.FeaturesReferenceIdeal.τ).loc Cert.FeaturesReferenceIdeal.main_arg3)
      ∧ r.2.mem ((c.tc : Thread Cert.FeaturesReferenceIdeal.nD Cert.FeaturesReferenceIdeal.τ).loc Cert.FeaturesReferenceIdeal.main_arg4) = m ((c.tc : Thread Cert.FeaturesReferenceIdeal.nD Cert.FeaturesReferenceIdeal.τ).loc Cert.FeaturesReferenceIdeal.main_arg4)
      ∧ r.2.mem ((c.tc : Thread Cert.FeaturesReferenceIdeal.nD Cert.FeaturesReferenceIdeal.τ).loc Cert.FeaturesReferenceIdeal.main_arg5) = m ((c.tc : Thread Cert.FeaturesReferenceIdeal.nD Cert.FeaturesReferenceIdeal.τ).loc Cert.FeaturesReferenceIdeal.main_arg5)
      ∧ r.2.mem ((c.tc : Thread Cert.FeaturesReferenceIdeal.nD Cert.FeaturesReferenceIdeal.τ).loc Cert.FeaturesReferenceIdeal.main_arg6) = m ((c.tc : Thread Cert.FeaturesReferenceIdeal.nD Cert.FeaturesReferenceIdeal.τ).loc Cert.FeaturesReferenceIdeal.main_arg6)
      ∧ r.2.mem ((c.tc : Thread Cert.FeaturesReferenceIdeal.nD Cert.FeaturesReferenceIdeal.τ).loc Cert.FeaturesReferenceIdeal.main_arg7) = m ((c.tc : Thread Cert.FeaturesReferenceIdeal.nD Cert.FeaturesReferenceIdeal.τ).loc Cert.FeaturesReferenceIdeal.main_arg7))
      ∧ r.2.sem = fun _ => 0)

def quiescent_FeatureTransform [hFeatureTransform : Cert.FeatureTransform.Facts] : Prop :=
  ∀ (m : (ℓ : Loc Cert.FeatureTransform.nD Cert.FeatureTransform.τ Cert.FeatureTransform.sig) → Buf (Elt Bits) ℓ) (g : Dev Cert.FeatureTransform.nD → PrngReg), Pre_FeatureTransform m →
    θ_run (Cert.FeatureTransform.defs (F := Bits)) (onTc (τ := Cert.FeatureTransform.τ) (Cert.FeatureTransform.main (F := Bits))) ⟨m, fun _ => 0, g⟩ (fun r => (∀ c : Dev Cert.FeatureTransform.nD,
      r.2.mem ((c.tc : Thread Cert.FeatureTransform.nD Cert.FeatureTransform.τ).loc Cert.FeatureTransform.main_arg0) = m ((c.tc : Thread Cert.FeatureTransform.nD Cert.FeatureTransform.τ).loc Cert.FeatureTransform.main_arg0)
      ∧ r.2.mem ((c.tc : Thread Cert.FeatureTransform.nD Cert.FeatureTransform.τ).loc Cert.FeatureTransform.main_arg1) = m ((c.tc : Thread Cert.FeatureTransform.nD Cert.FeatureTransform.τ).loc Cert.FeatureTransform.main_arg1)
      ∧ r.2.mem ((c.tc : Thread Cert.FeatureTransform.nD Cert.FeatureTransform.τ).loc Cert.FeatureTransform.main_arg2) = m ((c.tc : Thread Cert.FeatureTransform.nD Cert.FeatureTransform.τ).loc Cert.FeatureTransform.main_arg2))
      ∧ r.2.sem = fun _ => 0)

def quiescent_FeatureTransformIdeal [hFeatureTransformIdeal : Cert.FeatureTransformIdeal.Facts] : Prop :=
  ∀ (m : (ℓ : Loc Cert.FeatureTransformIdeal.nD Cert.FeatureTransformIdeal.τ Cert.FeatureTransformIdeal.sig) → Buf (Elt Ideal) ℓ) (g : Dev Cert.FeatureTransformIdeal.nD → PrngReg), Pre_FeatureTransformIdeal m →
    θ_run (Cert.FeatureTransformIdeal.defs (F := Ideal)) (onTc (τ := Cert.FeatureTransformIdeal.τ) (Cert.FeatureTransformIdeal.main (F := Ideal))) ⟨m, fun _ => 0, g⟩ (fun r => (∀ c : Dev Cert.FeatureTransformIdeal.nD,
      r.2.mem ((c.tc : Thread Cert.FeatureTransformIdeal.nD Cert.FeatureTransformIdeal.τ).loc Cert.FeatureTransformIdeal.main_arg0) = m ((c.tc : Thread Cert.FeatureTransformIdeal.nD Cert.FeatureTransformIdeal.τ).loc Cert.FeatureTransformIdeal.main_arg0)
      ∧ r.2.mem ((c.tc : Thread Cert.FeatureTransformIdeal.nD Cert.FeatureTransformIdeal.τ).loc Cert.FeatureTransformIdeal.main_arg1) = m ((c.tc : Thread Cert.FeatureTransformIdeal.nD Cert.FeatureTransformIdeal.τ).loc Cert.FeatureTransformIdeal.main_arg1)
      ∧ r.2.mem ((c.tc : Thread Cert.FeatureTransformIdeal.nD Cert.FeatureTransformIdeal.τ).loc Cert.FeatureTransformIdeal.main_arg2) = m ((c.tc : Thread Cert.FeatureTransformIdeal.nD Cert.FeatureTransformIdeal.τ).loc Cert.FeatureTransformIdeal.main_arg2))
      ∧ r.2.sem = fun _ => 0)

def quiescent_FeatureTransformReferenceIdeal [hFeatureTransformReferenceIdeal : Cert.FeatureTransformReferenceIdeal.Facts] : Prop :=
  ∀ (m : (ℓ : Loc Cert.FeatureTransformReferenceIdeal.nD Cert.FeatureTransformReferenceIdeal.τ Cert.FeatureTransformReferenceIdeal.sig) → Buf (Elt Ideal) ℓ) (g : Dev Cert.FeatureTransformReferenceIdeal.nD → PrngReg), Pre_FeatureTransformReferenceIdeal m →
    θ_run (Cert.FeatureTransformReferenceIdeal.defs (F := Ideal)) (onTc (τ := Cert.FeatureTransformReferenceIdeal.τ) (Cert.FeatureTransformReferenceIdeal.main (F := Ideal))) ⟨m, fun _ => 0, g⟩ (fun r => (∀ c : Dev Cert.FeatureTransformReferenceIdeal.nD,
      r.2.mem ((c.tc : Thread Cert.FeatureTransformReferenceIdeal.nD Cert.FeatureTransformReferenceIdeal.τ).loc Cert.FeatureTransformReferenceIdeal.main_arg0) = m ((c.tc : Thread Cert.FeatureTransformReferenceIdeal.nD Cert.FeatureTransformReferenceIdeal.τ).loc Cert.FeatureTransformReferenceIdeal.main_arg0)
      ∧ r.2.mem ((c.tc : Thread Cert.FeatureTransformReferenceIdeal.nD Cert.FeatureTransformReferenceIdeal.τ).loc Cert.FeatureTransformReferenceIdeal.main_arg1) = m ((c.tc : Thread Cert.FeatureTransformReferenceIdeal.nD Cert.FeatureTransformReferenceIdeal.τ).loc Cert.FeatureTransformReferenceIdeal.main_arg1)
      ∧ r.2.mem ((c.tc : Thread Cert.FeatureTransformReferenceIdeal.nD Cert.FeatureTransformReferenceIdeal.τ).loc Cert.FeatureTransformReferenceIdeal.main_arg2) = m ((c.tc : Thread Cert.FeatureTransformReferenceIdeal.nD Cert.FeatureTransformReferenceIdeal.τ).loc Cert.FeatureTransformReferenceIdeal.main_arg2))
      ∧ r.2.sem = fun _ => 0)

def quiescent_OutputFeatures [hOutputFeatures : Cert.OutputFeatures.Facts] : Prop :=
  ∀ (m : (ℓ : Loc Cert.OutputFeatures.nD Cert.OutputFeatures.τ Cert.OutputFeatures.sig) → Buf (Elt Bits) ℓ) (g : Dev Cert.OutputFeatures.nD → PrngReg), Pre_OutputFeatures m →
    θ_run (Cert.OutputFeatures.defs (F := Bits)) (onTc (τ := Cert.OutputFeatures.τ) (Cert.OutputFeatures.main (F := Bits))) ⟨m, fun _ => 0, g⟩ (fun r => (∀ c : Dev Cert.OutputFeatures.nD,
      r.2.mem ((c.tc : Thread Cert.OutputFeatures.nD Cert.OutputFeatures.τ).loc Cert.OutputFeatures.main_arg0) = m ((c.tc : Thread Cert.OutputFeatures.nD Cert.OutputFeatures.τ).loc Cert.OutputFeatures.main_arg0)
      ∧ r.2.mem ((c.tc : Thread Cert.OutputFeatures.nD Cert.OutputFeatures.τ).loc Cert.OutputFeatures.main_arg1) = m ((c.tc : Thread Cert.OutputFeatures.nD Cert.OutputFeatures.τ).loc Cert.OutputFeatures.main_arg1)
      ∧ r.2.mem ((c.tc : Thread Cert.OutputFeatures.nD Cert.OutputFeatures.τ).loc Cert.OutputFeatures.main_arg2) = m ((c.tc : Thread Cert.OutputFeatures.nD Cert.OutputFeatures.τ).loc Cert.OutputFeatures.main_arg2)
      ∧ r.2.mem ((c.tc : Thread Cert.OutputFeatures.nD Cert.OutputFeatures.τ).loc Cert.OutputFeatures.main_arg3) = m ((c.tc : Thread Cert.OutputFeatures.nD Cert.OutputFeatures.τ).loc Cert.OutputFeatures.main_arg3)
      ∧ r.2.mem ((c.tc : Thread Cert.OutputFeatures.nD Cert.OutputFeatures.τ).loc Cert.OutputFeatures.main_arg4) = m ((c.tc : Thread Cert.OutputFeatures.nD Cert.OutputFeatures.τ).loc Cert.OutputFeatures.main_arg4)
      ∧ r.2.mem ((c.tc : Thread Cert.OutputFeatures.nD Cert.OutputFeatures.τ).loc Cert.OutputFeatures.main_arg5) = m ((c.tc : Thread Cert.OutputFeatures.nD Cert.OutputFeatures.τ).loc Cert.OutputFeatures.main_arg5))
      ∧ r.2.sem = fun _ => 0)

def quiescent_OutputFeaturesIdeal [hOutputFeaturesIdeal : Cert.OutputFeaturesIdeal.Facts] : Prop :=
  ∀ (m : (ℓ : Loc Cert.OutputFeaturesIdeal.nD Cert.OutputFeaturesIdeal.τ Cert.OutputFeaturesIdeal.sig) → Buf (Elt Ideal) ℓ) (g : Dev Cert.OutputFeaturesIdeal.nD → PrngReg), Pre_OutputFeaturesIdeal m →
    θ_run (Cert.OutputFeaturesIdeal.defs (F := Ideal)) (onTc (τ := Cert.OutputFeaturesIdeal.τ) (Cert.OutputFeaturesIdeal.main (F := Ideal))) ⟨m, fun _ => 0, g⟩ (fun r => (∀ c : Dev Cert.OutputFeaturesIdeal.nD,
      r.2.mem ((c.tc : Thread Cert.OutputFeaturesIdeal.nD Cert.OutputFeaturesIdeal.τ).loc Cert.OutputFeaturesIdeal.main_arg0) = m ((c.tc : Thread Cert.OutputFeaturesIdeal.nD Cert.OutputFeaturesIdeal.τ).loc Cert.OutputFeaturesIdeal.main_arg0)
      ∧ r.2.mem ((c.tc : Thread Cert.OutputFeaturesIdeal.nD Cert.OutputFeaturesIdeal.τ).loc Cert.OutputFeaturesIdeal.main_arg1) = m ((c.tc : Thread Cert.OutputFeaturesIdeal.nD Cert.OutputFeaturesIdeal.τ).loc Cert.OutputFeaturesIdeal.main_arg1)
      ∧ r.2.mem ((c.tc : Thread Cert.OutputFeaturesIdeal.nD Cert.OutputFeaturesIdeal.τ).loc Cert.OutputFeaturesIdeal.main_arg2) = m ((c.tc : Thread Cert.OutputFeaturesIdeal.nD Cert.OutputFeaturesIdeal.τ).loc Cert.OutputFeaturesIdeal.main_arg2)
      ∧ r.2.mem ((c.tc : Thread Cert.OutputFeaturesIdeal.nD Cert.OutputFeaturesIdeal.τ).loc Cert.OutputFeaturesIdeal.main_arg3) = m ((c.tc : Thread Cert.OutputFeaturesIdeal.nD Cert.OutputFeaturesIdeal.τ).loc Cert.OutputFeaturesIdeal.main_arg3)
      ∧ r.2.mem ((c.tc : Thread Cert.OutputFeaturesIdeal.nD Cert.OutputFeaturesIdeal.τ).loc Cert.OutputFeaturesIdeal.main_arg4) = m ((c.tc : Thread Cert.OutputFeaturesIdeal.nD Cert.OutputFeaturesIdeal.τ).loc Cert.OutputFeaturesIdeal.main_arg4)
      ∧ r.2.mem ((c.tc : Thread Cert.OutputFeaturesIdeal.nD Cert.OutputFeaturesIdeal.τ).loc Cert.OutputFeaturesIdeal.main_arg5) = m ((c.tc : Thread Cert.OutputFeaturesIdeal.nD Cert.OutputFeaturesIdeal.τ).loc Cert.OutputFeaturesIdeal.main_arg5))
      ∧ r.2.sem = fun _ => 0)

def quiescent_OutputFeaturesReferenceIdeal [hOutputFeaturesReferenceIdeal : Cert.OutputFeaturesReferenceIdeal.Facts] : Prop :=
  ∀ (m : (ℓ : Loc Cert.OutputFeaturesReferenceIdeal.nD Cert.OutputFeaturesReferenceIdeal.τ Cert.OutputFeaturesReferenceIdeal.sig) → Buf (Elt Ideal) ℓ) (g : Dev Cert.OutputFeaturesReferenceIdeal.nD → PrngReg), Pre_OutputFeaturesReferenceIdeal m →
    θ_run (Cert.OutputFeaturesReferenceIdeal.defs (F := Ideal)) (onTc (τ := Cert.OutputFeaturesReferenceIdeal.τ) (Cert.OutputFeaturesReferenceIdeal.main (F := Ideal))) ⟨m, fun _ => 0, g⟩ (fun r => (∀ c : Dev Cert.OutputFeaturesReferenceIdeal.nD,
      r.2.mem ((c.tc : Thread Cert.OutputFeaturesReferenceIdeal.nD Cert.OutputFeaturesReferenceIdeal.τ).loc Cert.OutputFeaturesReferenceIdeal.main_arg0) = m ((c.tc : Thread Cert.OutputFeaturesReferenceIdeal.nD Cert.OutputFeaturesReferenceIdeal.τ).loc Cert.OutputFeaturesReferenceIdeal.main_arg0)
      ∧ r.2.mem ((c.tc : Thread Cert.OutputFeaturesReferenceIdeal.nD Cert.OutputFeaturesReferenceIdeal.τ).loc Cert.OutputFeaturesReferenceIdeal.main_arg1) = m ((c.tc : Thread Cert.OutputFeaturesReferenceIdeal.nD Cert.OutputFeaturesReferenceIdeal.τ).loc Cert.OutputFeaturesReferenceIdeal.main_arg1)
      ∧ r.2.mem ((c.tc : Thread Cert.OutputFeaturesReferenceIdeal.nD Cert.OutputFeaturesReferenceIdeal.τ).loc Cert.OutputFeaturesReferenceIdeal.main_arg2) = m ((c.tc : Thread Cert.OutputFeaturesReferenceIdeal.nD Cert.OutputFeaturesReferenceIdeal.τ).loc Cert.OutputFeaturesReferenceIdeal.main_arg2)
      ∧ r.2.mem ((c.tc : Thread Cert.OutputFeaturesReferenceIdeal.nD Cert.OutputFeaturesReferenceIdeal.τ).loc Cert.OutputFeaturesReferenceIdeal.main_arg3) = m ((c.tc : Thread Cert.OutputFeaturesReferenceIdeal.nD Cert.OutputFeaturesReferenceIdeal.τ).loc Cert.OutputFeaturesReferenceIdeal.main_arg3)
      ∧ r.2.mem ((c.tc : Thread Cert.OutputFeaturesReferenceIdeal.nD Cert.OutputFeaturesReferenceIdeal.τ).loc Cert.OutputFeaturesReferenceIdeal.main_arg4) = m ((c.tc : Thread Cert.OutputFeaturesReferenceIdeal.nD Cert.OutputFeaturesReferenceIdeal.τ).loc Cert.OutputFeaturesReferenceIdeal.main_arg4)
      ∧ r.2.mem ((c.tc : Thread Cert.OutputFeaturesReferenceIdeal.nD Cert.OutputFeaturesReferenceIdeal.τ).loc Cert.OutputFeaturesReferenceIdeal.main_arg5) = m ((c.tc : Thread Cert.OutputFeaturesReferenceIdeal.nD Cert.OutputFeaturesReferenceIdeal.τ).loc Cert.OutputFeaturesReferenceIdeal.main_arg5))
      ∧ r.2.sem = fun _ => 0)

def quiescent_Sampling [hSampling : Cert.Sampling.Facts] : Prop :=
  ∀ (m : (ℓ : Loc Cert.Sampling.nD Cert.Sampling.τ Cert.Sampling.sig) → Buf (Elt Bits) ℓ) (g : Dev Cert.Sampling.nD → PrngReg), Pre_Sampling m →
    θ_run (Cert.Sampling.defs (F := Bits)) (onTc (τ := Cert.Sampling.τ) (Cert.Sampling.main (F := Bits))) ⟨m, fun _ => 0, g⟩ (fun r => (∀ c : Dev Cert.Sampling.nD,
      r.2.mem ((c.tc : Thread Cert.Sampling.nD Cert.Sampling.τ).loc Cert.Sampling.main_arg0) = m ((c.tc : Thread Cert.Sampling.nD Cert.Sampling.τ).loc Cert.Sampling.main_arg0))
      ∧ r.2.sem = fun _ => 0)

def quiescent_SamplingIdeal [hSamplingIdeal : Cert.SamplingIdeal.Facts] : Prop :=
  ∀ (m : (ℓ : Loc Cert.SamplingIdeal.nD Cert.SamplingIdeal.τ Cert.SamplingIdeal.sig) → Buf (Elt Ideal) ℓ) (g : Dev Cert.SamplingIdeal.nD → PrngReg), Pre_SamplingIdeal m →
    θ_run (Cert.SamplingIdeal.defs (F := Ideal)) (onTc (τ := Cert.SamplingIdeal.τ) (Cert.SamplingIdeal.main (F := Ideal))) ⟨m, fun _ => 0, g⟩ (fun r => (∀ c : Dev Cert.SamplingIdeal.nD,
      r.2.mem ((c.tc : Thread Cert.SamplingIdeal.nD Cert.SamplingIdeal.τ).loc Cert.SamplingIdeal.main_arg0) = m ((c.tc : Thread Cert.SamplingIdeal.nD Cert.SamplingIdeal.τ).loc Cert.SamplingIdeal.main_arg0))
      ∧ r.2.sem = fun _ => 0)

def quiescent_SamplingReferenceIdeal [hSamplingReferenceIdeal : Cert.SamplingReferenceIdeal.Facts] : Prop :=
  ∀ (m : (ℓ : Loc Cert.SamplingReferenceIdeal.nD Cert.SamplingReferenceIdeal.τ Cert.SamplingReferenceIdeal.sig) → Buf (Elt Ideal) ℓ) (g : Dev Cert.SamplingReferenceIdeal.nD → PrngReg), Pre_SamplingReferenceIdeal m →
    θ_run (Cert.SamplingReferenceIdeal.defs (F := Ideal)) (onTc (τ := Cert.SamplingReferenceIdeal.τ) (Cert.SamplingReferenceIdeal.main (F := Ideal))) ⟨m, fun _ => 0, g⟩ (fun r => (∀ c : Dev Cert.SamplingReferenceIdeal.nD,
      r.2.mem ((c.tc : Thread Cert.SamplingReferenceIdeal.nD Cert.SamplingReferenceIdeal.τ).loc Cert.SamplingReferenceIdeal.main_arg0) = m ((c.tc : Thread Cert.SamplingReferenceIdeal.nD Cert.SamplingReferenceIdeal.τ).loc Cert.SamplingReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_balls_nonempty : Cert.Pre_balls_nonempty.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_TransformMax_TransformMaxIdeal : Prop :=
  True

def algebraic_TransformMaxIdeal_TransformMaxReferenceIdeal [hTransformMaxIdeal : Cert.TransformMaxIdeal.Facts] [hTransformMaxReferenceIdeal : Cert.TransformMaxReferenceIdeal.Facts] : Prop :=
  ∀ (m : (ℓ : Loc Cert.TransformMaxIdeal.nD Cert.TransformMaxIdeal.τ Cert.TransformMaxIdeal.sig) → Buf (Elt Ideal) ℓ) (g : Dev Cert.TransformMaxIdeal.nD → PrngReg)
    (m' : (ℓ : Loc Cert.TransformMaxReferenceIdeal.nD Cert.TransformMaxReferenceIdeal.τ Cert.TransformMaxReferenceIdeal.sig) → Buf (Elt Ideal) ℓ) (g' : Dev Cert.TransformMaxReferenceIdeal.nD → PrngReg), Pre_TransformMaxIdeal m →
    (∀ c : Dev Cert.TransformMaxIdeal.nD,
      m' ((c.tc : Thread Cert.TransformMaxReferenceIdeal.nD Cert.TransformMaxReferenceIdeal.τ).loc Cert.TransformMaxReferenceIdeal.main_arg0) = m ((c.tc : Thread Cert.TransformMaxIdeal.nD Cert.TransformMaxIdeal.τ).loc Cert.TransformMaxIdeal.main_arg0)
      ∧ m' ((c.tc : Thread Cert.TransformMaxReferenceIdeal.nD Cert.TransformMaxReferenceIdeal.τ).loc Cert.TransformMaxReferenceIdeal.main_arg1) = m ((c.tc : Thread Cert.TransformMaxIdeal.nD Cert.TransformMaxIdeal.τ).loc Cert.TransformMaxIdeal.main_arg1)
      ∧ m' ((c.tc : Thread Cert.TransformMaxReferenceIdeal.nD Cert.TransformMaxReferenceIdeal.τ).loc Cert.TransformMaxReferenceIdeal.main_arg2) = m ((c.tc : Thread Cert.TransformMaxIdeal.nD Cert.TransformMaxIdeal.τ).loc Cert.TransformMaxIdeal.main_arg2)
      ∧ m' ((c.tc : Thread Cert.TransformMaxReferenceIdeal.nD Cert.TransformMaxReferenceIdeal.τ).loc Cert.TransformMaxReferenceIdeal.main_arg3) = m ((c.tc : Thread Cert.TransformMaxIdeal.nD Cert.TransformMaxIdeal.τ).loc Cert.TransformMaxIdeal.main_arg3)
      ∧ m' ((c.tc : Thread Cert.TransformMaxReferenceIdeal.nD Cert.TransformMaxReferenceIdeal.τ).loc Cert.TransformMaxReferenceIdeal.main_arg4) = m ((c.tc : Thread Cert.TransformMaxIdeal.nD Cert.TransformMaxIdeal.τ).loc Cert.TransformMaxIdeal.main_arg4)) →
    ∃ (v0 : (c : Dev Cert.TransformMaxIdeal.nD) → Buf (Elt Ideal) ((c.tc : Thread Cert.TransformMaxIdeal.nD Cert.TransformMaxIdeal.τ).loc Cert.TransformMaxIdeal.main_v0)),
      θ_run (Cert.TransformMaxIdeal.defs (F := Ideal)) (onTc (τ := Cert.TransformMaxIdeal.τ) (Cert.TransformMaxIdeal.main (F := Ideal))) ⟨m, fun _ => 0, g⟩ (fun r => ∀ c : Dev Cert.TransformMaxIdeal.nD,
          r.2.mem ((c.tc : Thread Cert.TransformMaxIdeal.nD Cert.TransformMaxIdeal.τ).loc Cert.TransformMaxIdeal.main_v0) = v0 c
          ∧ r.2.mem ((c.tc : Thread Cert.TransformMaxIdeal.nD Cert.TransformMaxIdeal.τ).loc Cert.TransformMaxIdeal.main_arg0) = m ((c.tc : Thread Cert.TransformMaxIdeal.nD Cert.TransformMaxIdeal.τ).loc Cert.TransformMaxIdeal.main_arg0)
          ∧ r.2.mem ((c.tc : Thread Cert.TransformMaxIdeal.nD Cert.TransformMaxIdeal.τ).loc Cert.TransformMaxIdeal.main_arg1) = m ((c.tc : Thread Cert.TransformMaxIdeal.nD Cert.TransformMaxIdeal.τ).loc Cert.TransformMaxIdeal.main_arg1)
          ∧ r.2.mem ((c.tc : Thread Cert.TransformMaxIdeal.nD Cert.TransformMaxIdeal.τ).loc Cert.TransformMaxIdeal.main_arg2) = m ((c.tc : Thread Cert.TransformMaxIdeal.nD Cert.TransformMaxIdeal.τ).loc Cert.TransformMaxIdeal.main_arg2)
          ∧ r.2.mem ((c.tc : Thread Cert.TransformMaxIdeal.nD Cert.TransformMaxIdeal.τ).loc Cert.TransformMaxIdeal.main_arg3) = m ((c.tc : Thread Cert.TransformMaxIdeal.nD Cert.TransformMaxIdeal.τ).loc Cert.TransformMaxIdeal.main_arg3)
          ∧ r.2.mem ((c.tc : Thread Cert.TransformMaxIdeal.nD Cert.TransformMaxIdeal.τ).loc Cert.TransformMaxIdeal.main_arg4) = m ((c.tc : Thread Cert.TransformMaxIdeal.nD Cert.TransformMaxIdeal.τ).loc Cert.TransformMaxIdeal.main_arg4))
      ∧ θ_run (Cert.TransformMaxReferenceIdeal.defs (F := Ideal)) (onTc (τ := Cert.TransformMaxReferenceIdeal.τ) (Cert.TransformMaxReferenceIdeal.main (F := Ideal))) ⟨m', fun _ => 0, g'⟩ (fun r => ∀ c : Dev Cert.TransformMaxReferenceIdeal.nD,
          r.2.mem ((c.tc : Thread Cert.TransformMaxReferenceIdeal.nD Cert.TransformMaxReferenceIdeal.τ).loc Cert.TransformMaxReferenceIdeal.main_v15) = v0 c
          ∧ r.2.mem ((c.tc : Thread Cert.TransformMaxReferenceIdeal.nD Cert.TransformMaxReferenceIdeal.τ).loc Cert.TransformMaxReferenceIdeal.main_arg0) = m' ((c.tc : Thread Cert.TransformMaxReferenceIdeal.nD Cert.TransformMaxReferenceIdeal.τ).loc Cert.TransformMaxReferenceIdeal.main_arg0)
          ∧ r.2.mem ((c.tc : Thread Cert.TransformMaxReferenceIdeal.nD Cert.TransformMaxReferenceIdeal.τ).loc Cert.TransformMaxReferenceIdeal.main_arg1) = m' ((c.tc : Thread Cert.TransformMaxReferenceIdeal.nD Cert.TransformMaxReferenceIdeal.τ).loc Cert.TransformMaxReferenceIdeal.main_arg1)
          ∧ r.2.mem ((c.tc : Thread Cert.TransformMaxReferenceIdeal.nD Cert.TransformMaxReferenceIdeal.τ).loc Cert.TransformMaxReferenceIdeal.main_arg2) = m' ((c.tc : Thread Cert.TransformMaxReferenceIdeal.nD Cert.TransformMaxReferenceIdeal.τ).loc Cert.TransformMaxReferenceIdeal.main_arg2)
          ∧ r.2.mem ((c.tc : Thread Cert.TransformMaxReferenceIdeal.nD Cert.TransformMaxReferenceIdeal.τ).loc Cert.TransformMaxReferenceIdeal.main_arg3) = m' ((c.tc : Thread Cert.TransformMaxReferenceIdeal.nD Cert.TransformMaxReferenceIdeal.τ).loc Cert.TransformMaxReferenceIdeal.main_arg3)
          ∧ r.2.mem ((c.tc : Thread Cert.TransformMaxReferenceIdeal.nD Cert.TransformMaxReferenceIdeal.τ).loc Cert.TransformMaxReferenceIdeal.main_arg4) = m' ((c.tc : Thread Cert.TransformMaxReferenceIdeal.nD Cert.TransformMaxReferenceIdeal.τ).loc Cert.TransformMaxReferenceIdeal.main_arg4))

def preserves_InputTransform_InputTransformIdeal : Prop :=
  True

def algebraic_InputTransformIdeal_InputTransformReferenceIdeal [hInputTransformIdeal : Cert.InputTransformIdeal.Facts] [hInputTransformReferenceIdeal : Cert.InputTransformReferenceIdeal.Facts] : Prop :=
  ∀ (m : (ℓ : Loc Cert.InputTransformIdeal.nD Cert.InputTransformIdeal.τ Cert.InputTransformIdeal.sig) → Buf (Elt Ideal) ℓ) (g : Dev Cert.InputTransformIdeal.nD → PrngReg)
    (m' : (ℓ : Loc Cert.InputTransformReferenceIdeal.nD Cert.InputTransformReferenceIdeal.τ Cert.InputTransformReferenceIdeal.sig) → Buf (Elt Ideal) ℓ) (g' : Dev Cert.InputTransformReferenceIdeal.nD → PrngReg), Pre_InputTransformIdeal m →
    (∀ c : Dev Cert.InputTransformIdeal.nD,
      m' ((c.tc : Thread Cert.InputTransformReferenceIdeal.nD Cert.InputTransformReferenceIdeal.τ).loc Cert.InputTransformReferenceIdeal.main_arg0) = m ((c.tc : Thread Cert.InputTransformIdeal.nD Cert.InputTransformIdeal.τ).loc Cert.InputTransformIdeal.main_arg0)
      ∧ m' ((c.tc : Thread Cert.InputTransformReferenceIdeal.nD Cert.InputTransformReferenceIdeal.τ).loc Cert.InputTransformReferenceIdeal.main_arg1) = m ((c.tc : Thread Cert.InputTransformIdeal.nD Cert.InputTransformIdeal.τ).loc Cert.InputTransformIdeal.main_arg1)
      ∧ m' ((c.tc : Thread Cert.InputTransformReferenceIdeal.nD Cert.InputTransformReferenceIdeal.τ).loc Cert.InputTransformReferenceIdeal.main_arg2) = m ((c.tc : Thread Cert.InputTransformIdeal.nD Cert.InputTransformIdeal.τ).loc Cert.InputTransformIdeal.main_arg2)) →
    ∃ (v0 : (c : Dev Cert.InputTransformIdeal.nD) → Buf (Elt Ideal) ((c.tc : Thread Cert.InputTransformIdeal.nD Cert.InputTransformIdeal.τ).loc Cert.InputTransformIdeal.main_v0)),
      θ_run (Cert.InputTransformIdeal.defs (F := Ideal)) (onTc (τ := Cert.InputTransformIdeal.τ) (Cert.InputTransformIdeal.main (F := Ideal))) ⟨m, fun _ => 0, g⟩ (fun r => ∀ c : Dev Cert.InputTransformIdeal.nD,
          r.2.mem ((c.tc : Thread Cert.InputTransformIdeal.nD Cert.InputTransformIdeal.τ).loc Cert.InputTransformIdeal.main_v0) = v0 c
          ∧ r.2.mem ((c.tc : Thread Cert.InputTransformIdeal.nD Cert.InputTransformIdeal.τ).loc Cert.InputTransformIdeal.main_arg0) = m ((c.tc : Thread Cert.InputTransformIdeal.nD Cert.InputTransformIdeal.τ).loc Cert.InputTransformIdeal.main_arg0)
          ∧ r.2.mem ((c.tc : Thread Cert.InputTransformIdeal.nD Cert.InputTransformIdeal.τ).loc Cert.InputTransformIdeal.main_arg1) = m ((c.tc : Thread Cert.InputTransformIdeal.nD Cert.InputTransformIdeal.τ).loc Cert.InputTransformIdeal.main_arg1)
          ∧ r.2.mem ((c.tc : Thread Cert.InputTransformIdeal.nD Cert.InputTransformIdeal.τ).loc Cert.InputTransformIdeal.main_arg2) = m ((c.tc : Thread Cert.InputTransformIdeal.nD Cert.InputTransformIdeal.τ).loc Cert.InputTransformIdeal.main_arg2))
      ∧ θ_run (Cert.InputTransformReferenceIdeal.defs (F := Ideal)) (onTc (τ := Cert.InputTransformReferenceIdeal.τ) (Cert.InputTransformReferenceIdeal.main (F := Ideal))) ⟨m', fun _ => 0, g'⟩ (fun r => ∀ c : Dev Cert.InputTransformReferenceIdeal.nD,
          r.2.mem ((c.tc : Thread Cert.InputTransformReferenceIdeal.nD Cert.InputTransformReferenceIdeal.τ).loc Cert.InputTransformReferenceIdeal.main_v14) = v0 c
          ∧ r.2.mem ((c.tc : Thread Cert.InputTransformReferenceIdeal.nD Cert.InputTransformReferenceIdeal.τ).loc Cert.InputTransformReferenceIdeal.main_arg0) = m' ((c.tc : Thread Cert.InputTransformReferenceIdeal.nD Cert.InputTransformReferenceIdeal.τ).loc Cert.InputTransformReferenceIdeal.main_arg0)
          ∧ r.2.mem ((c.tc : Thread Cert.InputTransformReferenceIdeal.nD Cert.InputTransformReferenceIdeal.τ).loc Cert.InputTransformReferenceIdeal.main_arg1) = m' ((c.tc : Thread Cert.InputTransformReferenceIdeal.nD Cert.InputTransformReferenceIdeal.τ).loc Cert.InputTransformReferenceIdeal.main_arg1)
          ∧ r.2.mem ((c.tc : Thread Cert.InputTransformReferenceIdeal.nD Cert.InputTransformReferenceIdeal.τ).loc Cert.InputTransformReferenceIdeal.main_arg2) = m' ((c.tc : Thread Cert.InputTransformReferenceIdeal.nD Cert.InputTransformReferenceIdeal.τ).loc Cert.InputTransformReferenceIdeal.main_arg2))

def preserves_Features_FeaturesIdeal : Prop :=
  True

def algebraic_FeaturesIdeal_FeaturesReferenceIdeal [hFeaturesIdeal : Cert.FeaturesIdeal.Facts] [hFeaturesReferenceIdeal : Cert.FeaturesReferenceIdeal.Facts] : Prop :=
  ∀ (m : (ℓ : Loc Cert.FeaturesIdeal.nD Cert.FeaturesIdeal.τ Cert.FeaturesIdeal.sig) → Buf (Elt Ideal) ℓ) (g : Dev Cert.FeaturesIdeal.nD → PrngReg)
    (m' : (ℓ : Loc Cert.FeaturesReferenceIdeal.nD Cert.FeaturesReferenceIdeal.τ Cert.FeaturesReferenceIdeal.sig) → Buf (Elt Ideal) ℓ) (g' : Dev Cert.FeaturesReferenceIdeal.nD → PrngReg), Pre_FeaturesIdeal m →
    (∀ c : Dev Cert.FeaturesIdeal.nD,
      m' ((c.tc : Thread Cert.FeaturesReferenceIdeal.nD Cert.FeaturesReferenceIdeal.τ).loc Cert.FeaturesReferenceIdeal.main_arg0) = m ((c.tc : Thread Cert.FeaturesIdeal.nD Cert.FeaturesIdeal.τ).loc Cert.FeaturesIdeal.main_arg0)
      ∧ m' ((c.tc : Thread Cert.FeaturesReferenceIdeal.nD Cert.FeaturesReferenceIdeal.τ).loc Cert.FeaturesReferenceIdeal.main_arg1) = m ((c.tc : Thread Cert.FeaturesIdeal.nD Cert.FeaturesIdeal.τ).loc Cert.FeaturesIdeal.main_arg1)
      ∧ m' ((c.tc : Thread Cert.FeaturesReferenceIdeal.nD Cert.FeaturesReferenceIdeal.τ).loc Cert.FeaturesReferenceIdeal.main_arg2) = m ((c.tc : Thread Cert.FeaturesIdeal.nD Cert.FeaturesIdeal.τ).loc Cert.FeaturesIdeal.main_arg2)
      ∧ m' ((c.tc : Thread Cert.FeaturesReferenceIdeal.nD Cert.FeaturesReferenceIdeal.τ).loc Cert.FeaturesReferenceIdeal.main_arg3) = m ((c.tc : Thread Cert.FeaturesIdeal.nD Cert.FeaturesIdeal.τ).loc Cert.FeaturesIdeal.main_arg3)
      ∧ m' ((c.tc : Thread Cert.FeaturesReferenceIdeal.nD Cert.FeaturesReferenceIdeal.τ).loc Cert.FeaturesReferenceIdeal.main_arg4) = m ((c.tc : Thread Cert.FeaturesIdeal.nD Cert.FeaturesIdeal.τ).loc Cert.FeaturesIdeal.main_arg4)
      ∧ m' ((c.tc : Thread Cert.FeaturesReferenceIdeal.nD Cert.FeaturesReferenceIdeal.τ).loc Cert.FeaturesReferenceIdeal.main_arg5) = m ((c.tc : Thread Cert.FeaturesIdeal.nD Cert.FeaturesIdeal.τ).loc Cert.FeaturesIdeal.main_arg5)
      ∧ m' ((c.tc : Thread Cert.FeaturesReferenceIdeal.nD Cert.FeaturesReferenceIdeal.τ).loc Cert.FeaturesReferenceIdeal.main_arg6) = m ((c.tc : Thread Cert.FeaturesIdeal.nD Cert.FeaturesIdeal.τ).loc Cert.FeaturesIdeal.main_arg6)
      ∧ m' ((c.tc : Thread Cert.FeaturesReferenceIdeal.nD Cert.FeaturesReferenceIdeal.τ).loc Cert.FeaturesReferenceIdeal.main_arg7) = m ((c.tc : Thread Cert.FeaturesIdeal.nD Cert.FeaturesIdeal.τ).loc Cert.FeaturesIdeal.main_arg7)) →
    ∃ (v0 : (c : Dev Cert.FeaturesIdeal.nD) → Buf (Elt Ideal) ((c.tc : Thread Cert.FeaturesIdeal.nD Cert.FeaturesIdeal.τ).loc Cert.FeaturesIdeal.main_v0_0)) (v1 : (c : Dev Cert.FeaturesIdeal.nD) → Buf (Elt Ideal) ((c.tc : Thread Cert.FeaturesIdeal.nD Cert.FeaturesIdeal.τ).loc Cert.FeaturesIdeal.main_v0_1)),
      θ_run (Cert.FeaturesIdeal.defs (F := Ideal)) (onTc (τ := Cert.FeaturesIdeal.τ) (Cert.FeaturesIdeal.main (F := Ideal))) ⟨m, fun _ => 0, g⟩ (fun r => ∀ c : Dev Cert.FeaturesIdeal.nD,
          r.2.mem ((c.tc : Thread Cert.FeaturesIdeal.nD Cert.FeaturesIdeal.τ).loc Cert.FeaturesIdeal.main_v0_0) = v0 c
          ∧ r.2.mem ((c.tc : Thread Cert.FeaturesIdeal.nD Cert.FeaturesIdeal.τ).loc Cert.FeaturesIdeal.main_v0_1) = v1 c
          ∧ r.2.mem ((c.tc : Thread Cert.FeaturesIdeal.nD Cert.FeaturesIdeal.τ).loc Cert.FeaturesIdeal.main_arg0) = m ((c.tc : Thread Cert.FeaturesIdeal.nD Cert.FeaturesIdeal.τ).loc Cert.FeaturesIdeal.main_arg0)
          ∧ r.2.mem ((c.tc : Thread Cert.FeaturesIdeal.nD Cert.FeaturesIdeal.τ).loc Cert.FeaturesIdeal.main_arg1) = m ((c.tc : Thread Cert.FeaturesIdeal.nD Cert.FeaturesIdeal.τ).loc Cert.FeaturesIdeal.main_arg1)
          ∧ r.2.mem ((c.tc : Thread Cert.FeaturesIdeal.nD Cert.FeaturesIdeal.τ).loc Cert.FeaturesIdeal.main_arg2) = m ((c.tc : Thread Cert.FeaturesIdeal.nD Cert.FeaturesIdeal.τ).loc Cert.FeaturesIdeal.main_arg2)
          ∧ r.2.mem ((c.tc : Thread Cert.FeaturesIdeal.nD Cert.FeaturesIdeal.τ).loc Cert.FeaturesIdeal.main_arg3) = m ((c.tc : Thread Cert.FeaturesIdeal.nD Cert.FeaturesIdeal.τ).loc Cert.FeaturesIdeal.main_arg3)
          ∧ r.2.mem ((c.tc : Thread Cert.FeaturesIdeal.nD Cert.FeaturesIdeal.τ).loc Cert.FeaturesIdeal.main_arg4) = m ((c.tc : Thread Cert.FeaturesIdeal.nD Cert.FeaturesIdeal.τ).loc Cert.FeaturesIdeal.main_arg4)
          ∧ r.2.mem ((c.tc : Thread Cert.FeaturesIdeal.nD Cert.FeaturesIdeal.τ).loc Cert.FeaturesIdeal.main_arg5) = m ((c.tc : Thread Cert.FeaturesIdeal.nD Cert.FeaturesIdeal.τ).loc Cert.FeaturesIdeal.main_arg5)
          ∧ r.2.mem ((c.tc : Thread Cert.FeaturesIdeal.nD Cert.FeaturesIdeal.τ).loc Cert.FeaturesIdeal.main_arg6) = m ((c.tc : Thread Cert.FeaturesIdeal.nD Cert.FeaturesIdeal.τ).loc Cert.FeaturesIdeal.main_arg6)
          ∧ r.2.mem ((c.tc : Thread Cert.FeaturesIdeal.nD Cert.FeaturesIdeal.τ).loc Cert.FeaturesIdeal.main_arg7) = m ((c.tc : Thread Cert.FeaturesIdeal.nD Cert.FeaturesIdeal.τ).loc Cert.FeaturesIdeal.main_arg7))
      ∧ θ_run (Cert.FeaturesReferenceIdeal.defs (F := Ideal)) (onTc (τ := Cert.FeaturesReferenceIdeal.τ) (Cert.FeaturesReferenceIdeal.main (F := Ideal))) ⟨m', fun _ => 0, g'⟩ (fun r => ∀ c : Dev Cert.FeaturesReferenceIdeal.nD,
          r.2.mem ((c.tc : Thread Cert.FeaturesReferenceIdeal.nD Cert.FeaturesReferenceIdeal.τ).loc Cert.FeaturesReferenceIdeal.main_v10) = v0 c
          ∧ r.2.mem ((c.tc : Thread Cert.FeaturesReferenceIdeal.nD Cert.FeaturesReferenceIdeal.τ).loc Cert.FeaturesReferenceIdeal.main_v24) = v1 c
          ∧ r.2.mem ((c.tc : Thread Cert.FeaturesReferenceIdeal.nD Cert.FeaturesReferenceIdeal.τ).loc Cert.FeaturesReferenceIdeal.main_arg0) = m' ((c.tc : Thread Cert.FeaturesReferenceIdeal.nD Cert.FeaturesReferenceIdeal.τ).loc Cert.FeaturesReferenceIdeal.main_arg0)
          ∧ r.2.mem ((c.tc : Thread Cert.FeaturesReferenceIdeal.nD Cert.FeaturesReferenceIdeal.τ).loc Cert.FeaturesReferenceIdeal.main_arg1) = m' ((c.tc : Thread Cert.FeaturesReferenceIdeal.nD Cert.FeaturesReferenceIdeal.τ).loc Cert.FeaturesReferenceIdeal.main_arg1)
          ∧ r.2.mem ((c.tc : Thread Cert.FeaturesReferenceIdeal.nD Cert.FeaturesReferenceIdeal.τ).loc Cert.FeaturesReferenceIdeal.main_arg2) = m' ((c.tc : Thread Cert.FeaturesReferenceIdeal.nD Cert.FeaturesReferenceIdeal.τ).loc Cert.FeaturesReferenceIdeal.main_arg2)
          ∧ r.2.mem ((c.tc : Thread Cert.FeaturesReferenceIdeal.nD Cert.FeaturesReferenceIdeal.τ).loc Cert.FeaturesReferenceIdeal.main_arg3) = m' ((c.tc : Thread Cert.FeaturesReferenceIdeal.nD Cert.FeaturesReferenceIdeal.τ).loc Cert.FeaturesReferenceIdeal.main_arg3)
          ∧ r.2.mem ((c.tc : Thread Cert.FeaturesReferenceIdeal.nD Cert.FeaturesReferenceIdeal.τ).loc Cert.FeaturesReferenceIdeal.main_arg4) = m' ((c.tc : Thread Cert.FeaturesReferenceIdeal.nD Cert.FeaturesReferenceIdeal.τ).loc Cert.FeaturesReferenceIdeal.main_arg4)
          ∧ r.2.mem ((c.tc : Thread Cert.FeaturesReferenceIdeal.nD Cert.FeaturesReferenceIdeal.τ).loc Cert.FeaturesReferenceIdeal.main_arg5) = m' ((c.tc : Thread Cert.FeaturesReferenceIdeal.nD Cert.FeaturesReferenceIdeal.τ).loc Cert.FeaturesReferenceIdeal.main_arg5)
          ∧ r.2.mem ((c.tc : Thread Cert.FeaturesReferenceIdeal.nD Cert.FeaturesReferenceIdeal.τ).loc Cert.FeaturesReferenceIdeal.main_arg6) = m' ((c.tc : Thread Cert.FeaturesReferenceIdeal.nD Cert.FeaturesReferenceIdeal.τ).loc Cert.FeaturesReferenceIdeal.main_arg6)
          ∧ r.2.mem ((c.tc : Thread Cert.FeaturesReferenceIdeal.nD Cert.FeaturesReferenceIdeal.τ).loc Cert.FeaturesReferenceIdeal.main_arg7) = m' ((c.tc : Thread Cert.FeaturesReferenceIdeal.nD Cert.FeaturesReferenceIdeal.τ).loc Cert.FeaturesReferenceIdeal.main_arg7))

def preserves_FeatureTransform_FeatureTransformIdeal : Prop :=
  True

def algebraic_FeatureTransformIdeal_FeatureTransformReferenceIdeal [hFeatureTransformIdeal : Cert.FeatureTransformIdeal.Facts] [hFeatureTransformReferenceIdeal : Cert.FeatureTransformReferenceIdeal.Facts] : Prop :=
  ∀ (m : (ℓ : Loc Cert.FeatureTransformIdeal.nD Cert.FeatureTransformIdeal.τ Cert.FeatureTransformIdeal.sig) → Buf (Elt Ideal) ℓ) (g : Dev Cert.FeatureTransformIdeal.nD → PrngReg)
    (m' : (ℓ : Loc Cert.FeatureTransformReferenceIdeal.nD Cert.FeatureTransformReferenceIdeal.τ Cert.FeatureTransformReferenceIdeal.sig) → Buf (Elt Ideal) ℓ) (g' : Dev Cert.FeatureTransformReferenceIdeal.nD → PrngReg), Pre_FeatureTransformIdeal m →
    (∀ c : Dev Cert.FeatureTransformIdeal.nD,
      m' ((c.tc : Thread Cert.FeatureTransformReferenceIdeal.nD Cert.FeatureTransformReferenceIdeal.τ).loc Cert.FeatureTransformReferenceIdeal.main_arg0) = m ((c.tc : Thread Cert.FeatureTransformIdeal.nD Cert.FeatureTransformIdeal.τ).loc Cert.FeatureTransformIdeal.main_arg0)
      ∧ m' ((c.tc : Thread Cert.FeatureTransformReferenceIdeal.nD Cert.FeatureTransformReferenceIdeal.τ).loc Cert.FeatureTransformReferenceIdeal.main_arg1) = m ((c.tc : Thread Cert.FeatureTransformIdeal.nD Cert.FeatureTransformIdeal.τ).loc Cert.FeatureTransformIdeal.main_arg1)
      ∧ m' ((c.tc : Thread Cert.FeatureTransformReferenceIdeal.nD Cert.FeatureTransformReferenceIdeal.τ).loc Cert.FeatureTransformReferenceIdeal.main_arg2) = m ((c.tc : Thread Cert.FeatureTransformIdeal.nD Cert.FeatureTransformIdeal.τ).loc Cert.FeatureTransformIdeal.main_arg2)) →
    ∃ (v0 : (c : Dev Cert.FeatureTransformIdeal.nD) → Buf (Elt Ideal) ((c.tc : Thread Cert.FeatureTransformIdeal.nD Cert.FeatureTransformIdeal.τ).loc Cert.FeatureTransformIdeal.main_v0)),
      θ_run (Cert.FeatureTransformIdeal.defs (F := Ideal)) (onTc (τ := Cert.FeatureTransformIdeal.τ) (Cert.FeatureTransformIdeal.main (F := Ideal))) ⟨m, fun _ => 0, g⟩ (fun r => ∀ c : Dev Cert.FeatureTransformIdeal.nD,
          r.2.mem ((c.tc : Thread Cert.FeatureTransformIdeal.nD Cert.FeatureTransformIdeal.τ).loc Cert.FeatureTransformIdeal.main_v0) = v0 c
          ∧ r.2.mem ((c.tc : Thread Cert.FeatureTransformIdeal.nD Cert.FeatureTransformIdeal.τ).loc Cert.FeatureTransformIdeal.main_arg0) = m ((c.tc : Thread Cert.FeatureTransformIdeal.nD Cert.FeatureTransformIdeal.τ).loc Cert.FeatureTransformIdeal.main_arg0)
          ∧ r.2.mem ((c.tc : Thread Cert.FeatureTransformIdeal.nD Cert.FeatureTransformIdeal.τ).loc Cert.FeatureTransformIdeal.main_arg1) = m ((c.tc : Thread Cert.FeatureTransformIdeal.nD Cert.FeatureTransformIdeal.τ).loc Cert.FeatureTransformIdeal.main_arg1)
          ∧ r.2.mem ((c.tc : Thread Cert.FeatureTransformIdeal.nD Cert.FeatureTransformIdeal.τ).loc Cert.FeatureTransformIdeal.main_arg2) = m ((c.tc : Thread Cert.FeatureTransformIdeal.nD Cert.FeatureTransformIdeal.τ).loc Cert.FeatureTransformIdeal.main_arg2))
      ∧ θ_run (Cert.FeatureTransformReferenceIdeal.defs (F := Ideal)) (onTc (τ := Cert.FeatureTransformReferenceIdeal.τ) (Cert.FeatureTransformReferenceIdeal.main (F := Ideal))) ⟨m', fun _ => 0, g'⟩ (fun r => ∀ c : Dev Cert.FeatureTransformReferenceIdeal.nD,
          r.2.mem ((c.tc : Thread Cert.FeatureTransformReferenceIdeal.nD Cert.FeatureTransformReferenceIdeal.τ).loc Cert.FeatureTransformReferenceIdeal.main_v14) = v0 c
          ∧ r.2.mem ((c.tc : Thread Cert.FeatureTransformReferenceIdeal.nD Cert.FeatureTransformReferenceIdeal.τ).loc Cert.FeatureTransformReferenceIdeal.main_arg0) = m' ((c.tc : Thread Cert.FeatureTransformReferenceIdeal.nD Cert.FeatureTransformReferenceIdeal.τ).loc Cert.FeatureTransformReferenceIdeal.main_arg0)
          ∧ r.2.mem ((c.tc : Thread Cert.FeatureTransformReferenceIdeal.nD Cert.FeatureTransformReferenceIdeal.τ).loc Cert.FeatureTransformReferenceIdeal.main_arg1) = m' ((c.tc : Thread Cert.FeatureTransformReferenceIdeal.nD Cert.FeatureTransformReferenceIdeal.τ).loc Cert.FeatureTransformReferenceIdeal.main_arg1)
          ∧ r.2.mem ((c.tc : Thread Cert.FeatureTransformReferenceIdeal.nD Cert.FeatureTransformReferenceIdeal.τ).loc Cert.FeatureTransformReferenceIdeal.main_arg2) = m' ((c.tc : Thread Cert.FeatureTransformReferenceIdeal.nD Cert.FeatureTransformReferenceIdeal.τ).loc Cert.FeatureTransformReferenceIdeal.main_arg2))

def preserves_OutputFeatures_OutputFeaturesIdeal : Prop :=
  True

def algebraic_OutputFeaturesIdeal_OutputFeaturesReferenceIdeal [hOutputFeaturesIdeal : Cert.OutputFeaturesIdeal.Facts] [hOutputFeaturesReferenceIdeal : Cert.OutputFeaturesReferenceIdeal.Facts] : Prop :=
  ∀ (m : (ℓ : Loc Cert.OutputFeaturesIdeal.nD Cert.OutputFeaturesIdeal.τ Cert.OutputFeaturesIdeal.sig) → Buf (Elt Ideal) ℓ) (g : Dev Cert.OutputFeaturesIdeal.nD → PrngReg)
    (m' : (ℓ : Loc Cert.OutputFeaturesReferenceIdeal.nD Cert.OutputFeaturesReferenceIdeal.τ Cert.OutputFeaturesReferenceIdeal.sig) → Buf (Elt Ideal) ℓ) (g' : Dev Cert.OutputFeaturesReferenceIdeal.nD → PrngReg), Pre_OutputFeaturesIdeal m →
    (∀ c : Dev Cert.OutputFeaturesIdeal.nD,
      m' ((c.tc : Thread Cert.OutputFeaturesReferenceIdeal.nD Cert.OutputFeaturesReferenceIdeal.τ).loc Cert.OutputFeaturesReferenceIdeal.main_arg0) = m ((c.tc : Thread Cert.OutputFeaturesIdeal.nD Cert.OutputFeaturesIdeal.τ).loc Cert.OutputFeaturesIdeal.main_arg0)
      ∧ m' ((c.tc : Thread Cert.OutputFeaturesReferenceIdeal.nD Cert.OutputFeaturesReferenceIdeal.τ).loc Cert.OutputFeaturesReferenceIdeal.main_arg1) = m ((c.tc : Thread Cert.OutputFeaturesIdeal.nD Cert.OutputFeaturesIdeal.τ).loc Cert.OutputFeaturesIdeal.main_arg1)
      ∧ m' ((c.tc : Thread Cert.OutputFeaturesReferenceIdeal.nD Cert.OutputFeaturesReferenceIdeal.τ).loc Cert.OutputFeaturesReferenceIdeal.main_arg2) = m ((c.tc : Thread Cert.OutputFeaturesIdeal.nD Cert.OutputFeaturesIdeal.τ).loc Cert.OutputFeaturesIdeal.main_arg2)
      ∧ m' ((c.tc : Thread Cert.OutputFeaturesReferenceIdeal.nD Cert.OutputFeaturesReferenceIdeal.τ).loc Cert.OutputFeaturesReferenceIdeal.main_arg3) = m ((c.tc : Thread Cert.OutputFeaturesIdeal.nD Cert.OutputFeaturesIdeal.τ).loc Cert.OutputFeaturesIdeal.main_arg3)
      ∧ m' ((c.tc : Thread Cert.OutputFeaturesReferenceIdeal.nD Cert.OutputFeaturesReferenceIdeal.τ).loc Cert.OutputFeaturesReferenceIdeal.main_arg4) = m ((c.tc : Thread Cert.OutputFeaturesIdeal.nD Cert.OutputFeaturesIdeal.τ).loc Cert.OutputFeaturesIdeal.main_arg4)
      ∧ m' ((c.tc : Thread Cert.OutputFeaturesReferenceIdeal.nD Cert.OutputFeaturesReferenceIdeal.τ).loc Cert.OutputFeaturesReferenceIdeal.main_arg5) = m ((c.tc : Thread Cert.OutputFeaturesIdeal.nD Cert.OutputFeaturesIdeal.τ).loc Cert.OutputFeaturesIdeal.main_arg5)) →
    ∃ (v0 : (c : Dev Cert.OutputFeaturesIdeal.nD) → Buf (Elt Ideal) ((c.tc : Thread Cert.OutputFeaturesIdeal.nD Cert.OutputFeaturesIdeal.τ).loc Cert.OutputFeaturesIdeal.main_v0)),
      θ_run (Cert.OutputFeaturesIdeal.defs (F := Ideal)) (onTc (τ := Cert.OutputFeaturesIdeal.τ) (Cert.OutputFeaturesIdeal.main (F := Ideal))) ⟨m, fun _ => 0, g⟩ (fun r => ∀ c : Dev Cert.OutputFeaturesIdeal.nD,
          r.2.mem ((c.tc : Thread Cert.OutputFeaturesIdeal.nD Cert.OutputFeaturesIdeal.τ).loc Cert.OutputFeaturesIdeal.main_v0) = v0 c
          ∧ r.2.mem ((c.tc : Thread Cert.OutputFeaturesIdeal.nD Cert.OutputFeaturesIdeal.τ).loc Cert.OutputFeaturesIdeal.main_arg0) = m ((c.tc : Thread Cert.OutputFeaturesIdeal.nD Cert.OutputFeaturesIdeal.τ).loc Cert.OutputFeaturesIdeal.main_arg0)
          ∧ r.2.mem ((c.tc : Thread Cert.OutputFeaturesIdeal.nD Cert.OutputFeaturesIdeal.τ).loc Cert.OutputFeaturesIdeal.main_arg1) = m ((c.tc : Thread Cert.OutputFeaturesIdeal.nD Cert.OutputFeaturesIdeal.τ).loc Cert.OutputFeaturesIdeal.main_arg1)
          ∧ r.2.mem ((c.tc : Thread Cert.OutputFeaturesIdeal.nD Cert.OutputFeaturesIdeal.τ).loc Cert.OutputFeaturesIdeal.main_arg2) = m ((c.tc : Thread Cert.OutputFeaturesIdeal.nD Cert.OutputFeaturesIdeal.τ).loc Cert.OutputFeaturesIdeal.main_arg2)
          ∧ r.2.mem ((c.tc : Thread Cert.OutputFeaturesIdeal.nD Cert.OutputFeaturesIdeal.τ).loc Cert.OutputFeaturesIdeal.main_arg3) = m ((c.tc : Thread Cert.OutputFeaturesIdeal.nD Cert.OutputFeaturesIdeal.τ).loc Cert.OutputFeaturesIdeal.main_arg3)
          ∧ r.2.mem ((c.tc : Thread Cert.OutputFeaturesIdeal.nD Cert.OutputFeaturesIdeal.τ).loc Cert.OutputFeaturesIdeal.main_arg4) = m ((c.tc : Thread Cert.OutputFeaturesIdeal.nD Cert.OutputFeaturesIdeal.τ).loc Cert.OutputFeaturesIdeal.main_arg4)
          ∧ r.2.mem ((c.tc : Thread Cert.OutputFeaturesIdeal.nD Cert.OutputFeaturesIdeal.τ).loc Cert.OutputFeaturesIdeal.main_arg5) = m ((c.tc : Thread Cert.OutputFeaturesIdeal.nD Cert.OutputFeaturesIdeal.τ).loc Cert.OutputFeaturesIdeal.main_arg5))
      ∧ θ_run (Cert.OutputFeaturesReferenceIdeal.defs (F := Ideal)) (onTc (τ := Cert.OutputFeaturesReferenceIdeal.τ) (Cert.OutputFeaturesReferenceIdeal.main (F := Ideal))) ⟨m', fun _ => 0, g'⟩ (fun r => ∀ c : Dev Cert.OutputFeaturesReferenceIdeal.nD,
          r.2.mem ((c.tc : Thread Cert.OutputFeaturesReferenceIdeal.nD Cert.OutputFeaturesReferenceIdeal.τ).loc Cert.OutputFeaturesReferenceIdeal.main_v16) = v0 c
          ∧ r.2.mem ((c.tc : Thread Cert.OutputFeaturesReferenceIdeal.nD Cert.OutputFeaturesReferenceIdeal.τ).loc Cert.OutputFeaturesReferenceIdeal.main_arg0) = m' ((c.tc : Thread Cert.OutputFeaturesReferenceIdeal.nD Cert.OutputFeaturesReferenceIdeal.τ).loc Cert.OutputFeaturesReferenceIdeal.main_arg0)
          ∧ r.2.mem ((c.tc : Thread Cert.OutputFeaturesReferenceIdeal.nD Cert.OutputFeaturesReferenceIdeal.τ).loc Cert.OutputFeaturesReferenceIdeal.main_arg1) = m' ((c.tc : Thread Cert.OutputFeaturesReferenceIdeal.nD Cert.OutputFeaturesReferenceIdeal.τ).loc Cert.OutputFeaturesReferenceIdeal.main_arg1)
          ∧ r.2.mem ((c.tc : Thread Cert.OutputFeaturesReferenceIdeal.nD Cert.OutputFeaturesReferenceIdeal.τ).loc Cert.OutputFeaturesReferenceIdeal.main_arg2) = m' ((c.tc : Thread Cert.OutputFeaturesReferenceIdeal.nD Cert.OutputFeaturesReferenceIdeal.τ).loc Cert.OutputFeaturesReferenceIdeal.main_arg2)
          ∧ r.2.mem ((c.tc : Thread Cert.OutputFeaturesReferenceIdeal.nD Cert.OutputFeaturesReferenceIdeal.τ).loc Cert.OutputFeaturesReferenceIdeal.main_arg3) = m' ((c.tc : Thread Cert.OutputFeaturesReferenceIdeal.nD Cert.OutputFeaturesReferenceIdeal.τ).loc Cert.OutputFeaturesReferenceIdeal.main_arg3)
          ∧ r.2.mem ((c.tc : Thread Cert.OutputFeaturesReferenceIdeal.nD Cert.OutputFeaturesReferenceIdeal.τ).loc Cert.OutputFeaturesReferenceIdeal.main_arg4) = m' ((c.tc : Thread Cert.OutputFeaturesReferenceIdeal.nD Cert.OutputFeaturesReferenceIdeal.τ).loc Cert.OutputFeaturesReferenceIdeal.main_arg4)
          ∧ r.2.mem ((c.tc : Thread Cert.OutputFeaturesReferenceIdeal.nD Cert.OutputFeaturesReferenceIdeal.τ).loc Cert.OutputFeaturesReferenceIdeal.main_arg5) = m' ((c.tc : Thread Cert.OutputFeaturesReferenceIdeal.nD Cert.OutputFeaturesReferenceIdeal.τ).loc Cert.OutputFeaturesReferenceIdeal.main_arg5))

def preserves_Sampling_SamplingIdeal : Prop :=
  True

def algebraic_SamplingIdeal_SamplingReferenceIdeal [hSamplingIdeal : Cert.SamplingIdeal.Facts] [hSamplingReferenceIdeal : Cert.SamplingReferenceIdeal.Facts] : Prop :=
  ∀ (m : (ℓ : Loc Cert.SamplingIdeal.nD Cert.SamplingIdeal.τ Cert.SamplingIdeal.sig) → Buf (Elt Ideal) ℓ) (g : Dev Cert.SamplingIdeal.nD → PrngReg)
    (m' : (ℓ : Loc Cert.SamplingReferenceIdeal.nD Cert.SamplingReferenceIdeal.τ Cert.SamplingReferenceIdeal.sig) → Buf (Elt Ideal) ℓ) (g' : Dev Cert.SamplingReferenceIdeal.nD → PrngReg), Pre_SamplingIdeal m →
    (∀ c : Dev Cert.SamplingIdeal.nD,
      m' ((c.tc : Thread Cert.SamplingReferenceIdeal.nD Cert.SamplingReferenceIdeal.τ).loc Cert.SamplingReferenceIdeal.main_arg0) = m ((c.tc : Thread Cert.SamplingIdeal.nD Cert.SamplingIdeal.τ).loc Cert.SamplingIdeal.main_arg0)) →
    ∃ (v0 : (c : Dev Cert.SamplingIdeal.nD) → Buf (Elt Ideal) ((c.tc : Thread Cert.SamplingIdeal.nD Cert.SamplingIdeal.τ).loc Cert.SamplingIdeal.main_v9_0)) (v1 : (c : Dev Cert.SamplingIdeal.nD) → Buf (Elt Ideal) ((c.tc : Thread Cert.SamplingIdeal.nD Cert.SamplingIdeal.τ).loc Cert.SamplingIdeal.main_v9_1)) (v2 : (c : Dev Cert.SamplingIdeal.nD) → Buf (Elt Ideal) ((c.tc : Thread Cert.SamplingIdeal.nD Cert.SamplingIdeal.τ).loc Cert.SamplingIdeal.main_v9_2)) (v3 : (c : Dev Cert.SamplingIdeal.nD) → Buf (Elt Ideal) ((c.tc : Thread Cert.SamplingIdeal.nD Cert.SamplingIdeal.τ).loc Cert.SamplingIdeal.main_v9_3)),
      θ_run (Cert.SamplingIdeal.defs (F := Ideal)) (onTc (τ := Cert.SamplingIdeal.τ) (Cert.SamplingIdeal.main (F := Ideal))) ⟨m, fun _ => 0, g⟩ (fun r => ∀ c : Dev Cert.SamplingIdeal.nD,
          r.2.mem ((c.tc : Thread Cert.SamplingIdeal.nD Cert.SamplingIdeal.τ).loc Cert.SamplingIdeal.main_v9_0) = v0 c
          ∧ r.2.mem ((c.tc : Thread Cert.SamplingIdeal.nD Cert.SamplingIdeal.τ).loc Cert.SamplingIdeal.main_v9_1) = v1 c
          ∧ r.2.mem ((c.tc : Thread Cert.SamplingIdeal.nD Cert.SamplingIdeal.τ).loc Cert.SamplingIdeal.main_v9_2) = v2 c
          ∧ r.2.mem ((c.tc : Thread Cert.SamplingIdeal.nD Cert.SamplingIdeal.τ).loc Cert.SamplingIdeal.main_v9_3) = v3 c
          ∧ r.2.mem ((c.tc : Thread Cert.SamplingIdeal.nD Cert.SamplingIdeal.τ).loc Cert.SamplingIdeal.main_arg0) = m ((c.tc : Thread Cert.SamplingIdeal.nD Cert.SamplingIdeal.τ).loc Cert.SamplingIdeal.main_arg0))
      ∧ θ_run (Cert.SamplingReferenceIdeal.defs (F := Ideal)) (onTc (τ := Cert.SamplingReferenceIdeal.τ) (Cert.SamplingReferenceIdeal.main (F := Ideal))) ⟨m', fun _ => 0, g'⟩ (fun r => ∀ c : Dev Cert.SamplingReferenceIdeal.nD,
          r.2.mem ((c.tc : Thread Cert.SamplingReferenceIdeal.nD Cert.SamplingReferenceIdeal.τ).loc Cert.SamplingReferenceIdeal.main_v13) = v0 c
          ∧ r.2.mem ((c.tc : Thread Cert.SamplingReferenceIdeal.nD Cert.SamplingReferenceIdeal.τ).loc Cert.SamplingReferenceIdeal.main_v14) = v1 c
          ∧ r.2.mem ((c.tc : Thread Cert.SamplingReferenceIdeal.nD Cert.SamplingReferenceIdeal.τ).loc Cert.SamplingReferenceIdeal.main_v15) = v2 c
          ∧ r.2.mem ((c.tc : Thread Cert.SamplingReferenceIdeal.nD Cert.SamplingReferenceIdeal.τ).loc Cert.SamplingReferenceIdeal.main_v16) = v3 c
          ∧ r.2.mem ((c.tc : Thread Cert.SamplingReferenceIdeal.nD Cert.SamplingReferenceIdeal.τ).loc Cert.SamplingReferenceIdeal.main_arg0) = m' ((c.tc : Thread Cert.SamplingReferenceIdeal.nD Cert.SamplingReferenceIdeal.τ).loc Cert.SamplingReferenceIdeal.main_arg0))

def Claim : Prop :=
  ∃ (hKernel : Cert.Kernel.Facts) (hKernelIdeal : Cert.KernelIdeal.Facts) (hReferenceIdeal : Cert.ReferenceIdeal.Facts) (hTransformMax : Cert.TransformMax.Facts) (hTransformMaxIdeal : Cert.TransformMaxIdeal.Facts) (hTransformMaxReferenceIdeal : Cert.TransformMaxReferenceIdeal.Facts) (hInputTransform : Cert.InputTransform.Facts) (hInputTransformIdeal : Cert.InputTransformIdeal.Facts) (hInputTransformReferenceIdeal : Cert.InputTransformReferenceIdeal.Facts) (hFeatures : Cert.Features.Facts) (hFeaturesIdeal : Cert.FeaturesIdeal.Facts) (hFeaturesReferenceIdeal : Cert.FeaturesReferenceIdeal.Facts) (hFeatureTransform : Cert.FeatureTransform.Facts) (hFeatureTransformIdeal : Cert.FeatureTransformIdeal.Facts) (hFeatureTransformReferenceIdeal : Cert.FeatureTransformReferenceIdeal.Facts) (hOutputFeatures : Cert.OutputFeatures.Facts) (hOutputFeaturesIdeal : Cert.OutputFeaturesIdeal.Facts) (hOutputFeaturesReferenceIdeal : Cert.OutputFeaturesReferenceIdeal.Facts) (hSampling : Cert.Sampling.Facts) (hSamplingIdeal : Cert.SamplingIdeal.Facts) (hSamplingReferenceIdeal : Cert.SamplingReferenceIdeal.Facts) (hPre_balls_nonempty : Cert.Pre_balls_nonempty.Facts),
    quiescent_Kernel (hKernel := hKernel) (hPre_balls_nonempty := hPre_balls_nonempty)
    ∧ quiescent_KernelIdeal (hKernelIdeal := hKernelIdeal) (hPre_balls_nonempty := hPre_balls_nonempty)
    ∧ quiescent_ReferenceIdeal (hReferenceIdeal := hReferenceIdeal) (hPre_balls_nonempty := hPre_balls_nonempty)
    ∧ quiescent_TransformMax (hTransformMax := hTransformMax)
    ∧ quiescent_TransformMaxIdeal (hTransformMaxIdeal := hTransformMaxIdeal)
    ∧ quiescent_TransformMaxReferenceIdeal (hTransformMaxReferenceIdeal := hTransformMaxReferenceIdeal)
    ∧ quiescent_InputTransform (hInputTransform := hInputTransform)
    ∧ quiescent_InputTransformIdeal (hInputTransformIdeal := hInputTransformIdeal)
    ∧ quiescent_InputTransformReferenceIdeal (hInputTransformReferenceIdeal := hInputTransformReferenceIdeal)
    ∧ quiescent_Features (hFeatures := hFeatures)
    ∧ quiescent_FeaturesIdeal (hFeaturesIdeal := hFeaturesIdeal)
    ∧ quiescent_FeaturesReferenceIdeal (hFeaturesReferenceIdeal := hFeaturesReferenceIdeal)
    ∧ quiescent_FeatureTransform (hFeatureTransform := hFeatureTransform)
    ∧ quiescent_FeatureTransformIdeal (hFeatureTransformIdeal := hFeatureTransformIdeal)
    ∧ quiescent_FeatureTransformReferenceIdeal (hFeatureTransformReferenceIdeal := hFeatureTransformReferenceIdeal)
    ∧ quiescent_OutputFeatures (hOutputFeatures := hOutputFeatures)
    ∧ quiescent_OutputFeaturesIdeal (hOutputFeaturesIdeal := hOutputFeaturesIdeal)
    ∧ quiescent_OutputFeaturesReferenceIdeal (hOutputFeaturesReferenceIdeal := hOutputFeaturesReferenceIdeal)
    ∧ quiescent_Sampling (hSampling := hSampling)
    ∧ quiescent_SamplingIdeal (hSamplingIdeal := hSamplingIdeal)
    ∧ quiescent_SamplingReferenceIdeal (hSamplingReferenceIdeal := hSamplingReferenceIdeal)
    ∧ preserves_Kernel_KernelIdeal
    ∧ algebraic_KernelIdeal_ReferenceIdeal (hKernelIdeal := hKernelIdeal) (hReferenceIdeal := hReferenceIdeal) (hPre_balls_nonempty := hPre_balls_nonempty)
    ∧ preserves_TransformMax_TransformMaxIdeal
    ∧ algebraic_TransformMaxIdeal_TransformMaxReferenceIdeal (hTransformMaxIdeal := hTransformMaxIdeal) (hTransformMaxReferenceIdeal := hTransformMaxReferenceIdeal)
    ∧ preserves_InputTransform_InputTransformIdeal
    ∧ algebraic_InputTransformIdeal_InputTransformReferenceIdeal (hInputTransformIdeal := hInputTransformIdeal) (hInputTransformReferenceIdeal := hInputTransformReferenceIdeal)
    ∧ preserves_Features_FeaturesIdeal
    ∧ algebraic_FeaturesIdeal_FeaturesReferenceIdeal (hFeaturesIdeal := hFeaturesIdeal) (hFeaturesReferenceIdeal := hFeaturesReferenceIdeal)
    ∧ preserves_FeatureTransform_FeatureTransformIdeal
    ∧ algebraic_FeatureTransformIdeal_FeatureTransformReferenceIdeal (hFeatureTransformIdeal := hFeatureTransformIdeal) (hFeatureTransformReferenceIdeal := hFeatureTransformReferenceIdeal)
    ∧ preserves_OutputFeatures_OutputFeaturesIdeal
    ∧ algebraic_OutputFeaturesIdeal_OutputFeaturesReferenceIdeal (hOutputFeaturesIdeal := hOutputFeaturesIdeal) (hOutputFeaturesReferenceIdeal := hOutputFeaturesReferenceIdeal)
    ∧ preserves_Sampling_SamplingIdeal
    ∧ algebraic_SamplingIdeal_SamplingReferenceIdeal (hSamplingIdeal := hSamplingIdeal) (hSamplingReferenceIdeal := hSamplingReferenceIdeal)
-- ==== Pre_balls_nonempty.lean ====
abbrev S4x4096x125 : Shape := ⟨3, ![4, 4096, 125]⟩
abbrev S4x4096x3 : Shape := ⟨3, ![4, 4096, 3]⟩
abbrev S4x512x3 : Shape := ⟨3, ![4, 512, 3]⟩
abbrev S4x4096x1 : Shape := ⟨3, ![4, 4096, 1]⟩
abbrev S4x4096 : Shape := ⟨2, ![4, 4096]⟩
abbrev S4x1x4096 : Shape := ⟨3, ![4, 1, 4096]⟩
abbrev S4x512x1 : Shape := ⟨3, ![4, 512, 1]⟩
abbrev S4x512 : Shape := ⟨2, ![4, 512]⟩
abbrev S4x512x4096 : Shape := ⟨3, ![4, 512, 4096]⟩
abbrev S_ : Shape := ⟨0, ![]⟩

class Facts : Prop where
  slices_S4x4096x3_S4x4096x1_0_0_0 : S4x4096x3.Slices ![0, 0, 0] S4x4096x1
  shapeCasts_S4x4096x1_S4x4096 : S4x4096x1.ShapeCasts S4x4096
  bcast_S4x4096_S4x1x4096_0_2 : S4x4096.BroadcastsInDim S4x1x4096 (![0, 2] : Fin 2 → Fin S4x1x4096.rank)
  slices_S4x512x3_S4x512x1_0_0_0 : S4x512x3.Slices ![0, 0, 0] S4x512x1
  shapeCasts_S4x512x1_S4x512 : S4x512x1.ShapeCasts S4x512
  bcast_S4x512_S4x512x1_0_1 : S4x512.BroadcastsInDim S4x512x1 (![0, 1] : Fin 2 → Fin S4x512x1.rank)
  bcast_S4x1x4096_S4x512x4096_0_1_2 : S4x1x4096.BroadcastsInDim S4x512x4096 (![0, 1, 2] : Fin 3 → Fin S4x512x4096.rank)
  bcast_S4x512x1_S4x512x4096_0_1_2 : S4x512x1.BroadcastsInDim S4x512x4096 (![0, 1, 2] : Fin 3 → Fin S4x512x4096.rank)
  slices_S4x4096x3_S4x4096x1_0_0_1 : S4x4096x3.Slices ![0, 0, 1] S4x4096x1
  slices_S4x512x3_S4x512x1_0_0_1 : S4x512x3.Slices ![0, 0, 1] S4x512x1
  slices_S4x4096x3_S4x4096x1_0_0_2 : S4x4096x3.Slices ![0, 0, 2] S4x4096x1
  slices_S4x512x3_S4x512x1_0_0_2 : S4x512x3.Slices ![0, 0, 2] S4x512x1
  bcast_S_S4x512x4096 : S_.BroadcastsInDim S4x512x4096 (![] : Fin 0 → Fin S4x512x4096.rank)
  reducesTo_S4x512x4096_S4x512_d2 : S4x512x4096.ReducesTo [2] S4x512
  h_S_ : 0 < S_.numel
  reducesTo_S4x512_S_d0_1 : S4x512.ReducesTo [0, 1] S_

variable [Facts]

def fn_part1 {F : FTy → Type} [FloatOps F] (main_v8 : FVec F S4x512x4096 .f32) (main_v17 : FVec F S4x512x4096 .f32) (main_v20 : FVec F S4x1x4096 .f32) (main_v23 : FVec F S4x512x1 .f32) : IVec S_ 1 :=
  let main_v24 : FVec F S4x512x4096 .f32 := broadcastInDim S4x512x4096 ![0, 1, 2] bcast_S4x1x4096_S4x512x4096_0_1_2 main_v20
  let main_v25 : FVec F S4x512x4096 .f32 := broadcastInDim S4x512x4096 ![0, 1, 2] bcast_S4x512x1_S4x512x4096_0_1_2 main_v23
  let main_v26 : FVec F S4x512x4096 .f32 := subf main_v24 main_v25
  let main_v27 : FVec F S4x512x4096 .f32 := mulf main_v8 main_v8
  let main_v28 : FVec F S4x512x4096 .f32 := mulf main_v17 main_v17
  let main_v29 : FVec F S4x512x4096 .f32 := addf main_v27 main_v28
  let main_v30 : FVec F S4x512x4096 .f32 := mulf main_v26 main_v26
  let main_v31 : FVec F S4x512x4096 .f32 := addf main_v29 main_v30
  let main_cst : FVec F S_ .f32 := constant S_ .f32 0x3D23D70A#32
  let main_v32 : FVec F S4x512x4096 .f32 := broadcastInDim S4x512x4096 ![] bcast_S_S4x512x4096 main_cst
  let main_v33 : IVec S4x512x4096 1 := cmpf .ole main_v31 main_v32
  let main_c : IVec S_ 1 := constantI S_ 1 0#1
  let main_v34 : IVec S4x512 1 := (fun x v => Host.reduce IntOp.ori x v reducesTo_S4x512x4096_S4x512_d2 h_S_) main_v33 main_c
  let main_c_0 : IVec S_ 1 := constantI S_ 1 1#1
  let main_v35 : IVec S_ 1 := (fun x v => Host.reduce IntOp.andi x v reducesTo_S4x512_S_d0_1 h_S_) main_v34 main_c_0
  main_v35

def fn {F : FTy → Type} [FloatOps F] (main_arg0 : FVec F S4x4096x125 .f32) (main_arg1 : FVec F S4x4096x3 .f32) (main_arg2 : FVec F S4x512x3 .f32) : IVec S_ 1 :=
  let main_v0 : FVec F S4x4096x1 .f32 := (extractStridedSlice S4x4096x1 ![0, 0, 0] · slices_S4x4096x3_S4x4096x1_0_0_0) main_arg1
  let main_v1 : FVec F S4x4096 .f32 := shapeCast S4x4096 main_v0 shapeCasts_S4x4096x1_S4x4096
  let main_v2 : FVec F S4x1x4096 .f32 := broadcastInDim S4x1x4096 ![0, 2] bcast_S4x4096_S4x1x4096_0_2 main_v1
  let main_v3 : FVec F S4x512x1 .f32 := (extractStridedSlice S4x512x1 ![0, 0, 0] · slices_S4x512x3_S4x512x1_0_0_0) main_arg2
  let main_v4 : FVec F S4x512 .f32 := shapeCast S4x512 main_v3 shapeCasts_S4x512x1_S4x512
  let main_v5 : FVec F S4x512x1 .f32 := broadcastInDim S4x512x1 ![0, 1] bcast_S4x512_S4x512x1_0_1 main_v4
  let main_v6 : FVec F S4x512x4096 .f32 := broadcastInDim S4x512x4096 ![0, 1, 2] bcast_S4x1x4096_S4x512x4096_0_1_2 main_v2
  let main_v7 : FVec F S4x512x4096 .f32 := broadcastInDim S4x512x4096 ![0, 1, 2] bcast_S4x512x1_S4x512x4096_0_1_2 main_v5
  let main_v8 : FVec F S4x512x4096 .f32 := subf main_v6 main_v7
  let main_v9 : FVec F S4x4096x1 .f32 := (extractStridedSlice S4x4096x1 ![0, 0, 1] · slices_S4x4096x3_S4x4096x1_0_0_1) main_arg1
  let main_v10 : FVec F S4x4096 .f32 := shapeCast S4x4096 main_v9 shapeCasts_S4x4096x1_S4x4096
  let main_v11 : FVec F S4x1x4096 .f32 := broadcastInDim S4x1x4096 ![0, 2] bcast_S4x4096_S4x1x4096_0_2 main_v10
  let main_v12 : FVec F S4x512x1 .f32 := (extractStridedSlice S4x512x1 ![0, 0, 1] · slices_S4x512x3_S4x512x1_0_0_1) main_arg2
  let main_v13 : FVec F S4x512 .f32 := shapeCast S4x512 main_v12 shapeCasts_S4x512x1_S4x512
  let main_v14 : FVec F S4x512x1 .f32 := broadcastInDim S4x512x1 ![0, 1] bcast_S4x512_S4x512x1_0_1 main_v13
  let main_v15 : FVec F S4x512x4096 .f32 := broadcastInDim S4x512x4096 ![0, 1, 2] bcast_S4x1x4096_S4x512x4096_0_1_2 main_v11
  let main_v16 : FVec F S4x512x4096 .f32 := broadcastInDim S4x512x4096 ![0, 1, 2] bcast_S4x512x1_S4x512x4096_0_1_2 main_v14
  let main_v17 : FVec F S4x512x4096 .f32 := subf main_v15 main_v16
  let main_v18 : FVec F S4x4096x1 .f32 := (extractStridedSlice S4x4096x1 ![0, 0, 2] · slices_S4x4096x3_S4x4096x1_0_0_2) main_arg1
  let main_v19 : FVec F S4x4096 .f32 := shapeCast S4x4096 main_v18 shapeCasts_S4x4096x1_S4x4096
  let main_v20 : FVec F S4x1x4096 .f32 := broadcastInDim S4x1x4096 ![0, 2] bcast_S4x4096_S4x1x4096_0_2 main_v19
  let main_v21 : FVec F S4x512x1 .f32 := (extractStridedSlice S4x512x1 ![0, 0, 2] · slices_S4x512x3_S4x512x1_0_0_2) main_arg2
  let main_v22 : FVec F S4x512 .f32 := shapeCast S4x512 main_v21 shapeCasts_S4x512x1_S4x512
  let main_v23 : FVec F S4x512x1 .f32 := broadcastInDim S4x512x1 ![0, 1] bcast_S4x512_S4x512x1_0_1 main_v22
  fn_part1 (F := F) main_v8 main_v17 main_v20 main_v23
-- ==== Kernel.lean ====
abbrev S4x4096x125 : Shape := ⟨3, ![4, 4096, 125]⟩
abbrev S4x4096x3 : Shape := ⟨3, ![4, 4096, 3]⟩
abbrev S4x512x3 : Shape := ⟨3, ![4, 512, 3]⟩
abbrev S4x3x4096 : Shape := ⟨3, ![4, 3, 4096]⟩
abbrev S2048x3 : Shape := ⟨2, ![2048, 3]⟩
abbrev S_ : Shape := ⟨0, ![]⟩
abbrev S2048x16 : Shape := ⟨2, ![2048, 16]⟩
abbrev S4x4096x128 : Shape := ⟨3, ![4, 4096, 128]⟩
abbrev S16384x128 : Shape := ⟨2, ![16384, 128]⟩
abbrev S131072x128 : Shape := ⟨2, ![131072, 128]⟩
abbrev S3x4096 : Shape := ⟨2, ![3, 4096]⟩
abbrev S64x16 : Shape := ⟨2, ![64, 16]⟩
abbrev S4096 : Shape := ⟨1, ![4096]⟩
abbrev S512x128 : Shape := ⟨2, ![512, 128]⟩
abbrev S1x3x4096 : Shape := ⟨3, ![1, 3, 4096]⟩
abbrev S16 : Shape := ⟨1, ![16]⟩
abbrev S1x16 : Shape := ⟨2, ![1, 16]⟩
abbrev S1 : Shape := ⟨1, ![1]⟩
abbrev S512 : Shape := ⟨1, ![512]⟩
abbrev S131072x3 : Shape := ⟨2, ![131072, 3]⟩
abbrev S4x512x64x3 : Shape := ⟨4, ![4, 512, 64, 3]⟩
abbrev S4x3x512x64 : Shape := ⟨4, ![4, 3, 512, 64]⟩

abbrev nBuf : Table → Nat
  | .hbm => 14
  | .local .scVector .vmem => 4
  | _ => 0

abbrev bufTy : (tb : Table) → Fin (nBuf tb) → BufTy
  | .hbm, ⟨0, _⟩ => ⟨S4x4096x125, .f32⟩
  | .hbm, ⟨1, _⟩ => ⟨S4x4096x3, .f32⟩
  | .hbm, ⟨2, _⟩ => ⟨S4x512x3, .f32⟩
  | .hbm, ⟨3, _⟩ => ⟨S4x3x4096, .f32⟩
  | .hbm, ⟨4, _⟩ => ⟨S2048x3, .f32⟩
  | .hbm, ⟨5, _⟩ => ⟨S_, .i32⟩
  | .hbm, ⟨6, _⟩ => ⟨S_, .f32⟩
  | .hbm, ⟨7, _⟩ => ⟨S2048x16, .f32⟩
  | .hbm, ⟨8, _⟩ => ⟨S4x4096x128, .f32⟩
  | .hbm, ⟨9, _⟩ => ⟨S16384x128, .f32⟩
  | .hbm, ⟨10, _⟩ => ⟨S131072x128, .f32⟩
  | .hbm, ⟨11, _⟩ => ⟨S131072x3, .f32⟩
  | .hbm, ⟨12, _⟩ => ⟨S4x512x64x3, .f32⟩
  | .hbm, ⟨13, _⟩ => ⟨S4x3x512x64, .f32⟩
  | .local .scVector .vmem, ⟨0, _⟩ => ⟨S3x4096, .f32⟩
  | .local .scVector .vmem, ⟨1, _⟩ => ⟨S64x16, .f32⟩
  | .local .scVector .vmem, ⟨2, _⟩ => ⟨S4096, .i32⟩
  | .local .scVector .vmem, ⟨3, _⟩ => ⟨S512x128, .f32⟩
  | _, _ => ⟨S4x4096x125, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v0_scv : Ref sig .scVector := ⟨.hbm, 3, rfl⟩
abbrev main_v2_scv : Ref sig .scVector := ⟨.hbm, 7, rfl⟩
abbrev main_v4_scv : Ref sig .scVector := ⟨.hbm, 9, rfl⟩
abbrev main_v5_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_14_r0 : BitVec 32 := 0#32
  let c0_i32_15_r0 : BitVec 32 := 0#32
  ![v18.toNat, 0, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v19 : BitVec 32 := Scalar.muli v1 c64_i32
  let c0_i32_14_r1 : BitVec 32 := 0#32
  ![v19.toNat, 0]
@[reducible] def k0_t1_loop : Scf.Loop 32 :=
  let c0_i32_5 : BitVec 32 := 0#32
  let c64_i32_6 : BitVec 32 := 64#32
  let v22 : BitVec 32 := Scalar.addi c0_i32_5 c64_i32_6
  let c1_i32_7 : BitVec 32 := 1#32
  ⟨c0_i32_5, v22, c1_i32_7⟩
def k0_off3 (k0_t1 : Fin k0_t1_loop.trips) : Fin 2 → Nat :=
  let c0_i32_5 : BitVec 32 := 0#32
  let c1_i32_7 : BitVec 32 := 1#32
  let arg11 : BitVec 32 := Scf.iv c0_i32_5 c1_i32_7 k0_t1
  let v24 : Index := Scalar.indexCast arg11
  let c0 : Index := 0#32
  ![v24.toNat, 0]
@[reducible] def k0_t2_loop : Scf.Loop 32 :=
  let c0_i32_15 : BitVec 32 := 0#32
  let c256_i32 : BitVec 32 := 256#32
  let v32 : BitVec 32 := Scalar.addi c0_i32_15 c256_i32
  let c1_i32_16 : BitVec 32 := 1#32
  ⟨c0_i32_15, v32, c1_i32_16⟩
def k0_off4 (k0_t2 : Fin k0_t2_loop.trips) : Fin 2 → Nat :=
  let c0_i32_38 : BitVec 32 := 0#32
  let v97 : Index := Scalar.indexCast c0_i32_38
  let c0_i32_15 : BitVec 32 := 0#32
  let c1_i32_16 : BitVec 32 := 1#32
  let arg12 : BitVec 32 := Scf.iv c0_i32_15 c1_i32_16 k0_t2
  let c16_i32_37 : BitVec 32 := 16#32
  let v96 : BitVec 32 := Scalar.muli arg12 c16_i32_37
  let v98 : Index := Scalar.indexCast v96
  ![0, v98.toNat]
def k0_off5 (k0_t2 : Fin k0_t2_loop.trips) : Fin 2 → Nat :=
  let c1_i32_39 : BitVec 32 := 1#32
  let v100 : Index := Scalar.indexCast c1_i32_39
  let c0_i32_15 : BitVec 32 := 0#32
  let c1_i32_16 : BitVec 32 := 1#32
  let arg12 : BitVec 32 := Scf.iv c0_i32_15 c1_i32_16 k0_t2
  let c16_i32_37 : BitVec 32 := 16#32
  let v96 : BitVec 32 := Scalar.muli arg12 c16_i32_37
  let v101 : Index := Scalar.indexCast v96
  ![1, v101.toNat]
def k0_off6 (k0_t2 : Fin k0_t2_loop.trips) : Fin 2 → Nat :=
  let c2_i32_40 : BitVec 32 := 2#32
  let v103 : Index := Scalar.indexCast c2_i32_40
  let c0_i32_15 : BitVec 32 := 0#32
  let c1_i32_16 : BitVec 32 := 1#32
  let arg12 : BitVec 32 := Scf.iv c0_i32_15 c1_i32_16 k0_t2
  let c16_i32_37 : BitVec 32 := 16#32
  let v96 : BitVec 32 := Scalar.muli arg12 c16_i32_37
  let v104 : Index := Scalar.indexCast v96
  ![2, v104.toNat]

def k0_chk1 (v139 : IVec S16 32) : Prop :=
  (∀ a x, ((![v139] : Fin 1 → IVec S16 32) a x).toNat < S4096.size a)
theorem k0_idx1_inb : ∀ (v139 : IVec S16 32) (k0_hw1 : k0_chk1 v139), ∀ a x, ((![v139] : Fin 1 → IVec S16 32) a x).toNat < S4096.size a := fun v139 k0_hw1 => k0_hw1
def k0_off7 (k0_t1 : Fin k0_t1_loop.trips) : Fin 1 → Nat :=
  let c0_i32_5 : BitVec 32 := 0#32
  let c1_i32_7 : BitVec 32 := 1#32
  let arg11 : BitVec 32 := Scf.iv c0_i32_5 c1_i32_7 k0_t1
  let c64_i32_19 : BitVec 32 := 64#32
  let v35 : BitVec 32 := Scalar.muli arg11 c64_i32_19
  let v36 : Index := Scalar.indexCast v35
  ![v36.toNat]
def k0_off8 (k0_t1 : Fin k0_t1_loop.trips) (c0_i32_22 : BitVec 32) : Fin 1 → Nat :=
  let c0_i32_5 : BitVec 32 := 0#32
  let c1_i32_7 : BitVec 32 := 1#32
  let arg11 : BitVec 32 := Scf.iv c0_i32_5 c1_i32_7 k0_t1
  let c64_i32_21 : BitVec 32 := 64#32
  let v42 : BitVec 32 := Scalar.muli arg11 c64_i32_21
  let v43 : BitVec 32 := Scalar.addi v42 c0_i32_22
  let v44 : Index := Scalar.indexCast v43
  ![v44.toNat]
@[reducible] def k0_t3_loop : Scf.Loop 32 :=
  let c0_i32_10 : BitVec 32 := 0#32
  let c8_i32_11 : BitVec 32 := 8#32
  let v23 : BitVec 32 := Scalar.addi c0_i32_10 c8_i32_11
  let c1_i32_12 : BitVec 32 := 1#32
  ⟨c0_i32_10, v23, c1_i32_12⟩
def k0_off9 (k0_t3 : Fin k0_t3_loop.trips) : Fin 1 → Nat :=
  let c0_i32_10 : BitVec 32 := 0#32
  let c1_i32_12 : BitVec 32 := 1#32
  let arg11 : BitVec 32 := Scf.iv c0_i32_10 c1_i32_12 k0_t3
  let c512_i32 : BitVec 32 := 512#32
  let v24 : BitVec 32 := Scalar.muli arg11 c512_i32
  ![v24.toNat]
@[reducible] def k0_t4_loop : Scf.Loop 32 :=
  let c0_i32_19 : BitVec 32 := 0#32
  let c8_i32_20 : BitVec 32 := 8#32
  let v29 : BitVec 32 := Scalar.addi c0_i32_19 c8_i32_20
  let c1_i32_21 : BitVec 32 := 1#32
  ⟨c0_i32_19, v29, c1_i32_21⟩
def k0_off10 (k0_t3 : Fin k0_t3_loop.trips) (k0_t4 : Fin k0_t4_loop.trips) : Fin 2 → Nat :=
  let c0_i32_10 : BitVec 32 := 0#32
  let c1_i32_12 : BitVec 32 := 1#32
  let arg11 : BitVec 32 := Scf.iv c0_i32_10 c1_i32_12 k0_t3
  let c8_i32_25 : BitVec 32 := 8#32
  let v33 : BitVec 32 := Scalar.muli arg11 c8_i32_25
  let c0_i32_19 : BitVec 32 := 0#32
  let c1_i32_21 : BitVec 32 := 1#32
  let arg12 : BitVec 32 := Scf.iv c0_i32_19 c1_i32_21 k0_t4
  let v34 : BitVec 32 := Scalar.addi v33 arg12
  let v35 : Index := Scalar.indexCast v34
  let c0 : Index := 0#32
  ![v35.toNat, 0]
@[reducible] def k0_t5_loop : Scf.Loop 32 :=
  let c0_i32_27 : BitVec 32 := 0#32
  let c64_i32_28 : BitVec 32 := 64#32
  let v41 : BitVec 32 := Scalar.addi c0_i32_27 c64_i32_28
  let c1_i32_29 : BitVec 32 := 1#32
  ⟨c0_i32_27, v41, c1_i32_29⟩
def k0_off11 (k0_t4 : Fin k0_t4_loop.trips) (k0_t5 : Fin k0_t5_loop.trips) : Fin 2 → Nat :=
  let c0_i32_19 : BitVec 32 := 0#32
  let c1_i32_21 : BitVec 32 := 1#32
  let arg12 : BitVec 32 := Scf.iv c0_i32_19 c1_i32_21 k0_t4
  let c64_i32_31 : BitVec 32 := 64#32
  let v42 : BitVec 32 := Scalar.muli arg12 c64_i32_31
  let c0_i32_27 : BitVec 32 := 0#32
  let c1_i32_29 : BitVec 32 := 1#32
  let arg13 : BitVec 32 := Scf.iv c0_i32_27 c1_i32_29 k0_t5
  let v43 : BitVec 32 := Scalar.addi v42 arg13
  let v44 : Index := Scalar.indexCast v43
  let c0_32 : Index := 0#32
  ![v44.toNat, 0]
def k0_off12 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32_23 : BitVec 32 := 4096#32
  let v30 : BitVec 32 := Scalar.muli v1 c4096_i32_23
  let c0_i32_10 : BitVec 32 := 0#32
  let c1_i32_12 : BitVec 32 := 1#32
  let arg11 : BitVec 32 := Scf.iv c0_i32_10 c1_i32_12 k0_t3
  let c512_i32_24 : BitVec 32 := 512#32
  let v31 : BitVec 32 := Scalar.muli arg11 c512_i32_24
  let v32 : BitVec 32 := Scalar.addi v30 v31
  let c0_i32_25_r2 : BitVec 32 := 0#32
  ![v32.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096x125 : Shape := ⟨3, ![4, 4096, 125]⟩
abbrev S4x4096x3 : Shape := ⟨3, ![4, 4096, 3]⟩
abbrev S4x512x3 : Shape := ⟨3, ![4, 512, 3]⟩
abbrev S4x512x1x3 : Shape := ⟨4, ![4, 512, 1, 3]⟩
abbrev S4x1x4096x3 : Shape := ⟨4, ![4, 1, 4096, 3]⟩
abbrev S4x512x4096x3 : Shape := ⟨4, ![4, 512, 4096, 3]⟩
abbrev S_ : Shape := ⟨0, ![]⟩
abbrev S4x512x4096 : Shape := ⟨3, ![4, 512, 4096]⟩
abbrev S4096 : Shape := ⟨1, ![4096]⟩
abbrev S1x1x4096 : Shape := ⟨3, ![1, 1, 4096]⟩
abbrev S4x512x64 : Shape := ⟨3, ![4, 512, 64]⟩
abbrev S4x512x1 : Shape := ⟨3, ![4, 512, 1]⟩
abbrev S4x32768 : Shape := ⟨2, ![4, 32768]⟩
abbrev S4x32768x1 : Shape := ⟨3, ![4, 32768, 1]⟩
abbrev S4x32768x3 : Shape := ⟨3, ![4, 32768, 3]⟩
abbrev S4x32768x3x1 : Shape := ⟨4, ![4, 32768, 3, 1]⟩
abbrev S1 : Shape := ⟨1, ![1]⟩
abbrev S1x1x1x1 : Shape := ⟨4, ![1, 1, 1, 1]⟩
abbrev S4x512x64x3 : Shape := ⟨4, ![4, 512, 64, 3]⟩
abbrev S4x32768x125 : Shape := ⟨3, ![4, 32768, 125]⟩
abbrev S4x32768x125x1 : Shape := ⟨4, ![4, 32768, 125, 1]⟩
abbrev S4x512x64x125 : Shape := ⟨4, ![4, 512, 64, 125]⟩
abbrev S4x512x64x128 : Shape := ⟨4, ![4, 512, 64, 128]⟩
abbrev S131072x128 : Shape := ⟨2, ![131072, 128]⟩
abbrev S4x3x512x64 : Shape := ⟨4, ![4, 3, 512, 64]⟩

abbrev nBuf : Space → Nat
  | .hbm => 86
  | .vmem => 0
  | .smem => 0
  | _ => 0

abbrev bufTy : (tb : Table) → Fin (tcTables nBuf tb) → BufTy
  | .hbm, ⟨0, _⟩ => ⟨S4x4096x125, .f32⟩
  | .hbm, ⟨1, _⟩ => ⟨S4x4096x3, .f32⟩
  | .hbm, ⟨2, _⟩ => ⟨S4x512x3, .f32⟩
  | .hbm, ⟨3, _⟩ => ⟨S4x512x1x3, .f32⟩
  | .hbm, ⟨4, _⟩ => ⟨S4x1x4096x3, .f32⟩
  | .hbm, ⟨5, _⟩ => ⟨S4x512x4096x3, .f32⟩
  | .hbm, ⟨6, _⟩ => ⟨S4x512x4096x3, .f32⟩
  | .hbm, ⟨7, _⟩ => ⟨S4x512x4096x3, .f32⟩
  | .hbm, ⟨8, _⟩ => ⟨S4x512x4096x3, .f32⟩
  | .hbm, ⟨9, _⟩ => ⟨S_, .f32⟩
  | .hbm, ⟨10, _⟩ => ⟨S4x512x4096, .f32⟩
  | .hbm, ⟨11, _⟩ => ⟨S_, .f32⟩
  | .hbm, ⟨12, _⟩ => ⟨S4x512x4096, .f32⟩
  | .hbm, ⟨13, _⟩ => ⟨S4x512x4096, .i1⟩
  | .hbm, ⟨14, _⟩ => ⟨S4096, .i32⟩
  | .hbm, ⟨15, _⟩ => ⟨S1x1x4096, .i32⟩
  | .hbm, ⟨16, _⟩ => ⟨S_, .i32⟩
  | .hbm, ⟨17, _⟩ => ⟨S_, .i32⟩
  | .hbm, ⟨18, _⟩ => ⟨S4x512x4096, .i32⟩
  | .hbm, ⟨19, _⟩ => ⟨S4x512x4096, .i32⟩
  | .hbm, ⟨20, _⟩ => ⟨S4x512x4096, .i32⟩
  | .hbm, ⟨21, _⟩ => ⟨S4x512x4096, .i32⟩
  | .hbm, ⟨22, _⟩ => ⟨S4x512x64, .i32⟩
  | .hbm, ⟨23, _⟩ => ⟨S4x512x1, .i32⟩
  | .hbm, ⟨24, _⟩ => ⟨S_, .i32⟩
  | .hbm, ⟨25, _⟩ => ⟨S4x512x64, .i32⟩
  | .hbm, ⟨26, _⟩ => ⟨S4x512x64, .i1⟩
  | .hbm, ⟨27, _⟩ => ⟨S4x512x64, .i32⟩
  | .hbm, ⟨28, _⟩ => ⟨S4x512x64, .i32⟩
  | .hbm, ⟨29, _⟩ => ⟨S4x32768, .i32⟩
  | .hbm, ⟨30, _⟩ => ⟨S4x32768x1, .i32⟩
  | .hbm, ⟨31, _⟩ => ⟨S4x32768x3, .i32⟩
  | .hbm, ⟨32, _⟩ => ⟨S_, .i32⟩
  | .hbm, ⟨33, _⟩ => ⟨S4x32768x3, .i32⟩
  | .hbm, ⟨34, _⟩ => ⟨S4x32768x3, .i1⟩
  | .hbm, ⟨35, _⟩ => ⟨S_, .i32⟩
  | .hbm, ⟨36, _⟩ => ⟨S4x32768x3, .i32⟩
  | .hbm, ⟨37, _⟩ => ⟨S4x32768x3, .i32⟩
  | .hbm, ⟨38, _⟩ => ⟨S4x32768x3, .i32⟩
  | .hbm, ⟨39, _⟩ => ⟨S4x32768x3x1, .i32⟩
  | .hbm, ⟨40, _⟩ => ⟨S1, .i32⟩
  | .hbm, ⟨41, _⟩ => ⟨S_, .i32⟩
  | .hbm, ⟨42, _⟩ => ⟨S4x32768x3x1, .i32⟩
  | .hbm, ⟨43, _⟩ => ⟨S4x32768x3x1, .i1⟩
  | .hbm, ⟨44, _⟩ => ⟨S1x1x1x1, .i32⟩
  | .hbm, ⟨45, _⟩ => ⟨S4x32768x3x1, .i32⟩
  | .hbm, ⟨46, _⟩ => ⟨S4x32768x3x1, .i1⟩
  | .hbm, ⟨47, _⟩ => ⟨S4x32768x3x1, .i1⟩
  | .hbm, ⟨48, _⟩ => ⟨S_, .i1⟩
  | .hbm, ⟨49, _⟩ => ⟨S4x32768x3, .i1⟩
  | .hbm, ⟨50, _⟩ => ⟨S4x32768x3, .f32⟩
  | .hbm, ⟨51, _⟩ => ⟨S_, .f32⟩
  | .hbm, ⟨52, _⟩ => ⟨S4x32768x3, .f32⟩
  | .hbm, ⟨53, _⟩ => ⟨S4x32768x3, .f32⟩
  | .hbm, ⟨54, _⟩ => ⟨S4x512x64x3, .f32⟩
  | .hbm, ⟨55, _⟩ => ⟨S4x512x1x3, .f32⟩
  | .hbm, ⟨56, _⟩ => ⟨S4x512x64x3, .f32⟩
  | .hbm, ⟨57, _⟩ => ⟨S4x512x64x3, .f32⟩
  | .hbm, ⟨58, _⟩ => ⟨S4x32768x1, .i32⟩
  | .hbm, ⟨59, _⟩ => ⟨S4x32768x125, .i32⟩
  | .hbm, ⟨60, _⟩ => ⟨S_, .i32⟩
  | .hbm, ⟨61, _⟩ => ⟨S4x32768x125, .i32⟩
  | .hbm, ⟨62, _⟩ => ⟨S4x32768x125, .i1⟩
  | .hbm, ⟨63, _⟩ => ⟨S_, .i32⟩
  | .hbm, ⟨64, _⟩ => ⟨S4x32768x125, .i32⟩
  | .hbm, ⟨65, _⟩ => ⟨S4x32768x125, .i32⟩
  | .hbm, ⟨66, _⟩ => ⟨S4x32768x125, .i32⟩
  | .hbm, ⟨67, _⟩ => ⟨S4x32768x125x1, .i32⟩
  | .hbm, ⟨68, _⟩ => ⟨S1, .i32⟩
  | .hbm, ⟨69, _⟩ => ⟨S_, .i32⟩
  | .hbm, ⟨70, _⟩ => ⟨S4x32768x125x1, .i32⟩
  | .hbm, ⟨71, _⟩ => ⟨S4x32768x125x1, .i1⟩
  | .hbm, ⟨72, _⟩ => ⟨S1x1x1x1, .i32⟩
  | .hbm, ⟨73, _⟩ => ⟨S4x32768x125x1, .i32⟩
  | .hbm, ⟨74, _⟩ => ⟨S4x32768x125x1, .i1⟩
  | .hbm, ⟨75, _⟩ => ⟨S4x32768x125x1, .i1⟩
  | .hbm, ⟨76, _⟩ => ⟨S_, .i1⟩
  | .hbm, ⟨77, _⟩ => ⟨S4x32768x125, .i1⟩
  | .hbm, ⟨78, _⟩ => ⟨S4x32768x125, .f32⟩
  | .hbm, ⟨79, _⟩ => ⟨S_, .f32⟩
  | .hbm, ⟨80, _⟩ => ⟨S4x32768x125, .f32⟩
  | .hbm, ⟨81, _⟩ => ⟨S4x32768x125, .f32⟩
  | .hbm, ⟨82, _⟩ => ⟨S4x512x64x125, .f32⟩
  | .hbm, ⟨83, _⟩ => ⟨S4x512x64x128, .f32⟩
  | .hbm, ⟨84, _⟩ => ⟨S131072x128, .f32⟩
  | .hbm, ⟨85, _⟩ => ⟨S4x3x512x64, .f32⟩
  | _, _ => ⟨S4x4096x125, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_call2_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call3_c : Ref sig .tc := ⟨.hbm, 32, rfl⟩
abbrev main_call3_v0 : Ref sig .tc := ⟨.hbm, 33, rfl⟩
abbrev main_call3_v1 : Ref sig .tc := ⟨.hbm, 34, rfl⟩
abbrev main_call3_c_0 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_call3_v5 : Ref sig .tc := ⟨.hbm, 39, rfl⟩
abbrev main_call3_c_1 : Ref sig .tc := ⟨.hbm, 40, rfl⟩
abbrev main_call3_c_2 : Ref sig .tc := ⟨.hbm, 41, rfl⟩
abbrev main_call3_v6 : Ref sig .tc := ⟨.hbm, 42, rfl⟩
abbrev main_call3_v7 : Ref sig .tc := ⟨.hbm, 43, rfl⟩
abbrev main_call3_v8 : Ref sig .tc := ⟨.hbm, 44, rfl⟩
abbrev main_call3_v9 : Ref sig .tc := ⟨.hbm, 45, rfl⟩
abbrev main_call3_v10 : Ref sig .tc := ⟨.hbm, 46, rfl⟩
abbrev main_call3_v11 : Ref sig .tc := ⟨.hbm, 47, rfl⟩
abbrev main_call3_c_3 : Ref sig .tc := ⟨.hbm, 48, rfl⟩
abbrev main_call3_v12 : Ref sig .tc := ⟨.hbm, 49, rfl⟩
abbrev main_call3_v13 : Ref sig .tc := ⟨.hbm, 50, rfl⟩
abbrev main_call3_cst : Ref sig .tc := ⟨.hbm, 51, rfl⟩
abbrev main_call3_v14 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_call4_c : Ref sig .tc := ⟨.hbm, 60, rfl⟩
abbrev main_call4_v0 : Ref sig .tc := ⟨.hbm, 61, rfl⟩
abbrev main_call4_v1 : Ref sig .tc := ⟨.hbm, 62, rfl⟩
abbrev main_call4_c_0 : Ref sig .tc := ⟨.hbm, 63, rfl⟩
abbrev main_call4_v2 : Ref sig .tc := ⟨.hbm, 64, rfl⟩
abbrev main_call4_v3 : Ref sig .tc := ⟨.hbm, 65, rfl⟩
abbrev main_call4_v4 : Ref sig .tc := ⟨.hbm, 66, rfl⟩
abbrev main_call4_v5 : Ref sig .tc := ⟨.hbm, 67, rfl⟩
abbrev main_call4_c_1 : Ref sig .tc := ⟨.hbm, 68, rfl⟩
abbrev main_call4_c_2 : Ref sig .tc := ⟨.hbm, 69, rfl⟩
abbrev main_call4_v6 : Ref sig .tc := ⟨.hbm, 70, rfl⟩
abbrev main_call4_v7 : Ref sig .tc := ⟨.hbm, 71, rfl⟩
abbrev main_call4_v8 : Ref sig .tc := ⟨.hbm, 72, rfl⟩
abbrev main_call4_v9 : Ref sig .tc := ⟨.hbm, 73, rfl⟩
abbrev main_call4_v10 : Ref sig .tc := ⟨.hbm, 74, rfl⟩
abbrev main_call4_v11 : Ref sig .tc := ⟨.hbm, 75, rfl⟩
abbrev main_call4_c_3 : Ref sig .tc := ⟨.hbm, 76, rfl⟩
abbrev main_call4_v12 : Ref sig .tc := ⟨.hbm, 77, rfl⟩
abbrev main_call4_v13 : Ref sig .tc := ⟨.hbm, 78, rfl⟩
abbrev main_call4_cst : Ref sig .tc := ⟨.hbm, 79, rfl⟩
abbrev main_call4_v14 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩

abbrev nD : Nat := 1
abbrev τ : Topo := Topo.v7x

variable {F : FTy → Type} [FloatOps F]
-- ==== TransformMax.lean ====
abbrev S131072x128 : Shape := ⟨2, ![131072, 128]⟩
abbrev S64x128 : Shape := ⟨2, ![64, 128]⟩
abbrev S64 : Shape := ⟨1, ![64]⟩
abbrev S128x64 : Shape := ⟨2, ![128, 64]⟩
abbrev S128 : Shape := ⟨1, ![128]⟩
abbrev S4x1x128 : Shape := ⟨3, ![4, 1, 128]⟩
abbrev S1024x128 : Shape := ⟨2, ![1024, 128]⟩
abbrev S1x1x128 : Shape := ⟨3, ![1, 1, 128]⟩
abbrev S1024x64 : Shape := ⟨2, ![1024, 64]⟩
abbrev S1x64 : Shape := ⟨2, ![1, 64]⟩
abbrev S1x128 : Shape := ⟨2, ![1, 128]⟩

abbrev nBuf : Space → Nat
  | .hbm => 6
  | .vmem => 8
  | .smem => 0
  | _ => 0

abbrev bufTy : (tb : Table) → Fin (tcTables nBuf tb) → BufTy
  | .hbm, ⟨0, _⟩ => ⟨S131072x128, .f32⟩
  | .hbm, ⟨1, _⟩ => ⟨S64x128, .f32⟩
  | .hbm, ⟨2, _⟩ => ⟨S64, .f32⟩
  | .hbm, ⟨3, _⟩ => ⟨S128x64, .f32⟩
  | .hbm, ⟨4, _⟩ => ⟨S128, .f32⟩
  | .hbm, ⟨5, _⟩ => ⟨S4x1x128, .f32⟩
  | .local _ .vmem, ⟨0, _⟩ => ⟨S1024x128, .f32⟩
  | .local _ .vmem, ⟨1, _⟩ => ⟨S1024x128, .f32⟩
  | .local _ .vmem, ⟨2, _⟩ => ⟨S64x128, .f32⟩
  | .local _ .vmem, ⟨3, _⟩ => ⟨S64, .f32⟩
  | .local _ .vmem, ⟨4, _⟩ => ⟨S128x64, .f32⟩
  | .local _ .vmem, ⟨5, _⟩ => ⟨S128, .f32⟩
  | .local _ .vmem, ⟨6, _⟩ => ⟨S1x1x128, .f32⟩
  | .local _ .vmem, ⟨7, _⟩ => ⟨S1x1x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 32], ![false, false]⟩

def k0_cond1 (i : grid0.Coords) : BitVec 1 :=
  let arg1 : BitVec 32 := BitVec.ofNat 32 (i 1).val
  let c0_i32 : BitVec 32 := 0#32
  let v20 : BitVec 1 := Scalar.cmpi .eq arg1 c0_i32
  let v21 : BitVec 32 := Scalar.extui v20
  let c0_i32_11 : BitVec 32 := 0#32
  let v22 : BitVec 1 := Scalar.cmpi .ne v21 c0_i32_11
  v22

def k0_cond2 (i : grid0.Coords) : BitVec 1 :=
  let arg1 : BitVec 32 := BitVec.ofNat 32 (i 1).val
  let c0_i32_12 : BitVec 32 := 0#32
  let v23 : BitVec 1 := Scalar.cmpi .sgt arg1 c0_i32_12
  let v24 : BitVec 32 := Scalar.extui v23
  let c0_i32_13 : BitVec 32 := 0#32
  let v25 : BitVec 1 := Scalar.cmpi .ne v24 c0_i32_13
  v25

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== TransformMaxReferenceIdeal.lean ====
abbrev S131072x128 : Shape := ⟨2, ![131072, 128]⟩
abbrev S64x128 : Shape := ⟨2, ![64, 128]⟩
abbrev S64 : Shape := ⟨1, ![64]⟩
abbrev S128x64 : Shape := ⟨2, ![128, 64]⟩
abbrev S128 : Shape := ⟨1, ![128]⟩
abbrev S4x512x64x128 : Shape := ⟨4, ![4, 512, 64, 128]⟩
abbrev S4x128x512x64 : Shape := ⟨4, ![4, 128, 512, 64]⟩
abbrev S4x512x64x64 : Shape := ⟨4, ![4, 512, 64, 64]⟩
abbrev S4x64x512x64 : Shape := ⟨4, ![4, 64, 512, 64]⟩
abbrev S1x64x1x1 : Shape := ⟨4, ![1, 64, 1, 1]⟩
abbrev S_ : Shape := ⟨0, ![]⟩
abbrev S1x128x1x1 : Shape := ⟨4, ![1, 128, 1, 1]⟩
abbrev S4x128 : Shape := ⟨2, ![4, 128]⟩
abbrev S4x1x128 : Shape := ⟨3, ![4, 1, 128]⟩

abbrev nBuf : Space → Nat
  | .hbm => 26
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S64x128, .f32⟩
  | .hbm, ⟨2, _⟩ => ⟨S64, .f32⟩
  | .hbm, ⟨3, _⟩ => ⟨S128x64, .f32⟩
  | .hbm, ⟨4, _⟩ => ⟨S128, .f32⟩
  | .hbm, ⟨5, _⟩ => ⟨S4x512x64x128, .f32⟩
  | .hbm, ⟨6, _⟩ => ⟨S4x128x512x64, .f32⟩
  | .hbm, ⟨7, _⟩ => ⟨S4x512x64x64, .f32⟩
  | .hbm, ⟨8, _⟩ => ⟨S4x64x512x64, .f32⟩
  | .hbm, ⟨9, _⟩ => ⟨S1x64x1x1, .f32⟩
  | .hbm, ⟨10, _⟩ => ⟨S4x64x512x64, .f32⟩
  | .hbm, ⟨11, _⟩ => ⟨S4x64x512x64, .f32⟩
  | .hbm, ⟨12, _⟩ => ⟨S_, .f32⟩
  | .hbm, ⟨13, _⟩ => ⟨S4x64x512x64, .f32⟩
  | .hbm, ⟨14, _⟩ => ⟨S4x64x512x64, .f32⟩
  | .hbm, ⟨15, _⟩ => ⟨S4x512x64x128, .f32⟩
  | .hbm, ⟨16, _⟩ => ⟨S4x128x512x64, .f32⟩
  | .hbm, ⟨17, _⟩ => ⟨S1x128x1x1, .f32⟩
  | .hbm, ⟨18, _⟩ => ⟨S4x128x512x64, .f32⟩
  | .hbm, ⟨19, _⟩ => ⟨S4x128x512x64, .f32⟩
  | .hbm, ⟨20, _⟩ => ⟨S_, .f32⟩
  | .hbm, ⟨21, _⟩ => ⟨S4x128x512x64, .f32⟩
  | .hbm, ⟨22, _⟩ => ⟨S4x128x512x64, .f32⟩
  | .hbm, ⟨23, _⟩ => ⟨S_, .f32⟩
  | .hbm, ⟨24, _⟩ => ⟨S4x128, .f32⟩
  | .hbm, ⟨25, _⟩ => ⟨S4x1x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call1_cst : Ref sig .tc := ⟨.hbm, 20, rfl⟩
abbrev main_call1_v0 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== InputTransform.lean ====
abbrev S4x128 : Shape := ⟨2, ![4, 128]⟩
abbrev S128x16384 : Shape := ⟨2, ![128, 16384]⟩
abbrev S16384 : Shape := ⟨1, ![16384]⟩
abbrev S4x16384 : Shape := ⟨2, ![4, 16384]⟩
abbrev S1x16384 : Shape := ⟨2, ![1, 16384]⟩

abbrev nBuf : Space → Nat
  | .hbm => 4
  | .vmem => 4
  | .smem => 0
  | _ => 0

abbrev bufTy : (tb : Table) → Fin (tcTables nBuf tb) → BufTy
  | .hbm, ⟨0, _⟩ => ⟨S4x128, .f32⟩
  | .hbm, ⟨1, _⟩ => ⟨S128x16384, .f32⟩
  | .hbm, ⟨2, _⟩ => ⟨S16384, .f32⟩
  | .hbm, ⟨3, _⟩ => ⟨S4x16384, .f32⟩
  | .local _ .vmem, ⟨0, _⟩ => ⟨S4x128, .f32⟩
  | .local _ .vmem, ⟨1, _⟩ => ⟨S128x16384, .f32⟩
  | .local _ .vmem, ⟨2, _⟩ => ⟨S16384, .f32⟩
  | .local _ .vmem, ⟨3, _⟩ => ⟨S4x16384, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== InputTransformReferenceIdeal.lean ====
abbrev S4x128 : Shape := ⟨2, ![4, 128]⟩
abbrev S128x16384 : Shape := ⟨2, ![128, 16384]⟩
abbrev S16384 : Shape := ⟨1, ![16384]⟩
abbrev S4x16384 : Shape := ⟨2, ![4, 16384]⟩
abbrev S1x16384 : Shape := ⟨2, ![1, 16384]⟩
abbrev S4x128x128 : Shape := ⟨3, ![4, 128, 128]⟩
abbrev S128x128 : Shape := ⟨2, ![128, 128]⟩
abbrev S_ : Shape := ⟨0, ![]⟩
abbrev S1x128x128 : Shape := ⟨3, ![1, 128, 128]⟩

abbrev nBuf : Space → Nat
  | .hbm => 19
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S128x16384, .f32⟩
  | .hbm, ⟨2, _⟩ => ⟨S16384, .f32⟩
  | .hbm, ⟨3, _⟩ => ⟨S4x16384, .f32⟩
  | .hbm, ⟨4, _⟩ => ⟨S1x16384, .f32⟩
  | .hbm, ⟨5, _⟩ => ⟨S4x16384, .f32⟩
  | .hbm, ⟨6, _⟩ => ⟨S4x16384, .f32⟩
  | .hbm, ⟨7, _⟩ => ⟨S4x128x128, .f32⟩
  | .hbm, ⟨8, _⟩ => ⟨S128x128, .i32⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S128x128, .f32⟩
  | .hbm, ⟨15, _⟩ => ⟨S1x128x128, .f32⟩
  | .hbm, ⟨16, _⟩ => ⟨S4x128x128, .f32⟩
  | .hbm, ⟨17, _⟩ => ⟨S4x128x128, .f32⟩
  | .hbm, ⟨18, _⟩ => ⟨S4x16384, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Features.lean ====
abbrev S131072x128 : Shape := ⟨2, ![131072, 128]⟩
abbrev S4x128x128 : Shape := ⟨3, ![4, 128, 128]⟩
abbrev S64x128 : Shape := ⟨2, ![64, 128]⟩
abbrev S64 : Shape := ⟨1, ![64]⟩
abbrev S64x64 : Shape := ⟨2, ![64, 64]⟩
abbrev S128x64 : Shape := ⟨2, ![128, 64]⟩
abbrev S128 : Shape := ⟨1, ![128]⟩
abbrev S131072x64 : Shape := ⟨2, ![131072, 64]⟩
abbrev S4x1x128 : Shape := ⟨3, ![4, 1, 128]⟩
abbrev S1024x128 : Shape := ⟨2, ![1024, 128]⟩
abbrev S1x128x128 : Shape := ⟨3, ![1, 128, 128]⟩
abbrev S1024x64 : Shape := ⟨2, ![1024, 64]⟩
abbrev S1x1x128 : Shape := ⟨3, ![1, 1, 128]⟩
abbrev S128x128 : Shape := ⟨2, ![128, 128]⟩
abbrev S1x64 : Shape := ⟨2, ![1, 64]⟩
abbrev S1x128 : Shape := ⟨2, ![1, 128]⟩

abbrev nBuf : Space → Nat
  | .hbm => 10
  | .vmem => 14
  | .smem => 0
  | _ => 0

abbrev bufTy : (tb : Table) → Fin (tcTables nBuf tb) → BufTy
  | .hbm, ⟨0, _⟩ => ⟨S131072x128, .f32⟩
  | .hbm, ⟨1, _⟩ => ⟨S4x128x128, .f32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S128x64, .f32⟩
  | .hbm, ⟨7, _⟩ => ⟨S128, .f32⟩
  | .hbm, ⟨8, _⟩ => ⟨S131072x64, .f32⟩
  | .hbm, ⟨9, _⟩ => ⟨S4x1x128, .f32⟩
  | .local _ .vmem, ⟨0, _⟩ => ⟨S1024x128, .f32⟩
  | .local _ .vmem, ⟨1, _⟩ => ⟨S1024x128, .f32⟩
  | .local _ .vmem, ⟨2, _⟩ => ⟨S1x128x128, .f32⟩
  | .local _ .vmem, ⟨3, _⟩ => ⟨S1x128x128, .f32⟩
  | .local _ .vmem, ⟨4, _⟩ => ⟨S64x128, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S128x64, .f32⟩
  | .local _ .vmem, ⟨9, _⟩ => ⟨S128, .f32⟩
  | .local _ .vmem, ⟨10, _⟩ => ⟨S1024x64, .f32⟩
  | .local _ .vmem, ⟨11, _⟩ => ⟨S1024x64, .f32⟩
  | .local _ .vmem, ⟨12, _⟩ => ⟨S1x1x128, .f32⟩
  | .local _ .vmem, ⟨13, _⟩ => ⟨S1x1x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 32], ![false, false]⟩

def k0_cond1 (i : grid0.Coords) : BitVec 1 :=
  let arg1 : BitVec 32 := BitVec.ofNat 32 (i 1).val
  let c0_i32 : BitVec 32 := 0#32
  let v32 : BitVec 1 := Scalar.cmpi .eq arg1 c0_i32
  let v33 : BitVec 32 := Scalar.extui v32
  let c0_i32_22 : BitVec 32 := 0#32
  let v34 : BitVec 1 := Scalar.cmpi .ne v33 c0_i32_22
  v34

def k0_cond2 (i : grid0.Coords) : BitVec 1 :=
  let arg1 : BitVec 32 := BitVec.ofNat 32 (i 1).val
  let c0_i32_23 : BitVec 32 := 0#32
  let v35 : BitVec 1 := Scalar.cmpi .sgt arg1 c0_i32_23
  let v36 : BitVec 32 := Scalar.extui v35
  let c0_i32_24 : BitVec 32 := 0#32
  let v37 : BitVec 1 := Scalar.cmpi .ne v36 c0_i32_24
  v37

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FeaturesReferenceIdeal.lean ====
abbrev S131072x128 : Shape := ⟨2, ![131072, 128]⟩
abbrev S4x128x128 : Shape := ⟨3, ![4, 128, 128]⟩
abbrev S64x128 : Shape := ⟨2, ![64, 128]⟩
abbrev S64 : Shape := ⟨1, ![64]⟩
abbrev S64x64 : Shape := ⟨2, ![64, 64]⟩
abbrev S128x64 : Shape := ⟨2, ![128, 64]⟩
abbrev S128 : Shape := ⟨1, ![128]⟩
abbrev S4x512x64x128 : Shape := ⟨4, ![4, 512, 64, 128]⟩
abbrev S4x128x512x64 : Shape := ⟨4, ![4, 128, 512, 64]⟩
abbrev S4x512x64x64 : Shape := ⟨4, ![4, 512, 64, 64]⟩
abbrev S4x64x512x64 : Shape := ⟨4, ![4, 64, 512, 64]⟩
abbrev S1x64x1x1 : Shape := ⟨4, ![1, 64, 1, 1]⟩
abbrev S_ : Shape := ⟨0, ![]⟩
abbrev S131072x64 : Shape := ⟨2, ![131072, 64]⟩
abbrev S1x128x1x1 : Shape := ⟨4, ![1, 128, 1, 1]⟩
abbrev S4x128 : Shape := ⟨2, ![4, 128]⟩
abbrev S4x1x128 : Shape := ⟨3, ![4, 1, 128]⟩

abbrev nBuf : Space → Nat
  | .hbm => 40
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S4x128x128, .f32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S128x64, .f32⟩
  | .hbm, ⟨7, _⟩ => ⟨S128, .f32⟩
  | .hbm, ⟨8, _⟩ => ⟨S4x512x64x128, .f32⟩
  | .hbm, ⟨9, _⟩ => ⟨S4x128x512x64, .f32⟩
  | .hbm, ⟨10, _⟩ => ⟨S4x128x512x64, .f32⟩
  | .hbm, ⟨11, _⟩ => ⟨S4x512x64x64, .f32⟩
  | .hbm, ⟨12, _⟩ => ⟨S4x64x512x64, .f32⟩
  | .hbm, ⟨13, _⟩ => ⟨S1x64x1x1, .f32⟩
  | .hbm, ⟨14, _⟩ => ⟨S4x64x512x64, .f32⟩
  | .hbm, ⟨15, _⟩ => ⟨S4x64x512x64, .f32⟩
  | .hbm, ⟨16, _⟩ => ⟨S_, .f32⟩
  | .hbm, ⟨17, _⟩ => ⟨S4x64x512x64, .f32⟩
  | .hbm, ⟨18, _⟩ => ⟨S4x64x512x64, .f32⟩
  | .hbm, ⟨19, _⟩ => ⟨S4x512x64x64, .f32⟩
  | .hbm, ⟨20, _⟩ => ⟨S131072x64, .f32⟩
  | .hbm, ⟨21, _⟩ => ⟨S4x512x64x64, .f32⟩
  | .hbm, ⟨22, _⟩ => ⟨S4x64x512x64, .f32⟩
  | .hbm, ⟨23, _⟩ => ⟨S1x64x1x1, .f32⟩
  | .hbm, ⟨24, _⟩ => ⟨S4x64x512x64, .f32⟩
  | .hbm, ⟨25, _⟩ => ⟨S4x64x512x64, .f32⟩
  | .hbm, ⟨26, _⟩ => ⟨S_, .f32⟩
  | .hbm, ⟨27, _⟩ => ⟨S4x64x512x64, .f32⟩
  | .hbm, ⟨28, _⟩ => ⟨S4x64x512x64, .f32⟩
  | .hbm, ⟨29, _⟩ => ⟨S4x512x64x128, .f32⟩
  | .hbm, ⟨30, _⟩ => ⟨S4x128x512x64, .f32⟩
  | .hbm, ⟨31, _⟩ => ⟨S1x128x1x1, .f32⟩
  | .hbm, ⟨32, _⟩ => ⟨S4x128x512x64, .f32⟩
  | .hbm, ⟨33, _⟩ => ⟨S4x128x512x64, .f32⟩
  | .hbm, ⟨34, _⟩ => ⟨S_, .f32⟩
  | .hbm, ⟨35, _⟩ => ⟨S4x128x512x64, .f32⟩
  | .hbm, ⟨36, _⟩ => ⟨S4x128x512x64, .f32⟩
  | .hbm, ⟨37, _⟩ => ⟨S_, .f32⟩
  | .hbm, ⟨38, _⟩ => ⟨S4x128, .f32⟩
  | .hbm, ⟨39, _⟩ => ⟨S4x1x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call1_cst : Ref sig .tc := ⟨.hbm, 26, rfl⟩
abbrev main_call1_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call2_cst : Ref sig .tc := ⟨.hbm, 34, rfl⟩
abbrev main_call2_v0 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== FeatureTransform.lean ====
abbrev S4x128 : Shape := ⟨2, ![4, 128]⟩
abbrev S128x4096 : Shape := ⟨2, ![128, 4096]⟩
abbrev S4096 : Shape := ⟨1, ![4096]⟩
abbrev S4x4096 : Shape := ⟨2, ![4, 4096]⟩
abbrev S1x4096 : Shape := ⟨2, ![1, 4096]⟩

abbrev nBuf : Space → Nat
  | .hbm => 4
  | .vmem => 4
  | .smem => 0
  | _ => 0

abbrev bufTy : (tb : Table) → Fin (tcTables nBuf tb) → BufTy
  | .hbm, ⟨0, _⟩ => ⟨S4x128, .f32⟩
  | .hbm, ⟨1, _⟩ => ⟨S128x4096, .f32⟩
  | .hbm, ⟨2, _⟩ => ⟨S4096, .f32⟩
  | .hbm, ⟨3, _⟩ => ⟨S4x4096, .f32⟩
  | .local _ .vmem, ⟨0, _⟩ => ⟨S4x128, .f32⟩
  | .local _ .vmem, ⟨1, _⟩ => ⟨S128x4096, .f32⟩
  | .local _ .vmem, ⟨2, _⟩ => ⟨S4096, .f32⟩
  | .local _ .vmem, ⟨3, _⟩ => ⟨S4x4096, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== FeatureTransformReferenceIdeal.lean ====
abbrev S4x128 : Shape := ⟨2, ![4, 128]⟩
abbrev S128x4096 : Shape := ⟨2, ![128, 4096]⟩
abbrev S4096 : Shape := ⟨1, ![4096]⟩
abbrev S4x4096 : Shape := ⟨2, ![4, 4096]⟩
abbrev S1x4096 : Shape := ⟨2, ![1, 4096]⟩
abbrev S4x64x64 : Shape := ⟨3, ![4, 64, 64]⟩
abbrev S64x64 : Shape := ⟨2, ![64, 64]⟩
abbrev S_ : Shape := ⟨0, ![]⟩
abbrev S1x64x64 : Shape := ⟨3, ![1, 64, 64]⟩

abbrev nBuf : Space → Nat
  | .hbm => 19
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S128x4096, .f32⟩
  | .hbm, ⟨2, _⟩ => ⟨S4096, .f32⟩
  | .hbm, ⟨3, _⟩ => ⟨S4x4096, .f32⟩
  | .hbm, ⟨4, _⟩ => ⟨S1x4096, .f32⟩
  | .hbm, ⟨5, _⟩ => ⟨S4x4096, .f32⟩
  | .hbm, ⟨6, _⟩ => ⟨S4x4096, .f32⟩
  | .hbm, ⟨7, _⟩ => ⟨S4x64x64, .f32⟩
  | .hbm, ⟨8, _⟩ => ⟨S64x64, .i32⟩
  | .hbm, ⟨9, _⟩ => ⟨S64x64, .i32⟩
  | .hbm, ⟨10, _⟩ => ⟨S_, .i32⟩
  | .hbm, ⟨11, _⟩ => ⟨S64x64, .i32⟩
  | .hbm, ⟨12, _⟩ => ⟨S64x64, .i32⟩
  | .hbm, ⟨13, _⟩ => ⟨S64x64, .i1⟩
  | .hbm, ⟨14, _⟩ => ⟨S64x64, .f32⟩
  | .hbm, ⟨15, _⟩ => ⟨S1x64x64, .f32⟩
  | .hbm, ⟨16, _⟩ => ⟨S4x64x64, .f32⟩
  | .hbm, ⟨17, _⟩ => ⟨S4x64x64, .f32⟩
  | .hbm, ⟨18, _⟩ => ⟨S4x4096, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== OutputFeatures.lean ====
abbrev S131072x64 : Shape := ⟨2, ![131072, 64]⟩
abbrev S4x64x64 : Shape := ⟨3, ![4, 64, 64]⟩
abbrev S128x64 : Shape := ⟨2, ![128, 64]⟩
abbrev S128 : Shape := ⟨1, ![128]⟩
abbrev S256x128 : Shape := ⟨2, ![256, 128]⟩
abbrev S256 : Shape := ⟨1, ![256]⟩
abbrev S131072x256 : Shape := ⟨2, ![131072, 256]⟩
abbrev S1024x64 : Shape := ⟨2, ![1024, 64]⟩
abbrev S1x64x64 : Shape := ⟨3, ![1, 64, 64]⟩
abbrev S1024x256 : Shape := ⟨2, ![1024, 256]⟩
abbrev S64x64 : Shape := ⟨2, ![64, 64]⟩
abbrev S1024x128 : Shape := ⟨2, ![1024, 128]⟩
abbrev S1x128 : Shape := ⟨2, ![1, 128]⟩
abbrev S1x256 : Shape := ⟨2, ![1, 256]⟩

abbrev nBuf : Space → Nat
  | .hbm => 7
  | .vmem => 10
  | .smem => 0
  | _ => 0

abbrev bufTy : (tb : Table) → Fin (tcTables nBuf tb) → BufTy
  | .hbm, ⟨0, _⟩ => ⟨S131072x64, .f32⟩
  | .hbm, ⟨1, _⟩ => ⟨S4x64x64, .f32⟩
  | .hbm, ⟨2, _⟩ => ⟨S128x64, .f32⟩
  | .hbm, ⟨3, _⟩ => ⟨S128, .f32⟩
  | .hbm, ⟨4, _⟩ => ⟨S256x128, .f32⟩
  | .hbm, ⟨5, _⟩ => ⟨S256, .f32⟩
  | .hbm, ⟨6, _⟩ => ⟨S131072x256, .f32⟩
  | .local _ .vmem, ⟨0, _⟩ => ⟨S1024x64, .f32⟩
  | .local _ .vmem, ⟨1, _⟩ => ⟨S1024x64, .f32⟩
  | .local _ .vmem, ⟨2, _⟩ => ⟨S1x64x64, .f32⟩
  | .local _ .vmem, ⟨3, _⟩ => ⟨S1x64x64, .f32⟩
  | .local _ .vmem, ⟨4, _⟩ => ⟨S128x64, .f32⟩
  | .local _ .vmem, ⟨5, _⟩ => ⟨S128, .f32⟩
  | .local _ .vmem, ⟨6, _⟩ => ⟨S256x128, .f32⟩
  | .local _ .vmem, ⟨7, _⟩ => ⟨S256, .f32⟩
  | .local _ .vmem, ⟨8, _⟩ => ⟨S1024x256, .f32⟩
  | .local _ .vmem, ⟨9, _⟩ => ⟨S1024x256, .f32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutputFeaturesReferenceIdeal.lean ====
abbrev S131072x64 : Shape := ⟨2, ![131072, 64]⟩
abbrev S4x64x64 : Shape := ⟨3, ![4, 64, 64]⟩
abbrev S128x64 : Shape := ⟨2, ![128, 64]⟩
abbrev S128 : Shape := ⟨1, ![128]⟩
abbrev S256x128 : Shape := ⟨2, ![256, 128]⟩
abbrev S256 : Shape := ⟨1, ![256]⟩
abbrev S4x512x64x64 : Shape := ⟨4, ![4, 512, 64, 64]⟩
abbrev S4x64x512x64 : Shape := ⟨4, ![4, 64, 512, 64]⟩
abbrev S4x512x64x128 : Shape := ⟨4, ![4, 512, 64, 128]⟩
abbrev S4x128x512x64 : Shape := ⟨4, ![4, 128, 512, 64]⟩
abbrev S1x128x1x1 : Shape := ⟨4, ![1, 128, 1, 1]⟩
abbrev S_ : Shape := ⟨0, ![]⟩
abbrev S4x512x64x256 : Shape := ⟨4, ![4, 512, 64, 256]⟩
abbrev S4x256x512x64 : Shape := ⟨4, ![4, 256, 512, 64]⟩
abbrev S1x256x1x1 : Shape := ⟨4, ![1, 256, 1, 1]⟩
abbrev S131072x256 : Shape := ⟨2, ![131072, 256]⟩

abbrev nBuf : Space → Nat
  | .hbm => 27
  | .vmem => 0
  | .smem => 0
  | _ => 0

abbrev bufTy : (tb : Table) → Fin (tcTables nBuf tb) → BufTy
  | .hbm, ⟨0, _⟩ => ⟨S131072x64, .f32⟩
  | .hbm, ⟨1, _⟩ => ⟨S4x64x64, .f32⟩
  | .hbm, ⟨2, _⟩ => ⟨S128x64, .f32⟩
  | .hbm, ⟨3, _⟩ => ⟨S128, .f32⟩
  | .hbm, ⟨4, _⟩ => ⟨S256x128, .f32⟩
  | .hbm, ⟨5, _⟩ => ⟨S256, .f32⟩
  | .hbm, ⟨6, _⟩ => ⟨S4x512x64x64, .f32⟩
  | .hbm, ⟨7, _⟩ => ⟨S4x64x512x64, .f32⟩
  | .hbm, ⟨8, _⟩ => ⟨S4x64x512x64, .f32⟩
  | .hbm, ⟨9, _⟩ => ⟨S4x512x64x128, .f32⟩
  | .hbm, ⟨10, _⟩ => ⟨S4x128x512x64, .f32⟩
  | .hbm, ⟨11, _⟩ => ⟨S1x128x1x1, .f32⟩
  | .hbm, ⟨12, _⟩ => ⟨S4x128x512x64, .f32⟩
  | .hbm, ⟨13, _⟩ => ⟨S4x128x512x64, .f32⟩
  | .hbm, ⟨14, _⟩ => ⟨S_, .f32⟩
  | .hbm, ⟨15, _⟩ => ⟨S4x128x512x64, .f32⟩
  | .hbm, ⟨16, _⟩ => ⟨S4x128x512x64, .f32⟩
  | .hbm, ⟨17, _⟩ => ⟨S4x512x64x256, .f32⟩
  | .hbm, ⟨18, _⟩ => ⟨S4x256x512x64, .f32⟩
  | .hbm, ⟨19, _⟩ => ⟨S1x256x1x1, .f32⟩
  | .hbm, ⟨20, _⟩ => ⟨S4x256x512x64, .f32⟩
  | .hbm, ⟨21, _⟩ => ⟨S4x256x512x64, .f32⟩
  | .hbm, ⟨22, _⟩ => ⟨S_, .f32⟩
  | .hbm, ⟨23, _⟩ => ⟨S4x256x512x64, .f32⟩
  | .hbm, ⟨24, _⟩ => ⟨S4x256x512x64, .f32⟩
  | .hbm, ⟨25, _⟩ => ⟨S4x512x64x256, .f32⟩
  | .hbm, ⟨26, _⟩ => ⟨S131072x256, .f32⟩
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call1_cst : Ref sig .tc := ⟨.hbm, 22, rfl⟩
abbrev main_call1_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Sampling.lean ====
abbrev S4x4096x3 : Shape := ⟨3, ![4, 4096, 3]⟩
abbrev S4x4096x1 : Shape := ⟨3, ![4, 4096, 1]⟩
abbrev S4x4096 : Shape := ⟨2, ![4, 4096]⟩
abbrev S4x32x128 : Shape := ⟨3, ![4, 32, 128]⟩
abbrev S2x2x512 : Shape := ⟨3, ![2, 2, 512]⟩
abbrev S2x32x128 : Shape := ⟨3, ![2, 32, 128]⟩
abbrev S1x2x512 : Shape := ⟨3, ![1, 2, 512]⟩
abbrev S32x128 : Shape := ⟨2, ![32, 128]⟩
abbrev S1x512 : Shape := ⟨2, ![1, 512]⟩
abbrev S1x32x128 : Shape := ⟨3, ![1, 32, 128]⟩
abbrev S1 : Shape := ⟨1, ![1]⟩
abbrev S1x1x1 : Shape := ⟨3, ![1, 1, 1]⟩
abbrev S1x1x512 : Shape := ⟨3, ![1, 1, 512]⟩

abbrev nBuf : Space → Nat
  | .hbm => 14
  | .vmem => 14
  | .smem => 0
  | _ => 0

abbrev bufTy : (tb : Table) → Fin (tcTables nBuf tb) → BufTy
  | .hbm, ⟨0, _⟩ => ⟨S4x4096x3, .f32⟩
  | .hbm, ⟨1, _⟩ => ⟨S4x4096x1, .f32⟩
  | .hbm, ⟨2, _⟩ => ⟨S4x4096, .f32⟩
  | .hbm, ⟨3, _⟩ => ⟨S4x32x128, .f32⟩
  | .hbm, ⟨4, _⟩ => ⟨S4x4096x1, .f32⟩
  | .hbm, ⟨5, _⟩ => ⟨S4x4096, .f32⟩
  | .hbm, ⟨6, _⟩ => ⟨S4x32x128, .f32⟩
  | .hbm, ⟨7, _⟩ => ⟨S4x4096x1, .f32⟩
  | .hbm, ⟨8, _⟩ => ⟨S4x4096, .f32⟩
  | .hbm, ⟨9, _⟩ => ⟨S4x32x128, .f32⟩
  | .hbm, ⟨10, _⟩ => ⟨S2x2x512, .i32⟩
  | .hbm, ⟨11, _⟩ => ⟨S2x2x512, .f32⟩
  | .hbm, ⟨12, _⟩ => ⟨S2x2x512, .f32⟩
  | .hbm, ⟨13, _⟩ => ⟨S2x2x512, .f32⟩
  | .local _ .vmem, ⟨0, _⟩ => ⟨S2x32x128, .f32⟩
  | .local _ .vmem, ⟨1, _⟩ => ⟨S2x32x128, .f32⟩
  | .local _ .vmem, ⟨2, _⟩ => ⟨S2x32x128, .f32⟩
  | .local _ .vmem, ⟨3, _⟩ => ⟨S2x32x128, .f32⟩
  | .local _ .vmem, ⟨4, _⟩ => ⟨S2x32x128, .f32⟩
  | .local _ .vmem, ⟨5, _⟩ => ⟨S2x32x128, .f32⟩
  | .local _ .vmem, ⟨6, _⟩ => ⟨S1x2x512, .i32⟩
  | .local _ .vmem, ⟨7, _⟩ => ⟨S1x2x512, .i32⟩
  | .local _ .vmem, ⟨8, _⟩ => ⟨S1x2x512, .f32⟩
  | .local _ .vmem, ⟨9, _⟩ => ⟨S1x2x512, .f32⟩
  | .local _ .vmem, ⟨10, _⟩ => ⟨S1x2x512, .f32⟩
  | .local _ .vmem, ⟨11, _⟩ => ⟨S1x2x512, .f32⟩
  | .local _ .vmem, ⟨12, _⟩ => ⟨S1x2x512, .f32⟩
  | .local _ .vmem, ⟨13, _⟩ => ⟨S1x2x512, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9_0 : Ref sig .tc := ⟨.hbm, 10, rfl⟩
abbrev main_v9_1 : Ref sig .tc := ⟨.hbm, 11, rfl⟩
abbrev main_v9_2 : Ref sig .tc := ⟨.hbm, 12, rfl⟩
abbrev main_v9_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32_26 : BitVec 32 := 0#32
  let c512_i32 : BitVec 32 := 512#32
  let v28 : BitVec 32 := Scalar.addi c0_i32_26 c512_i32
  let c1_i32 : BitVec 32 := 1#32
  ⟨c0_i32_26, v28, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SamplingReferenceIdeal.lean ====
abbrev S4x4096x3 : Shape := ⟨3, ![4, 4096, 3]⟩
abbrev S_ : Shape := ⟨0, ![]⟩
abbrev S4x512 : Shape := ⟨2, ![4, 512]⟩
abbrev S4x4096 : Shape := ⟨2, ![4, 4096]⟩
abbrev S4 : Shape := ⟨1, ![4]⟩
abbrev S1 : Shape := ⟨1, ![1]⟩
abbrev S4x1x1 : Shape := ⟨3, ![4, 1, 1]⟩
abbrev S4x1x3 : Shape := ⟨3, ![4, 1, 3]⟩
abbrev S4x1x3x1 : Shape := ⟨4, ![4, 1, 3, 1]⟩
abbrev S1x1x1x1 : Shape := ⟨4, ![1, 1, 1, 1]⟩
abbrev S4x1 : Shape := ⟨2, ![4, 1]⟩
abbrev S4x512x1 : Shape := ⟨3, ![4, 512, 1]⟩
abbrev S4x512x3 : Shape := ⟨3, ![4, 512, 3]⟩
abbrev S4x512x3x1 : Shape := ⟨4, ![4, 512, 3, 1]⟩
abbrev S2x2x512 : Shape := ⟨3, ![2, 2, 512]⟩

abbrev nBuf : Space → Nat
  | .hbm => 96
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S_, .i32⟩
  | .hbm, ⟨2, _⟩ => ⟨S4x512, .i32⟩
  | .hbm, ⟨3, _⟩ => ⟨S_, .f32⟩
  | .hbm, ⟨4, _⟩ => ⟨S4x4096, .f32⟩
  | .hbm, ⟨5, _⟩ => ⟨S_, .i32⟩
  | .hbm, ⟨6, _⟩ => ⟨S4, .i32⟩
  | .hbm, ⟨7, _⟩ => ⟨S_, .i32⟩
  | .hbm, ⟨8, _⟩ => ⟨S_, .i32⟩
  | .hbm, ⟨9, _⟩ => ⟨S4x4096x3, .f32⟩
  | .hbm, ⟨10, _⟩ => ⟨S_, .i32⟩
  | .hbm, ⟨11, _⟩ => ⟨S_, .i32⟩
  | .hbm, ⟨12, _⟩ => ⟨S4x512, .i32⟩
  | .hbm, ⟨13, _⟩ => ⟨S4x4096, .f32⟩
  | .hbm, ⟨14, _⟩ => ⟨S4, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1, .i32⟩
  | .hbm, ⟨26, _⟩ => ⟨S4x512, .i32⟩
  | .hbm, ⟨27, _⟩ => ⟨S4x1x1, .i32⟩
  | .hbm, ⟨28, _⟩ => ⟨S4x1x3, .i32⟩
  | .hbm, ⟨29, _⟩ => ⟨S_, .i32⟩
  | .hbm, ⟨30, _⟩ => ⟨S4x1x3, .i32⟩
  | .hbm, ⟨31, _⟩ => ⟨S4x1x3, .i1⟩
  | .hbm, ⟨32, _⟩ => ⟨S_, .i32⟩
  | .hbm, ⟨33, _⟩ => ⟨S4x1x3, .i32⟩
  | .hbm, ⟨34, _⟩ => ⟨S4x1x3, .i32⟩
  | .hbm, ⟨35, _⟩ => ⟨S4x1x3, .i32⟩
  | .hbm, ⟨36, _⟩ => ⟨S4x1x3x1, .i32⟩
  | .hbm, ⟨37, _⟩ => ⟨S1, .i32⟩
  | .hbm, ⟨38, _⟩ => ⟨S_, .i32⟩
  | .hbm, ⟨39, _⟩ => ⟨S4x1x3x1, .i32⟩
  | .hbm, ⟨40, _⟩ => ⟨S4x1x3x1, .i1⟩
  | .hbm, ⟨41, _⟩ => ⟨S1x1x1x1, .i32⟩
  | .hbm, ⟨42, _⟩ => ⟨S4x1x3x1, .i32⟩
  | .hbm, ⟨43, _⟩ => ⟨S4x1x3x1, .i1⟩
  | .hbm, ⟨44, _⟩ => ⟨S4x1x3x1, .i1⟩
  | .hbm, ⟨45, _⟩ => ⟨S_, .i1⟩
  | .hbm, ⟨46, _⟩ => ⟨S4x1x3, .i1⟩
  | .hbm, ⟨47, _⟩ => ⟨S4x1x3, .f32⟩
  | .hbm, ⟨48, _⟩ => ⟨S_, .f32⟩
  | .hbm, ⟨49, _⟩ => ⟨S4x1x3, .f32⟩
  | .hbm, ⟨50, _⟩ => ⟨S4x1x3, .f32⟩
  | .hbm, ⟨51, _⟩ => ⟨S4x4096x3, .f32⟩
  | .hbm, ⟨52, _⟩ => ⟨S4x4096x3, .f32⟩
  | .hbm, ⟨53, _⟩ => ⟨S4x4096x3, .f32⟩
  | .hbm, ⟨54, _⟩ => ⟨S_, .f32⟩
  | .hbm, ⟨55, _⟩ => ⟨S4x4096, .f32⟩
  | .hbm, ⟨56, _⟩ => ⟨S4x4096, .f32⟩
  | .hbm, ⟨57, _⟩ => ⟨S4x1, .f32⟩
  | .hbm, ⟨58, _⟩ => ⟨S4x1, .i32⟩
  | .hbm, ⟨59, _⟩ => ⟨S4, .i32⟩
  | .hbm, ⟨60, _⟩ => ⟨S_, .i32⟩
  | .hbm, ⟨61, _⟩ => ⟨S_, .i32⟩
  | .hbm, ⟨62, _⟩ => ⟨S4x512x1, .i32⟩
  | .hbm, ⟨63, _⟩ => ⟨S4x512x3, .i32⟩
  | .hbm, ⟨64, _⟩ => ⟨S_, .i32⟩
  | .hbm, ⟨65, _⟩ => ⟨S4x512x3, .i32⟩
  | .hbm, ⟨66, _⟩ => ⟨S4x512x3, .i1⟩
  | .hbm, ⟨67, _⟩ => ⟨S_, .i32⟩
  | .hbm, ⟨68, _⟩ => ⟨S4x512x3, .i32⟩
  | .hbm, ⟨69, _⟩ => ⟨S4x512x3, .i32⟩
  | .hbm, ⟨70, _⟩ => ⟨S4x512x3, .i32⟩
  | .hbm, ⟨71, _⟩ => ⟨S4x512x3x1, .i32⟩
  | .hbm, ⟨72, _⟩ => ⟨S1, .i32⟩
  | .hbm, ⟨73, _⟩ => ⟨S_, .i32⟩
  | .hbm, ⟨74, _⟩ => ⟨S4x512x3x1, .i32⟩
  | .hbm, ⟨75, _⟩ => ⟨S4x512x3x1, .i1⟩
  | .hbm, ⟨76, _⟩ => ⟨S1x1x1x1, .i32⟩
  | .hbm, ⟨77, _⟩ => ⟨S4x512x3x1, .i32⟩
  | .hbm, ⟨78, _⟩ => ⟨S4x512x3x1, .i1⟩
  | .hbm, ⟨79, _⟩ => ⟨S4x512x3x1, .i1⟩
  | .hbm, ⟨80, _⟩ => ⟨S_, .i1⟩
  | .hbm, ⟨81, _⟩ => ⟨S4x512x3, .i1⟩
  | .hbm, ⟨82, _⟩ => ⟨S4x512x3, .f32⟩
  | .hbm, ⟨83, _⟩ => ⟨S_, .f32⟩
  | .hbm, ⟨84, _⟩ => ⟨S4x512x3, .f32⟩
  | .hbm, ⟨85, _⟩ => ⟨S4x512x3, .f32⟩
  | .hbm, ⟨86, _⟩ => ⟨S4x512x1, .f32⟩
  | .hbm, ⟨87, _⟩ => ⟨S4x512, .f32⟩
  | .hbm, ⟨88, _⟩ => ⟨S4x512x1, .f32⟩
  | .hbm, ⟨89, _⟩ => ⟨S4x512, .f32⟩
  | .hbm, ⟨90, _⟩ => ⟨S4x512x1, .f32⟩
  | .hbm, ⟨91, _⟩ => ⟨S4x512, .f32⟩
  | .hbm, ⟨92, _⟩ => ⟨S2x2x512, .i32⟩
  | .hbm, ⟨93, _⟩ => ⟨S2x2x512, .f32⟩
  | .hbm, ⟨94, _⟩ => ⟨S2x2x512, .f32⟩
  | .hbm, ⟨95, _⟩ => ⟨S2x2x512, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_c_1 : Ref sig .tc := ⟨.hbm, 7, rfl⟩
abbrev main_c_2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_while0c_c_8 : Ref sig .tc := ⟨.hbm, 15, rfl⟩
abbrev main_while0c_v17 : Ref sig .tc := ⟨.hbm, 16, rfl⟩
abbrev main_while0b_c_8 : Ref sig .tc := ⟨.hbm, 17, rfl⟩
abbrev main_while0b_v17 : Ref sig .tc := ⟨.hbm, 18, rfl⟩
abbrev main_while0b_c_9 : Ref sig .tc := ⟨.hbm, 19, rfl⟩
abbrev main_while0b_v18 : Ref sig .tc := ⟨.hbm, 20, rfl⟩
abbrev main_while0b_c_10 : Ref sig .tc := ⟨.hbm, 21, rfl⟩
abbrev main_while0b_v19 : Ref sig .tc := ⟨.hbm, 22, rfl⟩
abbrev main_while0b_v20 : Ref sig .tc := ⟨.hbm, 23, rfl⟩
abbrev main_while0b_v21 : Ref sig .tc := ⟨.hbm, 24, rfl⟩
abbrev main_while0b_v22 : Ref sig .tc := ⟨.hbm, 25, rfl⟩
abbrev main_while0b_v23 : Ref sig .tc := ⟨.hbm, 26, rfl⟩
abbrev main_while0b_v24 : Ref sig .tc := ⟨.hbm, 27, rfl⟩
abbrev main_while0b_v25 : Ref sig .tc := ⟨.hbm, 28, rfl⟩
abbrev main_while0b_call0_c : Ref sig .tc := ⟨.hbm, 29, rfl⟩
abbrev main_while0b_call0_v0 : Ref sig .tc := ⟨.hbm, 30, rfl⟩
abbrev main_while0b_call0_v1 : Ref sig .tc := ⟨.hbm, 31, rfl⟩
abbrev main_while0b_call0_c_0 : Ref sig .tc := ⟨.hbm, 32, rfl⟩
abbrev main_while0b_call0_v2 : Ref sig .tc := ⟨.hbm, 33, rfl⟩
abbrev main_while0b_call0_v3 : Ref sig .tc := ⟨.hbm, 34, rfl⟩
abbrev main_while0b_call0_v4 : Ref sig .tc := ⟨.hbm, 35, rfl⟩
abbrev main_while0b_call0_v5 : Ref sig .tc := ⟨.hbm, 36, rfl⟩
abbrev main_while0b_call0_c_1 : Ref sig .tc := ⟨.hbm, 37, rfl⟩
abbrev main_while0b_call0_c_2 : Ref sig .tc := ⟨.hbm, 38, rfl⟩
abbrev main_while0b_call0_v6 : Ref sig .tc := ⟨.hbm, 39, rfl⟩
abbrev main_while0b_call0_v7 : Ref sig .tc := ⟨.hbm, 40, rfl⟩
abbrev main_while0b_call0_v8 : Ref sig .tc := ⟨.hbm, 41, rfl⟩
abbrev main_while0b_call0_v9 : Ref sig .tc := ⟨.hbm, 42, rfl⟩
abbrev main_while0b_call0_v10 : Ref sig .tc := ⟨.hbm, 43, rfl⟩
abbrev main_while0b_call0_v11 : Ref sig .tc := ⟨.hbm, 44, rfl⟩
abbrev main_while0b_call0_c_3 : Ref sig .tc := ⟨.hbm, 45, rfl⟩
abbrev main_while0b_call0_v12 : Ref sig .tc := ⟨.hbm, 46, rfl⟩
abbrev main_while0b_call0_v13 : Ref sig .tc := ⟨.hbm, 47, rfl⟩
abbrev main_while0b_call0_cst : Ref sig .tc := ⟨.hbm, 48, rfl⟩
abbrev main_while0b_call0_v14 : Ref sig .tc := ⟨.hbm, 49, rfl⟩
abbrev main_while0b_v26 : Ref sig .tc := ⟨.hbm, 50, rfl⟩
abbrev main_while0b_v27 : Ref sig .tc := ⟨.hbm, 51, rfl⟩
abbrev main_while0b_v28 : Ref sig .tc := ⟨.hbm, 52, rfl⟩
abbrev main_while0b_v29 : Ref sig .tc := ⟨.hbm, 53, rfl⟩
abbrev main_while0b_cst_11 : Ref sig .tc := ⟨.hbm, 54, rfl⟩
abbrev main_while0b_v30 : Ref sig .tc := ⟨.hbm, 55, rfl⟩
abbrev main_while0b_v31 : Ref sig .tc := ⟨.hbm, 56, rfl⟩
abbrev main_while0b_values : Ref sig .tc := ⟨.hbm, 57, rfl⟩
abbrev main_while0b_indices : Ref sig .tc := ⟨.hbm, 58, rfl⟩
abbrev main_while0b_v32 : Ref sig .tc := ⟨.hbm, 59, rfl⟩
abbrev main_while0b_c_12 : Ref sig .tc := ⟨.hbm, 60, rfl⟩
abbrev main_while0b_v33 : Ref sig .tc := ⟨.hbm, 61, rfl⟩
abbrev main_v4 : Ref sig .tc := ⟨.hbm, 62, rfl⟩
abbrev main_v5 : Ref sig .tc := ⟨.hbm, 63, rfl⟩
abbrev main_call1_c : Ref sig .tc := ⟨.hbm, 64, rfl⟩
abbrev main_call1_v0 : Ref sig .tc := ⟨.hbm, 65, rfl⟩
abbrev main_call1_v1 : Ref sig .tc := ⟨.hbm, 66, rfl⟩
abbrev main_call1_c_0 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_c_1 : Ref sig .tc := ⟨.hbm, 72, rfl⟩
abbrev main_call1_c_2 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_c_3 : Ref sig .tc := ⟨.hbm, 80, rfl⟩
abbrev main_call1_v12 : Ref sig .tc := ⟨.hbm, 81, rfl⟩
abbrev main_call1_v13 : Ref sig .tc := ⟨.hbm, 82, rfl⟩
abbrev main_call1_cst : Ref sig .tc := ⟨.hbm, 83, rfl⟩
abbrev main_call1_v14 : Ref sig .tc := ⟨.hbm, 84, rfl⟩
abbrev main_v6 : Ref sig .tc := ⟨.hbm, 85, rfl⟩
abbrev main_v7 : Ref sig .tc := ⟨.hbm, 86, rfl⟩
abbrev main_v8 : Ref sig .tc := ⟨.hbm, 87, rfl⟩
abbrev main_v9 : Ref sig .tc := ⟨.hbm, 88, rfl⟩
abbrev main_v10 : Ref sig .tc := ⟨.hbm, 89, rfl⟩
abbrev main_v11 : Ref sig .tc := ⟨.hbm, 90, rfl⟩
abbrev main_v12 : Ref sig .tc := ⟨.hbm, 91, rfl⟩
abbrev main_v13 : Ref sig .tc := ⟨.hbm, 92, rfl⟩
abbrev main_v14 : Ref sig .tc := ⟨.hbm, 93, rfl⟩
abbrev main_v15 : Ref sig .tc := ⟨.hbm, 94, rfl⟩
abbrev main_v16 : Ref sig .tc := ⟨.hbm, 95, rfl⟩

abbrev nD : Nat := 1
abbrev τ : Topo := Topo.v7x

variable {F : FTy → Type} [FloatOps F]

abbrev main_while0_count : Scf.Loop 32 := ⟨0#32, 512#32, 1#32⟩
-- ==== Proof.Words.lean ====
/-
  The integer part of the ball query, with no program in sight: what a prefix sum, a prefix maximum and a masked
  indexed store of sixteen lanes do, and how a row of 64 slots comes to hold the first 64 hits of a predicate on
  `0 … 4095` in order, the first hit standing for the slots past the last one.
-/
module

public import Idealize.ShloMosaic.PureOps
public import Idealize.ShloMosaic.Lib.ValueIdxCore

@[expose] public section

noncomputable section

namespace Cert.Ball

open Idealize.ShloMosaic Idealize.ShloMosaic.ValueIdx

/-! ## Counting hits -/

/-- How many of the numbers below `n` are hits. -/
def cnt (h : ℕ → Bool) : ℕ → ℕ
  | 0 => 0
  | n + 1 => cnt h n + if h n then 1 else 0

theorem cnt_succ (h : ℕ → Bool) (n : ℕ) : cnt h (n + 1) = cnt h n + if h n then 1 else 0 := rfl

theorem cnt_succ_of (h : ℕ → Bool) (n : ℕ) (hn : h n = true) : cnt h (n + 1) = cnt h n + 1 := by
  rw [cnt_succ, hn]; rfl

theorem cnt_succ_not (h : ℕ → Bool) (n : ℕ) (hn : h n = false) : cnt h (n + 1) = cnt h n := by
  rw [cnt_succ, hn]; rfl

theorem cnt_le (h : ℕ → Bool) (n : ℕ) : cnt h n ≤ n := by
  induction n with
  | zero => exact le_rfl
  | succ n ih => rw [cnt_succ]; split <;> omega

theorem cnt_mono (h : ℕ → Bool) {m n : ℕ} (hmn : m ≤ n) : cnt h m ≤ cnt h n := by
  induction n, hmn using Nat.le_induction with
  | base => exact le_rfl
  | succ n _ ih => rw [cnt_succ]; omega

theorem cnt_lt_of_hit (h : ℕ → Bool) {m n : ℕ} (hm : h m = true) (hmn : m < n) : cnt h m < cnt h n :=
  lt_of_lt_of_le (by rw [cnt_succ_of h m hm]; omega) (cnt_mono h (show m + 1 ≤ n from hmn))

/-- Two hits with as many hits before them are one. -/
theorem cnt_inj (h : ℕ → Bool) {m n : ℕ} (hm : h m = true) (hn : h n = true) (e : cnt h m = cnt h n) : m = n := by
  rcases lt_trichotomy m n with l | l | l
  · have := cnt_lt_of_hit h hm l; omega
  · exact l
  · have := cnt_lt_of_hit h hn l; omega

/-- Below the number of hits, each count is some hit's. -/
theorem exists_hit (h : ℕ → Bool) (n k : ℕ) (hk : k < cnt h n) : ∃ j, j < n ∧ h j = true ∧ cnt h j = k := by
  induction n with
  | zero => exact absurd hk (Nat.not_lt_zero _)
  | succ n ih =>
    by_cases hn : h n = true
    · rw [cnt_succ_of h n hn] at hk
      by_cases e : k = cnt h n
      · exact ⟨n, Nat.lt_succ_self n, hn, e.symm⟩
      · obtain ⟨j, hj, h1, h2⟩ := ih (by omega)
        exact ⟨j, by omega, h1, h2⟩
    · rw [cnt_succ_not h n (by simpa using hn)] at hk
      obtain ⟨j, hj, h1, h2⟩ := ih hk
      exact ⟨j, by omega, h1, h2⟩

theorem cnt_pos_of_hit (h : ℕ → Bool) {j n : ℕ} (hj : h j = true) (hn : j < n) : 0 < cnt h n :=
  lt_of_le_of_lt (Nat.zero_le _) (cnt_lt_of_hit h hj hn)

/-! ## Which hit a slot holds -/

/-- Slot `k` holds `j`: the `k`-th hit below 4096, or the first where there are no more than `k`. -/
def Sel (h : ℕ → Bool) (k j : ℕ) : Prop :=
  j < 4096 ∧ h j = true ∧ (cnt h j = k ∨ (cnt h 4096 ≤ k ∧ cnt h j = 0))

/-- The hit slot `k` holds. -/
def sel (h : ℕ → Bool) (k : ℕ) : ℕ := Classical.epsilon (Sel h k)

theorem Sel.unique {h : ℕ → Bool} {k i j : ℕ} (hi : Sel h k i) (hj : Sel h k j) : i = j := by
  obtain ⟨i1, i2, i3⟩ := hi
  obtain ⟨j1, j2, j3⟩ := hj
  have := cnt_lt_of_hit h i2 i1
  have := cnt_lt_of_hit h j2 j1
  exact cnt_inj h i2 j2 (by omega)

theorem Sel.exists (h : ℕ → Bool) (k : ℕ) (hne : ∃ j, j < 4096 ∧ h j = true) : ∃ j, Sel h k j := by
  obtain ⟨j0, h0, h1⟩ := hne
  have hp := cnt_pos_of_hit h h1 h0
  by_cases hk : k < cnt h 4096
  · obtain ⟨j, a, b, c⟩ := exists_hit h 4096 k hk
    exact ⟨j, a, b, .inl c⟩
  · obtain ⟨j, a, b, c⟩ := exists_hit h 4096 0 hp
    exact ⟨j, a, b, .inr ⟨by omega, c⟩⟩

theorem sel_spec (h : ℕ → Bool) (k : ℕ) (hne : ∃ j, j < 4096 ∧ h j = true) : Sel h k (sel h k) :=
  Classical.epsilon_spec (Sel.exists h k hne)

theorem sel_eq {h : ℕ → Bool} {k j : ℕ} (hj : Sel h k j) : sel h k = j :=
  Sel.unique (Classical.epsilon_spec ⟨j, hj⟩) hj

theorem sel_lt (h : ℕ → Bool) (k : ℕ) (hne : ∃ j, j < 4096 ∧ h j = true) : sel h k < 4096 :=
  (sel_spec h k hne).1

/-- The slots past the last hit hold what slot zero holds. -/
theorem sel_of_le (h : ℕ → Bool) {k : ℕ} (hne : ∃ j, j < 4096 ∧ h j = true) (hk : cnt h 4096 ≤ k) :
    sel h k = sel h 0 := by
  obtain ⟨a, b, c⟩ := sel_spec h 0 hne
  exact sel_eq ⟨a, b, .inr ⟨hk, by omega⟩⟩

/-! ## Sixteen lanes -/

/-- Sixteen lanes. -/
abbrev L16 : Shape := ⟨1, ![16]⟩
/-- The index list: 64 rows of 64 slots. -/
abbrev L4096 : Shape := ⟨1, ![4096]⟩

theorem scan_zero (kind : ScanKind) (v : IVec L16 32) :
    scan kind v (ix1 (0 : Fin 16)) = v (ix1 (0 : Fin 16)) := by
  have e : ∀ k : Fin 16, (Shape.ofLane (d := ![16]) k) = ix1 k := fun k => by
    funext a; match a with | ⟨0, _⟩ => rfl
  rw [← e]; rfl

theorem scan_succ (kind : ScanKind) (v : IVec L16 32) (k : ℕ) (hk : k + 1 < 16) :
    scan kind v (ix1 (⟨k + 1, hk⟩ : Fin 16))
      = kind.step (scan kind v (ix1 (⟨k, by omega⟩ : Fin 16))) (v (ix1 (⟨k + 1, hk⟩ : Fin 16))) := by
  have e : ∀ k : Fin 16, (Shape.ofLane (d := ![16]) k) = ix1 k := fun k => by
    funext a; match a with | ⟨0, _⟩ => rfl
  rw [← e ⟨k + 1, hk⟩]
  obtain rfl | rfl | rfl | rfl | rfl | rfl | rfl | rfl | rfl | rfl | rfl | rfl | rfl | rfl | rfl :
    k = 0 ∨ k = 1 ∨ k = 2 ∨ k = 3 ∨ k = 4 ∨ k = 5 ∨ k = 6 ∨ k = 7 ∨ k = 8 ∨ k = 9 ∨ k = 10 ∨ k = 11 ∨ k = 12
      ∨ k = 13 ∨ k = 14 := by omega
  all_goals rfl

/-- The prefix sum of sixteen zeroes and ones counts. -/
theorem scan_sum_cnt (h : ℕ → Bool) (a : ℕ) (v : IVec L16 32)
    (hv : ∀ k : Fin 16, v (ix1 k) = if h (a + k.val) then 1#32 else 0#32) (k : ℕ) (hk : k < 16) :
    BitVec.ofNat 32 (cnt h a) + scan .sum v (ix1 (⟨k, hk⟩ : Fin 16)) = BitVec.ofNat 32 (cnt h (a + k + 1)) := by
  induction k with
  | zero =>
    rw [show (⟨0, hk⟩ : Fin 16) = 0 from rfl, scan_zero, hv, cnt_succ, BitVec.ofNat_add]
    congr 1
    show (if h a = true then _ else _) = BitVec.ofNat 32 (if h a = true then _ else _)
    split <;> rfl
  | succ k ih =>
    rw [scan_succ _ _ k hk]
    show _ + (scan .sum v _ + v _) = _
    rw [← BitVec.add_assoc, ih (by omega), hv, cnt_succ h (a + (k + 1)), BitVec.ofNat_add,
      show a + k + 1 = a + (k + 1) from rfl]
    congr 1
    show (if h (a + (k + 1)) = true then _ else _) = BitVec.ofNat 32 (if h (a + (k + 1)) = true then _ else _)
    split <;> rfl

/-- A prefix maximum of a list that does not decrease is the list. -/
theorem scan_max_of_mono (v : IVec L16 32)
    (hv : ∀ (k : ℕ) (hk : k + 1 < 16), (v (ix1 (⟨k, by omega⟩ : Fin 16))).toNat ≤ (v (ix1 (⟨k + 1, hk⟩ : Fin 16))).toNat)
    (k : ℕ) (hk : k < 16) : scan .max v (ix1 (⟨k, hk⟩ : Fin 16)) = v (ix1 (⟨k, hk⟩ : Fin 16)) := by
  induction k with
  | zero => exact scan_zero _ _
  | succ k ih =>
    rw [scan_succ _ _ k hk, ih (by omega)]
    show (if BitVec.ult _ _ = true then _ else _) = _
    split
    · rename_i hl
      have := hv k hk
      simp only [BitVec.ult, decide_eq_true_eq] at hl
      omega
    · rfl

section Store

variable {F : FTy → Type} [FloatOps F]

/-- What a masked indexed store leaves at `j`: the value of the lanes that name it, where they agree. -/
theorem storeIdx_at {s : Shape} {e : EltTy} (f : Vec F s e) (idxs : Fin s.rank → IVec L16 32)
    (v : Vec F L16 e) (mask : IVec L16 1) (h : ∀ a x, (idxs a x).toNat < s.size a) (j : s.Idx) (w : Elt F e)
    (hw : ∀ k : Fin 16, mask (ix1 k) = 1 → (∀ a, (j a).val = (idxs a (ix1 k)).toNat) → v (ix1 k) = w)
    (hh : f j = w ∨ ∃ k : Fin 16, mask (ix1 k) = 1 ∧ ∀ a, (j a).val = (idxs a (ix1 k)).toNat) :
    storeIdx f idxs v mask false h j = w := by
  have e16 : ∀ k : Fin 16, (Shape.ofLane (d := ![16]) k) = ix1 k := fun k => by
    funext a; match a with | ⟨0, _⟩ => rfl
  have key : ∀ (l : List (Fin 16)) (g : Vec F s e),
      (g j = w ∨ ∃ k ∈ l, mask (ix1 k) = 1 ∧ ∀ a, (j a).val = (idxs a (ix1 k)).toNat) →
      l.foldl (fun g k =>
        let x := Shape.ofLane (d := ![16]) k
        if mask x = 1 then
          let i := idxAt idxs h x
          let y := if false then Elt.idxAdd e (g i) (v x) else v x
          fun j => if (∀ a, (j a).val = (i a).val) then y else g j
        else g) g j = w := by
    intro l
    induction l with
    | nil =>
      intro g hg
      rcases hg with hg | ⟨k, hk, _⟩
      · exact hg
      · exact absurd hk (List.not_mem_nil)
    | cons k l ih =>
      intro g hg
      refine ih _ ?_
      simp only [e16]
      by_cases hm : mask (ix1 k) = 1
      · rw [if_pos hm]
        by_cases hj : ∀ a, (j a).val = (idxs a (ix1 k)).toNat
        · left
          rw [if_pos (show ∀ a, (j a).val = (idxAt idxs h (ix1 k) a).val from hj)]
          exact hw k hm hj
        · rw [if_neg (show ¬ ∀ a, (j a).val = (idxAt idxs h (ix1 k) a).val from hj)]
          rcases hg with hg | ⟨k', hk', h1, h2⟩
          · exact .inl hg
          · rcases List.mem_cons.mp hk' with rfl | hk'
            · exact absurd h2 hj
            · exact .inr ⟨k', hk', h1, h2⟩
      · rw [if_neg hm]
        rcases hg with hg | ⟨k', hk', h1, h2⟩
        · exact .inl hg
        · rcases List.mem_cons.mp hk' with rfl | hk'
          · exact absurd h1 hm
          · exact .inr ⟨k', hk', h1, h2⟩
  refine key (List.finRange 16) f ?_
  rcases hh with hh | ⟨k, h1, h2⟩
  · exact .inl hh
  · exact .inr ⟨k, List.mem_finRange k, h1, h2⟩

end Store

/-! ## The index list, row by row -/

/-- The rows below `r` of the index list are finished: row `q` slot `k` holds `base` plus the hit it selects. -/
def Done (hit : ℕ → ℕ → Bool) (base r : ℕ) (f : L4096.Idx → BitVec 32) : Prop :=
  ∀ (x : L4096.Idx) (q k : ℕ), q < r → k < 64 → (x 0).val = 64 * q + k →
    f x = BitVec.ofNat 32 (base + sel (hit q) k)

/-- Row `r` holds the hits below `n`, each in the slot of its count. -/
def Filled (hit : ℕ → ℕ → Bool) (base r n : ℕ) (f : L4096.Idx → BitVec 32) : Prop :=
  ∀ (x : L4096.Idx) (j : ℕ), j < n → hit r j = true → cnt (hit r) j < 64 →
    (x 0).val = 64 * r + cnt (hit r) j → f x = BitVec.ofNat 32 (base + j)

/-- Row `r`'s first `m` slots are finished, the later ones only where a hit fills them. -/
def Part (hit : ℕ → ℕ → Bool) (base r m : ℕ) (f : L4096.Idx → BitVec 32) : Prop :=
  ∀ (x : L4096.Idx) (k : ℕ), k < 64 → (k < m ∨ k < cnt (hit r) 4096) → (x 0).val = 64 * r + k →
    f x = BitVec.ofNat 32 (base + sel (hit r) k)

theorem Filled.part {hit : ℕ → ℕ → Bool} {base r : ℕ} {f : L4096.Idx → BitVec 32} (hf : Filled hit base r 4096 f) :
    Part hit base r 0 f := by
  intro x k hk hm hx
  obtain ⟨j, hj, h1, h2⟩ := exists_hit (hit r) 4096 k (by omega)
  rw [sel_eq (j := j) ⟨hj, h1, .inl h2⟩]
  exact hf x j hj h1 (by omega) (by omega)

theorem Done.succ {hit : ℕ → ℕ → Bool} {base r : ℕ} {f : L4096.Idx → BitVec 32} (hd : Done hit base r f)
    (hp : Part hit base r 64 f) : Done hit base (r + 1) f := by
  intro x q k hq hk hx
  by_cases e : q = r
  · subst e; exact hp x k hk (.inl hk) hx
  · exact hd x q k (by omega) hk hx

theorem Done.zero (hit : ℕ → ℕ → Bool) (base : ℕ) (f : L4096.Idx → BitVec 32) : Done hit base 0 f :=
  fun _ _ _ hq => absurd hq (Nat.not_lt_zero _)

/-- The count below the hits so far plus one more chunk, as the words a trip computes. -/
structure Trip (h : ℕ → Bool) (t r : ℕ) (m4 : IVec L16 1) (acc : BitVec 32) : Prop where
  ht : t < 256
  hr : r < 64
  hm : ∀ k : Fin 16, m4 (ix1 k) = 1#1 ↔ h (16 * t + k.val) = true
  hacc : acc = BitVec.ofNat 32 (cnt h (16 * t))

section Trip

variable {h : ℕ → Bool} {t r : ℕ} {m4 : IVec L16 1} {acc : BitVec 32}

/-- The prefix sum of a chunk's hits, over the count so far. -/
theorem Trip.sum (H : Trip h t r m4 acc) (k : ℕ) (hk : k < 16) :
    acc + scan .sum (select m4 (broadcast L16 1#32) (broadcast L16 0#32)) (ix1 (⟨k, hk⟩ : Fin 16))
      = BitVec.ofNat 32 (cnt h (16 * t + k + 1)) := by
  rw [H.hacc]
  refine scan_sum_cnt h (16 * t) _ (fun k => ?_) k hk
  show (if m4 (ix1 k) = 1#1 then 1#32 else 0#32) = _
  by_cases hh : h (16 * t + k.val) = true
  · rw [if_pos ((H.hm k).2 hh), if_pos hh]
  · rw [if_neg (fun e => hh ((H.hm k).1 e)), if_neg hh]

/-- The prefix sum alone, as a number. -/
theorem Trip.sum_toNat (H : Trip h t r m4 acc) (k : ℕ) (hk : k < 16) :
    (scan .sum (select m4 (broadcast L16 1#32) (broadcast L16 0#32)) (ix1 (⟨k, hk⟩ : Fin 16))).toNat
      = cnt h (16 * t + k + 1) - cnt h (16 * t) := by
  have e := H.sum k hk
  rw [H.hacc] at e
  have e2 := congrArg BitVec.toNat e
  rw [BitVec.toNat_add, BitVec.toNat_ofNat, BitVec.toNat_ofNat] at e2
  have l1 := cnt_le h (16 * t)
  have l2 := cnt_le h (16 * t + k + 1)
  have l3 := cnt_mono h (show 16 * t ≤ 16 * t + k + 1 by omega)
  have := H.ht
  have b := (scan .sum (select m4 (broadcast L16 1#32) (broadcast L16 0#32)) (ix1 (⟨k, hk⟩ : Fin 16))).isLt
  omega

/-- A lane's rank, where it is a hit: the number of hits before it. -/
theorem Trip.rank (H : Trip h t r m4 acc) (k : Fin 16) (hh : h (16 * t + k.val) = true) :
    acc + scan .sum (select m4 (broadcast L16 1#32) (broadcast L16 0#32)) (ix1 k) - 1#32
      = BitVec.ofNat 32 (cnt h (16 * t + k.val)) := by
  have e := H.sum k.val k.isLt
  rw [show (⟨k.val, k.isLt⟩ : Fin 16) = k from rfl] at e
  rw [e, cnt_succ_of h _ hh, BitVec.ofNat_add, BitVec.add_sub_cancel]

theorem toInt_ofNat_lt (n : ℕ) (hn : n < 2 ^ 31) : (BitVec.ofNat 32 n).toInt = n := by
  rw [BitVec.toInt_eq_toNat_of_lt (by rw [BitVec.toNat_ofNat]; omega), BitVec.toNat_ofNat, Nat.mod_eq_of_lt (by omega)]

theorem slt_ofNat (m n : ℕ) (hm : m < 2 ^ 31) (hn : n < 2 ^ 31) :
    (BitVec.ofNat 32 m).slt (BitVec.ofNat 32 n) = decide (m < n) := by
  rw [BitVec.slt, toInt_ofNat_lt m hm, toInt_ofNat_lt n hn]
  simp

/-- Which lanes of a chunk are stored: the hits of rank below 64. -/
theorem Trip.mask (H : Trip h t r m4 acc) (k : Fin 16) :
    IntOp.andi (m4 (ix1 k)) (IntOp.cmpi .slt (acc + scan .sum (select m4 (broadcast L16 1#32) (broadcast L16 0#32)) (ix1 k) - 1#32)
        64#32) = 1#1
      ↔ h (16 * t + k.val) = true ∧ cnt h (16 * t + k.val) < 64 := by
  have := H.ht
  have l := cnt_le h (16 * t + k.val)
  by_cases hh : h (16 * t + k.val) = true
  · rw [H.rank k hh, (H.hm k).2 hh]
    show 1#1 &&& BitVec.ofBool ((BitVec.ofNat 32 _).slt (BitVec.ofNat 32 64)) = 1#1 ↔ _
    rw [slt_ofNat _ _ (by omega) (by omega)]
    by_cases hc : cnt h (16 * t + k.val) < 64
    · simp [hc, hh]
    · simp [hc]
  · have h0 : m4 (ix1 k) = 0#1 := by
      have hne : m4 (ix1 k) ≠ 1#1 := fun e => hh ((H.hm k).1 e)
      generalize m4 (ix1 k) = b at hne
      revert hne; revert b; decide
    rw [h0]
    show 0#1 &&& _ = 1#1 ↔ _
    simp [hh]

theorem xor_high_toNat (x : BitVec 32) (hx : x.toNat < 2 ^ 31) : (x ^^^ 2147483648#32).toNat = x.toNat + 2 ^ 31 := by
  have e : x &&& 2147483648#32 = 0#32 := by
    apply BitVec.eq_of_getLsbD_eq
    intro i hi
    rw [BitVec.getLsbD_and, BitVec.getLsbD_zero]
    by_cases h31 : i = 31
    · subst h31
      rw [show x.getLsbD 31 = false from by
        rw [BitVec.getLsbD, Nat.testBit_lt_two_pow hx]]
      rfl
    · rw [show (2147483648#32).getLsbD i = false from by
        rw [show (2147483648#32) = BitVec.twoPow 32 31 from by decide, BitVec.getLsbD_twoPow]
        simp; omega]
      simp
  have e2 : x ^^^ 2147483648#32 = x + 2147483648#32 := by
    rw [BitVec.add_eq_or_of_and_eq_zero _ _ e]
    apply BitVec.eq_of_getLsbD_eq
    intro i hi
    have := congrArg (fun y => y.getLsbD i) e
    simp only [BitVec.getLsbD_and, BitVec.getLsbD_zero] at this
    rw [BitVec.getLsbD_xor, BitVec.getLsbD_or]
    revert this
    cases x.getLsbD i <;> cases (2147483648#32).getLsbD i <;> decide
  rw [e2, BitVec.toNat_add, BitVec.toNat_ofNat]
  omega

/-- The count after a chunk: the last lane of the prefix maximum of the prefix sum. -/
theorem Trip.acc_next (H : Trip h t r m4 acc) :
    acc + (scan .max (xori (scan .sum (select m4 (broadcast L16 1#32) (broadcast L16 0#32)))
        (broadcast L16 2147483648#32)) (ix1 (15 : Fin 16)) ^^^ 2147483648#32) = BitVec.ofNat 32 (cnt h (16 * (t + 1))) := by
  have ht := H.ht
  have hb : ∀ (k : ℕ) (hk : k < 16),
      (scan .sum (select m4 (broadcast L16 1#32) (broadcast L16 0#32)) (ix1 (⟨k, hk⟩ : Fin 16))).toNat < 2 ^ 31 := by
    intro k hk
    rw [H.sum_toNat k hk]
    have := cnt_le h (16 * t + k + 1)
    omega
  rw [show (15 : Fin 16) = ⟨15, by decide⟩ from rfl, scan_max_of_mono _ _ 15 (by decide)]
  · show acc + (scan .sum _ _ ^^^ 2147483648#32 ^^^ 2147483648#32) = _
    rw [BitVec.xor_assoc, BitVec.xor_self, BitVec.xor_zero, H.sum 15 (by decide),
      show 16 * t + 15 + 1 = 16 * (t + 1) by omega]
  · intro k hk
    show (scan .sum _ _ ^^^ 2147483648#32).toNat ≤ (scan .sum _ _ ^^^ 2147483648#32).toNat
    rw [xor_high_toNat _ (hb k (by omega)), xor_high_toNat _ (hb (k + 1) hk), H.sum_toNat k (by omega),
      H.sum_toNat (k + 1) hk]
    have := cnt_mono h (show 16 * t + k + 1 ≤ 16 * t + (k + 1) + 1 by omega)
    omega

/-- The slot a stored lane writes. -/
theorem Trip.slot (H : Trip h t r m4 acc) (k : Fin 16) (hh : h (16 * t + k.val) = true)
    (hc : cnt h (16 * t + k.val) < 64) :
    (BitVec.ofNat 32 r * 64#32 + (acc + scan .sum (select m4 (broadcast L16 1#32) (broadcast L16 0#32)) (ix1 k) - 1#32)).toNat
      = 64 * r + cnt h (16 * t + k.val) := by
  have := H.hr
  rw [H.rank k hh, BitVec.toNat_add, BitVec.toNat_mul, BitVec.toNat_ofNat, BitVec.toNat_ofNat, BitVec.toNat_ofNat]
  omega

end Trip

/-- The word the row's count is compared by: no more than 64. -/
theorem minsi_cnt (h : ℕ → Bool) : IntOp.minsi (BitVec.ofNat 32 (cnt h 4096)) 64#32 = BitVec.ofNat 32 (min (cnt h 4096) 64) := by
  have := cnt_le h 4096
  show (if (BitVec.ofNat 32 _).slt (BitVec.ofNat 32 64) = true then _ else _) = _
  rw [slt_ofNat _ _ (by omega) (by omega)]
  by_cases hc : cnt h 4096 < 64
  · rw [if_pos (by simpa using hc), Nat.min_eq_left (by omega)]
  · rw [if_neg (by simpa using hc), Nat.min_eq_right (by omega)]

/-- Sixteen slots of row `r` filled out: a slot below the count keeps its hit, a later one takes the first. -/
theorem Part.store {hit : ℕ → ℕ → Bool} {base r m : ℕ} {f f' : L4096.Idx → BitVec 32}
    (hne : ∃ j, j < 4096 ∧ hit r j = true) (hm : m < 64)
    (hd : Done hit base r f) (hp : Part hit base r m f)
    (hout : ∀ x : L4096.Idx, ((x 0).val < 64 * r + m ∨ 64 * r + m + 16 ≤ (x 0).val) → f' x = f x)
    (hin : ∀ (x : L4096.Idx) (k : Fin 16), (x 0).val = 64 * r + m + k.val →
      f' x = if m + k.val < min (cnt (hit r) 4096) 64 then f x else BitVec.ofNat 32 (base + sel (hit r) 0)) :
    Done hit base r f' ∧ Part hit base r (m + 16) f' := by
  constructor
  · intro x q k hq hk hx
    rw [hout x (.inl (by omega))]
    exact hd x q k hq hk hx
  · intro x k hk hmk hx
    by_cases h1 : k < m
    · rw [hout x (.inl (by omega))]
      exact hp x k hk (.inl h1) hx
    · by_cases h2 : k < m + 16
      · rw [hin x ⟨k - m, by omega⟩ (by show _ = 64 * r + m + (k - m); omega)]
        show (if m + (k - m) < _ then _ else _) = _
        by_cases hc : k < cnt (hit r) 4096
        · rw [if_pos (by rw [Nat.lt_min]; omega)]
          exact hp x k hk (.inr hc) hx
        · rw [if_neg (by rw [Nat.lt_min]; omega), sel_of_le (hit r) (k := k) hne (by omega)]
      · rw [hout x (.inr (by omega))]
        exact hp x k hk (.inr (by omega)) hx

section Chunk

variable {F : FTy → Type} [FloatOps F]

/-- One chunk: the hits' positions stored at row `r`'s slots of their ranks. -/
theorem Trip.store {hit : ℕ → ℕ → Bool} {base t r : ℕ} {m4 : IVec L16 1} {acc : BitVec 32}
    (H : Trip (hit r) t r m4 acc) (f : Vec F L4096 .i32) (idxs : Fin 1 → IVec L16 32) (v : Vec F L16 .i32)
    (mask : IVec L16 1)
    (hmask : ∀ k : Fin 16, mask (ix1 k) = 1#1
      ↔ hit r (16 * t + k.val) = true ∧ cnt (hit r) (16 * t + k.val) < 64)
    (hidx : ∀ k : Fin 16, mask (ix1 k) = 1#1 → (idxs 0 (ix1 k)).toNat = 64 * r + cnt (hit r) (16 * t + k.val))
    (hv : ∀ k : Fin 16, v (ix1 k) = BitVec.ofNat 32 (base + (16 * t + k.val)))
    (hin : ∀ a x, (idxs a x).toNat < L4096.size a)
    (hd : Done hit base r f) (hf : Filled hit base r (16 * t) f) :
    Done hit base r (storeIdx f idxs v mask false hin)
      ∧ Filled hit base r (16 * (t + 1)) (storeIdx f idxs v mask false hin) := by
  constructor
  · intro x q k hq hk hx
    refine storeIdx_at f idxs v mask hin x _ (fun l hl hj => ?_) (.inl (hd x q k hq hk hx))
    have e : (x 0).val = 64 * r + _ := (hj 0).trans (hidx l hl)
    omega
  · intro x j hj hh hc hx
    refine storeIdx_at f idxs v mask hin x _ (fun l hl hx' => ?_) ?_
    · have e : (x 0).val = 64 * r + _ := (hx' 0).trans (hidx l hl)
      have e' : j = 16 * t + l.val := cnt_inj (hit r) hh ((hmask l).1 hl).1 (by omega)
      rw [hv l, e']
    · by_cases hlt : j < 16 * t
      · exact .inl (hf x j hlt hh hc hx)
      · right
        have hjl : 16 * t + (j - 16 * t) = j := by omega
        have hm : mask (ix1 (⟨j - 16 * t, by omega⟩ : Fin 16)) = 1#1 := by
          rw [hmask]; show hit r (16 * t + (j - 16 * t)) = true ∧ cnt (hit r) (16 * t + (j - 16 * t)) < 64
          rw [hjl]; exact ⟨hh, hc⟩
        refine ⟨⟨j - 16 * t, by omega⟩, hm, fun a => ?_⟩
        match a with
        | ⟨0, _⟩ =>
          refine hx.trans ((?_ : _ = 64 * r + cnt (hit r) (16 * t + (j - 16 * t))).trans (hidx _ hm).symm)
          rw [hjl]

end Chunk

end Cert.Ball
-- ==== Proof.Spec.lean ====
/-
  What the ball query writes, over plain arrays and any float instance: which points are hits of a centroid, and each
  output row from the row of the table its slot selects.
-/
module

public import proofs.«01_k».proof.Proof.Words

@[expose] public section

noncomputable section

namespace Cert.Ball

open Idealize.ShloMosaic Idealize.ShloMosaic.ValueIdx

variable {F : FTy → Type} [FloatOps F]

/-- The transposed points, the padded centroids, the table of point features and the output. -/
abbrev SP : Shape := ⟨3, ![4, 3, 4096]⟩
abbrev SC : Shape := ⟨2, ![2048, 16]⟩
abbrev ST : Shape := ⟨2, ![16384, 128]⟩
abbrev SO : Shape := ⟨2, ![131072, 128]⟩

/-- The squared distance of two points, in the order the kernel adds it. -/
def sqd (px py pz cx cy cz : F .f32) : F .f32 :=
  FloatOps.addf (FloatOps.addf (FloatOps.mulf (FloatOps.subf px cx) (FloatOps.subf px cx))
    (FloatOps.mulf (FloatOps.subf py cy) (FloatOps.subf py cy)))
    (FloatOps.mulf (FloatOps.subf pz cz) (FloatOps.subf pz cz))

/-- Point `j` of centroid `g`'s cloud is within the radius of it. -/
def hitAt (P : SP.Idx → F .f32) (C : SC.Idx → F .f32) (g : Fin 2048) (j : Fin 4096) : Bool :=
  FloatOps.cmpf .ole
    (sqd (P (ix3 (⟨g.val / 512, by omega⟩ : Fin 4) (0 : Fin 3) j)) (P (ix3 (⟨g.val / 512, by omega⟩ : Fin 4) (1 : Fin 3) j))
      (P (ix3 (⟨g.val / 512, by omega⟩ : Fin 4) (2 : Fin 3) j)) (C (ix2 g (0 : Fin 16))) (C (ix2 g (1 : Fin 16))) (C (ix2 g (2 : Fin 16))))
    (FloatOps.ofBits .f32 0x3D23D70A#32) == 1#1

/-- The hits of centroid `g`, over the naturals. -/
def hit (P : SP.Idx → F .f32) (C : SC.Idx → F .f32) (g j : ℕ) : Bool :=
  if h : g < 2048 ∧ j < 4096 then hitAt P C ⟨g, h.1⟩ ⟨j, h.2⟩ else false

/-- Every centroid has a point within its radius. -/
def Nonempty (P : SP.Idx → F .f32) (C : SC.Idx → F .f32) : Prop :=
  ∀ g : ℕ, g < 2048 → ∃ j, j < 4096 ∧ hit P C g j = true

/-- The table row slot `k` of centroid `g` takes. -/
def rowOf (P : SP.Idx → F .f32) (C : SC.Idx → F .f32) (g k : ℕ) : ℕ := g / 512 * 4096 + sel (hit P C g) k

theorem rowOf_lt {P : SP.Idx → F .f32} {C : SC.Idx → F .f32} (hne : Nonempty P C) {g k : ℕ} (hg : g < 2048) :
    rowOf P C g k < 16384 := by
  have := sel_lt (hit P C g) k (hne g hg)
  unfold rowOf; omega

/-- What is taken off a row: the centroid on the first three columns, nothing on the next thirteen. -/
def shift (C : SC.Idx → F .f32) (g : Fin 2048) (l : Fin 16) : F .f32 :=
  if l.val < 3 then C (ix2 g l) else FloatOps.ofBits .f32 0x00000000#32

/-- Column `l` of an output row of centroid `g`, from the table's. -/
def cell (C : SC.Idx → F .f32) (g : Fin 2048) (l : Fin 128) (y : F .f32) : F .f32 :=
  if h : l.val < 16 then FloatOps.subf y (shift C g ⟨l.val, h⟩) else y

/-- The output: row `64 g + k` is the table's row of slot `k` of centroid `g`, its first columns shifted. -/
def out (P : SP.Idx → F .f32) (C : SC.Idx → F .f32) (T : ST.Idx → F .f32) : SO.Idx → F .f32 := fun x =>
  cell C ⟨(x 0).val / 64, by have := idx2_lt0 x; omega⟩ (x 1)
    (T (ix2 (⟨rowOf P C ((x 0).val / 64) ((x 0).val % 64) % 16384, Nat.mod_lt _ (by decide)⟩ : Fin 16384) (x 1)))

end Cert.Ball
-- ==== Proof.Pre.lean ====
/-
  The precondition read at a centroid: some point lies in its ball.
-/
module

public import proofs.«01_k».proof.Pre_balls_nonempty
public import proofs.«01_k».proof.Proof.Spec
public import Idealize.ShloMosaic.Lib.Pointwise
public import Idealize.ShloMosaic.Lib.ReduceAll
public import Idealize.ShloMosaic.Lib.Routing.OpsOrder

@[expose] public section

noncomputable section

namespace Cert.Ball

open Idealize.ShloMosaic

variable {F : FTy → Type} [FloatOps F]

abbrev SX : Shape := ⟨3, ![4, 4096, 125]⟩
abbrev SQ : Shape := ⟨3, ![4, 4096, 3]⟩
abbrev SE : Shape := ⟨3, ![4, 512, 3]⟩

open Cert.Pre_balls_nonempty Cert.Pre_balls_nonempty.Facts in
set_option maxRecDepth 16384 in
theorem ball_of_pre [Cert.Pre_balls_nonempty.Facts] (x : SX.Idx → F .f32) (p : SQ.Idx → F .f32) (c : SE.Idx → F .f32)
    (h : Cert.Pre_balls_nonempty.fn x p c = fun _ => 1#1) (b : Fin 4) (q : Fin 512) :
    ∃ j : Fin 4096, FloatOps.cmpf .ole
      (sqd (p (ix3 b j (0 : Fin 3))) (p (ix3 b j (1 : Fin 3))) (p (ix3 b j (2 : Fin 3)))
        (c (ix3 b q (0 : Fin 3))) (c (ix3 b q (1 : Fin 3))) (c (ix3 b q (2 : Fin 3))))
      (FloatOps.ofBits .f32 0x3D23D70A#32) = 1#1 := by
  have e := congrFun h ix0
  unfold Cert.Pre_balls_nonempty.fn Cert.Pre_balls_nonempty.fn_part1 at e
  dsimp only at e
  have e1 := Host.reduce_andi_all _ _ _ _ _ e (ix2 b q)
  clear e h
  pointwise at e1
  obtain ⟨j, -, hj⟩ := (Routing.fold_ori _ _).1 e1
  exact ⟨j, hj⟩

end Cert.Ball
-- ==== Proof.KFrame.lean ====
/-
  The program's frame: it runs, its arguments end unchanged, every semaphore ends at zero.
-/
module

public import proofs.«01_k».proof.Proof.KPre
public import proofs.«01_k».proof.Proof.Gen.Pre_balls_nonempty

@[expose] public section

noncomputable section

namespace Cert.Kernel.Ball

open Cert.Kernel Cert.Kernel.Gen Cert.Ball
open Idealize.ShloMosaic Idealize.SL.Sem

theorem frame : Cert.quiescent_Kernel (hKernel := Cert.Kernel.Gen.facts) (hPre_balls_nonempty := Cert.Pre_balls_nonempty.Gen.facts) := fun m g hpre =>
  (θ_run (Cert.Kernel.defs (F := Bits)) (Cert.Kernel.threads (F := Bits)) _).mono
    (fun _ h => ⟨fun c => ⟨(h.1 c).2.2.1, (h.1 c).2.2.2.1, (h.1 c).2.2.2.2⟩, h.2⟩)
    (run_main (F := Bits) m g fun d => letI := Cert.Pre_balls_nonempty.Gen.facts; nonempty_of_pre _ _ _ (hpre d))

end Cert.Kernel.Ball
-- ==== Proof.ILane.lean ====
/-
  The values one trip of the ball query computes, lane by lane: which lanes are hits, what they store and where, and the
  sixteen-slot fill of a row.
-/
module

public import proofs.«01_k».proof.Proof.Spec
public import Idealize.ShloMosaic.Lib.ValueLayout
public import proofs.«01_k».proof.Proof.Gen.KernelIdeal
public import proofs.«01_k».proof.Proof.Gen.KernelIdeal.Skeleton

@[expose] public section

noncomputable section

namespace Cert.KernelIdeal.Ball

open Cert.KernelIdeal Cert.KernelIdeal.Gen Cert.Ball
open Idealize.ShloMosaic Idealize.ShloMosaic.ValueIdx

variable {F : FTy → Type} [FloatOps F]

theorem trips1 : k0_t1_loop.trips = 64 := by decide +kernel
theorem trips2 : k0_t2_loop.trips = 256 := by decide +kernel
theorem trips3 : k0_t3_loop.trips = 8 := by decide +kernel
theorem trips4 : k0_t4_loop.trips = 8 := by decide +kernel
theorem trips5 : k0_t5_loop.trips = 64 := by decide +kernel

theorem t1_lt (t : Fin k0_t1_loop.trips) : t.val < 64 := trips1 ▸ t.isLt
theorem t2_lt (t : Fin k0_t2_loop.trips) : t.val < 256 := trips2 ▸ t.isLt
theorem t3_lt (t : Fin k0_t3_loop.trips) : t.val < 8 := trips3 ▸ t.isLt
theorem t4_lt (t : Fin k0_t4_loop.trips) : t.val < 8 := trips4 ▸ t.isLt
theorem t5_lt (t : Fin k0_t5_loop.trips) : t.val < 64 := trips5 ▸ t.isLt

theorem iv01 (n : ℕ) : Scf.iv 0#32 1#32 n = BitVec.ofNat 32 n := by
  simp [Scf.iv]

theorem iota_lane (k : Fin 16) : iota .scVector S16 32 [0] iota_S16_d0_w32_scVector (ix1 k) = BitVec.ofNat 32 k.val := by
  revert k; decide

theorem cast16 {α : Type} (v : S1x16.Idx → α) (k : Fin 16) :
    shapeCast S16 v shapeCasts_S1x16_S16 (ix1 k) = v (ix2 (0 : Fin 1) k) := by
  rw [shapeCast_1a_a_apply]

theorem castBack {α : Type} (v : S16.Idx → α) (u : Fin 1) (k : Fin 16) :
    shapeCast S1x16 v shapeCasts_S16_S1x16 (ix2 u k) = v (ix1 k) := by
  rw [shapeCast_a_1a_apply]

/-- Which lanes of a chunk are hits. -/
theorem pay4_lane (cst cx cy cz : F .f32) (a b c : Vec F S1x16 .f32) (k : Fin 16) :
    k0_pay4 cst cx cy cz a b c (ix1 k)
      = FloatOps.cmpf .ole (sqd (a (ix2 (0 : Fin 1) k)) (b (ix2 (0 : Fin 1) k)) (c (ix2 (0 : Fin 1) k)) cx cy cz) cst := by
  rw [← cast16 a k, ← cast16 b k, ← cast16 c k]; rfl

theorem pay11_eq (v : Vec F S1x16 .f32) : k0_pay11 v = v (ix2 (0 : Fin 1) (0 : Fin 16)) := by
  rw [← cast16 v 0]; show shapeCast S16 v _ _ = _
  congr 1; funext a; match a with | ⟨0, _⟩ => rfl
theorem pay12_eq (v : Vec F S1x16 .f32) : k0_pay12 v = v (ix2 (0 : Fin 1) (1 : Fin 16)) := by
  rw [← cast16 v 1]; show shapeCast S16 v _ _ = _
  congr 1; funext a; match a with | ⟨0, _⟩ => rfl
theorem pay13_eq (v : Vec F S1x16 .f32) : k0_pay13 v = v (ix2 (0 : Fin 1) (2 : Fin 16)) := by
  rw [← cast16 v 2]; show shapeCast S16 v _ _ = _
  congr 1; funext a; match a with | ⟨0, _⟩ => rfl

/-! ## A trip's values -/

section Chunk

variable {h : ℕ → Bool} {t r : ℕ} {acc : BitVec 32} {cst cx cy cz : F .f32} {a b c : Vec F S1x16 .f32}

theorem rank_lane (H : Trip h t r (k0_pay4 cst cx cy cz a b c) acc) (k : Fin 16) :
    k0_pay6 cst cx cy cz acc a b c (ix1 k)
      = acc + scan .sum (select (k0_pay4 cst cx cy cz a b c) (broadcast L16 1#32) (broadcast L16 0#32)) (ix1 k) - 1#32 := rfl

/-- The lanes a trip stores. -/
theorem mask_lane (H : Trip h t r (k0_pay4 cst cx cy cz a b c) acc) (k : Fin 16) :
    k0_pay7 cst cx cy cz acc a b c (ix1 k) = 1#1 ↔ h (16 * t + k.val) = true ∧ cnt h (16 * t + k.val) < 64 :=
  H.mask k

/-- Where a lane that is stored goes. -/
theorem slot_lane (H : Trip h t r (k0_pay4 cst cx cy cz a b c) acc) (k : Fin 16)
    (hm : k0_pay7 cst cx cy cz acc a b c (ix1 k) = 1#1) :
    (k0_pay9 cst (BitVec.ofNat 32 r) cx cy cz acc a b c (ix1 k)).toNat = 64 * r + cnt h (16 * t + k.val) := by
  obtain ⟨h1, h2⟩ := (mask_lane H k).1 hm
  rw [← H.slot k h1 h2]
  show (if k0_pay7 cst cx cy cz acc a b c (ix1 k) = 1#1 then _ else _ : BitVec 32).toNat = _
  rw [if_pos hm]
  rfl

/-- Every lane's slot is inside the list, the lanes not stored naming slot zero. -/
theorem slot_inb (H : Trip h t r (k0_pay4 cst cx cy cz a b c) acc) :
    k0_chk1 (k0_pay9 cst (BitVec.ofNat 32 r) cx cy cz acc a b c) := by
  have key : ∀ k : Fin 16, (k0_pay9 cst (BitVec.ofNat 32 r) cx cy cz acc a b c (ix1 k)).toNat < 4096 := by
    intro k
    by_cases hm : k0_pay7 cst cx cy cz acc a b c (ix1 k) = 1#1
    · rw [slot_lane H k hm]
      obtain ⟨h1, h2⟩ := (mask_lane H k).1 hm
      have := H.hr
      omega
    · show (if k0_pay7 cst cx cy cz acc a b c (ix1 k) = 1#1 then _ else 0#32 : BitVec 32).toNat < 4096
      rw [if_neg hm]; decide
  intro a x
  match a with
  | ⟨0, _⟩ => rw [eq_ix1 x]; exact key (x 0)

/-- The position a lane stores. -/
theorem pos_lane (base t : ℕ) (k : Fin 16) (T : Fin k0_t2_loop.trips) (hT : T.val = t) :
    k0_pay8 (BitVec.ofNat 32 base) (iota .scVector S16 32 [0] iota_S16_d0_w32_scVector) 0#32 1#32 T (ix1 k)
      = BitVec.ofNat 32 (base + (16 * t + k.val)) := by
  show Scf.iv 0#32 1#32 T * 16#32 + iota .scVector S16 32 [0] iota_S16_d0_w32_scVector (ix1 k) + BitVec.ofNat 32 base = _
  rw [iota_lane, iv01, hT]
  apply BitVec.eq_of_toNat_eq
  simp only [BitVec.toNat_add, BitVec.toNat_mul, BitVec.toNat_ofNat]
  omega

/-- The count carried to the next trip. -/
theorem acc_lane (H : Trip h t r (k0_pay4 cst cx cy cz a b c) acc) :
    Scalar.addi acc (extractAt ![15] (k0_pay14 (k0_pay5 cst cx cy cz a b c)) inpos_S16_p15)
      = BitVec.ofNat 32 (cnt h (16 * (t + 1))) := by
  rw [← H.acc_next]
  show acc + (scan .max _ _ ^^^ 2147483648#32) = _
  congr 3; funext a; match a with | ⟨0, _⟩ => rfl

end Chunk

/-! ## The fill -/

/-- One lane of the fill of sixteen slots. -/
theorem fill_lane (h : ℕ → Bool) (off : ℕ) (hoff : off < 64) (k : Fin 16) (x y : BitVec 32) :
    (if IntOp.cmpi .slt (BitVec.ofNat 32 off + iota .scVector S16 32 [0] iota_S16_d0_w32_scVector (ix1 k))
        (IntOp.minsi (BitVec.ofNat 32 (cnt h 4096)) 64#32) = 1#1 then x else y)
      = if off + k.val < min (cnt h 4096) 64 then x else y := by
  rw [minsi_cnt, iota_lane, ← BitVec.ofNat_add]
  have : IntOp.cmpi .slt (BitVec.ofNat 32 (off + k.val)) (BitVec.ofNat 32 (min (cnt h 4096) 64))
      = BitVec.ofBool (decide (off + k.val < min (cnt h 4096) 64)) := by
    show BitVec.ofBool (BitVec.slt _ _) = _
    rw [slt_ofNat _ _ (by omega) (by omega)]
  rw [this]
  by_cases hc : off + k.val < min (cnt h 4096) 64
  · rw [if_pos hc, if_pos (by simp [hc])]
  · rw [if_neg hc, if_neg (by simp [hc])]

theorem first_eq (v37 : Vec F S16 .i32) : extractAt ![0] (k0_pay15 v37) inpos_S1_p0 = v37 (ix1 (0 : Fin 16)) := by
  show v37 _ = _
  congr 1; funext a; match a with | ⟨0, _⟩ => rfl

section Fill

variable {h : ℕ → Bool}

theorem pay16_lane (v37 v45 : Vec F S16 .i32) (k : Fin 16) :
    k0_pay16 (iota .scVector S16 32 [0] iota_S16_d0_w32_scVector) (BitVec.ofNat 32 (cnt h 4096)) v37 v45 (ix1 k)
      = if 0 + k.val < min (cnt h 4096) 64 then v45 (ix1 k) else v37 (ix1 (0 : Fin 16)) := by
  rw [← fill_lane h 0 (by decide) k]
  show (if _ then _ else _) = _
  congr 1; exact first_eq v37
theorem pay17_lane (v37 v45 : Vec F S16 .i32) (k : Fin 16) :
    k0_pay17 (iota .scVector S16 32 [0] iota_S16_d0_w32_scVector) (BitVec.ofNat 32 (cnt h 4096)) v37 v45 (ix1 k)
      = if 16 + k.val < min (cnt h 4096) 64 then v45 (ix1 k) else v37 (ix1 (0 : Fin 16)) := by
  rw [← fill_lane h 16 (by decide) k]
  show (if _ then _ else _) = _
  congr 1; exact first_eq v37
theorem pay1_lane (v37 v45 : Vec F S16 .i32) (k : Fin 16) :
    k0_pay1 (Scalar.minsi (BitVec.ofNat 32 (cnt h 4096)) 64#32) (extractAt ![0] (k0_pay15 v37) inpos_S1_p0) v45 (ix1 k)
      = if 32 + k.val < min (cnt h 4096) 64 then v45 (ix1 k) else v37 (ix1 (0 : Fin 16)) := by
  rw [← fill_lane h 32 (by decide) k]
  show (if _ then _ else _) = _
  congr 1; exact first_eq v37
theorem pay2_lane (v37 v45 : Vec F S16 .i32) (k : Fin 16) :
    k0_pay2 (Scalar.minsi (BitVec.ofNat 32 (cnt h 4096)) 64#32) (extractAt ![0] (k0_pay15 v37) inpos_S1_p0) v45 (ix1 k)
      = if 48 + k.val < min (cnt h 4096) 64 then v45 (ix1 k) else v37 (ix1 (0 : Fin 16)) := by
  rw [← fill_lane h 48 (by decide) k]
  show (if _ then _ else _) = _
  congr 1; exact first_eq v37

end Fill

/-- One lane of a shifted row. -/
theorem pay3_lane (C : SC.Idx → F .f32) (g : Fin 2048) (v36 v45 : Vec F S1x16 .f32)
    (hv : ∀ l : Fin 16, v36 (ix2 (0 : Fin 1) l) = C (ix2 g l)) (k : Fin 16) :
    k0_pay3 v36 v45 (ix1 k) = FloatOps.subf (v45 (ix2 (0 : Fin 1) k)) (shift C g k) := by
  have e : IntOp.cmpi .slt (iota .scVector S16 32 [0] iota_S16_d0_w32_scVector (ix1 k)) 3#32 = BitVec.ofBool (decide (k.val < 3)) := by
    rw [iota_lane]; revert k; decide
  rw [← cast16 v45 k]
  show FloatOps.subf _ (if IntOp.cmpi .slt (iota .scVector S16 32 [0] iota_S16_d0_w32_scVector (ix1 k)) 3#32 = 1#1
    then shapeCast S16 v36 shapeCasts_S1x16_S16 (ix1 k) else FloatOps.ofBits .f32 0x00000000#32) = _
  rw [e, cast16 v36 k, show v36 (ix2 (0 : Fin 1) k) = _ from hv k]
  unfold shift
  congr 1
  by_cases hk : k.val < 3
  · rw [if_pos hk, if_pos (by simp [hk])]
  · rw [if_neg hk, if_neg (by simp [hk])]

end Cert.KernelIdeal.Ball
-- ==== Proof.IBase.lean ====
/-
  The ball query's program as the SparseCore launch theorem sees it, and the reads and writes of one vector or one row
  in the subcore's memory.
-/
module

public import proofs.«01_k».proof.Defs
public import proofs.«01_k».proof.Proof.ILane
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Writes
public import Idealize.ShloMosaic.Lib.Pipeline.ValueKit.Geometry
public import Idealize.ShloMosaic.Lib.Tactic

@[expose] public section

noncomputable section

namespace Cert.KernelIdeal.Ball

open Cert.KernelIdeal Cert.KernelIdeal.Gen Cert.Ball
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The memrefs of a task -/

/-- The kernel's arrays and scratch as its tasks address them. -/
abbrev pV : Memref sig Kind.scVector Space.hbm S4x3x4096 EltTy.f32 := Memref.whole main_v0_scv
abbrev cV : Memref sig Kind.scVector Space.hbm S2048x16 EltTy.f32 := Memref.whole main_v2_scv
abbrev tV : Memref sig Kind.scVector Space.hbm S16384x128 EltTy.f32 := Memref.whole main_v4_scv
abbrev oV : Memref sig Kind.scVector Space.hbm S131072x128 EltTy.f32 := Memref.whole main_v5_scv
abbrev m6 : Memref sig Kind.scVector Space.vmem S3x4096 EltTy.f32 := Memref.whole cc0_scratch0
abbrev m7 : Memref sig Kind.scVector Space.vmem S64x16 EltTy.f32 := Memref.whole cc0_scratch1
abbrev m8 : Memref sig Kind.scVector Space.vmem S4096 EltTy.i32 := Memref.whole cc0_scratch2
abbrev m9 : Memref sig Kind.scVector Space.vmem S512x128 EltTy.f32 := Memref.whole cc0_scratch3

/-! ## Vectors and rows of the task's memory -/

/-- A row's sixteen elements of the points. -/
theorem read6 (off : Fin 2 → ℕ) (inb) (f : S3x4096.Idx → Elt F .f32) (a : Fin 3) (j0 : ℕ) (k : Fin 16) (hj : j0 + k.val < 4096)
    (h0 : off 0 = a.val) (h1 : off 1 = j0) :
    ((m6).access (Rect.unit (s := S3x4096) off S1x16.size inb)).read (Elt F) f (ix2 (0 : Fin 1) k) = f (ix2 a (⟨j0 + k.val, hj⟩ : Fin 4096)) := by
  rw [View.read_apply]
  refine (cast_eq _ _).trans (congrArg f ?_)
  funext d
  match d with
  | ⟨0, _⟩ => exact Fin.ext ((ValueKit.rect_emb_unit_val (s := S3x4096) off S1x16.size inb _ 0).trans (h0 ▸ rfl))
  | ⟨1, _⟩ => exact Fin.ext ((ValueKit.rect_emb_unit_val (s := S3x4096) off S1x16.size inb _ 1).trans (by rw [h1]))

/-- A centroid's row. -/
theorem read7 (off : Fin 2 → ℕ) (inb) (f : S64x16.Idx → Elt F .f32) (a : Fin 64) (k : Fin 16)
    (h0 : off 0 = a.val) (h1 : off 1 = 0) :
    ((m7).access (Rect.unit (s := S64x16) off S1x16.size inb)).read (Elt F) f (ix2 (0 : Fin 1) k) = f (ix2 a k) := by
  rw [View.read_apply]
  refine (cast_eq _ _).trans (congrArg f ?_)
  funext d
  match d with
  | ⟨0, _⟩ => exact Fin.ext ((ValueKit.rect_emb_unit_val (s := S64x16) off S1x16.size inb _ 0).trans (h0 ▸ rfl))
  | ⟨1, _⟩ => exact Fin.ext ((ValueKit.rect_emb_unit_val (s := S64x16) off S1x16.size inb _ 1).trans (by rw [h1]; exact Nat.zero_add _))

/-- A row's first sixteen elements of the gathered rows. -/
theorem read9 (off : Fin 2 → ℕ) (inb) (f : S512x128.Idx → Elt F .f32) (a : Fin 512) (k : Fin 16)
    (h0 : off 0 = a.val) (h1 : off 1 = 0) :
    ((m9).access (Rect.unit (s := S512x128) off S1x16.size inb)).read (Elt F) f (ix2 (0 : Fin 1) k) = f (ix2 a (⟨k.val, by omega⟩ : Fin 128)) := by
  rw [View.read_apply]
  refine (cast_eq _ _).trans (congrArg f ?_)
  funext d
  match d with
  | ⟨0, _⟩ => exact Fin.ext ((ValueKit.rect_emb_unit_val (s := S512x128) off S1x16.size inb _ 0).trans (h0 ▸ rfl))
  | ⟨1, _⟩ => exact Fin.ext ((ValueKit.rect_emb_unit_val (s := S512x128) off S1x16.size inb _ 1).trans (by rw [h1]; exact Nat.zero_add _))

/-- Sixteen slots of the index list. -/
theorem read8 (off : Fin 1 → ℕ) (inb) (f : S4096.Idx → Elt F .i32) (j0 : ℕ) (k : Fin 16) (hj : j0 + k.val < 4096) (h0 : off 0 = j0) :
    ((m8).access (Rect.unit (s := S4096) off S16.size inb)).read (Elt F) f (ix1 k) = f (ix1 (⟨j0 + k.val, hj⟩ : Fin 4096)) := by
  rw [View.read_apply]
  refine (cast_eq _ _).trans (congrArg f ?_)
  funext d
  match d with
  | ⟨0, _⟩ => exact Fin.ext ((ValueKit.rect_emb_unit_val (s := S4096) off S16.size inb _ 0).trans (h0 ▸ rfl))

/-- Sixteen slots of the index list stored: a slot among them … -/
theorem write8_in (off : Fin 1 → ℕ) (inb) (f : S4096.Idx → Elt F .i32) (w : S16.Idx → Elt F .i32) (j0 : ℕ) (h0 : off 0 = j0)
    (x : S4096.Idx) (k : Fin 16) (hx : (x 0).val = j0 + k.val) :
    ((m8).access (Rect.unit (s := S4096) off S16.size inb)).write (Elt F) f w Finset.univ x = w (ix1 k) := by
  have e : x = ((m8).access (Rect.unit (s := S4096) off S16.size inb)).emb (ix1 k) := by
    funext d
    match d with
    | ⟨0, _⟩ => exact Fin.ext (hx.trans ((ValueKit.rect_emb_unit_val (s := S4096) off S16.size inb (ix1 k) 0).trans (by rw [h0] <;> rfl)).symm)
  rw [e, View.write_emb, if_pos (Finset.mem_univ _)]; exact cast_eq _ _

/-- … and one that is not. -/
theorem write8_out (off : Fin 1 → ℕ) (inb) (f : S4096.Idx → Elt F .i32) (w : S16.Idx → Elt F .i32) (j0 : ℕ) (h0 : off 0 = j0)
    (x : S4096.Idx) (hx : (x 0).val < j0 ∨ j0 + 16 ≤ (x 0).val) :
    ((m8).access (Rect.unit (s := S4096) off S16.size inb)).write (Elt F) f w Finset.univ x = f x := by
  refine View.write_of_not_mem _ _ _ ?_
  rw [View.setOn_univ, show ((m8).access (Rect.unit (s := S4096) off S16.size inb)).set = _ from View.set_slice_whole cc0_scratch2 _,
    Rect.mem_set_unit]
  intro hm
  have h := hm 0
  rw [h0] at h
  have : S16.size 0 = 16 := rfl
  omega

/-- The first sixteen columns of a gathered row stored: an element among them … -/
theorem write9_in (off : Fin 2 → ℕ) (inb) (f : S512x128.Idx → Elt F .f32) (w : S1x16.Idx → Elt F .f32) (a : Fin 512)
    (h0 : off 0 = a.val) (h1 : off 1 = 0) (l : Fin 128) (hl : l.val < 16) :
    ((m9).access (Rect.unit (s := S512x128) off S1x16.size inb)).write (Elt F) f w Finset.univ (ix2 a l)
      = w (ix2 (0 : Fin 1) (⟨l.val, hl⟩ : Fin 16)) := by
  have e : (ix2 a l : S512x128.Idx) = ((m9).access (Rect.unit (s := S512x128) off S1x16.size inb)).emb (ix2 (0 : Fin 1) (⟨l.val, hl⟩ : Fin 16)) := by
    funext d
    match d with
    | ⟨0, _⟩ => exact Fin.ext ((ValueKit.rect_emb_unit_val (s := S512x128) off S1x16.size inb (ix2 (0 : Fin 1) (⟨l.val, hl⟩ : Fin 16)) 0).trans (by rw [h0] <;> rfl)).symm
    | ⟨1, _⟩ => exact Fin.ext ((ValueKit.rect_emb_unit_val (s := S512x128) off S1x16.size inb (ix2 (0 : Fin 1) (⟨l.val, hl⟩ : Fin 16)) 1).trans (by rw [h1]; exact Nat.zero_add _)).symm
  rw [e, View.write_emb, if_pos (Finset.mem_univ _)]; exact cast_eq _ _

/-- … and one that is not. -/
theorem write9_out (off : Fin 2 → ℕ) (inb) (f : S512x128.Idx → Elt F .f32) (w : S1x16.Idx → Elt F .f32) (a : Fin 512)
    (h0 : off 0 = a.val) (h1 : off 1 = 0) (x : S512x128.Idx) (hx : (x 0).val ≠ a.val ∨ 16 ≤ (x 1).val) :
    ((m9).access (Rect.unit (s := S512x128) off S1x16.size inb)).write (Elt F) f w Finset.univ x = f x := by
  refine View.write_of_not_mem _ _ _ ?_
  rw [View.setOn_univ, show ((m9).access (Rect.unit (s := S512x128) off S1x16.size inb)).set = _ from View.set_slice_whole cc0_scratch3 _,
    Rect.mem_set_unit]
  intro hm
  have h := hm 0
  have h' := hm 1
  rw [h0] at h
  rw [h1] at h'
  have : S1x16.size 0 = 1 := rfl
  have : S1x16.size 1 = 16 := rfl
  omega

end Cert.KernelIdeal.Ball
-- ==== Proof.IRow.lean ====
/-
  One row of the index list: the scan of the points in chunks of sixteen, and the fill of the row's 64 slots; then all
  64 rows of a task.
-/
module

public import proofs.«01_k».proof.Proof.IBase

@[expose] public section

noncomputable section

namespace Cert.KernelIdeal.Ball

open Cert.KernelIdeal Cert.KernelIdeal.Gen Cert.Ball
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The SparseCore and the tile of a pair. -/
abbrev coreOf (L : grid0.Coords) : Fin τ.nSC := (L 0).castLE hcore0
abbrev tileOf (L : grid0.Coords) : Fin τ.nSub := (L 1).castLE hsub0
/-- A pair's number: the block of centroids and of output rows it works on. -/
def wOf (L : grid0.Coords) : ℕ := 2 * (L 1).val + (L 0).val

theorem wOf_lt (L : grid0.Coords) : wOf L < 32 := by
  have h0 : (L 0).val < 2 := (L 0).isLt
  have h1 : (L 1).val < 16 := (L 1).isLt
  unfold wOf; omega

/-- What a task has fetched: its cloud's points and its 64 centroids. -/
structure Fetched (P : SP.Idx → F .f32) (C : SC.Idx → F .f32) (w : ℕ) (hw : w < 32) (f6 : S3x4096.Idx → F .f32) (f7 : S64x16.Idx → F .f32) : Prop where
  pts : ∀ (a : Fin 3) (j : Fin 4096), f6 (ix2 a j) = P (ix3 (⟨w / 8, by omega⟩ : Fin 4) a j)
  cen : ∀ (r : Fin 64) (l : Fin 16), f7 (ix2 r l) = C (ix2 (⟨64 * w + r.val, by omega⟩ : Fin 2048) l)

/-- The hits of a task's centroid `r`. -/
abbrev hitT (P : SP.Idx → F .f32) (C : SC.Idx → F .f32) (w r j : ℕ) : Bool := hit P C (64 * w + r) j

/-- The words of a chunk's trip. -/
theorem trip_of {P : SP.Idx → F .f32} {C : SC.Idx → F .f32} {w : ℕ} {hw : w < 32} {f6 : S3x4096.Idx → F .f32} {f7 : S64x16.Idx → F .f32}
    (hF : Fetched P C w hw f6 f7) (r : Fin k0_t1_loop.trips) (t : Fin k0_t2_loop.trips) (acc : BitVec 32)
    (hacc : acc = BitVec.ofNat 32 (cnt (hitT P C w r.val) (16 * t.val))) :
    Trip (hitT P C w r.val) t.val r.val
      (k0_pay4 (FloatOps.ofBits .f32 0x3D23D70A#32)
        (k0_pay11 (((m7).access (Rect.unit (s := S64x16) (k0_off3 r) S1x16.size (k0_off3_inb r))).read (Elt F) f7))
        (k0_pay12 (((m7).access (Rect.unit (s := S64x16) (k0_off3 r) S1x16.size (k0_off3_inb r))).read (Elt F) f7))
        (k0_pay13 (((m7).access (Rect.unit (s := S64x16) (k0_off3 r) S1x16.size (k0_off3_inb r))).read (Elt F) f7))
        (((m6).access (Rect.unit (s := S3x4096) (k0_off4 t) S1x16.size (k0_off4_inb t))).read (Elt F) f6)
        (((m6).access (Rect.unit (s := S3x4096) (k0_off5 t) S1x16.size (k0_off5_inb t))).read (Elt F) f6)
        (((m6).access (Rect.unit (s := S3x4096) (k0_off6 t) S1x16.size (k0_off6_inb t))).read (Elt F) f6)) acc := by
  have hr := t1_lt r
  have ht := t2_lt t
  refine ⟨ht, hr, fun k => ?_, hacc⟩
  have hj : 16 * t.val + k.val < 4096 := by omega
  have hg : 64 * w + r.val < 2048 := by omega
  rw [pay4_lane, pay11_eq, pay12_eq, pay13_eq,
    read7 (k0_off3 r) (k0_off3_inb r) f7 ⟨r.val, hr⟩ 0 (by rw [k0_off3_eq]; rfl) (by rw [k0_off3_eq]; rfl),
    read7 (k0_off3 r) (k0_off3_inb r) f7 ⟨r.val, hr⟩ 1 (by rw [k0_off3_eq]; rfl) (by rw [k0_off3_eq]; rfl),
    read7 (k0_off3 r) (k0_off3_inb r) f7 ⟨r.val, hr⟩ 2 (by rw [k0_off3_eq]; rfl) (by rw [k0_off3_eq]; rfl),
    read6 (k0_off4 t) (k0_off4_inb t) f6 0 (16 * t.val) k hj (by rw [k0_off4_eq]; rfl) (by rw [k0_off4_eq]; rfl),
    read6 (k0_off5 t) (k0_off5_inb t) f6 1 (16 * t.val) k hj (by rw [k0_off5_eq]; rfl) (by rw [k0_off5_eq]; rfl),
    read6 (k0_off6 t) (k0_off6_inb t) f6 2 (16 * t.val) k hj (by rw [k0_off6_eq]; rfl) (by rw [k0_off6_eq]; rfl),
    hF.pts, hF.pts, hF.pts, hF.cen, hF.cen, hF.cen]
  unfold hitT hit
  rw [dif_pos ⟨hg, hj⟩]
  unfold hitAt
  have e : (⟨w / 8, by omega⟩ : Fin 4) = ⟨(64 * w + r.val) / 512, by omega⟩ := Fin.ext (by show w / 8 = (64 * w + r.val) / 512; omega)
  rw [beq_iff_eq, e]

section Wp

variable (d : Dev nD) (L : grid0.Coords)

/-- The thread of a task. -/
abbrev thr (d : Dev nD) (L : grid0.Coords) : Thread nD τ := V d (coreOf L) (tileOf L)

/-- The task's fetched points and centroids, and the index list with the rows below `r` finished and row `r`'s hits
    below `n` in place. -/
def rowInv (P : SP.Idx → F .f32) (C : SC.Idx → F .f32) (f6 : S3x4096.Idx → F .f32) (f7 : S64x16.Idx → F .f32) (r n : ℕ) : sProp 𝕄 :=
  iprop(((thr d L).loc cc0_scratch0 ↦{fullShare} f6) ∗ ((thr d L).loc cc0_scratch1 ↦{fullShare} f7)
    ∗ ∃ f8 : S4096.Idx → BitVec 32, ⌜Done (hitT P C (wOf L)) (wOf L / 8 * 4096) r f8 ∧ Filled (hitT P C (wOf L)) (wOf L / 8 * 4096) r n f8⌝
      ∗ (thr d L).loc cc0_scratch2 ↦{fullShare} f8)

/-- An indexed store into the index list. -/
theorem wp_scatter {n : Fin 1 → ℕ} {idxs : Fin 1 → IVec ⟨1, n⟩ 32} {v : IVec ⟨1, n⟩ 32} {mask : IVec ⟨1, n⟩ 1}
    {h : ∀ a x, (idxs a x).toNat < S4096.size a} {hs : ((m8).access (.whole S4096)).Stores Finset.univ} {α : Type}
    {k : PUnit → Prog (TpuEff nD τ sig (Elt F) Λ₀ (thr d L).2) α} {Q : α → sProp 𝕄} {f : S4096.Idx → BitVec 32} :
    ((thr d L).loc cc0_scratch2 ↦{fullShare} f : sProp 𝕄)
      ⊢ iprop((((thr d L).loc cc0_scratch2 ↦{fullShare} storeIdx (F := F) (e := .i32) f idxs v mask false h)
          -∗ wp frame (wpE (defs₀ (F := F)) 𝒱₀ (thr d L) none) Set.univ (k ⟨⟩) Q)
        -∗ wp frame (wpE (defs₀ (F := F)) 𝒱₀ (thr d L) none) Set.univ
          (SparseCore.vectorStoreIdx (p := (thr d L).2) m8 idxs v mask false h hs >>= k) Q) := by
  have H := SparseCore.wp_vectorStoreIdx (U := UU) (Ix := HIx 1) (Name := ℕ) (Lvl := ℕ) 𝒱₀ (thr d L) none Set.univ (base := Memref.whole cc0_scratch2) (idxs := idxs) (v := v) (mask := mask) (add := false) (h := h)
    (hs := hs) (k := k) (Q := Q) (f := f) (defs := defs₀ (F := F))
  rw [Memref.set_access_whole, Memref.write_access_whole_univ, Memref.read_access_whole] at H
  exact H

set_option maxHeartbeats 4000000 in
/-- One chunk of the scan. -/
theorem chunk_wp {P : SP.Idx → F .f32} {C : SC.Idx → F .f32} {f6 : S3x4096.Idx → F .f32} {f7 : S64x16.Idx → F .f32}
    (hF : Fetched P C (wOf L) (wOf_lt L) f6 f7) (r : Fin k0_t1_loop.trips) (t : Fin k0_t2_loop.trips) (acc : BitVec 32)
    (hacc : acc = BitVec.ofNat 32 (cnt (hitT P C (wOf L) r.val) (16 * t.val))) :
    rowInv d L P C f6 f7 r.val (16 * t.val)
      ⊢ wp frame (wpE (defs₀ (F := F)) 𝒱₀ (thr d L) none) Set.univ
          (k0_t2_body L pV (Memref.isWhole_whole _) cV (Memref.isWhole_whole _) tV (Memref.isWhole_whole _) oV (Memref.isWhole_whole _)
            m6 (Memref.isWhole_whole _) m7 (Memref.isWhole_whole _) m8 (Memref.isWhole_whole _) m9 (Memref.isWhole_whole _)
            cc0_scratch4 cc0_scoped0 cc0_scoped1 cc0_scoped2 (BitVec.ofNat 32 (wOf L / 8 * 4096))
            (iota .scVector S16 32 [0] iota_S16_d0_w32_scVector) (FloatOps.ofBits .f32 0x3D23D70A#32) 0#32 1#32 r (BitVec.ofNat 32 r.val)
            (((m7).access (Rect.unit (s := S64x16) (k0_off3 r) S1x16.size (k0_off3_inb r))).read (Elt F) f7) t acc)
          fun acc' => iprop(⌜acc' = BitVec.ofNat 32 (cnt (hitT P C (wOf L) r.val) (16 * (t.val + 1)))⌝ ∗ rowInv d L P C f6 f7 r.val (16 * (t.val + 1))) := by
  have H := trip_of hF r t acc hacc
  unfold k0_t2_body rowInv
  simp only [k0_part1_eq_skeleton]
  unfold k0_part1_skel
  simp only [bind_assoc, pure_bind]
  iintro ⟨H6, H7, %f8, %h8, H8⟩
  iapply (wp_load_rect 𝒱₀ (thr d L) none Set.univ (m := m6) (r := Rect.unit (s := S3x4096) (k0_off4 t) S1x16.size (k0_off4_inb t)) (Finset.subset_univ _)) $$ H6; iintro H6
  iapply (wp_load_rect 𝒱₀ (thr d L) none Set.univ (m := m6) (r := Rect.unit (s := S3x4096) (k0_off5 t) S1x16.size (k0_off5_inb t)) (Finset.subset_univ _)) $$ H6; iintro H6
  iapply (wp_load_rect 𝒱₀ (thr d L) none Set.univ (m := m6) (r := Rect.unit (s := S3x4096) (k0_off6 t) S1x16.size (k0_off6_inb t)) (Finset.subset_univ _)) $$ H6; iintro H6
  iapply (wp_assume 𝒱₀ (thr d L) none Set.univ (slot_inb H))
  iapply (wp_scatter d L) $$ H8; iintro H8
  rw [show (pure : BitVec 32 → Prog _ _) = .ret from rfl, wp_ret]
  imodintro
  isplitr
  · ipureintro
    exact acc_lane H
  isplitl [H6]; · iexact H6
  isplitl [H7]; · iexact H7
  iexists _
  isplitr
  rotate_left
  · iexact H8
  ipureintro
  exact Trip.store H f8 _ _ _ (mask_lane H) (slot_lane H) (fun k => pos_lane _ _ k t rfl) _ h8.1 h8.2

/-- Sixteen slots of row `r` finished: the scanned slots kept, the others given the row's first hit. -/
theorem fill_store {hit : ℕ → ℕ → Bool} {base r : ℕ} (i : Fin 4) (hr : r < 64) (hne : ∃ j, j < 4096 ∧ hit r j = true)
    (off : Fin 1 → ℕ) (inb) (h0 : off 0 = 64 * r + 16 * i.val) (f : S4096.Idx → BitVec 32) (v : BitVec 32) (w : S16.Idx → BitVec 32)
    (hd : Done hit base r f) (hp : Part hit base r (16 * i.val) f) (hv : v = BitVec.ofNat 32 (base + sel (hit r) 0))
    (hw : ∀ k : Fin 16, w (ix1 k) = if 16 * i.val + k.val < min (cnt (hit r) 4096) 64
      then ((m8).access (Rect.unit (s := S4096) off S16.size inb)).read (Elt F) f (ix1 k) else v) :
    Done hit base r (((m8).access (Rect.unit (s := S4096) off S16.size inb)).write (Elt F) f w Finset.univ)
      ∧ Part hit base r (16 * i.val + 16) (((m8).access (Rect.unit (s := S4096) off S16.size inb)).write (Elt F) f w Finset.univ) := by
  refine Part.store hne (by omega) hd hp ?_ ?_
  · intro x hx
    exact write8_out off inb f w _ h0 x hx
  · intro x k hx
    have e : x = ix1 (⟨64 * r + 16 * i.val + k.val, by omega⟩ : Fin 4096) := by
      funext a; match a with | ⟨0, _⟩ => exact Fin.ext hx
    rw [write8_in off inb f w _ h0 x k hx, hw, read8 off inb f _ k (by omega) h0, ← e, hv]

set_option maxHeartbeats 8000000 in
/-- One row of the index list. -/
theorem row_wp {P : SP.Idx → F .f32} {C : SC.Idx → F .f32} {f6 : S3x4096.Idx → F .f32} {f7 : S64x16.Idx → F .f32}
    (hN : Nonempty P C) (hF : Fetched P C (wOf L) (wOf_lt L) f6 f7) (r : Fin k0_t1_loop.trips) (u : PUnit) :
    rowInv d L P C f6 f7 r.val 0
      ⊢ wp frame (wpE (defs₀ (F := F)) 𝒱₀ (thr d L) none) Set.univ
          (k0_t1_body L pV (Memref.isWhole_whole _) cV (Memref.isWhole_whole _) tV (Memref.isWhole_whole _) oV (Memref.isWhole_whole _)
            m6 (Memref.isWhole_whole _) m7 (Memref.isWhole_whole _) m8 (Memref.isWhole_whole _) m9 (Memref.isWhole_whole _)
            cc0_scratch4 cc0_scoped0 cc0_scoped1 cc0_scoped2 (BitVec.ofNat 32 (wOf L / 8 * 4096))
            (iota .scVector S16 32 [0] iota_S16_d0_w32_scVector) (FloatOps.ofBits .f32 0x3D23D70A#32) r u)
          fun _ => rowInv d L P C f6 f7 (r.val + 1) 0 := by
  have hr := t1_lt r
  unfold k0_t1_body
  simp only [k0_part2_eq_skeleton]
  unfold k0_part2_skel
  simp only [bind_assoc, pure_bind, iv01]
  iintro H
  unfold rowInv
  icases H with ⟨H6, H7, %f8, %h8, H8⟩
  iapply (wp_load_rect 𝒱₀ (thr d L) none Set.univ (m := m7) (r := Rect.unit (s := S64x16) (k0_off3 r) S1x16.size (k0_off3_inb r)) (Finset.subset_univ _)) $$ H7; iintro H7
  iapply (Scf.wp_for_bind frame (wpE (defs₀ (F := F)) 𝒱₀ (thr d L) none) Set.univ _ _ _ k0_t2_ok _ _
      (fun k acc => iprop(⌜acc = BitVec.ofNat 32 (cnt (hitT P C (wOf L) r.val) (16 * k))⌝ ∗ rowInv d L P C f6 f7 r.val (16 * k))) ?trip) $$ [H6 H7 H8]
  · intro t acc
    iintro ⟨%hacc, H⟩
    iapply (chunk_wp d L hF r t acc hacc) $$ H
  · isplitr; · ipureintro; rfl
    unfold rowInv
    isplitl [H6]; · iexact H6
    isplitl [H7]; · iexact H7
    iexists f8; isplitr; · ipureintro; exact h8
    iexact H8
  iintro %acc ⟨%hacc, H⟩
  have e2 : Scf.trips k0_t2_loop.lb k0_t2_loop.ub k0_t2_loop.st = 256 := trips2
  rw [e2] at hacc
  subst hacc
  rw [e2]
  unfold rowInv
  icases H with ⟨H6, H7, %g, %hg, H8⟩
  have hne : ∃ j, j < 4096 ∧ hitT P C (wOf L) r.val j = true := hN _ (by have := wOf_lt L; omega)
  have hv : ((m8).access (Rect.unit (s := S4096) (k0_off7 r) S16.size (k0_off7_inb r))).read (Elt F) g (ix1 (0 : Fin 16))
      = BitVec.ofNat 32 (wOf L / 8 * 4096 + sel (hitT P C (wOf L) r.val) 0) := by
    rw [read8 _ (k0_off7_inb r) g (64 * r.val) 0 (by show 64 * r.val + 0 < 4096; omega) (by rw [k0_off7_eq]; rfl)]
    exact hg.2.part _ 0 (by decide) (.inr (let ⟨_, h1, h2⟩ := hne; cnt_pos_of_hit _ h2 h1)) rfl
  have o : ∀ i : Fin 4, k0_off8 r (BitVec.ofNat 32 (16 * i.val)) 0 = 64 * r.val + 16 * i.val := fun i => by rw [k0_off8_eq]; rfl
  obtain ⟨d0, p0⟩ := fill_store (F := F) 0 hr hne _ (k0_off8_inb r 0) (o 0) g _ _ hg.1 hg.2.part hv (pay16_lane _ _)
  obtain ⟨d1, p1⟩ := fill_store (F := F) 1 hr hne _ (k0_off8_inb r 1) (o 1) _ _ _ d0 p0 hv (pay17_lane _ _)
  obtain ⟨d2, p2⟩ := fill_store (F := F) 2 hr hne _ (k0_off8_inb r 2) (o 2) _ _ _ d1 p1 hv (pay1_lane _ _)
  obtain ⟨d3, p3⟩ := fill_store (F := F) 3 hr hne _ (k0_off8_inb r 3) (o 3) _ _ _ d2 p2 hv (pay2_lane _ _)
  iapply (wp_load_rect 𝒱₀ (thr d L) none Set.univ (m := m8) (r := Rect.unit (s := S4096) (k0_off7 r) S16.size (k0_off7_inb r)) (Finset.subset_univ _)) $$ H8; iintro H8
  iapply (wp_load_rect 𝒱₀ (thr d L) none Set.univ (m := m8) (r := Rect.unit (s := S4096) (k0_off8 r 0#32) S16.size (k0_off8_inb r 0)) (Finset.subset_univ _)) $$ H8; iintro H8
  iapply (wp_load_rect 𝒱₀ (thr d L) none Set.univ (m := m8) (r := Rect.unit (s := S4096) (k0_off8 r 0#32) S16.size (k0_off8_inb r 0)) (Finset.subset_univ _)) $$ H8; iintro H8
  iapply (wp_store 𝒱₀ (thr d L) none Set.univ (m := m8) (r := Rect.unit (s := S4096) (k0_off8 r 0#32) S16.size (k0_off8_inb r 0)) (Mk := Finset.univ) (Finset.subset_univ _)) $$ H8; iintro H8
  iapply (wp_load_rect 𝒱₀ (thr d L) none Set.univ (m := m8) (r := Rect.unit (s := S4096) (k0_off8 r 16#32) S16.size (k0_off8_inb r 1)) (Finset.subset_univ _)) $$ H8; iintro H8
  iapply (wp_load_rect 𝒱₀ (thr d L) none Set.univ (m := m8) (r := Rect.unit (s := S4096) (k0_off8 r 16#32) S16.size (k0_off8_inb r 1)) (Finset.subset_univ _)) $$ H8; iintro H8
  iapply (wp_store 𝒱₀ (thr d L) none Set.univ (m := m8) (r := Rect.unit (s := S4096) (k0_off8 r 16#32) S16.size (k0_off8_inb r 1)) (Mk := Finset.univ) (Finset.subset_univ _)) $$ H8; iintro H8
  iapply (wp_load_rect 𝒱₀ (thr d L) none Set.univ (m := m8) (r := Rect.unit (s := S4096) (k0_off8 r 32#32) S16.size (k0_off8_inb r 2)) (Finset.subset_univ _)) $$ H8; iintro H8
  iapply (wp_load_rect 𝒱₀ (thr d L) none Set.univ (m := m8) (r := Rect.unit (s := S4096) (k0_off8 r 32#32) S16.size (k0_off8_inb r 2)) (Finset.subset_univ _)) $$ H8; iintro H8
  iapply (wp_store 𝒱₀ (thr d L) none Set.univ (m := m8) (r := Rect.unit (s := S4096) (k0_off8 r 32#32) S16.size (k0_off8_inb r 2)) (Mk := Finset.univ) (Finset.subset_univ _)) $$ H8; iintro H8
  iapply (wp_load_rect 𝒱₀ (thr d L) none Set.univ (m := m8) (r := Rect.unit (s := S4096) (k0_off8 r 48#32) S16.size (k0_off8_inb r 3)) (Finset.subset_univ _)) $$ H8; iintro H8
  iapply (wp_load_rect 𝒱₀ (thr d L) none Set.univ (m := m8) (r := Rect.unit (s := S4096) (k0_off8 r 48#32) S16.size (k0_off8_inb r 3)) (Finset.subset_univ _)) $$ H8; iintro H8
  iapply (wp_store 𝒱₀ (thr d L) none Set.univ (m := m8) (r := Rect.unit (s := S4096) (k0_off8 r 48#32) S16.size (k0_off8_inb r 3)) (Mk := Finset.univ) (Finset.subset_univ _)) $$ H8; iintro H8
  dsimp only [Prog.bind]
  rw [show (Pure.pure PUnit.unit : Prog _ PUnit) = .ret PUnit.unit from rfl, wp_ret]
  imodintro
  isplitl [H6]; · iexact H6
  isplitl [H7]; · iexact H7
  iexists _
  isplitr
  rotate_left
  · iexact H8
  ipureintro
  exact ⟨d3.succ p3, fun _ _ h => absurd h (Nat.not_lt_zero _)⟩

end Wp

end Cert.KernelIdeal.Ball
-- ==== Proof.IShift.lean ====
/-
  The shift of a gathered block: the centroid taken off the first three columns of each row.
-/
module

public import proofs.«01_k».proof.Proof.IRow

@[expose] public section

noncomputable section

namespace Cert.KernelIdeal.Ball

open Cert.KernelIdeal Cert.KernelIdeal.Gen Cert.Ball
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A gathered block `G` with its first `n` rows shifted: 64 rows to a centroid, the first of them `g`. -/
def Shifted (C : SC.Idx → F .f32) (G : S512x128.Idx → F .f32) (g n : ℕ) (hg : g + 8 ≤ 2048) (f : S512x128.Idx → F .f32) : Prop :=
  ∀ (a : Fin 512) (l : Fin 128), f (ix2 a l)
    = if a.val < n then cell C ⟨g + a.val / 64, by omega⟩ l (G (ix2 a l)) else G (ix2 a l)

section Wp

variable (d : Dev nD) (L : grid0.Coords)

/-- The centroids and a block with its first `n` rows shifted. -/
def shiftInv (C : SC.Idx → F .f32) (G : S512x128.Idx → F .f32) (f7 : S64x16.Idx → F .f32) (g n : ℕ) (hg : g + 8 ≤ 2048) : sProp 𝕄 :=
  iprop(((thr d L).loc cc0_scratch1 ↦{fullShare} f7)
    ∗ ∃ f9 : S512x128.Idx → F .f32, ⌜Shifted C G g n hg f9⌝ ∗ (thr d L).loc cc0_scratch3 ↦{fullShare} f9)

set_option maxHeartbeats 4000000 in
/-- One row of the block. -/
theorem shift_row_wp {C : SC.Idx → F .f32} {G : S512x128.Idx → F .f32} {f7 : S64x16.Idx → F .f32} {g : ℕ} {hg : g + 8 ≤ 2048}
    (q : Fin k0_t4_loop.trips) (k : Fin k0_t5_loop.trips) (u : PUnit) (v36 : Vec F S1x16 .f32)
    (hv : ∀ l : Fin 16, v36 (ix2 (0 : Fin 1) l) = C (ix2 (⟨g + q.val, by have := t4_lt q; omega⟩ : Fin 2048) l)) :
    shiftInv d L C G f7 g (64 * q.val + k.val) hg
      ⊢ wp frame (wpE (defs₀ (F := F)) 𝒱₀ (thr d L) none) Set.univ
          (k0_t5_body L pV (Memref.isWhole_whole _) cV (Memref.isWhole_whole _) tV (Memref.isWhole_whole _) oV (Memref.isWhole_whole _)
            m6 (Memref.isWhole_whole _) m7 (Memref.isWhole_whole _) m8 (Memref.isWhole_whole _) m9 (Memref.isWhole_whole _)
            cc0_scratch4 cc0_scoped0 cc0_scoped1 cc0_scoped2 q v36 k u)
          fun _ => shiftInv d L C G f7 g (64 * q.val + k.val + 1) hg := by
  have hq := t4_lt q
  have hk := t5_lt k
  unfold k0_t5_body shiftInv
  simp only [bind_assoc, pure_bind]
  iintro ⟨H7, %f9, %h9, H9⟩
  iapply (wp_load_rect 𝒱₀ (thr d L) none Set.univ (m := m9) (r := Rect.unit (s := S512x128) (k0_off11 q k) S1x16.size (k0_off11_inb q k)) (Finset.subset_univ _)) $$ H9; iintro H9
  iapply (wp_load_rect 𝒱₀ (thr d L) none Set.univ (m := m9) (r := Rect.unit (s := S512x128) (k0_off11 q k) S1x16.size (k0_off11_inb q k)) (Finset.subset_univ _)) $$ H9; iintro H9
  iapply (wp_store 𝒱₀ (thr d L) none Set.univ (m := m9) (r := Rect.unit (s := S512x128) (k0_off11 q k) S1x16.size (k0_off11_inb q k)) (Mk := Finset.univ) (Finset.subset_univ _)) $$ H9; iintro H9
  dsimp only [Prog.bind]
  rw [show (Pure.pure PUnit.unit : Prog _ PUnit) = .ret PUnit.unit from rfl, wp_ret]
  imodintro
  isplitl [H7]; · iexact H7
  iexists _
  isplitr
  rotate_left
  · iexact H9
  ipureintro
  have hlt : 64 * q.val + k.val < 512 := by omega
  have h0 : k0_off11 q k 0 = (⟨64 * q.val + k.val, by omega⟩ : Fin 512).val := by rw [k0_off11_eq]; rfl
  have h1 : k0_off11 q k 1 = 0 := by rw [k0_off11_eq]; rfl
  intro a l
  by_cases ha : a.val = 64 * q.val + k.val
  · obtain rfl : a = ⟨64 * q.val + k.val, hlt⟩ := Fin.ext ha
    have e : (⟨g + (64 * q.val + k.val) / 64, by omega⟩ : Fin 2048) = ⟨g + q.val, by omega⟩ := Fin.ext (by show g + (64 * q.val + k.val) / 64 = g + q.val; omega)
    rw [if_pos (Nat.lt_succ_self _), e]
    have hG : f9 (ix2 (⟨64 * q.val + k.val, hlt⟩ : Fin 512) l) = G (ix2 (⟨64 * q.val + k.val, hlt⟩ : Fin 512) l) := by
      rw [h9, if_neg (Nat.lt_irrefl _)]
    unfold cell
    by_cases hl : l.val < 16
    · rw [dif_pos hl, write9_in (k0_off11 q k) (k0_off11_inb q k) f9 _ _ h0 h1 l hl, castBack, pay3_lane C _ v36 _ hv,
        read9 (k0_off11 q k) (k0_off11_inb q k) f9 _ _ h0 h1]
      exact congrArg (FloatOps.subf · _) hG
    · rw [dif_neg hl, write9_out (k0_off11 q k) (k0_off11_inb q k) f9 _ _ h0 h1 _ (.inr (Nat.le_of_not_lt hl))]
      exact hG
  · rw [write9_out (k0_off11 q k) (k0_off11_inb q k) f9 _ _ h0 h1 _ (.inl ha), h9]
    by_cases hn : a.val < 64 * q.val + k.val
    · rw [if_pos hn, if_pos (by omega)]
    · rw [if_neg hn, if_neg (by omega)]

set_option maxHeartbeats 4000000 in
/-- The 64 rows of one centroid. -/
theorem shift_centroid_wp {P : SP.Idx → F .f32} {C : SC.Idx → F .f32} {G : S512x128.Idx → F .f32} {f6 : S3x4096.Idx → F .f32} {f7 : S64x16.Idx → F .f32}
    (hF : Fetched P C (wOf L) (wOf_lt L) f6 f7) (b : Fin k0_t3_loop.trips) {hg : 64 * wOf L + 8 * b.val + 8 ≤ 2048}
    (q : Fin k0_t4_loop.trips) (u : PUnit) :
    shiftInv d L C G f7 (64 * wOf L + 8 * b.val) (64 * q.val) hg
      ⊢ wp frame (wpE (defs₀ (F := F)) 𝒱₀ (thr d L) none) Set.univ
          (k0_t4_body L pV (Memref.isWhole_whole _) cV (Memref.isWhole_whole _) tV (Memref.isWhole_whole _) oV (Memref.isWhole_whole _)
            m6 (Memref.isWhole_whole _) m7 (Memref.isWhole_whole _) m8 (Memref.isWhole_whole _) m9 (Memref.isWhole_whole _)
            cc0_scratch4 cc0_scoped0 cc0_scoped1 cc0_scoped2 b q u)
          fun _ => shiftInv d L C G f7 (64 * wOf L + 8 * b.val) (64 * (q.val + 1)) hg := by
  have hq := t4_lt q
  have hb := t3_lt b
  unfold k0_t4_body
  simp only [bind_assoc, pure_bind]
  unfold shiftInv
  iintro ⟨H7, H9⟩
  iapply (wp_load_rect 𝒱₀ (thr d L) none Set.univ (m := m7) (r := Rect.unit (s := S64x16) (k0_off10 b q) S1x16.size (k0_off10_inb b q)) (Finset.subset_univ _)) $$ H7; iintro H7
  iapply (Scf.wp_for_bind frame (wpE (defs₀ (F := F)) 𝒱₀ (thr d L) none) Set.univ _ _ _ k0_t5_ok _ _
      (fun k _ => shiftInv d L C G f7 (64 * wOf L + 8 * b.val) (64 * q.val + k) hg) ?trip) $$ [H7 H9]
  · intro k u
    refine shift_row_wp d L q k u _ fun l => ?_
    rw [read7 (k0_off10 b q) (k0_off10_inb b q) f7 ⟨8 * b.val + q.val, by omega⟩ l (by rw [k0_off10_eq]; rfl) (by rw [k0_off10_eq]; rfl), hF.cen]
    congr 2
    exact Fin.ext (by show 64 * wOf L + (8 * b.val + q.val) = 64 * wOf L + 8 * b.val + q.val; omega)
  · unfold shiftInv
    isplitl [H7] <;> iassumption
  iintro %_ H
  have e5 : Scf.trips k0_t5_loop.lb k0_t5_loop.ub k0_t5_loop.st = 64 := trips5
  rw [e5, show (Pure.pure PUnit.unit : Prog _ PUnit) = .ret PUnit.unit from rfl, wp_ret]
  imodintro
  unfold shiftInv
  iexact H

end Wp

end Cert.KernelIdeal.Ball
-- ==== Proof.IBlock.lean ====
/-
  One block of 512 output rows: the table's rows gathered by the index list, shifted, and written out.
-/
module

public import proofs.«01_k».proof.Proof.IShift

@[expose] public section

noncomputable section

namespace Cert.KernelIdeal.Ball

open Cert.KernelIdeal Cert.KernelIdeal.Gen Cert.Ball
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The arrays the call works on, as the TensorCore names them. -/
abbrev pLoc (d : Dev nD) : Loc nD τ sig := (SparseCore.T d).loc main_v0
abbrev cLoc (d : Dev nD) : Loc nD τ sig := (SparseCore.T d).loc main_v2
abbrev tLoc (d : Dev nD) : Loc nD τ sig := (SparseCore.T d).loc main_v4
abbrev oLoc (d : Dev nD) : Loc nD τ sig := (SparseCore.T d).loc main_v5

/-- The output rows of task `w`. -/
def rowsOf (w : ℕ) : Finset SO.Idx := Finset.univ.filter fun x => (x 0).val / 4096 = w

theorem mem_rowsOf (w : ℕ) (x : SO.Idx) : x ∈ rowsOf w ↔ (x 0).val / 4096 = w := by
  unfold rowsOf; rw [Finset.mem_filter]; exact ⟨fun h => h.2, fun h => ⟨Finset.mem_univ _, h⟩⟩

/-- The block the list's eight rows from centroid `g` name. -/
def blockG (P : SP.Idx → F .f32) (C : SC.Idx → F .f32) (T : ST.Idx → F .f32) (g : ℕ) : S512x128.Idx → F .f32 := fun y =>
  T (ix2 (⟨rowOf P C (g + (y 0).val / 64) ((y 0).val % 64) % 16384, Nat.mod_lt _ (by decide)⟩ : Fin 16384) (y 1))

/-- A finished list's entry. -/
theorem list_at {P : SP.Idx → F .f32} {C : SC.Idx → F .f32} {w : ℕ} {f8 : S4096.Idx → BitVec 32} (hw : w < 32)
    (hd : Done (hitT P C w) (w / 8 * 4096) 64 f8) (r : ℕ) (hr : r < 4096) :
    f8 (ix1 (⟨r, hr⟩ : Fin 4096)) = BitVec.ofNat 32 (rowOf P C (64 * w + r / 64) (r % 64)) := by
  rw [hd (ix1 (⟨r, hr⟩ : Fin 4096)) (r / 64) (r % 64) (by omega) (Nat.mod_lt _ (by decide)) (by show r = _; omega)]
  unfold rowOf hitT
  rw [show (64 * w + r / 64) / 512 = w / 8 by omega]

theorem list_toNat {P : SP.Idx → F .f32} {C : SC.Idx → F .f32} {w : ℕ} {f8 : S4096.Idx → BitVec 32} (hw : w < 32) (hN : Nonempty P C)
    (hd : Done (hitT P C w) (w / 8 * 4096) 64 f8) (r : ℕ) (hr : r < 4096) :
    (f8 (ix1 (⟨r, hr⟩ : Fin 4096))).toNat = rowOf P C (64 * w + r / 64) (r % 64) ∧ rowOf P C (64 * w + r / 64) (r % 64) < 16384 := by
  have h := rowOf_lt hN (g := 64 * w + r / 64) (k := r % 64) (by omega)
  rw [list_at hw hd r hr, BitVec.toNat_ofNat]
  exact ⟨Nat.mod_eq_of_lt (by omega), h⟩

/-- The stretch of the list a block is gathered by, and the table, as a task names them. -/
abbrev listK (b : Fin k0_t3_loop.trips) : Memref sig .scVector .vmem S512 .i32 :=
  (m8).slice (Rect.unit (s := S4096) (k0_off9 b) S512.size (k0_off9_inb b)) (fun _ => rfl)
abbrev tableK : Memref sig .scVector .hbm S16384x128 .f32 :=
  (tV).slice (Rect.unit (s := S16384x128) ![0, 0] S16384x128.size inb_S16384x128_S16384x128_0_0) (fun _ => rfl)
abbrev outK (L : grid0.Coords) (b : Fin k0_t3_loop.trips) : Memref sig .scVector .hbm S512x128 .f32 :=
  (oV).slice (Rect.unit (s := S131072x128) (k0_off12 L b) S512x128.size (k0_off12_inb L b)) (fun _ => rfl)

theorem read_list (b : Fin k0_t3_loop.trips) (f8 : S4096.Idx → BitVec 32) (x : S512.Idx) :
    (listK b).view.read (Elt F) f8 x = f8 (ix1 (⟨512 * b.val + (x 0).val, by have := t3_lt b; have := (x 0).isLt; change (x 0).val < 512 at this; omega⟩ : Fin 4096)) := by
  rw [View.read_apply]
  refine (cast_eq _ _).trans (congrArg f8 ?_)
  funext a
  match a with
  | ⟨0, _⟩ => exact Fin.ext ((ValueKit.rect_emb_unit_val (s := S4096) (k0_off9 b) S512.size (k0_off9_inb b) x 0).trans (congrArg (· + (x 0).val) (by rw [k0_off9_eq]; rfl)))

theorem read_table (T : ST.Idx → F .f32) (x : S16384x128.Idx) : (tableK).view.read (Elt F) T x = T x := by
  rw [View.read_apply]
  refine (cast_eq _ _).trans (congrArg T ?_)
  funext a
  match a with
  | ⟨0, _⟩ => exact Fin.ext ((ValueKit.rect_emb_unit_val (s := S16384x128) ![0, 0] S16384x128.size inb_S16384x128_S16384x128_0_0 x 0).trans (Nat.zero_add _))
  | ⟨1, _⟩ => exact Fin.ext ((ValueKit.rect_emb_unit_val (s := S16384x128) ![0, 0] S16384x128.size inb_S16384x128_S16384x128_0_0 x 1).trans (Nat.zero_add _))

theorem list_inb {P : SP.Idx → F .f32} {C : SC.Idx → F .f32} {w : ℕ} {f8 : S4096.Idx → BitVec 32} (hw : w < 32) (hN : Nonempty P C)
    (hd : Done (hitT P C w) (w / 8 * 4096) 64 f8) (b : Fin k0_t3_loop.trips) (x : S512.Idx) :
    ((listK b).view.read (Elt F) f8 x).toNat < S16384x128.size gathers_S16384x128_S512x128.axis := by
  rw [read_list]
  obtain ⟨h1, h2⟩ := list_toNat hw hN hd _ (by have := t3_lt b; have := (x 0).isLt; change (x 0).val < 512 at this; show 512 * b.val + (x 0).val < 4096; omega)
  rw [h1]; exact h2

/-- What the gather delivers. -/
theorem gathered {P : SP.Idx → F .f32} {C : SC.Idx → F .f32} {T : ST.Idx → F .f32} {w : ℕ} {f8 : S4096.Idx → BitVec 32} (hw : w < 32) (hN : Nonempty P C)
    (hd : Done (hitT P C w) (w / 8 * 4096) 64 f8) (b : Fin k0_t3_loop.trips) (hn) :
    SparseCore.gatherPayload gathers_S16384x128_S512x128 ((tableK).view.read (Elt F) T)
        (SparseCore.rows ((listK b).view.read (Elt F) f8) hn (list_inb hw hN hd b))
      = blockG P C T (64 * w + 8 * b.val) := by
  funext y
  have hb := t3_lt b
  have hy : (y 0).val < 512 := (y 0).isLt
  obtain ⟨h1, h2⟩ := list_toNat hw hN hd (512 * b.val + (y 0).val) (by omega)
  show (tableK).view.read (Elt F) T _ = _
  rw [read_table]
  unfold blockG
  congr 1
  funext a
  match a with
  | ⟨0, _⟩ =>
    refine (Shape.Gathers.idx_axis _ _ _).trans (Fin.ext ?_)
    show ((listK b).view.read (Elt F) f8 _).toNat = _
    rw [read_list]
    have e : ∀ n : Fin S512.numel, (S512.rowMajor.symm n 0).val = n.val := fun n => by
      have h := Shape.rowMajor_val_one (S512.rowMajor.symm n)
      rw [Equiv.apply_symm_apply] at h
      exact h.symm
    have e1 : ∀ (n : Fin S512.numel) (hn' : n.val = (y 0).val) (h : 512 * b.val + (S512.rowMajor.symm n 0).val < 4096),
        (⟨512 * b.val + (S512.rowMajor.symm n 0).val, h⟩ : Fin 4096) = ⟨512 * b.val + (y 0).val, by omega⟩ :=
      fun n hn' h => Fin.ext (by show 512 * b.val + (S512.rowMajor.symm n 0).val = 512 * b.val + (y 0).val; rw [e, hn'])
    refine (congrArg (fun r => (f8 (ix1 r)).toNat) (e1 _ rfl _)).trans (h1.trans ?_)
    show _ = rowOf P C (64 * w + 8 * b.val + (y 0).val / 64) ((y 0).val % 64) % 16384
    have e2 : 64 * w + (512 * b.val + (y 0).val) / 64 = 64 * w + 8 * b.val + (y 0).val / 64 := by omega
    have e3 : (512 * b.val + (y 0).val) % 64 = (y 0).val % 64 := by omega
    rw [e2, e3] at h2 ⊢
    exact (Nat.mod_eq_of_lt h2).symm
  | ⟨1, _⟩ => exact Fin.ext ((Shape.Gathers.idx_of_ne gathers_S16384x128_S512x128 _ y (1 : Fin 2) (by decide)).trans rfl)

/-- Where a block lies in the output. -/
theorem emb_out0 (L : grid0.Coords) (b : Fin k0_t3_loop.trips) (y : S512x128.Idx) :
    ((outK L b).view.emb y 0).val = 4096 * wOf L + 512 * b.val + (y 0).val := by
  refine (ValueKit.rect_emb_unit_val (s := S131072x128) (k0_off12 L b) S512x128.size (k0_off12_inb L b) y 0).trans (congrArg (· + (y 0).val) ?_)
  rw [k0_off12_eq]
  show 8192 * (L 1).val + 4096 * (L 0).val + 512 * b.val = _
  unfold wOf; omega

theorem emb_out1 (L : grid0.Coords) (b : Fin k0_t3_loop.trips) (y : S512x128.Idx) :
    (outK L b).view.emb y 1 = y 1 := by
  refine Fin.ext ((ValueKit.rect_emb_unit_val (s := S131072x128) (k0_off12 L b) S512x128.size (k0_off12_inb L b) y 1).trans ?_)
  rw [show k0_off12 L b 1 = 0 by rw [k0_off12_eq]; rfl]
  exact Nat.zero_add _

theorem mem_outK (L : grid0.Coords) (b : Fin k0_t3_loop.trips) (x : SO.Idx) :
    x ∈ (outK L b).view.set ↔ 4096 * wOf L + 512 * b.val ≤ (x 0).val ∧ (x 0).val < 4096 * wOf L + 512 * b.val + 512 := by
  have h0 : k0_off12 L b 0 = 4096 * wOf L + 512 * b.val := by
    rw [k0_off12_eq]
    show 8192 * (L 1).val + 4096 * (L 0).val + 512 * b.val = _
    unfold wOf; omega
  have h1 : k0_off12 L b 1 = 0 := by rw [k0_off12_eq]; rfl
  rw [show (outK L b).view.set = _ from View.set_slice_whole main_v5_scv _, Rect.mem_set_unit]
  constructor
  · intro h
    have := h 0
    rw [h0] at this
    exact this
  · intro h a
    match a with
    | ⟨0, _⟩ => show k0_off12 L b 0 ≤ (x 0).val ∧ (x 0).val < k0_off12 L b 0 + 512; rw [h0]; exact h
    | ⟨1, _⟩ => show k0_off12 L b 1 ≤ (x 1).val ∧ (x 1).val < k0_off12 L b 1 + 128; rw [h1]; exact ⟨Nat.zero_le _, by have := idx2_lt1 x; omega⟩

theorem outK_subset (L : grid0.Coords) (b : Fin k0_t3_loop.trips) : (outK L b).view.set ⊆ rowsOf (wOf L) := by
  intro x hx
  have h := (mem_outK L b x).1 hx
  have hb := t3_lt b
  rw [mem_rowsOf]; omega

/-- The output rows of task `w` below its `n`-th are the specification's. -/
def Out (P : SP.Idx → F .f32) (C : SC.Idx → F .f32) (T : ST.Idx → F .f32) (w n : ℕ) (f : SO.Idx → F .f32) : Prop :=
  ∀ x : SO.Idx, (x 0).val / 4096 = w → (x 0).val % 4096 < n → f x = out P C T x

/-- Writing a shifted block out extends the finished rows. -/
theorem Out.step {P : SP.Idx → F .f32} {C : SC.Idx → F .f32} {T : ST.Idx → F .f32} {L : grid0.Coords} (b : Fin k0_t3_loop.trips) {hg : 64 * wOf L + 8 * b.val + 8 ≤ 2048}
    {f : SO.Idx → F .f32} {f9 : S512x128.Idx → F .f32} (hf : Out P C T (wOf L) (512 * b.val) f)
    (h9 : Shifted C (blockG P C T (64 * wOf L + 8 * b.val)) (64 * wOf L + 8 * b.val) 512 hg f9) :
    Out P C T (wOf L) (512 * (b.val + 1)) ((outK L b).view.write (Elt F) f f9 Finset.univ) := by
  intro x hx hn
  by_cases hm : x ∈ (outK L b).view.set
  · obtain ⟨y, -, rfl⟩ := Finset.mem_map.1 hm
    rw [View.write_emb, if_pos (Finset.mem_univ _)]
    refine (cast_eq _ _).trans ?_
    have hy : y = ix2 (y 0) (y 1) := eq_ix2 y
    have hy0 : (y 0).val < 512 := (y 0).isLt
    have hb := t3_lt b
    have hw := wOf_lt L
    have e0 := emb_out0 L b y
    have e1 := emb_out1 L b y
    refine (congrArg f9 hy).trans ((h9 (y 0) (y 1)).trans ?_)
    rw [if_pos hy0]
    unfold out blockG
    have d1 : ((outK L b).view.emb y 0).val / 64 = 64 * wOf L + 8 * b.val + (y 0).val / 64 := by rw [e0]; omega
    have d2 : ((outK L b).view.emb y 0).val % 64 = (y 0).val % 64 := by rw [e0]; omega
    have c1 : ∀ h, (⟨((outK L b).view.emb y 0).val / 64, h⟩ : Fin 2048) = ⟨64 * wOf L + 8 * b.val + (y 0).val / 64, by omega⟩ := fun h => Fin.ext d1
    have c2 : ∀ h, (⟨rowOf P C (((outK L b).view.emb y 0).val / 64) (((outK L b).view.emb y 0).val % 64) % 16384, h⟩ : Fin 16384)
        = ⟨rowOf P C (64 * wOf L + 8 * b.val + (y 0).val / 64) ((y 0).val % 64) % 16384, Nat.mod_lt _ (by decide)⟩ :=
      fun h => Fin.ext (by show rowOf P C _ _ % 16384 = _; rw [d1, d2])
    rw [c1, c2, e1]
  · have hw := View.write_of_not_mem (Val := Elt F) (v := (outK L b).view) f f9 Finset.univ (i := x) (by rw [View.setOn_univ]; exact hm)
    rw [hw]
    refine hf x hx ?_
    rw [mem_outK] at hm
    omega

section Wp

variable (d : Dev nD) (L : grid0.Coords)

abbrev cellI (d : Dev nD) (L : grid0.Coords) : GSem nD τ sig := (thr d L, .dma cc0_scratch4.sem)
abbrev cellA (d : Dev nD) (L : grid0.Coords) : GSem nD τ sig := (thr d L, .dma cc0_scoped0.sem)
abbrev cellB (d : Dev nD) (L : grid0.Coords) : GSem nD τ sig := (thr d L, .dma cc0_scoped1.sem)
abbrev cellC (d : Dev nD) (L : grid0.Coords) : GSem nD τ sig := (thr d L, .dma cc0_scoped2.sem)

/-- After `n` blocks: the finished list, the table's share, the first rows of the output, the cells at zero. -/
def blockInv (P : SP.Idx → F .f32) (C : SC.Idx → F .f32) (T : ST.Idx → F .f32) (q : PosShare TreeShare) (f7 : S64x16.Idx → F .f32) (f8 : S4096.Idx → BitVec 32)
    (O : CellTallies nD τ sig (HIx 1)) (W : Waits sig (HIx 1)) (n : ℕ) : sProp 𝕄 :=
  iprop(((thr d L).loc cc0_scratch1 ↦{fullShare} f7) ∗ ((thr d L).loc cc0_scratch2 ↦{fullShare} f8)
    ∗ (∃ f9 : S512x128.Idx → F .f32, (thr d L).loc cc0_scratch3 ↦{fullShare} f9)
    ∗ (tLoc d ↦{q} T)
    ∗ (∃ f : SO.Idx → F .f32, ⌜Out P C T (wOf L) (512 * n) f⌝ ∗ oLoc d ↦[rowsOf (wOf L)]{fullShare} f)
    ∗ semVal (cellI d L) 0 ∗ semVal (cellC d L) 0
    ∗ ∃ W', ⌜∀ p ∈ W', p ∈ W ∨ p.2 = none⌝ ∗ owes (thr d L) O W')

set_option maxHeartbeats 8000000 in
/-- One block. -/
theorem block_wp {P : SP.Idx → F .f32} {C : SC.Idx → F .f32} {T : ST.Idx → F .f32} {q : PosShare TreeShare} {f6 : S3x4096.Idx → F .f32} {f7 : S64x16.Idx → F .f32}
    {f8 : S4096.Idx → BitVec 32} {O : CellTallies nD τ sig (HIx 1)} {W : Waits sig (HIx 1)} (hO : ∀ g, O g none = 0)
    (hN : Nonempty P C) (hF : Fetched P C (wOf L) (wOf_lt L) f6 f7) (hd : Done (hitT P C (wOf L)) (wOf L / 8 * 4096) 64 f8)
    (b : Fin k0_t3_loop.trips) (u : PUnit) :
    iprop(levAts (K (F := F)).L (K (F := F)).lev ∗ blockInv d L P C T q f7 f8 O W b.val)
      ⊢ wp frame (wpE (defs₀ (F := F)) 𝒱₀ (thr d L) none) Set.univ
          (k0_t3_body L pV (Memref.isWhole_whole _) cV (Memref.isWhole_whole _) tV (Memref.isWhole_whole _) oV (Memref.isWhole_whole _)
            m6 (Memref.isWhole_whole _) m7 (Memref.isWhole_whole _) m8 (Memref.isWhole_whole _) m9 (Memref.isWhole_whole _)
            cc0_scratch4 cc0_scoped0 cc0_scoped1 cc0_scoped2 b u)
          fun _ => iprop(levAts (K (F := F)).L (K (F := F)).lev ∗ blockInv d L P C T q f7 f8 O W (b.val + 1)) := by
  have hb := t3_lt b
  have hw := wOf_lt L
  have hg : 64 * wOf L + 8 * b.val + 8 ≤ 2048 := by omega
  unfold k0_t3_body blockInv
  simp only [bind_assoc, pure_bind]
  iintro ⟨#Hlv, H7, H8, ⟨%f9, H9⟩, Ht, ⟨%f, %hf, Ho⟩, HsI, HsC, %W', %hW', HO⟩
  ihave Hmw := (show levAts (K (F := F)).L (K (F := F)).lev ⊢ Transfers.MayWaits (thr d L) (default : HIx 1) O from
    (K (F := F)).mayWaits_none (thr := thr d L) hO) $$ Hlv
  -- the table's rows the list names, the list's stretch
  ihave Hts := (pointsTo_split_subset (q := q) (f := T) (S := Finset.univ) (Finset.subset_univ (tableK).view.set)).1 $$ Ht
  icases Hts with ⟨Hts, Htr⟩
  ihave Hls := (pointsTo_split_subset (q := fullShare) (f := f8) (S := Finset.univ) (Finset.subset_univ (listK b).view.set)).1 $$ H8
  icases Hls with ⟨Hls, Hlr⟩
  have h9s : (m9).view.set = Finset.univ := View.set_whole _
  ihave H9' := (Entails.of_eq (show ((thr d L).loc cc0_scratch3 ↦{fullShare} f9 : sProp 𝕄)
      = (m9).view.loc (thr d L) ↦[(m9).view.set]{fullShare} f9 by rw [h9s])) $$ H9
  have hNr : ∀ h : S16384x128.Gathers 0 S512x128, ∑ j, ((m9).slice (S512x128.rowRect h.axis' j) (S512x128.stride_rowRect h.axis' j)).view.dmaCredit
      = (m9).view.dmaCredit := by decide +kernel
  iapply (SparseCore.wp_indirectGatherLocal countersEmb 𝒱₀ (thr d L) none (hg := gathers_S16384x128_S512x128) (default : HIx 1)
      (m9).view.dmaCredit (hNr _) (by decide) (list_inb hw hN hd b)) $$ [Hts H9' Hls HsI]
  · isplitl [Hts]; · iexact Hts
    isplitl [H9']; · iexact H9'
    isplitl [Hls]; · iexact Hls
    iexact HsI
  iintro Hfl
  iapply (Transfers.wp_waitLocalO countersEmb 𝒱₀ (thr d L) none (default : HIx 1) (rfl : (m9).view.dmaCredit = _)) $$ [Hfl HO]
  · isplitl [Hfl]; · iexact Hfl
    isplitl [HO]; · iexact HO
    iapply (Transfers.MayWaits.elim (SemLoc.dma cc0_scratch4.sem)) $$ Hmw
  iintro ⟨⟨H9, Hts, Hls⟩, HsI, HO⟩
  ihave Ht := (pointsTo_split_subset (ℓ := tLoc d) (q := q) (f := T) (S := Finset.univ) (Finset.subset_univ (tableK).view.set)).2 $$ [Hts Htr]; · isplitl [Hts] <;> iassumption
  ihave H8 := (pointsTo_split_subset (ℓ := (thr d L).loc cc0_scratch2) (q := fullShare) (f := f8) (S := Finset.univ) (Finset.subset_univ (listK b).view.set)).2 $$ [Hls Hlr]; · isplitl [Hls] <;> iassumption
  ihave H9 := (Entails.of_eq (show ((m9).view.loc (thr d L) ↦[(m9).view.set]{fullShare} _ : sProp 𝕄)
      = (thr d L).loc cc0_scratch3 ↦{fullShare} blockG P C T (64 * wOf L + 8 * b.val) by
        rw [h9s, View.write_whole_univ]
        exact congrArg (fun f : S512x128.Idx → F .f32 => ((thr d L).loc cc0_scratch3 ↦{fullShare} f : sProp 𝕄)) (gathered (T := T) hw hN hd b rfl))) $$ H9
  -- the shift, centroid by centroid
  iapply (Scf.wp_for_bind frame (wpE (defs₀ (F := F)) 𝒱₀ (thr d L) none) Set.univ _ _ _ k0_t4_ok _ _
    (fun k _ => shiftInv d L C (blockG P C T (64 * wOf L + 8 * b.val)) f7 (64 * wOf L + 8 * b.val) (64 * k) hg) ?trip) $$ [H7 H9]
  case trip => intro k acc; exact shift_centroid_wp d L hF b k acc
  · unfold shiftInv
    isplitl [H7]; · iexact H7
    iexists _
    isplitr
    rotate_left
    · iexact H9
    ipureintro
    intro a l
    rw [if_neg (by omega)]
  iintro %acc
  have e4 : Scf.trips k0_t4_loop.lb k0_t4_loop.ub k0_t4_loop.st = 8 := trips4
  rw [e4]
  unfold shiftInv
  iintro ⟨H7, %g9, %h9, H9⟩
  -- the block written out
  ihave Hos := (pointsTo_split_subset (q := fullShare) (f := f) (outK_subset L b)).1 $$ Ho
  icases Hos with ⟨Hos, Hor⟩
  ihave H9 := (Entails.of_eq (show ((thr d L).loc cc0_scratch3 ↦{fullShare} g9 : sProp 𝕄)
      = (m9).view.loc (thr d L) ↦[(m9).view.set]{fullShare} g9 by rw [h9s])) $$ H9
  ihave Hos := (Entails.of_eq (show (oLoc d ↦[(outK L b).view.set]{fullShare} f : sProp 𝕄)
      = (outK L b).view.loc (thr d L) ↦[(outK L b).view.set]{fullShare} f from rfl)) $$ Hos
  sl_exec
  rw [wp_ret]
  imodintro
  have hpay : block_wp.sl.dma0 g9 = g9 := by
    unfold block_wp.sl.dma0
    funext y
    exact (congrArg (fun f => f y) (View.read_whole (Val := Elt F) cc0_scratch3 g9))
  have hwr : (outK L b).view.writes (Elt F) f [⟨Rect.whole S512x128, block_wp.sl.dma0 g9⟩] = (outK L b).view.write (Elt F) f g9 Finset.univ := by
    rw [hpay]; exact (View.write_univ_eq_writes_whole (Val := Elt F) (outK L b).view f [] g9).symm
  isplitr; · iexact Hlv
  isplitl [H7]; · iexact H7
  isplitl [H8]; · iexact H8
  isplitl [H9]
  · iexists g9
    iapply (Entails.of_eq (show ((m9).view.loc (thr d L) ↦[(m9).view.set]{fullShare} g9 : sProp 𝕄)
      = (thr d L).loc cc0_scratch3 ↦{fullShare} g9 by rw [h9s])) $$ H9
  isplitl [Ht]; · iexact Ht
  isplitl [Hos Hor]
  · iexists (outK L b).view.write (Elt F) f g9 Finset.univ
    isplitr
    · ipureintro; exact Out.step b hf h9
    iapply (pointsTo_split_subset (ℓ := oLoc d) (q := fullShare) (f := (outK L b).view.write (Elt F) f g9 Finset.univ) (outK_subset L b)).2
    isplitl [Hos]
    · iapply (Entails.of_eq (show ((outK L b).view.loc (thr d L) ↦[(outK L b).view.set]{fullShare} _ : sProp 𝕄)
        = (oLoc d ↦[(outK L b).view.set]{fullShare} (outK L b).view.write (Elt F) f g9 Finset.univ) by rw [hwr])) $$ Hos
    · iapply (Entails.of_eq (pointsTo_congr (ℓ := oLoc d) (I := rowsOf (wOf L) \ (outK L b).view.set) (q := fullShare) (f := f)
        (g := (outK L b).view.write (Elt F) f g9 Finset.univ) (fun i hi =>
          (View.write_of_not_mem (Val := Elt F) (v := (outK L b).view) f g9 Finset.univ (i := i)
            (by rw [View.setOn_univ]; exact (Finset.mem_sdiff.1 hi).2)).symm))) $$ Hor
  isplitl [HsI]; · iexact HsI
  isplitl [HsC]; · iexact HsC
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Wp

end Cert.KernelIdeal.Ball
-- ==== Proof.ITile.lean ====
/-
  One task: the fetch of its points and centroids, its index list, its eight blocks of output rows.
-/
module

public import proofs.«01_k».proof.Proof.IBlock

@[expose] public section

noncomputable section

namespace Cert.KernelIdeal.Ball

open Cert.KernelIdeal Cert.KernelIdeal.Gen Cert.Ball
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What a task fetches -/

abbrev ptsK (L : grid0.Coords) : Memref sig .scVector .hbm S3x4096 .f32 :=
  ((pV).slice (Rect.unit (s := S4x3x4096) (k0_off1 L) S1x3x4096.size (k0_off1_inb L)) (fun _ => rfl)).squeeze S3x4096 squeezes_S1x3x4096_S3x4096
abbrev cenK (L : grid0.Coords) : Memref sig .scVector .hbm S64x16 .f32 :=
  (cV).slice (Rect.unit (s := S2048x16) (k0_off2 L) S64x16.size (k0_off2_inb L)) (fun _ => rfl)

/-- The pair with the given coordinates. -/
def coordsV (c : Fin (grid0.bound 0)) (s : Fin (grid0.bound 1)) : grid0.Coords :=
  fun | 0 => c | 1 => s | ⟨_ + 2, h⟩ => absurd h (Nat.not_lt.2 (Nat.le_add_left _ _))

theorem coordsV_eta (L : grid0.Coords) : coordsV (L 0) (L 1) = L := by
  funext a
  match a with
  | ⟨0, _⟩ => rfl
  | ⟨1, _⟩ => rfl

theorem off1_all : ∀ (c : Fin (grid0.bound 0)) (s : Fin (grid0.bound 1)),
    k0_off1 (coordsV c s) 0 = (2 * s.val + c.val) / 8 ∧ k0_off1 (coordsV c s) 1 = 0 ∧ k0_off1 (coordsV c s) 2 = 0 := by decide +kernel

theorem off1_eq (L : grid0.Coords) : k0_off1 L 0 = wOf L / 8 ∧ k0_off1 L 1 = 0 ∧ k0_off1 L 2 = 0 := by
  have h := off1_all (L 0) (L 1)
  rw [coordsV_eta] at h
  exact h

/-- The word of a pair's number divided by eight, and its list's base. -/
theorem base_all : ∀ (c : Fin 2) (s : Fin 16),
    Scalar.muli (Scalar.select
      (Scalar.andi
        (Scalar.cmpi CmpIPredicate.ne
          (Scalar.subi (Scalar.extui (Scalar.cmpi CmpIPredicate.sgt (Scalar.addi (Scalar.muli (BitVec.ofNat 32 s.val) 2#32) (BitVec.ofNat 32 c.val)) 0#32))
            (Scalar.extui (Scalar.cmpi CmpIPredicate.slt (Scalar.addi (Scalar.muli (BitVec.ofNat 32 s.val) 2#32) (BitVec.ofNat 32 c.val)) 0#32)))
          (Scalar.subi (Scalar.extui (Scalar.cmpi CmpIPredicate.sgt 8#32 0#32)) (Scalar.extui (Scalar.cmpi CmpIPredicate.slt 8#32 0#32)) : BitVec 32))
        (Scalar.cmpi CmpIPredicate.ne (Scalar.remsi (Scalar.addi (Scalar.muli (BitVec.ofNat 32 s.val) 2#32) (BitVec.ofNat 32 c.val)) 8#32) 0#32))
      (Scalar.subi (Scalar.divsi (Scalar.addi (Scalar.muli (BitVec.ofNat 32 s.val) 2#32) (BitVec.ofNat 32 c.val)) 8#32) 1#32)
      (Scalar.divsi (Scalar.addi (Scalar.muli (BitVec.ofNat 32 s.val) 2#32) (BitVec.ofNat 32 c.val)) 8#32)) 4096#32
    = BitVec.ofNat 32 ((2 * s.val + c.val) / 8 * 4096) := by decide +kernel

theorem read_pts (L : grid0.Coords) (P : SP.Idx → F .f32) (a : Fin 3) (j : Fin 4096) :
    (ptsK L).view.read (Elt F) P (ix2 a j) = P (ix3 (⟨wOf L / 8, by have := wOf_lt L; omega⟩ : Fin 4) a j) := by
  rw [View.read_apply]
  refine (cast_eq _ _).trans (congrArg P ?_)
  obtain ⟨h0, h1, h2⟩ := off1_eq L
  have e : Shape.reshapeEquiv squeezes_S1x3x4096_S3x4096.numel_eq (ix2 a j) = ix3 (⟨0, Nat.one_pos⟩ : Fin 1) a j := reshapeEquiv_ix2_1ab _ a j
  show (Rect.unit (s := S4x3x4096) (k0_off1 L) S1x3x4096.size (k0_off1_inb L)).emb (Shape.reshapeEquiv squeezes_S1x3x4096_S3x4096.numel_eq (ix2 a j)) = _
  rw [e]
  funext b
  match b with
  | ⟨0, _⟩ => exact Fin.ext ((ValueKit.rect_emb_unit_val (s := S4x3x4096) (k0_off1 L) S1x3x4096.size (k0_off1_inb L) _ 0).trans (by rw [h0]; rfl))
  | ⟨1, _⟩ => exact Fin.ext ((ValueKit.rect_emb_unit_val (s := S4x3x4096) (k0_off1 L) S1x3x4096.size (k0_off1_inb L) _ 1).trans (by rw [h1]; exact Nat.zero_add _))
  | ⟨2, _⟩ => exact Fin.ext ((ValueKit.rect_emb_unit_val (s := S4x3x4096) (k0_off1 L) S1x3x4096.size (k0_off1_inb L) _ 2).trans (by rw [h2]; exact Nat.zero_add _))

theorem read_cen (L : grid0.Coords) (C : SC.Idx → F .f32) (r : Fin 64) (l : Fin 16) :
    (cenK L).view.read (Elt F) C (ix2 r l) = C (ix2 (⟨64 * wOf L + r.val, by have := wOf_lt L; omega⟩ : Fin 2048) l) := by
  rw [View.read_apply]
  refine (cast_eq _ _).trans (congrArg C ?_)
  have h0 : k0_off2 L 0 = 64 * wOf L := by
    rw [k0_off2_eq]
    show 128 * (L 1).val + 64 * (L 0).val = _
    unfold wOf; omega
  have h1 : k0_off2 L 1 = 0 := by rw [k0_off2_eq]; rfl
  funext b
  match b with
  | ⟨0, _⟩ => exact Fin.ext ((ValueKit.rect_emb_unit_val (s := S2048x16) (k0_off2 L) S64x16.size (k0_off2_inb L) _ 0).trans (by rw [h0]))
  | ⟨1, _⟩ => exact Fin.ext ((ValueKit.rect_emb_unit_val (s := S2048x16) (k0_off2 L) S64x16.size (k0_off2_inb L) _ 1).trans (by rw [h1]; exact Nat.zero_add _))

theorem fetched (L : grid0.Coords) (P : SP.Idx → F .f32) (C : SC.Idx → F .f32) :
    Fetched P C (wOf L) (wOf_lt L) ((ptsK L).view.read (Elt F) P) ((cenK L).view.read (Elt F) C) :=
  ⟨read_pts L P, read_cen L C⟩

/-! ## The task's cells and scratch -/

section Tile

variable (d : Dev nD) (L : grid0.Coords)

theorem ownSems0_V :
    (ownSems0 (thr d L) : sProp 𝕄)
      = iprop(semVal (cellI d L) 0 ∗ semVal (cellA d L) 0 ∗ semVal (cellB d L) 0 ∗ semVal (cellC d L) 0
          ∗ bigSep (((((ownCells (thr d L)).erase (cellI d L)).erase (cellA d L)).erase (cellB d L)).erase (cellC d L)) fun g => semVal g 0) := by
  unfold SparseCore.Cfg.ownSems0
  rw [SparseCore.bigSep_erase' ((mem_ownCells (g := cellI d L)).mpr ⟨rfl, by
      show (SemLoc.dma cc0_scratch4.sem : SemLoc sig).isScoped .scVector = true; decide⟩),
    SparseCore.bigSep_erase' (Finset.mem_erase.mpr ⟨by simp [cellI, cellA]; decide, (mem_ownCells (g := cellA d L)).mpr ⟨rfl, by
      show (SemLoc.dma cc0_scoped0.sem : SemLoc sig).isScoped .scVector = true; decide⟩⟩),
    SparseCore.bigSep_erase' (Finset.mem_erase.mpr ⟨by simp [cellA, cellB]; decide, Finset.mem_erase.mpr ⟨by simp [cellI, cellB]; decide,
      (mem_ownCells (g := cellB d L)).mpr ⟨rfl, by show (SemLoc.dma cc0_scoped1.sem : SemLoc sig).isScoped .scVector = true; decide⟩⟩⟩),
    SparseCore.bigSep_erase' (Finset.mem_erase.mpr ⟨by simp [cellB, cellC]; decide, Finset.mem_erase.mpr ⟨by simp [cellA, cellC]; decide,
      Finset.mem_erase.mpr ⟨by simp [cellI, cellC]; decide,
      (mem_ownCells (g := cellC d L)).mpr ⟨rfl, by show (SemLoc.dma cc0_scoped2.sem : SemLoc sig).isScoped .scVector = true; decide⟩⟩⟩⟩)]

/-- The scratch buffers of a subcore. -/
abbrev scr (L : grid0.Coords) (b : Ref sig .scVector) : DevRef τ sig := (Proc.scVector (coreOf L) (tileOf L)).devRef b

theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (coreOf L) (tileOf L))).erase (scr L cc0_scratch0)).erase (scr L cc0_scratch1)).erase
              (scr L cc0_scratch2)).erase (scr L cc0_scratch3))
              fun b => iprop(∃ f, ((d, b) : Loc nD τ sig) ↦{fullShare} f)) := by
  have h0 := SparseCore.Cfg.mem_ownRefs_of_owner (p := Proc.scVector (coreOf L) (tileOf L)) (b := scr L cc0_scratch0) rfl
  have h1 := SparseCore.Cfg.mem_ownRefs_of_owner (p := Proc.scVector (coreOf L) (tileOf L)) (b := scr L cc0_scratch1) rfl
  have h2 := SparseCore.Cfg.mem_ownRefs_of_owner (p := Proc.scVector (coreOf L) (tileOf L)) (b := scr L cc0_scratch2) rfl
  have h3 := SparseCore.Cfg.mem_ownRefs_of_owner (p := Proc.scVector (coreOf L) (tileOf L)) (b := scr L cc0_scratch3) rfl
  have hne : ∀ {a b : Ref sig .scVector}, a ≠ b → scr L a ≠ scr L b := fun h e => h (Proc.devRef_injective _ e)
  unfold SparseCore.Cfg.ownBufs
  refine (SparseCore.bigSep_erase' h0).trans ?_
  rw [SparseCore.bigSep_erase' (Finset.mem_erase.mpr ⟨hne (show (cc0_scratch1 : Ref sig .scVector) ≠ cc0_scratch0 by decide), h1⟩),
    SparseCore.bigSep_erase' (Finset.mem_erase.mpr ⟨hne (show (cc0_scratch2 : Ref sig .scVector) ≠ cc0_scratch1 by decide),
      Finset.mem_erase.mpr ⟨hne (show (cc0_scratch2 : Ref sig .scVector) ≠ cc0_scratch0 by decide), h2⟩⟩),
    SparseCore.bigSep_erase' (Finset.mem_erase.mpr ⟨hne (show (cc0_scratch3 : Ref sig .scVector) ≠ cc0_scratch2 by decide),
      Finset.mem_erase.mpr ⟨hne (show (cc0_scratch3 : Ref sig .scVector) ≠ cc0_scratch1 by decide),
        Finset.mem_erase.mpr ⟨hne (show (cc0_scratch3 : Ref sig .scVector) ≠ cc0_scratch0 by decide), h3⟩⟩⟩)]

/-- What a task is handed: shares of the points, the centroids and the table, its block of the output. -/
def goPts (P : SP.Idx → F .f32) (C : SC.Idx → F .f32) (T : ST.Idx → F .f32) (q : PosShare TreeShare) (w : ℕ) (f : SO.Idx → F .f32) : sProp 𝕄 :=
  iprop((pLoc d ↦{q} P) ∗ (cLoc d ↦{q} C) ∗ (tLoc d ↦{q} T) ∗ oLoc d ↦[rowsOf w]{fullShare} f)

/-- What a task hands back: the shares, its block holding the specification's rows. -/
def tdPts (P : SP.Idx → F .f32) (C : SC.Idx → F .f32) (T : ST.Idx → F .f32) (q : PosShare TreeShare) (w : ℕ) : sProp 𝕄 :=
  iprop((pLoc d ↦{q} P) ∗ (cLoc d ↦{q} C) ∗ (tLoc d ↦{q} T) ∗ oLoc d ↦[rowsOf w]{fullShare} (out P C T))

set_option maxHeartbeats 16000000 in
set_option maxRecDepth 16384 in
/-- The task of a pair. -/
theorem tile_body (hF : (K (F := F)).Facts) {P : SP.Idx → F .f32} {C : SC.Idx → F .f32} {T : ST.Idx → F .f32} {q : PosShare TreeShare} {f0 : SO.Idx → F .f32}
    (hN : Nonempty P C) (O : CellTallies nD τ sig (HIx 1)) (W : Waits sig (HIx 1)) (hO : ∀ g, O g none = 0) :
    iprop(levAts (K (F := F)).L (K (F := F)).lev ∗ emp ∗ goPts d P C T q (wOf L) f0
        ∗ scopedBufs (thr d L) ∗ scopedSems0 (thr d L) ∗ owes (thr d L) O W)
      ⊢ wp frame (wpE (defs₀ (F := F)) 𝒱₀ (thr d L) none) Set.univ
          (cc0__sc_ballgather_body L pV (Memref.isWhole_whole _) cV (Memref.isWhole_whole _) tV (Memref.isWhole_whole _) oV (Memref.isWhole_whole _)
            m6 (Memref.isWhole_whole _) m7 (Memref.isWhole_whole _) m8 (Memref.isWhole_whole _) m9 (Memref.isWhole_whole _)
            cc0_scratch4 cc0_scoped0 cc0_scoped1 cc0_scoped2)
          fun _ => iprop(tdPts d P C T q (wOf L)
            ∗ scopedBufs (thr d L) ∗ scopedSems0 (thr d L)
            ∗ ∃ W', ⌜∀ p ∈ W', p ∈ W ∨ p.2 = none⌝ ∗ owes (thr d L) O W') := by
  simp only [cc0__sc_ballgather_body_eq_skeleton]; unfold cc0__sc_ballgather_body_skel
  simp only [k0_part3_eq_skeleton]; unfold k0_part3_skel
  simp only [bind_assoc, pure_bind]
  rw [(K (F := F)).scopedBufs_V hF d (coreOf L) (tileOf L), SparseCore.Cfg.scopedSems0_V (Val := Elt F) d (coreOf L) (tileOf L), ownSems0_V, ownBufs_V]
  unfold goPts
  iintro ⟨#Hlv, -, ⟨Hp, Hc, Ht, Ho⟩, ⟨⟨%f6, H6⟩, ⟨%f7, H7⟩, ⟨%f8, H8⟩, ⟨%f9, H9⟩, Hbufs⟩, ⟨HsI, HsA, HsB, HsC, Hsems⟩, HO⟩
  ihave Hmw := (show levAts (K (F := F)).L (K (F := F)).lev ⊢ Transfers.MayWaits (thr d L) (default : HIx 1) O from
    (K (F := F)).mayWaits_none (thr := thr d L) hO) $$ Hlv
  ihave Hps := (pointsTo_split_subset (ℓ := pLoc d) (q := q) (f := P) (S := Finset.univ) (Finset.subset_univ (ptsK L).view.set)).1 $$ Hp
  icases Hps with ⟨Hps, Hpr⟩
  ihave Hcs := (pointsTo_split_subset (ℓ := cLoc d) (q := q) (f := C) (S := Finset.univ) (Finset.subset_univ (cenK L).view.set)).1 $$ Hc
  icases Hcs with ⟨Hcs, Hcr⟩
  have h6s : (m6).view.set = Finset.univ := View.set_whole _
  have h7s : (m7).view.set = Finset.univ := View.set_whole _
  ihave H6 := (Entails.of_eq (show ((thr d L).loc cc0_scratch0 ↦{fullShare} f6 : sProp 𝕄)
      = (m6).view.loc (thr d L) ↦[(m6).view.set]{fullShare} f6 by rw [h6s])) $$ H6
  ihave H7 := (Entails.of_eq (show ((thr d L).loc cc0_scratch1 ↦{fullShare} f7 : sProp 𝕄)
      = (m7).view.loc (thr d L) ↦[(m7).view.set]{fullShare} f7 by rw [h7s])) $$ H7
  ihave Hps := (Entails.of_eq (show (pLoc d ↦[(ptsK L).view.set]{q} P : sProp 𝕄)
      = (ptsK L).view.loc (thr d L) ↦[(ptsK L).view.set]{q} P from rfl)) $$ Hps
  ihave Hcs := (Entails.of_eq (show (cLoc d ↦[(cenK L).view.set]{q} C : sProp 𝕄)
      = (cenK L).view.loc (thr d L) ↦[(cenK L).view.set]{q} C from rfl)) $$ Hcs
  sl_exec
  have hw6 : ∀ (g : S3x4096.Idx → F .f32) (f : S3x4096.Idx → F .f32), f = g →
      (m6).view.writes (Elt F) (m6).view.junk [⟨Rect.whole S3x4096, f⟩] = g := fun g f h => by
    subst h
    refine (View.write_univ_eq_writes_whole (Val := Elt F) (m6).view (m6).view.junk [] f).symm.trans ?_
    exact View.write_whole_univ (Val := Elt F) cc0_scratch0 _ f
  have hw7 : ∀ (g : S64x16.Idx → F .f32) (f : S64x16.Idx → F .f32), f = g →
      (m7).view.writes (Elt F) (m7).view.junk [⟨Rect.whole S64x16, f⟩] = g := fun g f h => by
    subst h
    refine (View.write_univ_eq_writes_whole (Val := Elt F) (m7).view (m7).view.junk [] f).symm.trans ?_
    exact View.write_whole_univ (Val := Elt F) cc0_scratch1 _ f
  ihave H6 := (Entails.of_eq (show ((m6).view.loc (thr d L) ↦[(m6).view.set]{fullShare} _ : sProp 𝕄)
      = (thr d L).loc cc0_scratch0 ↦{fullShare} ((ptsK L).view.read (Elt F) P) by
        rw [h6s, hw6 ((ptsK L).view.read (Elt F) P) _ (by unfold tile_body.sl.dma0; rfl)])) $$ H6
  ihave H7 := (Entails.of_eq (show ((m7).view.loc (thr d L) ↦[(m7).view.set]{fullShare} _ : sProp 𝕄)
      = (thr d L).loc cc0_scratch1 ↦{fullShare} ((cenK L).view.read (Elt F) C) by
        rw [h7s, hw7 ((cenK L).view.read (Elt F) C) _ (by unfold tile_body.sl.dma0_1; rfl)])) $$ H7
  have hFe := fetched L P C
  generalize (ptsK L).view.read (Elt F) P = g6 at hFe ⊢
  generalize (cenK L).view.read (Elt F) C = g7 at hFe ⊢
  generalize hb : Scalar.muli _ 4096#32 = bs
  have hb' : bs = BitVec.ofNat 32 (wOf L / 8 * 4096) := hb.symm.trans (base_all (L 0) (L 1))
  subst hb'
  -- the index list, row by row
  iapply (Scf.wp_for_bind frame (wpE (defs₀ (F := F)) 𝒱₀ (thr d L) none) Set.univ _ _ _ k0_t1_ok _ _
    (fun k _ => rowInv d L P C g6 g7 k 0) ?trip1) $$ [H6 H7 H8]
  case trip1 => intro k acc; exact row_wp d L hN hFe k acc
  · unfold rowInv
    isplitl [H6]; · iexact H6
    isplitl [H7]; · iexact H7
    iexists _
    isplitr
    rotate_left
    · iexact H8
    ipureintro
    exact ⟨Done.zero _ _ _, fun _ j hj => absurd hj (Nat.not_lt_zero _)⟩
  iintro %acc
  have e1 : Scf.trips k0_t1_loop.lb k0_t1_loop.ub k0_t1_loop.st = 64 := trips1
  rw [e1]
  unfold rowInv
  iintro ⟨H6, H7, %g8, %h8, H8⟩
  -- the eight blocks
  iapply (Scf.wp_for_bind frame (wpE (defs₀ (F := F)) 𝒱₀ (thr d L) none) Set.univ _ _ _ k0_t3_ok _ _
    (fun k _ => iprop(levAts (K (F := F)).L (K (F := F)).lev ∗ blockInv d L P C T q g7 g8 O W k)) ?trip3) $$ [H7 H8 H9 Ht Ho HsI HsC HO]
  case trip3 =>
    intro k acc
    exact block_wp d L hO hN hFe h8.1 k acc
  · isplitr; · iexact Hlv
    unfold blockInv
    isplitl [H7]; · iexact H7
    isplitl [H8]; · iexact H8
    isplitl [H9]; · iexists _; iexact H9
    isplitl [Ht]; · iexact Ht
    isplitl [Ho]
    · iexists f0
      isplitr
      · ipureintro; exact fun _ _ h => absurd h (Nat.not_lt_zero _)
      · iexact Ho
    isplitl [HsI]; · iexact HsI
    isplitl [HsC]; · iexact HsC
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact .inl hp
  iintro %acc
  have e3 : Scf.trips k0_t3_loop.lb k0_t3_loop.ub k0_t3_loop.st = 8 := trips3
  rw [e3]
  unfold blockInv
  iintro ⟨-, H7, H8, H9, Ht, ⟨%f, %hf, Ho⟩, HsI, HsC, HO⟩
  rw [show (Pure.pure PUnit.unit : Prog _ PUnit) = .ret PUnit.unit from rfl, wp_ret]
  imodintro
  have hout : ∀ i ∈ rowsOf (wOf L), f i = out P C T i := fun i hi =>
    hf i ((mem_rowsOf _ _).1 hi) (Nat.mod_lt _ (by decide))
  isplitl [Hpr Hcr Ht Ho]
  · unfold tdPts
    isplitl [Hpr]; · iexact Hpr
    isplitl [Hcr]; · iexact Hcr
    isplitl [Ht]; · iexact Ht
    iapply (Entails.of_eq (pointsTo_congr (ℓ := oLoc d) (I := rowsOf (wOf L)) (q := fullShare) hout)) $$ Ho
  isplitl [H6 H7 H8 H9 Hbufs]
  · isplitl [H6]; · iexists _; iexact H6
    isplitl [H7]; · iexists _; iexact H7
    isplitl [H8]; · iexists _; iexact H8
    isplitl [H9]; · iexact H9
    iexact Hbufs
  isplitl [HsI HsA HsB HsC Hsems]
  · isplitl [HsI]; · iexact HsI
    isplitl [HsA]; · iexact HsA
    isplitl [HsB]; · iexact HsB
    isplitl [HsC]; · iexact HsC
    iexact Hsems
  iexact HO

end Tile

end Cert.KernelIdeal.Ball
-- ==== Proof.IHost.lean ====
/-
  The host operations around the call: what the call is handed, and what is made of its output.
-/
module

public import proofs.«01_k».proof.Proof.ITile

@[expose] public section

noncomputable section

namespace Cert.KernelIdeal.Ball

open Cert.KernelIdeal Cert.KernelIdeal.Gen Cert.Ball
open Idealize.ShloMosaic Idealize.ShloMosaic.ValueIdx
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.StableHlo (held held_sub_split held_congr after seq seqK)
open Idealize.ShloMosaic.Tactic

variable {F : FTy → Type} [FloatOps F]

local notation "𝕄" => MT nD τ sig (HIx 1) (Elt F) ℕ UU ℕ

/-! ## The values -/

/-- The points with their coordinates first. -/
def ptsOf (p : S4x4096x3.Idx → F .f32) : SP.Idx → F .f32 := transpose S4x3x4096 [0, 2, 1] p transposes_S4x4096x3_S4x3x4096_0_2_1

/-- The centroids as one list, their rows padded to sixteen. -/
def cenOf (c : S4x512x3.Idx → F .f32) : SC.Idx → F .f32 :=
  pad S2048x16 ![0, 0] ![0, 13] ![0, 0] (shapeCast S2048x3 c shapeCasts_S4x512x3_S2048x3) (sitofp .f32 (constantI S_ 32 0#32))
    pads_S2048x3_S2048x16_000_0130 h_S_

/-- The table: a point's coordinates and then its features. -/
def tabOf (x : S4x4096x125.Idx → F .f32) (p : S4x4096x3.Idx → F .f32) : ST.Idx → F .f32 :=
  shapeCast S16384x128 (concatenate S4x4096x128 2 [⟨S4x4096x3, p⟩, ⟨S4x4096x125, x⟩] concatenates_S4x4096x3_S4x4096x125_S4x4096x128_d2)
    shapeCasts_S4x4096x128_S16384x128

/-- The second result: the output's first three columns, coordinates first. -/
def xyzOf (g : SO.Idx → F .f32) : S4x3x512x64.Idx → F .f32 :=
  transpose S4x3x512x64 [0, 3, 1, 2]
    (shapeCast S4x512x64x3 (extractStridedSlice S131072x3 ![0, 0] g slices_S131072x128_S131072x3_0_0) shapeCasts_S131072x3_S4x512x64x3)
    transposes_S4x512x64x3_S4x3x512x64_0_3_1_2

/-! ## The operations -/

abbrev opT : HloOp τ sig (Elt F) := StableHlo.unary main_arg1 main_v0 ((transpose S4x3x4096 [0, 2, 1] · transposes_S4x4096x3_S4x3x4096_0_2_1) : (⟨S4x4096x3, .f32⟩ : BufTy).Contents (Elt F) → (⟨S4x3x4096, .f32⟩ : BufTy).Contents (Elt F))
abbrev opR : HloOp τ sig (Elt F) := StableHlo.reshape main_arg2 main_v1 (rfl : (.f32 : EltTy) = .f32) shapeCasts_S4x512x3_S2048x3
abbrev opZ : HloOp τ sig (Elt F) := StableHlo.nullary main_c (constantI S_ 32 0#32)
abbrev opF : HloOp τ sig (Elt F) := StableHlo.unary main_c main_call0_v0 (sitofp .f32)
abbrev opP : HloOp τ sig (Elt F) := StableHlo.binary main_v1 main_call0_v0 main_v2
  ((fun x v => pad S2048x16 ![0, 0] ![0, 13] ![0, 0] x v pads_S2048x3_S2048x16_000_0130 h_S_) : (⟨S2048x3, .f32⟩ : BufTy).Contents (Elt F) → (⟨S_, .f32⟩ : BufTy).Contents (Elt F) → (⟨S2048x16, .f32⟩ : BufTy).Contents (Elt F))
abbrev opC : HloOp τ sig (Elt F) := StableHlo.binary main_arg1 main_arg0 main_v3 ((fun a b => concatenate S4x4096x128 2 [⟨S4x4096x3, a⟩, ⟨S4x4096x125, b⟩] concatenates_S4x4096x3_S4x4096x125_S4x4096x128_d2) : (⟨S4x4096x3, .f32⟩ : BufTy).Contents (Elt F) → (⟨S4x4096x125, .f32⟩ : BufTy).Contents (Elt F) → (⟨S4x4096x128, .f32⟩ : BufTy).Contents (Elt F))
abbrev opB : HloOp τ sig (Elt F) := StableHlo.reshape main_v3 main_v4 (rfl : (.f32 : EltTy) = .f32) shapeCasts_S4x4096x128_S16384x128
abbrev opS : HloOp τ sig (Elt F) := StableHlo.unary main_v5 main_v6 ((extractStridedSlice S131072x3 ![0, 0] · slices_S131072x128_S131072x3_0_0) : (⟨S131072x128, .f32⟩ : BufTy).Contents (Elt F) → (⟨S131072x3, .f32⟩ : BufTy).Contents (Elt F))
abbrev opG : HloOp τ sig (Elt F) := StableHlo.reshape main_v6 main_v7 (rfl : (.f32 : EltTy) = .f32) shapeCasts_S131072x3_S4x512x64x3
abbrev opX : HloOp τ sig (Elt F) := StableHlo.unary main_v7 main_v8 ((transpose S4x3x512x64 [0, 3, 1, 2] · transposes_S4x512x64x3_S4x3x512x64_0_3_1_2) : (⟨S4x512x64x3, .f32⟩ : BufTy).Contents (Elt F) → (⟨S4x3x512x64, .f32⟩ : BufTy).Contents (Elt F))

/-- Before the call and after it. -/
abbrev ops1 : List (HloOp τ sig (Elt F)) := [opT, opR, opZ, opF, opP, opC, opB]
abbrev ops2 : List (HloOp τ sig (Elt F)) := [opS, opG, opX]

theorem main_eq (d : Dev nD) : main (F := F) d = (seq ops1 >>= fun _ => (sc (F := F)).run d 0 >>= fun _ => seq ops2 >>= fun _ => pure ⟨⟩) := by
  rw [StableHlo.seq_bind_seqK]
  simp only [StableHlo.seq_bind_seqK]
  simp only [main, fn_pad.body, bind_assoc, pure_bind]
  rfl

theorem ops1_sub : ∀ op ∈ ops1 (F := F), op.bufs ⊆ Pipeline.ucRefs τ sig := by
  intro op h
  refine Pipeline.sub_ucRefs op ?_
  simp only [List.mem_cons, List.not_mem_nil, or_false] at h
  rcases h with rfl | rfl | rfl | rfl | rfl | rfl | rfl <;> simp

theorem ops1_fresh : ∀ op ∈ ops1 (F := F), op.fresh = ∅ := by
  intro op h
  simp only [List.mem_cons, List.not_mem_nil, or_false] at h
  rcases h with rfl | rfl | rfl | rfl | rfl | rfl | rfl <;> rfl

theorem ops2_fresh : ∀ op ∈ ops2 (F := F), op.fresh = ∅ := by
  intro op h
  simp only [List.mem_cons, List.not_mem_nil, or_false] at h
  rcases h with rfl | rfl | rfl <;> rfl

/-! ## The buffers -/

abbrev dv (b : Ref sig .tc) : DevRef τ sig := Proc.devRef .tc b

/-- What the call is handed, and what the claims read together with what the operations after the call write. -/
abbrev S4 : Finset (DevRef τ sig) := {dv main_v0, dv main_v2, dv main_v4, dv main_v5}
abbrev S6 : Finset (DevRef τ sig) := {dv main_arg0, dv main_arg1, dv main_arg2, dv main_v6, dv main_v7, dv main_v8}
abbrev S7 : Finset (DevRef τ sig) := {dv main_arg0, dv main_arg1, dv main_arg2, dv main_v5, dv main_v6, dv main_v7, dv main_v8}

/-- An unscoped buffer is among those the launch hands over. -/
theorem mem_uc {b : Ref sig .tc} (hb : b.isScoped = false) : dv b ∈ Pipeline.ucRefs τ sig := by
  unfold Pipeline.ucRefs
  refine Finset.mem_filter.mpr ⟨StableHlo.devRef_mem_tcRefs b, ?_⟩
  rw [Proc.isScoped_devRef, hb]; decide

theorem S4_sub : S4 ⊆ Pipeline.ucRefs τ sig := by
  intro b hb
  simp only [S4, Finset.mem_insert, Finset.mem_singleton] at hb
  rcases hb with rfl | rfl | rfl | rfl <;> exact mem_uc rfl

theorem S6_sub : S6 ⊆ Pipeline.ucRefs τ sig \ S4 := by
  intro b hb
  simp only [S6, Finset.mem_insert, Finset.mem_singleton] at hb
  rcases hb with rfl | rfl | rfl | rfl | rfl | rfl <;>
    exact Finset.mem_sdiff.mpr ⟨mem_uc rfl, by decide⟩

theorem ops2_sub : ∀ op ∈ ops2 (F := F), op.bufs ⊆ S7 := by
  intro op h
  simp only [List.mem_cons, List.not_mem_nil, or_false] at h
  rcases h with rfl | rfl | rfl
  · exact show ({dv main_v5, dv main_v6} : Finset (DevRef τ sig)) ⊆ S7 by decide
  · exact show ({dv main_v6, dv main_v7} : Finset (DevRef τ sig)) ⊆ S7 by decide
  · exact show ({dv main_v7, dv main_v8} : Finset (DevRef τ sig)) ⊆ S7 by decide

theorem held_S4 (d : Dev nD) (W : Valuation τ sig (Elt F)) :
    (held (SparseCore.T d) S4 W : sProp 𝕄) = iprop((pLoc d ↦{fullShare} W (dv main_v0)) ∗ (cLoc d ↦{fullShare} W (dv main_v2))
      ∗ (tLoc d ↦{fullShare} W (dv main_v4)) ∗ oLoc d ↦{fullShare} W (dv main_v5)) := by
  unfold held S4
  rw [SparseCore.bigSep_insert' (by decide), SparseCore.bigSep_insert' (by decide), SparseCore.bigSep_insert' (by decide), bigSep_singleton]

theorem held_S6 (d : Dev nD) (W : Valuation τ sig (Elt F)) :
    (held (SparseCore.T d) S6 W : sProp 𝕄) = iprop(((SparseCore.T d).loc main_arg0 ↦{fullShare} W (dv main_arg0)) ∗ ((SparseCore.T d).loc main_arg1 ↦{fullShare} W (dv main_arg1))
      ∗ ((SparseCore.T d).loc main_arg2 ↦{fullShare} W (dv main_arg2)) ∗ ((SparseCore.T d).loc main_v6 ↦{fullShare} W (dv main_v6))
      ∗ ((SparseCore.T d).loc main_v7 ↦{fullShare} W (dv main_v7)) ∗ (SparseCore.T d).loc main_v8 ↦{fullShare} W (dv main_v8)) := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem held_S7 (d : Dev nD) (W : Valuation τ sig (Elt F)) :
    (held (SparseCore.T d) S7 W : sProp 𝕄) = iprop(((SparseCore.T d).loc main_arg0 ↦{fullShare} W (dv main_arg0)) ∗ ((SparseCore.T d).loc main_arg1 ↦{fullShare} W (dv main_arg1))
      ∗ ((SparseCore.T d).loc main_arg2 ↦{fullShare} W (dv main_arg2)) ∗ (oLoc d ↦{fullShare} W (dv main_v5)) ∗ ((SparseCore.T d).loc main_v6 ↦{fullShare} W (dv main_v6))
      ∗ ((SparseCore.T d).loc main_v7 ↦{fullShare} W (dv main_v7)) ∗ (SparseCore.T d).loc main_v8 ↦{fullShare} W (dv main_v8)) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## The contents before the call and after it -/

variable (m : (ℓ : Loc nD τ sig) → Buf (Elt F) ℓ)

def V0 (d : Dev nD) : Valuation τ sig (Elt F) := fun b => m (d, b)
def V1 (d : Dev nD) : Valuation τ sig (Elt F) := after ops1 (V0 m d)

/-- What the call is handed on a device. -/
abbrev Pm (d : Dev nD) : SP.Idx → F .f32 := ptsOf (m ((SparseCore.T d).loc main_arg1))
abbrev Cm (d : Dev nD) : SC.Idx → F .f32 := cenOf (m ((SparseCore.T d).loc main_arg2))
abbrev Tm (d : Dev nD) : ST.Idx → F .f32 := tabOf (m ((SparseCore.T d).loc main_arg0)) (m ((SparseCore.T d).loc main_arg1))
/-- What it leaves. -/
abbrev Om (d : Dev nD) : SO.Idx → F .f32 := out (Pm m d) (Cm m d) (Tm m d)

theorem V1_p (d : Dev nD) : V1 m d (dv main_v0) = Pm m d := by
  unfold V1; after_results_simp; rfl
theorem V1_c (d : Dev nD) : V1 m d (dv main_v2) = Cm m d := by
  unfold V1; after_results_simp; rfl
theorem V1_t (d : Dev nD) : V1 m d (dv main_v4) = Tm m d := by
  unfold V1; after_results_simp; rfl
theorem V1_o (d : Dev nD) : V1 m d (dv main_v5) = m (oLoc d) := by
  unfold V1; after_results_simp; rfl
theorem V1_a0 (d : Dev nD) : V1 m d (dv main_arg0) = m ((SparseCore.T d).loc main_arg0) := by
  unfold V1; after_results_simp; rfl
theorem V1_a1 (d : Dev nD) : V1 m d (dv main_arg1) = m ((SparseCore.T d).loc main_arg1) := by
  unfold V1; after_results_simp; rfl
theorem V1_a2 (d : Dev nD) : V1 m d (dv main_arg2) = m ((SparseCore.T d).loc main_arg2) := by
  unfold V1; after_results_simp; rfl

def V2 (d : Dev nD) : Valuation τ sig (Elt F) := Function.update (V1 m d) (dv main_v5) (Om m d)

theorem V2_o (d : Dev nD) : V2 m d (dv main_v5) = Om m d := Function.update_self _ _ _
theorem V2_ne (d : Dev nD) {b : Ref sig .tc} (h : b ≠ main_v5) : V2 m d (dv b) = V1 m d (dv b) :=
  Function.update_of_ne (fun e => h (Proc.devRef_injective _ e)) _ _

theorem V3_x (d : Dev nD) : after ops2 (V2 m d) (dv main_v8) = xyzOf (Om m d) := by
  after_results_simp
  rw [show (V2 m d) (Proc.devRef .tc main_v5) = Om m d from V2_o m d]
  rfl
theorem V3_o (d : Dev nD) : after ops2 (V2 m d) (dv main_v5) = Om m d := by
  after_results_simp
  exact V2_o m d
theorem V3_a0 (d : Dev nD) : after ops2 (V2 m d) (dv main_arg0) = m ((SparseCore.T d).loc main_arg0) := by
  after_results_simp
  exact (V2_ne m d (by decide)).trans (V1_a0 m d)
theorem V3_a1 (d : Dev nD) : after ops2 (V2 m d) (dv main_arg1) = m ((SparseCore.T d).loc main_arg1) := by
  after_results_simp
  exact (V2_ne m d (by decide)).trans (V1_a1 m d)
theorem V3_a2 (d : Dev nD) : after ops2 (V2 m d) (dv main_arg2) = m ((SparseCore.T d).loc main_arg2) := by
  after_results_simp
  exact (V2_ne m d (by decide)).trans (V1_a2 m d)

end Cert.KernelIdeal.Ball
-- ==== Proof.ILaunch.lean ====
/-
  The launch: what the call is handed is dealt to the 32 tasks, each runs, and what they bring back is the output.
-/
module

public import proofs.«01_k».proof.Proof.IHost

@[expose] public section

noncomputable section

namespace Cert.KernelIdeal.Ball

open Cert.KernelIdeal Cert.KernelIdeal.Gen Cert.Ball
open Idealize.ShloMosaic Idealize.ShloMosaic.ValueIdx
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.StableHlo (held held_sub_split held_congr after seq seqK)
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What travels -/

/-- The share of task `w` in the arrays every task reads. -/
abbrev shareOf (w : Fin 32) : PosShare TreeShare := Transfers.shareTok fullShare 32 w

/-- What task `w` is handed and what it hands back. -/
def goT (d : Dev nD) (w : Fin 32) : sProp 𝕄 := goPts d (Pm m d) (Cm m d) (Tm m d) (shareOf w) w.val (m (oLoc d))
def tdT (d : Dev nD) (w : Fin 32) : sProp 𝕄 := tdPts d (Pm m d) (Cm m d) (Tm m d) (shareOf w) w.val

instance goT_storable (d : Dev nD) (w : Fin 32) : BI.Storable (upEmb : UEmb _ 𝕄) (goT m d w) := by
  unfold goT goPts; infer_instance
instance tdT_storable (d : Dev nD) (w : Fin 32) : BI.Storable (upEmb : UEmb _ 𝕄) (tdT m d w) := by
  unfold tdT tdPts; infer_instance

/-- The number of tile `i` of SparseCore `c`. -/
def taskOf (c : Fin 2) (i : Fin 16) : Fin 32 := ⟨2 * i.val + c.val, by omega⟩

/-- Each SparseCore takes its sixteen tasks' parts and brings them back. -/
def P : (K (F := F)).Pay (nD := nD) (Val := Elt F) (Name := ℕ) (U := UU) where
  st := fun q d c => match q with | 0 => bigSep Finset.univ fun i : Fin ((K (F := F)).nSub 0) => goT m d (taskOf (Fin.cast nCore_zero c) (Fin.cast nSub_zero i))
  dn := fun q d c => match q with | 0 => bigSep Finset.univ fun i : Fin ((K (F := F)).nSub 0) => tdT m d (taskOf (Fin.cast nCore_zero c) (Fin.cast nSub_zero i))
  go := fun q d c i => match q with | 0 => goT m d (taskOf (Fin.cast nCore_zero c) (Fin.cast nSub_zero i))
  td := fun q d c i => match q with | 0 => tdT m d (taskOf (Fin.cast nCore_zero c) (Fin.cast nSub_zero i))
  x := fun _ _ => iprop(emp)

instance P_storable : (P (F := F) m).IsStorable where
  st q d c := match q with
    | 0 => (inferInstance : BI.Storable (upEmb : UEmb _ 𝕄)
      (bigSep Finset.univ fun i : Fin ((K (F := F)).nSub 0) => goT m d (taskOf (Fin.cast nCore_zero c) (Fin.cast nSub_zero i))))
  dn q d c := match q with
    | 0 => (inferInstance : BI.Storable (upEmb : UEmb _ 𝕄)
      (bigSep Finset.univ fun i : Fin ((K (F := F)).nSub 0) => tdT m d (taskOf (Fin.cast nCore_zero c) (Fin.cast nSub_zero i))))
  go q d c i := match q with
    | 0 => (inferInstance : BI.Storable (upEmb : UEmb _ 𝕄) (goT m d (taskOf (Fin.cast nCore_zero c) (Fin.cast nSub_zero i))))
  td q d c i := match q with
    | 0 => (inferInstance : BI.Storable (upEmb : UEmb _ 𝕄) (tdT m d (taskOf (Fin.cast nCore_zero c) (Fin.cast nSub_zero i))))

/-- What the proof asks of the launch memory: every centroid has a point in its ball. -/
def PreOK : Prop := ∀ d : Dev nD, Nonempty (Pm m d) (Cm m d)

/-! ## The launch theorem's obligations -/

theorem defs₀_vector (c : Fin τ.nSC) (s : Fin τ.nSub) :
    defs₀ (F := F) (.scVector c s) 0 ()
      = SparseCore.onTile hcore0 hsub0 (fun c s => cc0__sc_ballgather_body (coordsV c s) pV (Memref.isWhole_whole _) cV (Memref.isWhole_whole _)
          tV (Memref.isWhole_whole _) oV (Memref.isWhole_whole _) m6 (Memref.isWhole_whole _) m7 (Memref.isWhole_whole _)
          m8 (Memref.isWhole_whole _) m9 (Memref.isWhole_whole _) cc0_scratch4 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (hpre d) O W hO).trans (wp_mono frame _ _ fun _ => obl_post)

theorem vecSplit : (K (F := F)).VecSplit' (P m) 0 := by
  intro d c
  show iprop(bigSep Finset.univ fun i : Fin ((K (F := F)).nSub 0) => goT m d (taskOf (Fin.cast nCore_zero c) (Fin.cast nSub_zero i)))
    ⊢ |={Set.univ}=> iprop(
      (bigSep Finset.univ fun i : Fin ((K (F := F)).nSub 0) => goT m d (taskOf (Fin.cast nCore_zero c) (Fin.cast nSub_zero i)))
      ∗ ((bigSep Finset.univ fun i : Fin ((K (F := F)).nSub 0) => tdT m d (taskOf (Fin.cast nCore_zero c) (Fin.cast nSub_zero i)))
          -∗ bigSep Finset.univ fun i : Fin ((K (F := F)).nSub 0) => tdT m d (taskOf (Fin.cast nCore_zero c) (Fin.cast nSub_zero i))))
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The arrays dealt to the tasks and gathered -/

/-- The 32 tasks as the tiles of the two SparseCores. -/
def taskEquiv : Fin 2 × Fin 16 ≃ Fin 32 where
  toFun p := taskOf p.1 p.2
  invFun w := (⟨w.val % 2, Nat.mod_lt _ (by decide)⟩, ⟨w.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv w := Fin.ext (show 2 * (w.val / 2) + w.val % 2 = w.val by omega)

omit [FloatOps F] in
theorem bigSep_tasks (Φ : Fin 32 → sProp 𝕄) :
    (bigSep Finset.univ fun c : Fin ((K (F := F)).nCore 0) => bigSep Finset.univ fun i : Fin ((K (F := F)).nSub 0) =>
      Φ (taskOf (Fin.cast nCore_zero c) (Fin.cast nSub_zero i))) = bigSep Finset.univ Φ := by
  rw [bigSep_univ_equiv taskEquiv Φ, bigSep_univ_prod]
  rfl

theorem rows_disjoint : ∀ w ∈ (Finset.univ : Finset (Fin 32)), ∀ w' ∈ (Finset.univ : Finset (Fin 32)), w ≠ w' → Disjoint (rowsOf w.val) (rowsOf w'.val) :=
  fun w _ w' _ h => Finset.disjoint_left.mpr fun x hx hx' =>
    h (Fin.ext (((mem_rowsOf _ _).1 hx).symm.trans ((mem_rowsOf _ _).1 hx')))

theorem rows_cover : (Finset.univ : Finset (Fin 32)).biUnion (fun w => rowsOf w.val) = Finset.univ := by
  refine Finset.eq_univ_iff_forall.mpr fun x => Finset.mem_biUnion.mpr ?_
  have hx : (x 0).val < 131072 := (x 0).isLt
  exact ⟨⟨(x 0).val / 4096, by omega⟩, Finset.mem_univ _, (mem_rowsOf _ _).2 rfl⟩

omit [FloatOps F] in
theorem oPts_rows (d : Dev nD) (f : Buf (Elt F) (oLoc d)) :
    (oLoc d ↦{fullShare} f : sProp 𝕄) = bigSep Finset.univ fun w : Fin 32 => oLoc d ↦[rowsOf w.val]{fullShare} f := by
  rw [← pointsTo_biUnion Finset.univ (ℓ := oLoc d) (fun w : Fin 32 => rowsOf w.val) rows_disjoint, rows_cover]; try rfl

theorem deal (d : Dev nD) :
    iprop((pLoc d ↦{fullShare} Pm m d) ∗ (cLoc d ↦{fullShare} Cm m d) ∗ (tLoc d ↦{fullShare} Tm m d) ∗ oLoc d ↦{fullShare} m (oLoc d))
      ⊢ (bigSep Finset.univ (fun c : Fin ((K (F := F)).nCore 0) => (P m).st 0 d c) : sProp 𝕄) := by
  refine BIBase.Entails.trans ?_ (Entails.of_eq (bigSep_tasks (F := F) (goT m d)).symm)
  unfold goT goPts
  rw [bigSep_sep', bigSep_sep', bigSep_sep', oPts_rows]
  iintro ⟨Hp, Hc, Ht, Ho⟩
  ihave Hp := (Transfers.pointsTo_toks_split (ℓ := pLoc d) (S := Finset.univ) (f := Pm m d) fullShare 32) $$ Hp
  ihave Hc := (Transfers.pointsTo_toks_split (ℓ := cLoc d) (S := Finset.univ) (f := Cm m d) fullShare 32) $$ Hc
  ihave Ht := (Transfers.pointsTo_toks_split (ℓ := tLoc d) (S := Finset.univ) (f := Tm m d) fullShare 32) $$ Ht
  icases Hp with ⟨-, Hp⟩
  icases Hc with ⟨-, Hc⟩
  icases Ht with ⟨-, Ht⟩
  isplitl [Hp]; · iexact Hp
  isplitl [Hc]; · iexact Hc
  isplitl [Ht]; · iexact Ht
  iexact Ho

theorem collect (d : Dev nD) :
    (bigSep Finset.univ (fun c : Fin ((K (F := F)).nCore 0) => (P m).dn 0 d c) : sProp 𝕄) ⊢ oLoc d ↦{fullShare} Om m d := by
  refine (Entails.of_eq (bigSep_tasks (F := F) (tdT m d))).trans ?_
  unfold tdT tdPts
  rw [bigSep_sep', bigSep_sep', bigSep_sep', oPts_rows]
  iintro ⟨-, -, -, Ho⟩
  iexact Ho

/-! ## @main on the TensorCore -/

/-- What @main leaves the claims: the arguments as launched, the two results. -/
abbrev FIN (d : Dev nD) : sProp 𝕄 := iprop(((SparseCore.T d).loc main_arg0 ↦{fullShare} m ((SparseCore.T d).loc main_arg0))
  ∗ ((SparseCore.T d).loc main_arg1 ↦{fullShare} m ((SparseCore.T d).loc main_arg1)) ∗ ((SparseCore.T d).loc main_arg2 ↦{fullShare} m ((SparseCore.T d).loc main_arg2))
  ∗ (oLoc d ↦{fullShare} Om m d) ∗ (SparseCore.T d).loc main_v8 ↦{fullShare} xyzOf (Om m d))

theorem unscoped_held (d : Dev nD) : (unscopedBufs d (fun b => m ((SparseCore.T d).loc b)) : sProp 𝕄) = held (SparseCore.T d) (Pipeline.ucRefs τ sig) (V0 m d) :=
  Pipeline.unscopedBufs_held d (V0 m d)

set_option maxRecDepth 16384 in
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (StableHlo.wp_seq 𝒱 none Set.univ d (Pipeline.ucRefs τ sig) _ ops1 ops1_sub ops1_fresh (V0 m d)) $$ [Hb Hheld]
  · isplitl [Hb] <;> iassumption
  iintro ⟨Hb, Hheld⟩
  ihave Hheld := (Entails.of_eq (show (held d.tc (Pipeline.ucRefs τ sig) (after ops1 (V0 m d)) : sProp 𝕄) = held (SparseCore.T d) (Pipeline.ucRefs τ sig) (V1 m d) from rfl)) $$ Hheld
  ihave Hh := (Entails.of_eq (held_sub_split (SparseCore.T d) S4_sub (V1 m d))) $$ Hheld
  icases Hh with ⟨H4, Hr⟩
  ihave Hh := (Entails.of_eq (held_sub_split (SparseCore.T d) S6_sub (V1 m d))) $$ Hr
  icases Hh with ⟨H6, -⟩
  ihave H4 := (Entails.of_eq (held_S4 (F := F) d (V1 m d))) $$ H4
  rw [V1_p, V1_c, V1_t, V1_o]
  rw [wp_bind]
  iapply ((K (F := F)).wp_run (D (F := F)) 𝒱 (EH := EH) (P := P m) κ d 0) $$ [Hst H4 Hb H6 Hts]
  isplitr; · iexact Hctx
  isplitl [Hst]; · iexact Hst
  isplitl [H4]; · iapply (deal m d) $$ H4
  iintro ⟨Hst, Hdn⟩
  ihave Ho := (collect m d) $$ Hdn
  ihave H6 := (Entails.of_eq (held_S6 (F := F) d (V1 m d))) $$ H6
  icases H6 with ⟨Ha0, Ha1, Ha2, H6, H7, H8⟩
  iapply (StableHlo.wp_seq 𝒱 none Set.univ d S7 _ ops2 ops2_sub ops2_fresh (V2 m d)) $$ [Hb Ha0 Ha1 Ha2 Ho H6 H7 H8]
  · isplitl [Hb]; · iexact Hb
    rw [held_S7, V2_o, V2_ne m d (b := main_arg0) (by decide), V2_ne m d (b := main_arg1) (by decide), V2_ne m d (b := main_arg2) (by decide),
      V2_ne m d (b := main_v6) (by decide), V2_ne m d (b := main_v7) (by decide), V2_ne m d (b := main_v8) (by decide)]
    isplitl [Ha0]; · iexact Ha0
    isplitl [Ha1]; · iexact Ha1
    isplitl [Ha2]; · iexact Ha2
    isplitl [Ho]; · iexact Ho
    isplitl [H6]; · iexact H6
    isplitl [H7]; · iexact H7
    iexact H8
  iintro ⟨Hb, Hheld⟩
  ihave Hh := (Entails.of_eq (held_S7 (F := F) d (after ops2 (V2 m d)))) $$ Hheld
  rw [V3_a0, V3_a1, V3_a2, V3_o, V3_x]
  icases Hh with ⟨Ha0, Ha1, Ha2, Ho, -, -, H8⟩
  rw [show (Pure.pure PUnit.unit : Prog _ PUnit) = .ret PUnit.unit from rfl, wp_ret]
  imodintro
  isplitl [Hst]; · iexact Hst
  isplitr [Hb Hts]
  · isplitl [Ha0]; · iexact Ha0
    isplitl [Ha1]; · iexact Ha1
    isplitl [Ha2]; · iexact Ha2
    isplitl [Ho]; · iexact Ho
    iexact H8
  isplitl [Hb] <;> iassumption

/-- What the claims read of a device's final state. -/
def fq (d : Dev nD) (s' : Phys nD τ sig (Elt F)) : Prop :=
  s'.mem.mem (oLoc d) = Om m d ∧ s'.mem.mem ((SparseCore.T d).loc main_v8) = xyzOf (Om m d)
    ∧ s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2)

omit [FloatOps F] in
theorem agree (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%hx, HSI, -⟩
  isplitr
  · ipureintro; exact funext fun i => hx i (Finset.mem_univ i)
  · iexact HSI

theorem hfin (d : Dev nD) (s' : Phys nD τ sig (Elt F)) : iprop(FIN m d ∗ SI s') ⊢ (⌜fq m d s'⌝ : sProp 𝕄) := by
  iintro ⟨⟨Ha0, Ha1, Ha2, Ho, H8⟩, HSI⟩
  ihave H := (agree _ _ s') $$ [HSI Ha0]
  · isplitl [Ha0] <;> iassumption
  icases H with ⟨%h0, HSI⟩
  ihave H := (agree _ _ s') $$ [HSI Ha1]
  · isplitl [Ha1] <;> iassumption
  icases H with ⟨%h1, HSI⟩
  ihave H := (agree _ _ s') $$ [HSI Ha2]
  · isplitl [Ha2] <;> iassumption
  icases H with ⟨%h2, HSI⟩
  ihave H := (agree _ _ s') $$ [HSI Ho]
  · isplitl [Ho] <;> iassumption
  icases H with ⟨%h5, HSI⟩
  ihave H := (agree _ _ s') $$ [HSI H8]
  · isplitl [H8] <;> iassumption
  icases H with ⟨%h8, HSI⟩
  ipureintro; exact ⟨h5, h8, h0, h1, h2⟩

/-! ## The program's run -/

def QC : PUnit × MemSt nD τ sig (Elt F) → Prop := fun r =>
  (∀ d : Dev nD, r.2.mem (oLoc d) = Om m d ∧ r.2.mem ((SparseCore.T d).loc main_v8) = xyzOf (Om m d)
    ∧ r.2.mem ((SparseCore.T d).loc main_arg0) = m ((SparseCore.T d).loc main_arg0) ∧ r.2.mem ((SparseCore.T d).loc main_arg1) = m ((SparseCore.T d).loc main_arg1)
    ∧ r.2.mem ((SparseCore.T d).loc main_arg2) = m ((SparseCore.T d).loc main_arg2)) ∧ r.2.sem = fun _ => 0

theorem run_main [∀ e, _root_.Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Ball
-- ==== Proof.IPre.lean ====
/-
  What the host hands the call, read at an index; the launch condition from the precondition; the frame.
-/
module

public import proofs.«01_k».proof.Proof.ILaunch
public import proofs.«01_k».proof.Proof.Pre

@[expose] public section

noncomputable section

namespace Cert.KernelIdeal.Ball

open Cert.KernelIdeal Cert.KernelIdeal.Gen Cert.Ball
open Idealize.ShloMosaic

variable {F : FTy → Type} [FloatOps F]

theorem ptsOf_at (p : S4x4096x3.Idx → F .f32) (b : Fin 4) (a : Fin 3) (j : Fin 4096) : ptsOf p (ValueIdx.ix3 b a j) = p (ix3 b j a) := by
  show ptsOf p (ix3 b a j) = _
  pointwise [ptsOf]

theorem cenOf_at (c : S4x512x3.Idx → F .f32) (g : Fin 2048) (l : Fin 16) (hl : l.val < 3) :
    cenOf c (ValueIdx.ix2 g l) = c (ix3 (⟨g.val / 512, by omega⟩ : Fin 4) (⟨g.val % 512, Nat.mod_lt _ (by decide)⟩ : Fin 512) (⟨l.val, hl⟩ : Fin 3)) := by
  show cenOf c (ix2 g l) = _
  pointwise [cenOf]
  exact dif_pos hl

theorem tabOf_at (x : S4x4096x125.Idx → F .f32) (p : S4x4096x3.Idx → F .f32) (r : Fin 16384) (l : Fin 128) :
    tabOf x p (ValueIdx.ix2 r l) = if h : l.val < 3 then p (ix3 (⟨r.val / 4096, by omega⟩ : Fin 4) (⟨r.val % 4096, Nat.mod_lt _ (by decide)⟩ : Fin 4096) (⟨l.val, h⟩ : Fin 3))
      else x (ix3 (⟨r.val / 4096, by omega⟩ : Fin 4) (⟨r.val % 4096, Nat.mod_lt _ (by decide)⟩ : Fin 4096) (⟨l.val - 3, by omega⟩ : Fin 125)) := by
  show tabOf x p (ix2 r l) = _
  pointwise [tabOf]

theorem xyzOf_at (g : SO.Idx → F .f32) (b : Fin 4) (a : Fin 3) (q : Fin 512) (k : Fin 64) :
    xyzOf g (ix4 b a q k) = g (ValueIdx.ix2 (⟨b.val * 32768 + q.val * 64 + k.val, by omega⟩ : Fin 131072) (⟨a.val, by omega⟩ : Fin 128)) := by
  show _ = g (ix2 _ _)
  pointwise [xyzOf]

/-- The hits of a centroid, from the arguments. -/
theorem hitAt_of (p : S4x4096x3.Idx → F .f32) (c : S4x512x3.Idx → F .f32) (b : Fin 4) (q : Fin 512) (j : Fin 4096) :
    hitAt (ptsOf p) (cenOf c) ⟨b.val * 512 + q.val, by omega⟩ j
      = (FloatOps.cmpf .ole
        (sqd (p (ix3 b j (0 : Fin 3))) (p (ix3 b j (1 : Fin 3))) (p (ix3 b j (2 : Fin 3)))
          (c (ix3 b q (0 : Fin 3))) (c (ix3 b q (1 : Fin 3))) (c (ix3 b q (2 : Fin 3))))
        (FloatOps.ofBits .f32 0x3D23D70A#32) == 1#1) := by
  have eb : ∀ h, (⟨(b.val * 512 + q.val) / 512, h⟩ : Fin 4) = b := fun _ => Fin.ext (by show (b.val * 512 + q.val) / 512 = b.val; omega)
  have eq : ∀ h, (⟨(b.val * 512 + q.val) % 512, h⟩ : Fin 512) = q := fun _ => Fin.ext (by show (b.val * 512 + q.val) % 512 = q.val; omega)
  unfold hitAt
  rw [ptsOf_at, ptsOf_at, ptsOf_at, cenOf_at c _ _ (by decide), cenOf_at c _ _ (by decide), cenOf_at c _ _ (by decide)]
  simp only [eb, eq]
  rfl

theorem nonempty_of_pre [Cert.Pre_balls_nonempty.Facts] (x : S4x4096x125.Idx → F .f32) (p : S4x4096x3.Idx → F .f32) (c : S4x512x3.Idx → F .f32)
    (h : Cert.Pre_balls_nonempty.fn x p c = fun _ => 1#1) : Nonempty (ptsOf p) (cenOf c) := by
  intro g hg
  obtain ⟨j, hj⟩ := ball_of_pre x p c h (⟨g / 512, by omega⟩ : Fin 4) (⟨g % 512, Nat.mod_lt _ (by decide)⟩ : Fin 512)
  have e := hitAt_of p c (⟨g / 512, by omega⟩ : Fin 4) (⟨g % 512, Nat.mod_lt _ (by decide)⟩ : Fin 512) j
  rw [hj] at e
  refine ⟨j.val, j.isLt, ?_⟩
  unfold hit
  rw [dif_pos ⟨hg, j.isLt⟩]
  rw [show (⟨g, hg⟩ : Fin 2048) = ⟨(⟨g / 512, by omega⟩ : Fin 4).val * 512 + (⟨g % 512, Nat.mod_lt _ (by decide)⟩ : Fin 512).val, by
    show g / 512 * 512 + g % 512 < 2048; omega⟩ from Fin.ext (by show g = g / 512 * 512 + g % 512; omega)]
  exact e

end Cert.KernelIdeal.Ball
-- ==== Proof.IFrame.lean ====
/-
  The program's frame: it runs, its arguments end unchanged, every semaphore ends at zero.
-/
module

public import proofs.«01_k».proof.Proof.IPre
public import proofs.«01_k».proof.Proof.Gen.Pre_balls_nonempty

@[expose] public section

noncomputable section

namespace Cert.KernelIdeal.Ball

open Cert.KernelIdeal Cert.KernelIdeal.Gen Cert.Ball
open Idealize.ShloMosaic Idealize.SL.Sem

theorem frame : Cert.quiescent_KernelIdeal (hKernelIdeal := Cert.KernelIdeal.Gen.facts) (hPre_balls_nonempty := Cert.Pre_balls_nonempty.Gen.facts) := fun m g hpre =>
  (θ_run (Cert.KernelIdeal.defs (F := Ideal)) (Cert.KernelIdeal.threads (F := Ideal)) _).mono
    (fun _ h => ⟨fun c => ⟨(h.1 c).2.2.1, (h.1 c).2.2.2.1, (h.1 c).2.2.2.2⟩, h.2⟩)
    (run_main (F := Ideal) m g fun d => letI := Cert.Pre_balls_nonempty.Gen.facts; nonempty_of_pre _ _ _ (hpre d))

end Cert.KernelIdeal.Ball
-- ==== Proof.RefOps.lean ====
/-
  The reference's result terms, cut into named stages: squared distances, candidates, sorted candidates, chosen indices,
  the two gathers along the points, and the two results.
-/
module

public import proofs.«01_k».proof.Proof.Gen.ReferenceIdeal.Run

@[expose] public section

noncomputable section

namespace Cert.ReferenceIdeal.Ball

open Cert.ReferenceIdeal Cert.ReferenceIdeal.Gen Cert.ReferenceIdeal.Value
open Idealize.ShloMosaic Idealize.ShloMosaic.TcCoe

variable {F : FTy → Type} [FloatOps F]

/-- The squared distance of every point from every centroid. -/
def dist (p : S4x4096x3.Idx → F .f32) (c : S4x512x3.Idx → F .f32) : S4x512x4096.Idx → F .f32 :=
  Host.reduceAdd (mulf (subf (broadcastInDim S4x512x4096x3 ![0, 1, 2, 3] bcast_S4x512x1x3_S4x512x4096x3_0_1_2_3 (broadcastInDim S4x512x1x3 ![0, 1, 3] bcast_S4x512x3_S4x512x1x3_0_1_3 c)) (broadcastInDim S4x512x4096x3 ![0, 1, 2, 3] bcast_S4x1x4096x3_S4x512x4096x3_0_1_2_3 (broadcastInDim S4x1x4096x3 ![0, 2, 3] bcast_S4x4096x3_S4x1x4096x3_0_2_3 p))) (subf (broadcastInDim S4x512x4096x3 ![0, 1, 2, 3] bcast_S4x512x1x3_S4x512x4096x3_0_1_2_3 (broadcastInDim S4x512x1x3 ![0, 1, 3] bcast_S4x512x3_S4x512x1x3_0_1_3 c)) (broadcastInDim S4x512x4096x3 ![0, 1, 2, 3] bcast_S4x1x4096x3_S4x512x4096x3_0_1_2_3 (broadcastInDim S4x1x4096x3 ![0, 2, 3] bcast_S4x4096x3_S4x1x4096x3_0_2_3 p)))) (constant S_ .f32 0x00000000#32) reducesTo_S4x512x4096x3_S4x512x4096_d3 h_S_

/-- A point's own index where it is within the radius, else 4096. -/
def cand (p : S4x4096x3.Idx → F .f32) (c : S4x512x3.Idx → F .f32) : S4x512x4096.Idx → BitVec 32 :=
  select (cmpf .ole (dist p c) (broadcastInDim S4x512x4096 ![] bcast_S_S4x512x4096 (constant S_ .f32 0x3D23D70A#32))) (broadcastInDim S4x512x4096 ![0, 1, 2] bcast_S1x1x4096_S4x512x4096_0_1_2 (broadcastInDim S1x1x4096 ![2] bcast_S4096_S1x1x4096_2 (iotaInDim S4096 32 0))) (broadcastInDim S4x512x4096 ![] bcast_S_S4x512x4096 (id (constantI S_ 32 4096#32)))

/-- Each centroid's first 64 candidates in ascending order, and the first of them in the places past the last hit. -/
def pick (K : S4x512x4096.Idx → BitVec 32) : S4x512x64.Idx → BitVec 32 :=
  select (cmpi .eq (extractStridedSlice S4x512x64 ![0, 0, 0] (Host.sort S4x512x4096 2 comparator_i32_d2 K) slices_S4x512x4096_S4x512x64_0_0_0) (broadcastInDim S4x512x64 ![] bcast_S_S4x512x64 (constantI S_ 32 4096#32))) (broadcastInDim S4x512x64 ![0, 1, 2] bcast_S4x512x1_S4x512x64_0_1_2 (extractStridedSlice S4x512x1 ![0, 0, 0] (extractStridedSlice S4x512x64 ![0, 0, 0] (Host.sort S4x512x4096 2 comparator_i32_d2 K) slices_S4x512x4096_S4x512x64_0_0_0) slices_S4x512x64_S4x512x1_0_0_0)) (extractStridedSlice S4x512x64 ![0, 0, 0] (Host.sort S4x512x4096 2 comparator_i32_d2 K) slices_S4x512x4096_S4x512x64_0_0_0)

/-- The indices laid out for the points' gather, a negative one wrapped. -/
def wrap3 (I : S4x512x64.Idx → BitVec 32) : S4x32768x3.Idx → BitVec 32 :=
  select (cmpi .slt (broadcastInDim S4x32768x3 ![0, 1, 2] bcast_S4x32768x1_S4x32768x3_0_1_2 (broadcastInDim S4x32768x1 ![0, 1] bcast_S4x32768_S4x32768x1_0_1 (shapeCast _ I shapeCasts_S4x512x64_S4x32768))) (broadcastInDim S4x32768x3 ![] bcast_S_S4x32768x3 (constantI S_ 32 0#32))) (addi (broadcastInDim S4x32768x3 ![0, 1, 2] bcast_S4x32768x1_S4x32768x3_0_1_2 (broadcastInDim S4x32768x1 ![0, 1] bcast_S4x32768_S4x32768x1_0_1 (shapeCast _ I shapeCasts_S4x512x64_S4x32768))) (broadcastInDim S4x32768x3 ![] bcast_S_S4x32768x3 (constantI S_ 32 4096#32))) (broadcastInDim S4x32768x3 ![0, 1, 2] bcast_S4x32768x1_S4x32768x3_0_1_2 (broadcastInDim S4x32768x1 ![0, 1] bcast_S4x32768_S4x32768x1_0_1 (shapeCast _ I shapeCasts_S4x512x64_S4x32768)))

/-- The indices laid out for the features' gather, a negative one wrapped. -/
def wrap125 (I : S4x512x64.Idx → BitVec 32) : S4x32768x125.Idx → BitVec 32 :=
  select (cmpi .slt (broadcastInDim S4x32768x125 ![0, 1, 2] bcast_S4x32768x1_S4x32768x125_0_1_2 (broadcastInDim S4x32768x1 ![0, 1] bcast_S4x32768_S4x32768x1_0_1 (shapeCast _ I shapeCasts_S4x512x64_S4x32768))) (broadcastInDim S4x32768x125 ![] bcast_S_S4x32768x125 (constantI S_ 32 0#32))) (addi (broadcastInDim S4x32768x125 ![0, 1, 2] bcast_S4x32768x1_S4x32768x125_0_1_2 (broadcastInDim S4x32768x1 ![0, 1] bcast_S4x32768_S4x32768x1_0_1 (shapeCast _ I shapeCasts_S4x512x64_S4x32768))) (broadcastInDim S4x32768x125 ![] bcast_S_S4x32768x125 (constantI S_ 32 4096#32))) (broadcastInDim S4x32768x125 ![0, 1, 2] bcast_S4x32768x1_S4x32768x125_0_1_2 (broadcastInDim S4x32768x1 ![0, 1] bcast_S4x32768_S4x32768x1_0_1 (shapeCast _ I shapeCasts_S4x512x64_S4x32768)))

/-- The points' gather: NaN where an index is out of range. -/
def take3 (p : S4x4096x3.Idx → F .f32) (J : S4x32768x3.Idx → BitVec 32) : S4x32768x3.Idx → F .f32 :=
  select (Host.reduce IntOp.andi (andi (cmpi .sge (shapeCast _ J shapeCasts_S4x32768x3_S4x32768x3x1) (broadcastInDim S4x32768x3x1 ![] bcast_S_S4x32768x3x1 (constantI S_ 32 0#32))) (cmpi .sle (shapeCast _ J shapeCasts_S4x32768x3_S4x32768x3x1) (broadcastInDim S4x32768x3x1 ![0, 1, 2, 3] bcast_S1x1x1x1_S4x32768x3x1_0_1_2_3 (broadcastInDim S1x1x1x1 ![3] bcast_S1_S1x1x1x1_3 (constantI S1 32 4095#32))))) (constantI S_ 1 1#1) reducesTo_S4x32768x3x1_S4x32768x3_d3 h_S_) (Host.gather gather_S4x4096x3_S4x32768x3x1_S4x32768x3_n_1_02_02_1_3_111 p (shapeCast _ J shapeCasts_S4x32768x3_S4x32768x3x1)) (broadcastInDim S4x32768x3 ![] bcast_S_S4x32768x3 (constant S_ .f32 0x7FC00000#32))

/-- The features' gather: NaN where an index is out of range. -/
def take125 (x : S4x4096x125.Idx → F .f32) (J : S4x32768x125.Idx → BitVec 32) : S4x32768x125.Idx → F .f32 :=
  select (Host.reduce IntOp.andi (andi (cmpi .sge (shapeCast _ J shapeCasts_S4x32768x125_S4x32768x125x1) (broadcastInDim S4x32768x125x1 ![] bcast_S_S4x32768x125x1 (constantI S_ 32 0#32))) (cmpi .sle (shapeCast _ J shapeCasts_S4x32768x125_S4x32768x125x1) (broadcastInDim S4x32768x125x1 ![0, 1, 2, 3] bcast_S1x1x1x1_S4x32768x125x1_0_1_2_3 (broadcastInDim S1x1x1x1 ![3] bcast_S1_S1x1x1x1_3 (constantI S1 32 4095#32))))) (constantI S_ 1 1#1) reducesTo_S4x32768x125x1_S4x32768x125_d3 h_S_) (Host.gather gather_S4x4096x125_S4x32768x125x1_S4x32768x125_n_1_02_02_1_3_111 x (shapeCast _ J shapeCasts_S4x32768x125_S4x32768x125x1)) (broadcastInDim S4x32768x125 ![] bcast_S_S4x32768x125 (constant S_ .f32 0x7FC00000#32))

/-- The gathered points less their centroids. -/
def gx (p : S4x4096x3.Idx → F .f32) (c : S4x512x3.Idx → F .f32) (I : S4x512x64.Idx → BitVec 32) : S4x512x64x3.Idx → F .f32 :=
  subf (shapeCast _ (take3 p (wrap3 I)) shapeCasts_S4x32768x3_S4x512x64x3) (broadcastInDim S4x512x64x3 ![0, 1, 2, 3] bcast_S4x512x1x3_S4x512x64x3_0_1_2_3 (broadcastInDim S4x512x1x3 ![0, 1, 3] bcast_S4x512x3_S4x512x1x3_0_1_3 c))

/-- The gathered features. -/
def gf (x : S4x4096x125.Idx → F .f32) (I : S4x512x64.Idx → BitVec 32) : S4x512x64x125.Idx → F .f32 :=
  shapeCast _ (take125 x (wrap125 I)) shapeCasts_S4x32768x125_S4x512x64x125

/-- The first result: a row of shifted points and features for every centroid and slot. -/
def outR (x : S4x4096x125.Idx → F .f32) (p : S4x4096x3.Idx → F .f32) (c : S4x512x3.Idx → F .f32) (I : S4x512x64.Idx → BitVec 32) :
    S131072x128.Idx → F .f32 :=
  shapeCast _ (concatenate S4x512x64x128 3 [⟨S4x512x64x3, (gx p c I)⟩, ⟨S4x512x64x125, (gf x I)⟩] concatenates_S4x512x64x3_S4x512x64x125_S4x512x64x128_d3) shapeCasts_S4x512x64x128_S131072x128

/-- The second result: the shifted points, their coordinate axis first. -/
def xyzR (p : S4x4096x3.Idx → F .f32) (c : S4x512x3.Idx → F .f32) (I : S4x512x64.Idx → BitVec 32) : S4x3x512x64.Idx → F .f32 :=
  transpose S4x3x512x64 [0, 3, 1, 2] (gx p c I) transposes_S4x512x64x3_S4x3x512x64_0_3_1_2

set_option maxRecDepth 8192 in
theorem res31 (m : (ℓ : Loc nD τ sig) → Buf (Elt F) ℓ) (d : Dev nD) :
    res_main_v31 m d = outR (m ((d.tc : Thread nD τ).loc main_arg0)) (m ((d.tc : Thread nD τ).loc main_arg1))
      (m ((d.tc : Thread nD τ).loc main_arg2))
      (pick (cand (F := F) (m ((d.tc : Thread nD τ).loc main_arg1)) (m ((d.tc : Thread nD τ).loc main_arg2)))) := rfl

set_option maxRecDepth 8192 in
theorem res32 (m : (ℓ : Loc nD τ sig) → Buf (Elt F) ℓ) (d : Dev nD) :
    res_main_v32 m d = xyzR (m ((d.tc : Thread nD τ).loc main_arg1)) (m ((d.tc : Thread nD τ).loc main_arg2))
      (pick (cand (F := F) (m ((d.tc : Thread nD τ).loc main_arg1)) (m ((d.tc : Thread nD τ).loc main_arg2)))) := rfl

end Cert.ReferenceIdeal.Ball
-- ==== Proof.RefTake.lean ====
/-
  The reference's gathers along the points, read at an index.
-/
module

public import proofs.«01_k».proof.Proof.RefOps
public import Idealize.ShloMosaic.Lib.Pointwise
public import Idealize.ShloMosaic.Lib.ReduceAll
public import Idealize.ShloMosaic.Lib.Tactic.CleanTypes
public import Idealize.ShloMosaic.Lib.Routing.OpsOrder

@[expose] public section

noncomputable section

namespace Cert.ReferenceIdeal.Ball

open Cert.ReferenceIdeal Cert.ReferenceIdeal.Gen Cert.ReferenceIdeal.Value
open Idealize.ShloMosaic

variable {F : FTy → Type} [FloatOps F]

section Gather

/-- The start index read for place `(b, r, l)`. -/
theorem siIdx_at {N n C : ℕ} (d : GatherDims ⟨3, ![4, N, C]⟩ ⟨4, ![4, n, C, 1]⟩ ⟨3, ![4, n, C]⟩)
    (hoff : d.offsetDims = []) (hsb : d.startIndicesBatchingDims = [0, 2]) (hivd : d.indexVectorDim = 3)
    (b : Fin 4) (r : Fin n) (l : Fin C) (k : Fin d.startIndexMap.length) (hk : k.val = 0) :
    d.siIdx (ix3 b r l) k = ix4 b r l (0 : Fin 1) := by
  obtain ⟨od, cd, ob, sb, sm, iv, ss, wf⟩ := d
  simp only at hoff hsb hivd
  subst hoff hsb hivd
  funext a
  refine Fin.ext ?_
  match a with
  | ⟨0, _⟩ => rfl
  | ⟨1, _⟩ => rfl
  | ⟨2, _⟩ => rfl
  | ⟨3, _⟩ => exact hk

/-- A gather along axis 1 with the other two axes batched, read at a place whose start index is in range. -/
theorem gather_at {α : Type} {N n C : ℕ} (d : GatherDims ⟨3, ![4, N, C]⟩ ⟨4, ![4, n, C, 1]⟩ ⟨3, ![4, n, C]⟩)
    (hoff : d.offsetDims = []) (hcoll : d.collapsedSliceDims = [1]) (hob : d.operandBatchingDims = [0, 2])
    (hsb : d.startIndicesBatchingDims = [0, 2]) (hsim : d.startIndexMap = [1]) (hivd : d.indexVectorDim = 3)
    (x : (⟨3, ![4, N, C]⟩ : Shape).Idx → α) (idx : IVec ⟨4, ![4, n, C, 1]⟩ 32)
    (b : Fin 4) (r : Fin n) (l : Fin C) (j : Fin N) (hj : (idx (ix4 b r l (0 : Fin 1))).toInt.toNat = j.val) :
    Host.gather d x idx (ix3 b r l) = x (ix3 b j l) := by
  have hs0 := d.slice_collapsed 1 (by rw [hcoll]; exact List.mem_singleton.mpr rfl)
  have hsi := fun k hk => siIdx_at d hoff hsb hivd b r l k hk
  obtain ⟨od, cd, ob, sb, sm, iv, ss, wf⟩ := d
  simp only at hoff hcoll hob hsb hsim hivd hs0
  subst hoff hcoll hob hsb hsim hivd
  unfold Host.gather
  congr 1
  funext a
  refine Fin.ext ?_
  match a with
  | ⟨0, _⟩ =>
    show GatherDims.start _ _ _ _ + GatherDims.batchCoord _ _ _ + GatherDims.offCoord _ _ _ = _
    rw [GatherDims.start_batching _ _ _ _ (by simp), GatherDims.offCoord_eq_zero _ _ _ (fun h => ((GatherDims.mem_sKept _ _).mp h).2 (by simp))]
    unfold GatherDims.batchCoord
    rw [dif_pos (by simp)]
    simp only [Nat.zero_add, Nat.add_zero]
    rfl
  | ⟨1, _⟩ =>
    show GatherDims.start _ _ _ _ + GatherDims.batchCoord _ _ _ + GatherDims.offCoord _ _ _ = _
    rw [GatherDims.batchCoord_eq_zero _ _ _ (by simp), GatherDims.offCoord_eq_zero _ _ _ (fun h => ((GatherDims.mem_sKept _ _).mp h).1 (by simp))]
    unfold GatherDims.start
    rw [dif_pos (by simp), hsi _ (by simp)]
    simp only [Nat.add_zero]
    show min _ (N - ss 1) = j.val
    rw [hs0, hj]
    have := j.isLt
    omega
  | ⟨2, _⟩ =>
    show GatherDims.start _ _ _ _ + GatherDims.batchCoord _ _ _ + GatherDims.offCoord _ _ _ = _
    rw [GatherDims.start_batching _ _ _ _ (by simp), GatherDims.offCoord_eq_zero _ _ _ (fun h => ((GatherDims.mem_sKept _ _).mp h).2 (by simp))]
    unfold GatherDims.batchCoord
    rw [dif_pos (by simp)]
    simp only [Nat.zero_add, Nat.add_zero]
    rfl

end Gather

/-- A word below 4096 is not negative, and within the axis. -/
theorem word_facts (n : Fin 4096) : IntOp.cmpi .slt (BitVec.ofNat 32 n.val) 0#32 = 0#1 ∧ IntOp.cmpi .sge (BitVec.ofNat 32 n.val) 0#32 = 1#1
    ∧ IntOp.cmpi .sle (BitVec.ofNat 32 n.val) 4095#32 = 1#1 ∧ (BitVec.ofNat 32 n.val).toInt.toNat = n.val := by
  have h := n.isLt
  have e : (BitVec.ofNat 32 n.val).toInt = n.val := by
    rw [BitVec.toInt_eq_toNat_cond, BitVec.toNat_ofNat, Nat.mod_eq_of_lt (by omega)]; split <;> omega
  have z : (0#32 : BitVec 32).toInt = 0 := rfl
  have t : (4095#32 : BitVec 32).toInt = 4095 := rfl
  refine ⟨?_, ?_, ?_, by rw [e]; rfl⟩
  · show BitVec.ofBool (BitVec.slt _ _) = 0#1
    rw [BitVec.slt, e, z, decide_eq_false (by omega)]; rfl
  · show BitVec.ofBool (BitVec.sle _ _) = 1#1
    rw [BitVec.sle, e, z, decide_eq_true (by omega)]; rfl
  · show BitVec.ofBool (BitVec.sle _ _) = 1#1
    rw [BitVec.sle, e, t, decide_eq_true (by omega)]; rfl

theorem select_zero {α : Type} (a b : α) : Scalar.select 0#1 a b = b := rfl
theorem select_one {α : Type} (a b : α) : Scalar.select 1#1 a b = a := rfl

theorem fold_one (n : ℕ) : Finset.fold IntOp.andi (1#1) (fun _ : Fin n => IntOp.andi 1#1 1#1) Finset.univ = 1#1 := by
  rw [Finset.fold_const] <;> simp [IntOp.andi]

theorem wrap3_at (I : S4x512x64.Idx → BitVec 32) (b : Fin 4) (q : Fin 512) (k : Fin 64) (l : Fin 3) (n : Fin 4096)
    (h : I (ix3 b q k) = BitVec.ofNat 32 n.val) : wrap3 I (ix3 b (⟨q.val * 64 + k.val, by omega⟩ : Fin 32768) l) = BitVec.ofNat 32 n.val := by
  pointwise [wrap3]
  rw [h, (word_facts n).1, select_zero]

theorem wrap125_at (I : S4x512x64.Idx → BitVec 32) (b : Fin 4) (q : Fin 512) (k : Fin 64) (l : Fin 125) (n : Fin 4096)
    (h : I (ix3 b q k) = BitVec.ofNat 32 n.val) : wrap125 I (ix3 b (⟨q.val * 64 + k.val, by omega⟩ : Fin 32768) l) = BitVec.ofNat 32 n.val := by
  pointwise [wrap125]
  rw [h, (word_facts n).1, select_zero]

theorem take3_at (p : S4x4096x3.Idx → F .f32) (J : S4x32768x3.Idx → BitVec 32) (b : Fin 4) (r : Fin 32768) (l : Fin 3) (n : Fin 4096)
    (h : J (ix3 b r l) = BitVec.ofNat 32 n.val) : take3 p J (ix3 b r l) = p (ix3 b n l) := by
  pointwise [take3]
  rw [h, (word_facts n).2.1, (word_facts n).2.2.1, fold_one, select_one]
  refine gather_at _ rfl rfl rfl rfl rfl rfl p _ b r l n ?_
  have e : shapeCast S4x32768x3x1 J shapeCasts_S4x32768x3_S4x32768x3x1 (ix4 b r l (0 : Fin 1)) = J (ix3 b r l) := by pointwise
  rw [e, h, (word_facts n).2.2.2]

theorem take125_at (x : S4x4096x125.Idx → F .f32) (J : S4x32768x125.Idx → BitVec 32) (b : Fin 4) (r : Fin 32768) (l : Fin 125) (n : Fin 4096)
    (h : J (ix3 b r l) = BitVec.ofNat 32 n.val) : take125 x J (ix3 b r l) = x (ix3 b n l) := by
  pointwise [take125]
  rw [h, (word_facts n).2.1, (word_facts n).2.2.1, fold_one, select_one]
  refine gather_at _ rfl rfl rfl rfl rfl rfl x _ b r l n ?_
  have e : shapeCast S4x32768x125x1 J shapeCasts_S4x32768x125_S4x32768x125x1 (ix4 b r l (0 : Fin 1)) = J (ix3 b r l) := by pointwise
  rw [e, h, (word_facts n).2.2.2]

/-- A shifted point: the picked point less its centroid. -/
theorem gx_at (p : S4x4096x3.Idx → F .f32) (c : S4x512x3.Idx → F .f32) (I : S4x512x64.Idx → BitVec 32) (b : Fin 4) (q : Fin 512) (k : Fin 64)
    (l : Fin 3) (n : Fin 4096) (h : I (ix3 b q k) = BitVec.ofNat 32 n.val) :
    gx p c I (ix4 b q k l) = FloatOps.subf (p (ix3 b n l)) (c (ix3 b q l)) := by
  have e := take3_at p _ b _ l n (wrap3_at I b q k l n h)
  pointwise [gx]
  rw [← e]

/-- A picked point's features. -/
theorem gf_at (x : S4x4096x125.Idx → F .f32) (I : S4x512x64.Idx → BitVec 32) (b : Fin 4) (q : Fin 512) (k : Fin 64)
    (l : Fin 125) (n : Fin 4096) (h : I (ix3 b q k) = BitVec.ofNat 32 n.val) : gf x I (ix4 b q k l) = x (ix3 b n l) := by
  have e := take125_at x _ b _ l n (wrap125_at I b q k l n h)
  pointwise [gf]
  rw [← e]

/-- The second result at an index. -/
theorem xyzR_at (p : S4x4096x3.Idx → F .f32) (c : S4x512x3.Idx → F .f32) (I : S4x512x64.Idx → BitVec 32) (b : Fin 4) (a : Fin 3) (q : Fin 512)
    (k : Fin 64) : xyzR p c I (ix4 b a q k) = gx p c I (ix4 b q k a) := by
  pointwise [xyzR]

/-- The first result at an index. -/
theorem outR_at (x : S4x4096x125.Idx → F .f32) (p : S4x4096x3.Idx → F .f32) (c : S4x512x3.Idx → F .f32) (I : S4x512x64.Idx → BitVec 32)
    (b : Fin 4) (q : Fin 512) (k : Fin 64) (l : Fin 128) :
    outR x p c I (ix2 (⟨b.val * 32768 + q.val * 64 + k.val, by omega⟩ : Fin 131072) l)
      = if h : l.val < 3 then gx p c I (ix4 b q k (⟨l.val, h⟩ : Fin 3)) else gf x I (ix4 b q k (⟨l.val - 3, by omega⟩ : Fin 125)) := by
  pointwise [outR]

end Cert.ReferenceIdeal.Ball
-- ==== Proof.RefSort.lean ====
/-
  The reference's chosen indices: the candidates of a centroid sorted, the first 64 taken, and the places past the last hit
  filled with the first.
-/
module

public import proofs.«01_k».proof.Proof.RefOps
public import proofs.«01_k».proof.Proof.Spec
public import Idealize.ShloMosaic.Lib.Pointwise
public import Idealize.ShloMosaic.Lib.SortFacts

@[expose] public section

noncomputable section

namespace Cert.ReferenceIdeal.Ball

open Cert.ReferenceIdeal Cert.ReferenceIdeal.Gen Cert.Ball
open Idealize.ShloMosaic

/-- A count as a number of elements. -/
theorem cnt_card (h : ℕ → Bool) (n : ℕ) : cnt h n = ((Finset.range n).filter fun j => h j = true).card := by
  induction n with
  | zero => rfl
  | succ n ih =>
    rw [Finset.range_add_one, Finset.filter_insert]
    by_cases hn : h n = true
    · rw [if_pos hn, Finset.card_insert_of_notMem (by simp), cnt_succ_of h n hn, ih]
    · rw [if_neg hn, cnt_succ_not h n (by simpa using hn), ih]

/-- A row of candidates: a hit's own index, 4096 elsewhere. -/
def rowKey (h : ℕ → Bool) (j : ℕ) : ℕ := if h j = true then j else 4096

theorem rowKey_le (h : ℕ → Bool) (j : Fin 4096) : rowKey h j.val ≤ 4096 := by
  unfold rowKey; split <;> omega

/-- Whether a candidate sorts before another. -/
def before (h : ℕ → Bool) (k k' : Fin 4096) : Bool := decide (rowKey h k.val < rowKey h k'.val)

theorem before_asc (h : ℕ → Bool) (i j : Fin 4096) (hij : i < j) :
    rowKey h (sortedFrom (before h) i).val ≤ rowKey h (sortedFrom (before h) j).val := by
  have := sortedFrom_noInversion (before h) (before h) (fun a b e => by simp only [before, decide_eq_true_eq, decide_eq_false_iff_not] at *; omega)
    (fun _ _ e => e) (fun a b c e f => by simp only [before, decide_eq_false_iff_not] at *; omega) i j hij
  simp only [before, decide_eq_false_iff_not] at this
  omega

/-- The place a hit is sorted to is the number of hits before it. -/
theorem place_of_hit (h : ℕ → Bool) (i j : Fin 4096) (hj : h j.val = true) (e : sortedFrom (before h) i = j) : i.val = cnt h j.val := by
  have hinj := sortedFrom_injective (before h)
  have kj : rowKey h j.val = j.val := if_pos hj
  rw [cnt_card]
  have : ((Finset.univ : Finset (Fin 4096)).filter fun a => a < i).card = i.val := by
    rw [show ((Finset.univ : Finset (Fin 4096)).filter fun a => a < i) = Finset.Iio i from by ext a; simp, Fin.card_Iio]
  rw [← this]
  refine Finset.card_bij (fun a _ => (sortedFrom (before h) a).val) ?_ (fun a _ b _ hab => hinj (Fin.ext hab)) ?_
  · intro a ha
    have ha : a < i := (Finset.mem_filter.mp ha).2
    have hle := before_asc h a i ha
    rw [e, kj] at hle
    have hne : sortedFrom (before h) a ≠ j := fun e' => (ne_of_lt ha) (hinj (e'.trans e.symm))
    have hv : (sortedFrom (before h) a).val ≠ j.val := fun e' => hne (Fin.ext e')
    have := j.isLt
    unfold rowKey at hle
    split at hle
    · rename_i hh
      exact Finset.mem_filter.mpr ⟨Finset.mem_range.mpr (by omega), hh⟩
    · omega
  · intro b hb
    obtain ⟨hb1, hb2⟩ := Finset.mem_filter.mp hb
    have hb1 := Finset.mem_range.mp hb1
    obtain ⟨a, ha⟩ := sortedFrom_surjective (before h) ⟨b, by have := j.isLt; omega⟩
    refine ⟨a, Finset.mem_filter.mpr ⟨Finset.mem_univ _, ?_⟩, by rw [ha]⟩
    by_contra hc
    rcases (not_lt.mp hc).eq_or_lt with hc | hc
    · rw [← hc, e] at ha
      have := congrArg Fin.val ha
      simp only at this
      omega
    · have := before_asc h i a hc
      rw [ha, e, kj] at this
      unfold rowKey at this
      rw [if_pos hb2] at this
      have hbj : b < j.val := hb1
      exact absurd this (not_le.mpr hbj)

/-- The sorted row at place `i` below the number of hits: the hit with `i` hits before it. -/
theorem sorted_hit (h : ℕ → Bool) (i : Fin 4096) (hi : i.val < cnt h 4096) :
    ∃ j, j < 4096 ∧ h j = true ∧ cnt h j = i.val ∧ rowKey h (sortedFrom (before h) i).val = j := by
  obtain ⟨j, hj, hh, hc⟩ := exists_hit h 4096 i.val hi
  obtain ⟨a, ha⟩ := sortedFrom_surjective (before h) ⟨j, hj⟩
  have := place_of_hit h a ⟨j, hj⟩ hh ha
  have e : a = i := Fin.ext (this.trans hc)
  subst e
  exact ⟨j, hj, hh, hc, by rw [ha]; exact if_pos hh⟩

/-- The sorted row past the number of hits: 4096. -/
theorem sorted_miss (h : ℕ → Bool) (i : Fin 4096) (hi : cnt h 4096 ≤ i.val) : rowKey h (sortedFrom (before h) i).val = 4096 := by
  refine if_neg fun hh => ?_
  have := place_of_hit h i _ hh rfl
  have := cnt_lt_of_hit h hh (sortedFrom (before h) i).isLt
  omega

/-- The slot's choice out of the sorted row. -/
theorem sel_of_sorted (h : ℕ → Bool) (hne : ∃ j, j < 4096 ∧ h j = true) (k : Fin 64) (s : ℕ → ℕ)
    (hs : ∀ i : Fin 4096, s i.val = rowKey h (sortedFrom (before h) i).val) :
    (if s k.val = 4096 then s 0 else s k.val) = sel h k.val := by
  have hp : 0 < cnt h 4096 := by obtain ⟨j, a, b⟩ := hne; exact cnt_pos_of_hit h b a
  symm
  apply sel_eq
  by_cases hk : k.val < cnt h 4096
  · obtain ⟨j, a, b, c, d⟩ := sorted_hit h ⟨k.val, by omega⟩ hk
    have := hs ⟨k.val, by omega⟩
    simp only at this
    rw [if_neg (by omega), this, d]
    exact ⟨a, b, .inl c⟩
  · have e := sorted_miss h ⟨k.val, by omega⟩ (not_lt.mp hk)
    have := hs ⟨k.val, by omega⟩
    simp only at this
    rw [if_pos (by omega)]
    obtain ⟨j, a, b, c, d⟩ := sorted_hit h ⟨0, by omega⟩ hp
    have := hs ⟨0, by omega⟩
    simp only at this
    rw [this, d]
    exact ⟨a, b, .inr ⟨not_lt.mp hk, c⟩⟩

theorem along_at {A B n : ℕ} (b : Fin A) (q : Fin B) (i k : Fin n) :
    Shape.Idx.along (s := ⟨3, ![A, B, n]⟩) (ix3 b q i) (2 : Fin 3) k = ix3 b q k := by
  funext a
  match a with
  | ⟨0, _⟩ => rfl
  | ⟨1, _⟩ => rfl
  | ⟨2, _⟩ => rfl

/-- A sort along the last of three axes, at a place. -/
theorem sort3_at {α : Type} {A B n : ℕ} (cmp : α → α → BitVec 1) (K : (⟨3, ![A, B, n]⟩ : Shape).Idx → α) (b : Fin A) (q : Fin B) (i : Fin n) :
    Host.sort ⟨3, ![A, B, n]⟩ 2 cmp K (ix3 b q i)
      = K (ix3 b q (sortedFrom (fun k k' : Fin n => cmp (K (ix3 b q k)) (K (ix3 b q k')) == 1#1) i)) := by
  have e : Host.sort ⟨3, ![A, B, n]⟩ 2 cmp K (ix3 b q i)
      = K (Shape.Idx.along (s := ⟨3, ![A, B, n]⟩) (ix3 b q i) (2 : Fin 3) (sortedFrom (fun k k' : Fin n =>
        cmp (K (Shape.Idx.along (s := ⟨3, ![A, B, n]⟩) (ix3 b q i) (2 : Fin 3) k)) (K (Shape.Idx.along (s := ⟨3, ![A, B, n]⟩) (ix3 b q i) (2 : Fin 3) k')) == 1#1) i)) :=
    by unfold Host.sort; exact dif_pos (show 2 < 3 by decide)
  rw [e]
  simp only [along_at]
  exact congrArg K (along_at b q i _)

/-- The printed sort of a table of such rows, at a place. -/
theorem sort_at (K : S4x512x4096.Idx → BitVec 32) (b : Fin 4) (q : Fin 512) (h : ℕ → Bool)
    (hK : ∀ j : Fin 4096, K (ix3 b q j) = BitVec.ofNat 32 (rowKey h j.val)) (i : Fin 4096) :
    Host.sort S4x512x4096 2 comparator_i32_d2 K (ix3 b q i) = BitVec.ofNat 32 (rowKey h (sortedFrom (before h) i).val) := by
  refine (sort3_at comparator_i32_d2 K b q i).trans ?_
  rw [hK]
  have eB : (fun k k' : Fin 4096 => comparator_i32_d2 (K (ix3 b q k)) (K (ix3 b q k')) == 1#1) = before h := by
    funext k k'
    rw [hK, hK]
    have := rowKey_le h k
    have := rowKey_le h k'
    show (BitVec.ofBool ((BitVec.ofNat 32 _).slt (BitVec.ofNat 32 _)) == 1#1) = decide _
    rw [slt_ofNat _ _ (by omega) (by omega)]
    by_cases hl : rowKey h k.val < rowKey h k'.val
    · rw [decide_eq_true hl]; rfl
    · rw [decide_eq_false hl]; rfl
  rw [eB]

/-- The chosen index of a slot. -/
theorem pick_at (K : S4x512x4096.Idx → BitVec 32) (b : Fin 4) (q : Fin 512) (h : ℕ → Bool) (hne : ∃ j, j < 4096 ∧ h j = true)
    (hK : ∀ j : Fin 4096, K (ix3 b q j) = BitVec.ofNat 32 (rowKey h j.val)) (k : Fin 64) :
    pick K (ix3 b q k) = BitVec.ofNat 32 (sel h k.val) := by
  have hs := sort_at K b q h hK
  rw [← sel_of_sorted h hne k (fun i => if hi : i < 4096 then rowKey h (sortedFrom (before h) ⟨i, hi⟩).val else 0)
    (fun i => dif_pos i.isLt)]
  simp only [show k.val < 4096 from by omega, show (0:ℕ) < 4096 from by omega, dite_true]
  generalize hS : Host.sort S4x512x4096 2 comparator_i32_d2 K = S at hs
  unfold pick
  rw [hS]
  pointwise
  rw [hs, hs]
  have l := rowKey_le h (sortedFrom (before h) ⟨k.val, by omega⟩)
  show Scalar.select (BitVec.ofBool (BitVec.ofNat 32 _ == BitVec.ofNat 32 4096)) _ _ = _
  by_cases e : rowKey h (sortedFrom (before h) ⟨k.val, by omega⟩).val = 4096
  · rw [if_pos e, e, beq_self_eq_true]; rfl
  · rw [if_neg e, beq_eq_false_iff_ne.mpr (fun e' => e (by
      have := congrArg BitVec.toNat e'
      rw [BitVec.toNat_ofNat, BitVec.toNat_ofNat, Nat.mod_eq_of_lt (by omega)] at this
      simpa using this))]; rfl

end Cert.ReferenceIdeal.Ball
-- ==== Proof.RefValue.lean ====
/-
  The reference and the kernel compute the same arrays over the extended reals.
-/
module

public import proofs.«01_k».proof.Proof.RefTake
public import proofs.«01_k».proof.Proof.RefSort
public import proofs.«01_k».proof.Proof.IPre
public import Idealize.ShloMosaic.Lib.IdealHost

@[expose] public section

noncomputable section

namespace Cert.ReferenceIdeal.Ball

open Cert.ReferenceIdeal Cert.ReferenceIdeal.Gen Cert.Ball
open Idealize.ShloMosaic

/-- A square of a difference does not see the difference's sign. -/
theorem sq_sub_comm (a b : EReal) : (a - b) * (a - b) = (b - a) * (b - a) := by
  induction a <;> induction b <;> try rfl
  rename_i x y
  rw [← EReal.coe_sub, ← EReal.coe_sub, ← EReal.coe_mul, ← EReal.coe_mul]
  congr 1; ring

/-- The reference's squared distance is the kernel's. -/
theorem dist_at (p : S4x4096x3.Idx → Ideal .f32) (c : S4x512x3.Idx → Ideal .f32) (b : Fin 4) (q : Fin 512) (j : Fin 4096) :
    dist (F := Ideal) p c (ix3 b q j)
      = sqd (p (ix3 b j (0 : Fin 3))) (p (ix3 b j (1 : Fin 3))) (p (ix3 b j (2 : Fin 3)))
        (c (ix3 b q (0 : Fin 3))) (c (ix3 b q (1 : Fin 3))) (c (ix3 b q (2 : Fin 3))) := by
  unfold dist
  refine (show _ = Ideal.hostReduceAdd _ _ _ _ from rfl).trans ?_
  pointwise
  rw [Fin.sum_univ_three, sq_sub_comm (c _), sq_sub_comm (c _), sq_sub_comm (c _)]
  rfl

/-- A candidate: the point's own index where it is a hit. -/
theorem cand_at (p : S4x4096x3.Idx → Ideal .f32) (c : S4x512x3.Idx → Ideal .f32) (b : Fin 4) (q : Fin 512) (j : Fin 4096) :
    cand (F := Ideal) p c (ix3 b q j) = BitVec.ofNat 32 (rowKey (hit (Cert.KernelIdeal.Ball.ptsOf p) (Cert.KernelIdeal.Ball.cenOf c) (b.val * 512 + q.val)) j.val) := by
  have e := Cert.KernelIdeal.Ball.hitAt_of p c b q j
  rw [← dist_at] at e
  have eh : hit (Cert.KernelIdeal.Ball.ptsOf p) (Cert.KernelIdeal.Ball.cenOf c) (b.val * 512 + q.val) j.val
      = (FloatOps.cmpf .ole (dist (F := Ideal) p c (ix3 b q j)) (FloatOps.ofBits .f32 0x3D23D70A#32) == 1#1) := by
    unfold hit
    rw [dif_pos ⟨by omega, j.isLt⟩]
    exact e
  unfold rowKey
  rw [eh]
  clear eh e
  pointwise [cand]
  generalize dist (F := Ideal) p c (ix3 b q j) = y
  show (if y ≤ _ then _ else 4096#32) = BitVec.ofNat 32 (if (BitVec.ofBool (decide (y ≤ Ideal.ofBits .f32 0x3D23D70A#32)) == 1#1) = true then _ else _)
  by_cases hy : y ≤ Ideal.ofBits .f32 0x3D23D70A#32
  · rw [if_pos hy, decide_eq_true hy]; rfl
  · rw [if_neg hy, decide_eq_false hy]; rfl

theorem div_4096 (a n : ℕ) (h : n < 4096) : (a * 4096 + n) / 4096 = a := by omega
theorem mod_4096 (a n : ℕ) (h : n < 4096) : (a * 4096 + n) % 4096 = n := by omega

section

variable (x : S4x4096x125.Idx → Ideal .f32) (p : S4x4096x3.Idx → Ideal .f32) (c : S4x512x3.Idx → Ideal .f32)

/-- The index a slot takes. -/
theorem pick_cand (hne : Nonempty (Cert.KernelIdeal.Ball.ptsOf p) (Cert.KernelIdeal.Ball.cenOf c)) (b : Fin 4) (q : Fin 512) (k : Fin 64) :
    pick (cand (F := Ideal) p c) (ix3 b q k)
      = BitVec.ofNat 32 (sel (hit (Cert.KernelIdeal.Ball.ptsOf p) (Cert.KernelIdeal.Ball.cenOf c) (b.val * 512 + q.val)) k.val) :=
  pick_at _ b q _ (hne (b.val * 512 + q.val) (by omega)) (cand_at p c b q) k

/-- The kernel's output row of a slot. -/
theorem out_at (b : Fin 4) (q : Fin 512) (k : Fin 64) (l : Fin 128) (n : Fin 4096)
    (hn : sel (hit (Cert.KernelIdeal.Ball.ptsOf p) (Cert.KernelIdeal.Ball.cenOf c) (b.val * 512 + q.val)) k.val = n.val) :
    out (Cert.KernelIdeal.Ball.ptsOf p) (Cert.KernelIdeal.Ball.cenOf c) (Cert.KernelIdeal.Ball.tabOf x p)
        (ValueIdx.ix2 (⟨b.val * 32768 + q.val * 64 + k.val, by omega⟩ : Fin 131072) l)
      = if h : l.val < 3 then p (ix3 b n (⟨l.val, h⟩ : Fin 3)) - c (ix3 b q (⟨l.val, h⟩ : Fin 3))
        else x (ix3 b n (⟨l.val - 3, by omega⟩ : Fin 125)) := by
  have e1 : (b.val * 32768 + q.val * 64 + k.val) / 64 = b.val * 512 + q.val := by omega
  have e2 : (b.val * 32768 + q.val * 64 + k.val) % 64 = k.val := by omega
  have e3 : (b.val * 512 + q.val) / 512 = b.val := by omega
  have e4 : (b.val * 512 + q.val) % 512 = q.val := by omega
  have er : rowOf (Cert.KernelIdeal.Ball.ptsOf p) (Cert.KernelIdeal.Ball.cenOf c) (b.val * 512 + q.val) k.val = b.val * 4096 + n.val := by
    rw [rowOf, hn, e3]
  have e0 : (b.val * 4096 + n.val) % 16384 = b.val * 4096 + n.val := Nat.mod_eq_of_lt (by omega)
  have e5 : (b.val * 4096 + n.val) / 4096 = b.val := div_4096 _ _ n.isLt
  have e6 : (b.val * 4096 + n.val) % 4096 = n.val := mod_4096 _ _ n.isLt
  unfold out
  rw [Cert.KernelIdeal.Ball.tabOf_at]
  simp only [e1, e2, er, e0, e5, e6, Fin.eta]
  rw [show (ValueIdx.ix2 (⟨b.val * 32768 + q.val * 64 + k.val, by omega⟩ : Fin 131072) l : SO.Idx) 1 = l from rfl]
  unfold cell shift
  by_cases h : l.val < 3
  · rw [dif_pos (show l.val < 16 by omega), dif_pos h, dif_pos h, if_pos h, Cert.KernelIdeal.Ball.cenOf_at _ _ _ h]
    simp only [e3, e4, Fin.eta]
    rfl
  · rw [dif_neg h, dif_neg h]
    split
    · show _ - Ideal.ofBits .f32 0x00000000#32 = _
      rw [Ideal.ofBits_zero_f32, sub_zero]
    · rfl

/-- The first result is the kernel's output. -/
theorem out_eq (hne : Nonempty (Cert.KernelIdeal.Ball.ptsOf p) (Cert.KernelIdeal.Ball.cenOf c)) :
    outR (F := Ideal) x p c (pick (cand (F := Ideal) p c))
      = out (Cert.KernelIdeal.Ball.ptsOf p) (Cert.KernelIdeal.Ball.cenOf c) (Cert.KernelIdeal.Ball.tabOf x p) := by
  funext i
  obtain ⟨r, l, rfl⟩ : ∃ (r : Fin 131072) (l : Fin 128), i = ix2 r l := ⟨i 0, i 1, by funext a; match a with | ⟨0, _⟩ => rfl | ⟨1, _⟩ => rfl⟩
  obtain ⟨b, q, k, rfl⟩ : ∃ (b : Fin 4) (q : Fin 512) (k : Fin 64), r = ⟨b.val * 32768 + q.val * 64 + k.val, by omega⟩ :=
    ⟨⟨r.val / 32768, by omega⟩, ⟨r.val / 64 % 512, by omega⟩, ⟨r.val % 64, by omega⟩, Fin.ext (by show r.val = r.val / 32768 * 32768 + r.val / 64 % 512 * 64 + r.val % 64; omega)⟩
  have hs := sel_lt (hit (Cert.KernelIdeal.Ball.ptsOf p) (Cert.KernelIdeal.Ball.cenOf c) (b.val * 512 + q.val)) k.val (hne _ (by omega))
  have hp := pick_cand p c hne b q k
  rw [outR_at]
  refine Eq.trans ?_ (out_at x p c b q k l ⟨_, hs⟩ rfl).symm
  by_cases h : l.val < 3
  · rw [dif_pos h, dif_pos h, gx_at p c _ b q k _ ⟨_, hs⟩ hp]; rfl
  · rw [dif_neg h, dif_neg h, gf_at x _ b q k _ ⟨_, hs⟩ hp]

/-- The second result is the kernel's, read out of its output. -/
theorem xyz_eq (hne : Nonempty (Cert.KernelIdeal.Ball.ptsOf p) (Cert.KernelIdeal.Ball.cenOf c)) :
    xyzR (F := Ideal) p c (pick (cand (F := Ideal) p c))
      = Cert.KernelIdeal.Ball.xyzOf (out (Cert.KernelIdeal.Ball.ptsOf p) (Cert.KernelIdeal.Ball.cenOf c) (Cert.KernelIdeal.Ball.tabOf x p)) := by
  funext i
  obtain ⟨b, a, q, k, rfl⟩ : ∃ (b : Fin 4) (a : Fin 3) (q : Fin 512) (k : Fin 64), i = ix4 b a q k :=
    ⟨i 0, i 1, i 2, i 3, by funext z; match z with | ⟨0, _⟩ => rfl | ⟨1, _⟩ => rfl | ⟨2, _⟩ => rfl | ⟨3, _⟩ => rfl⟩
  have hs := sel_lt (hit (Cert.KernelIdeal.Ball.ptsOf p) (Cert.KernelIdeal.Ball.cenOf c) (b.val * 512 + q.val)) k.val (hne _ (by omega))
  have hp := pick_cand p c hne b q k
  rw [xyzR_at, gx_at p c _ b q k _ ⟨_, hs⟩ hp]
  refine Eq.trans ?_ (Cert.KernelIdeal.Ball.xyzOf_at _ b a q k).symm
  refine Eq.trans ?_ (out_at x p c b q k ⟨a.val, by omega⟩ ⟨_, hs⟩ rfl).symm
  rw [dif_pos a.isLt]
  rfl

end

end Cert.ReferenceIdeal.Ball
-- ==== Proof.RowMax.lean ====
/-
  A maximum kept up block by block: 128 blocks of 1024 rows, 32 blocks to a member of the stack. What is kept after the
  last block of a member is the greatest value over the rows of that member.
-/
module

public import Idealize.ShloMosaic.PureOps.Ideal

@[expose] public section

noncomputable section

namespace Cert.RowMax

open Idealize.ShloMosaic

/-- The value that a maximum starts from is the least one. -/
theorem start_eq : Ideal.ofBits .f32 0xFF800000#32 = ⊥ := by simp [Ideal.ofBits, Ideal.ieee]

/-- A maximum over a whole type is at most `z` if every value is. -/
theorem fold_le {α : Type} [Fintype α] (f : α → EReal) (z : EReal) :
    Finset.univ.fold max (Ideal.ofBits .f32 0xFF800000#32) f ≤ z ↔ ∀ a, f a ≤ z := by
  rw [start_eq, Finset.fold_max_le]
  exact ⟨fun h a => h.2 a (Finset.mem_univ a), fun h => ⟨bot_le, fun a _ => h a⟩⟩

/-- Row `r` of block `t`. -/
abbrev row (t : ℕ) (ht : t < 128) (r : Fin 1024) : Fin 131072 := ⟨t * 1024 + r.val, by omega⟩

/-- The rows of member `b` of the stack, by the sample and its place in it. -/
theorem forall_member (b : Fin 4) (P : Fin 131072 → Prop) :
    (∀ a : Fin 512 × Fin 64, P ⟨b.val * 32768 + a.1.val * 64 + a.2.val, by omega⟩)
      ↔ ∀ r : Fin 131072, r.val / 32768 = b.val → P r := by
  constructor
  · intro h r hr
    have hlt := r.isLt
    have := h (⟨r.val % 32768 / 64, by omega⟩, ⟨r.val % 64, by omega⟩)
    have he : (⟨b.val * 32768 + r.val % 32768 / 64 * 64 + r.val % 64, by omega⟩ : Fin 131072) = r := Fin.ext (by
      show b.val * 32768 + r.val % 32768 / 64 * 64 + r.val % 64 = r.val; omega)
    rwa [he] at this
  · intro h a
    exact h _ (by show (b.val * 32768 + a.1.val * 64 + a.2.val) / 32768 = b.val; omega)

/-- The rows of one block. -/
theorem forall_block (n : ℕ) (hn : n < 128) (P : Fin 131072 → Prop) :
    (∀ r, P (row n hn r)) ↔ ∀ r : Fin 131072, n * 1024 ≤ r.val → r.val < (n + 1) * 1024 → P r := by
  constructor
  · intro h r h1 h2
    have := h ⟨r.val - n * 1024, by omega⟩
    have he : row n hn ⟨r.val - n * 1024, by omega⟩ = r := Fin.ext (by show n * 1024 + (r.val - n * 1024) = r.val; omega)
    rwa [he] at this
  · intro h r
    exact h _ (by show n * 1024 ≤ n * 1024 + r.val; omega) (by show n * 1024 + r.val < (n + 1) * 1024; omega)

theorem below_next (n r : ℕ) (h : r < (n + 1) * 1024) : r < (n + 1 + 1) * 1024 :=
  Nat.lt_of_lt_of_le h (Nat.mul_le_mul_right 1024 (Nat.le_succ (n + 1)))
theorem after_first (n r : ℕ) (h : (n + 1) * 1024 ≤ r) : n / 32 * 32768 ≤ r := by omega

section Keep
variable (f blk : (n : ℕ) → n < 128 → EReal) (v : Fin 131072 → EReal)

/-- What is kept after block `n`: the greatest value over the rows so far. -/
theorem keep_le (hA : ∀ n hn, n % 32 = 0 → f n hn = blk n hn)
    (hB : ∀ n hn, ¬n % 32 = 0 → f n hn = max (f (n - 1) (by omega)) (blk n hn))
    (hblk : ∀ n hn z, blk n hn ≤ z ↔ ∀ r, v (row n hn r) ≤ z) (z : EReal) :
    ∀ n hn, f n hn ≤ z ↔ ∀ r : Fin 131072, n / 32 * 32768 ≤ r.val → r.val < (n + 1) * 1024 → v r ≤ z := by
  intro n
  induction n with
  | zero =>
    intro hn
    rw [hA 0 hn rfl, hblk, forall_block 0 hn fun r => v r ≤ z]
  | succ n ih =>
    intro hn
    by_cases h0 : (n + 1) % 32 = 0
    · rw [hA _ hn h0, hblk, forall_block _ hn fun r => v r ≤ z]
      rw [show (n + 1) / 32 * 32768 = (n + 1) * 1024 by omega]
    · have e : (n + 1) / 32 = n / 32 := by omega
      have ih' : f (n + 1 - 1) (by omega) ≤ z ↔ ∀ r : Fin 131072, n / 32 * 32768 ≤ r.val → r.val < (n + 1) * 1024 → v r ≤ z :=
        ih (by omega)
      rw [hB _ hn h0, max_le_iff, hblk, forall_block _ hn fun r => v r ≤ z, ih', e]
      constructor
      · intro h r hr hr'
        rcases Nat.lt_or_ge r.val ((n + 1) * 1024) with hlt | hge
        · exact h.1 r hr hlt
        · exact h.2 r hge hr'
      · intro h
        constructor
        · intro r hr hr'
          exact h r hr (below_next n r.val hr')
        · intro r hr hr'
          exact h r (after_first n r.val hr) hr'

/-- What is kept after the last block of a member: the greatest value over the rows of the member. -/
theorem last_le (hA : ∀ n hn, n % 32 = 0 → f n hn = blk n hn)
    (hB : ∀ n hn, ¬n % 32 = 0 → f n hn = max (f (n - 1) (by omega)) (blk n hn))
    (hblk : ∀ n hn z, blk n hn ≤ z ↔ ∀ r, v (row n hn r) ≤ z) (z : EReal) (n : ℕ) (hn : n < 128) (h31 : n % 32 = 31) :
    f n hn ≤ z ↔ ∀ r : Fin 131072, r.val / 32768 = n / 32 → v r ≤ z := by
  rw [keep_le f blk v hA hB hblk z n hn]
  constructor
  · exact fun h r hr => h r (by omega) (by omega)
  · exact fun h r hr hr' => h r (by omega)

end Keep

end Cert.RowMax

end
-- ==== Proof.TMax.lean ====
/-
  The maximum over the samples, for the input transform: two layers for each row, and the greatest value of each channel
  over the rows of one member of the stack, which the kernel keeps up across the blocks of rows.
-/
module

public import proofs.«01_k».proof.Defs
public import proofs.«01_k».proof.Proof.RowMax
public import proofs.«01_k».proof.Proof.Gen.TransformMaxIdeal.Value
public import proofs.«01_k».proof.Proof.Gen.TransformMaxReferenceIdeal.Run
public import Idealize.ShloMosaic.Lib.Pointwise
public import Idealize.ShloMosaic.Lib.Quiescent
public import Idealize.ShloMosaic.Adequacy
public import Idealize.ShloMosaic.Init

@[expose] public section

noncomputable section

namespace Cert.TMax

open Idealize.ShloMosaic Idealize.ShloMosaic.TcCoe Idealize.ShloMosaic.Tactic Idealize.SL.Sem

/-- One channel of one row: two layers with bias, each cut off at zero. -/
abbrev chanOf (g : Fin 128 → EReal) (w1 : Fin 64 → Fin 128 → EReal) (b1 : Fin 64 → EReal) (w2 : Fin 64 → EReal) (b2 : EReal) : EReal :=
  max ((∑ x, max ((∑ y, g y * w1 x y) + b1 x) 0 * w2 x) + b2) 0

section Kernel
open Cert.TransformMaxIdeal Cert.TransformMaxIdeal.Gen Cert.TransformMaxIdeal.Value

theorem pay1_le (g : Vec Ideal S1024x128 .f32) (w1 : Vec Ideal S64x128 .f32) (b1 : Vec Ideal S64 .f32)
    (w2 : Vec Ideal S128x64 .f32) (b2 : Vec Ideal S128 .f32) (o : Fin 128) (z : EReal) :
    k0_pay1 (F := Ideal) g w1 b1 w2 b2 (ix3 0 0 o) ≤ z
      ↔ ∀ r : Fin 1024, chanOf (fun y => g (ix2 r y)) (fun x y => w1 (ix2 x y)) (fun x => b1 (ix1 x))
          (fun x => w2 (ix2 o x)) (b2 (ix1 o)) ≤ z := by
  pointwise [k0_pay1]
  exact RowMax.fold_le _ z

theorem pay2_at (g : Vec Ideal S1024x128 .f32) (w1 : Vec Ideal S64x128 .f32) (b1 : Vec Ideal S64 .f32)
    (w2 : Vec Ideal S128x64 .f32) (b2 : Vec Ideal S128 .f32) (x : Vec Ideal S1x1x128 .f32) (j : S1x1x128.Idx) :
    k0_pay2 (F := Ideal) g w1 b1 w2 b2 x j = max (x j) (k0_pay1 (F := Ideal) g w1 b1 w2 b2 j) := by
  unfold k0_pay2
  rw [shapeCast_self]
  rfl

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

variable {F : FTy → Type} [FloatOps F]

/-- What the body leaves at the first block of a member of the stack. -/
theorem out_A (c : Dev nD) (i : grid0.Coords) (a2 : Memref sig .tc .vmem S1024x128 .f32) (h2 : a2.IsWhole)
    (a3 : Memref sig .tc .vmem S64x128 .f32) (h3 : a3.IsWhole) (a4 : Memref sig .tc .vmem S64 .f32) (h4 : a4.IsWhole)
    (a5 : Memref sig .tc .vmem S128x64 .f32) (h5 : a5.IsWhole) (a6 : Memref sig .tc .vmem S128 .f32) (h6 : a6.IsWhole)
    (a7 : Memref sig .tc .vmem S1x1x128 .f32) (h7 : a7.IsWhole) (hc0 : cond0_0 i) (hc1 : ¬cond0_1 i)
    (x0 : Vec F S1024x128 .f32) (x1 : Vec F S64x128 .f32) (x2 : Vec F S64 .f32) (x3 : Vec F S128x64 .f32) (x4 : Vec F S128 .f32) :
    out0_A_5 c i a2 h2 a3 h3 a4 h4 a5 h5 a6 h6 a7 h7 hc0 hc1 x0 x1 x2 x3 x4 = k0_pay1 x0 x1 x2 x3 x4 := by
  unfold out0_A_5
  rw [View.read_writes_eq_canon _ _ _ (cover0_A_5 c i a2 h2 a3 h3 a4 h4 a5 h5 a6 h6 a7 h7 hc0 hc1 x0 x1 x2 x3 x4)]
  unfold kernelRun0_A
  dsimp only
  rw [View.canon_unit_zero hz3]
  simp only [View.readAt_eq_ld, h2.read_unread, h3.read_unread, h4.read_unread, h5.read_unread, h6.read_unread,
    View.ld_unit_zero (S := S1024x128) hz2, View.ld_unit_zero (S := S64x128) hz2, View.ld_unit_zero (S := S64) hz1,
    View.ld_unit_zero (S := S128x64) hz2, View.ld_unit_zero (S := S128) hz1]

/-- What the body leaves at a later block: the greater of what it found and the block's own. -/
theorem out_B (c : Dev nD) (i : grid0.Coords) (a2 : Memref sig .tc .vmem S1024x128 .f32) (h2 : a2.IsWhole)
    (a3 : Memref sig .tc .vmem S64x128 .f32) (h3 : a3.IsWhole) (a4 : Memref sig .tc .vmem S64 .f32) (h4 : a4.IsWhole)
    (a5 : Memref sig .tc .vmem S128x64 .f32) (h5 : a5.IsWhole) (a6 : Memref sig .tc .vmem S128 .f32) (h6 : a6.IsWhole)
    (a7 : Memref sig .tc .vmem S1x1x128 .f32) (h7 : a7.IsWhole) (hc0 : ¬cond0_0 i) (hc1 : cond0_1 i)
    (x0 : Vec F S1024x128 .f32) (x1 : Vec F S64x128 .f32) (x2 : Vec F S64 .f32) (x3 : Vec F S128x64 .f32) (x4 : Vec F S128 .f32)
    (xo : Vec F S1x1x128 .f32) :
    out0_B_5 c i a2 h2 a3 h3 a4 h4 a5 h5 a6 h6 a7 h7 hc0 hc1 x0 x1 x2 x3 x4 xo = k0_pay2 x0 x1 x2 x3 x4 xo := by
  unfold out0_B_5
  rw [View.read_writes_eq_canon _ _ _ (cover0_B_5 c i a2 h2 a3 h3 a4 h4 a5 h5 a6 h6 a7 h7 hc0 hc1 x0 x1 x2 x3 x4 xo)]
  unfold kernelRun0_B
  dsimp only
  rw [View.canon_unit_zero hz3]
  simp only [View.readAt_eq_ld, h2.read_unread, h3.read_unread, h4.read_unread, h5.read_unread, h6.read_unread, h7.read_unread,
    View.ld_unit_zero (S := S1024x128) hz2, View.ld_unit_zero (S := S64x128) hz2, View.ld_unit_zero (S := S64) hz1,
    View.ld_unit_zero (S := S128x64) hz2, View.ld_unit_zero (S := S128) hz1, View.ld_unit_zero (S := S1x1x128) hz3]

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 1) = 0 := (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 1) = 0 := (by decide +kernel : ∀ t : Fin grid0.N, _)
theorem idx5 : ∀ t : Fin cfg0.N, win0_5.index t (0 : Fin 3) = t.val / 32 ∧ win0_5.index t (1 : Fin 3) = 0
    ∧ win0_5.index t (2 : Fin 3) = 0 := (by decide +kernel : ∀ t : Fin grid0.N, _)

/-- The member of the stack that block `t` belongs to. -/
abbrev mem (t : Fin cfg0.N) : Fin 4 := ⟨t.val / 32, by have h := t.isLt; have h' : t.val < 128 := h; omega⟩

theorem emb0 (t : Fin cfg0.N) (r : Fin 1024) (z : Fin 128) :
    ((cfg0.win 0).blk t).view.emb (ix2 r z : S1024x128.Idx) = (ix2 (RowMax.row t.val t.isLt r) z : S131072x128.Idx) := by
  obtain ⟨e0, e1⟩ := idx0 t
  funext a; apply Fin.ext
  match a with
  | ⟨0, _⟩ => show win0_0.index t (0 : Fin 2) * 1024 + 1 * r.val = t.val * 1024 + r.val; omega
  | ⟨1, _⟩ => show win0_0.index t (1 : Fin 2) * 128 + 1 * z.val = z.val; omega
theorem emb1 (t : Fin cfg0.N) (j : S64x128.Idx) : ((cfg0.win 1).blk t).view.emb j = j := by
  obtain ⟨e0, e1⟩ := idx1 t
  funext a; apply Fin.ext
  match a with
  | ⟨0, _⟩ => show win0_1.index t (0 : Fin 2) * 64 + 1 * (j 0).val = (j 0).val; omega
  | ⟨1, _⟩ => show win0_1.index t (1 : Fin 2) * 128 + 1 * (j 1).val = (j 1).val; omega
theorem emb2 (t : Fin cfg0.N) (j : S64.Idx) : ((cfg0.win 2).blk t).view.emb j = j := by
  have e0 := idx2 t
  funext a; apply Fin.ext
  match a with
  | ⟨0, _⟩ => show win0_2.index t (0 : Fin 1) * 64 + 1 * (j 0).val = (j 0).val; omega
theorem emb3 (t : Fin cfg0.N) (j : S128x64.Idx) : ((cfg0.win 3).blk t).view.emb j = j := by
  obtain ⟨e0, e1⟩ := idx3 t
  funext a; apply Fin.ext
  match a with
  | ⟨0, _⟩ => show win0_3.index t (0 : Fin 2) * 128 + 1 * (j 0).val = (j 0).val; omega
  | ⟨1, _⟩ => show win0_3.index t (1 : Fin 2) * 64 + 1 * (j 1).val = (j 1).val; omega
theorem emb4 (t : Fin cfg0.N) (j : S128.Idx) : ((cfg0.win 4).blk t).view.emb j = j := by
  have e0 := idx4 t
  funext a; apply Fin.ext
  match a with
  | ⟨0, _⟩ => show win0_4.index t (0 : Fin 1) * 128 + 1 * (j 0).val = (j 0).val; omega
theorem emb5 (t : Fin cfg0.N) (o : Fin 128) :
    ((cfg0.win 5).blk t).view.emb (ix3 0 0 o : S1x1x128.Idx) = (ix3 (mem t) 0 o : S4x1x128.Idx) := by
  obtain ⟨e0, e1, e2⟩ := idx5 t
  funext a; apply Fin.ext
  match a with
  | ⟨0, _⟩ => show win0_5.index t (0 : Fin 3) * 1 + 1 * 0 = t.val / 32; omega
  | ⟨1, _⟩ => show win0_5.index t (1 : Fin 3) * 1 + 1 * 0 = 0; omega
  | ⟨2, _⟩ => show win0_5.index t (2 : Fin 3) * 128 + 1 * o.val = o.val; omega

/-- A block of the result is written whole. -/
theorem cut5 (t : Fin cfg0.N) (x : Vec Ideal S1x1x128 .f32) (o : Fin 128) :
    ((cfg0.win 5).cut (grid0.coords t) x : Vec Ideal S1x1x128 .f32) (ix3 0 0 o) = x (ix3 0 0 o) := rfl

theorem read5 (t : Fin cfg0.N) (G : Vec Ideal S4x1x128 .f32) (o : Fin 128) :
    (((cfg0.win 5).blk t).view.read (Elt Ideal) G : Vec Ideal S1x1x128 .f32) (ix3 0 0 o) = G (ix3 (mem t) 0 o) := by
  show G (((cfg0.win 5).blk t).view.emb (ix3 0 0 o : S1x1x128.Idx)) = _
  rw [emb5]

/-- The one row of a block of the result. -/
theorem eq_row (j : S1x1x128.Idx) : ∃ o : Fin 128, j = ix3 0 0 o := by
  refine ⟨j 2, ?_⟩
  funext a; apply Fin.ext
  match a with
  | ⟨0, _⟩ => have := (j 0).isLt; have h : (j 0).val < 1 := this; show (j 0).val = 0; omega
  | ⟨1, _⟩ => have := (j 1).isLt; have h : (j 1).val < 1 := this; show (j 1).val = 0; omega
  | ⟨2, _⟩ => rfl

variable (m : (ℓ : Loc nD τ sig) → Buf (Elt Ideal) ℓ)

theorem blk0 (c : Dev nD) (t : Fin cfg0.N) (r : Fin 1024) (z : Fin 128) :
    (iblk m c 0 t : Vec Ideal S1024x128 .f32) (ix2 r z)
      = m ((c : Thread nD τ).loc main_arg0) (ix2 (RowMax.row t.val t.isLt r) z : S131072x128.Idx) := by
  show V m c main_arg0 (((cfg0.win 0).blk t).view.emb (ix2 r z : S1024x128.Idx)) = _
  rw [emb0, V_main_arg0]
theorem blk1 (c : Dev nD) (t : Fin cfg0.N) : (iblk m c 1 t : Vec Ideal S64x128 .f32) = m ((c : Thread nD τ).loc main_arg1) := by
  funext j; show V m c main_arg1 (((cfg0.win 1).blk t).view.emb j) = _; rw [emb1, V_main_arg1]
theorem blk2 (c : Dev nD) (t : Fin cfg0.N) : (iblk m c 2 t : Vec Ideal S64 .f32) = m ((c : Thread nD τ).loc main_arg2) := by
  funext j; show V m c main_arg2 (((cfg0.win 2).blk t).view.emb j) = _; rw [emb2, V_main_arg2]
theorem blk3 (c : Dev nD) (t : Fin cfg0.N) : (iblk m c 3 t : Vec Ideal S128x64 .f32) = m ((c : Thread nD τ).loc main_arg3) := by
  funext j; show V m c main_arg3 (((cfg0.win 3).blk t).view.emb j) = _; rw [emb3, V_main_arg3]
theorem blk4 (c : Dev nD) (t : Fin cfg0.N) : (iblk m c 4 t : Vec Ideal S128 .f32) = m ((c : Thread nD τ).loc main_arg4) := by
  funext j; show V m c main_arg4 (((cfg0.win 4).blk t).view.emb j) = _; rw [emb4, V_main_arg4]

/-- One channel of one row of the array. -/
abbrev rowVal (c : Dev nD) (o : Fin 128) (r : Fin 131072) : EReal :=
  chanOf (fun y => m ((c : Thread nD τ).loc main_arg0) (ix2 r y : S131072x128.Idx))
    (fun x y => m ((c : Thread nD τ).loc main_arg1) (ix2 x y : S64x128.Idx))
    (fun x => m ((c : Thread nD τ).loc main_arg2) (ix1 x : S64.Idx))
    (fun x => m ((c : Thread nD τ).loc main_arg3) (ix2 o x : S128x64.Idx)) (m ((c : Thread nD τ).loc main_arg4) (ix1 o : S128.Idx))

/-- What the body leaves after the last block of a member of the stack. -/
theorem last_le (c : Dev nD) (o : Fin 128) (z : EReal) (t : Fin cfg0.N) (h31 : t.val % 32 = 31) :
    (outsAt0 m c t.val t.isLt : Vec Ideal S1x1x128 .f32) (ix3 0 0 o) ≤ z
      ↔ ∀ r : Fin 131072, r.val / 32768 = t.val / 32 → rowVal m c o r ≤ z := by
  refine RowMax.last_le (fun n hn => (outsAt0 m c n hn : Vec Ideal S1x1x128 .f32) (ix3 0 0 o))
    (fun n hn => k0_pay1 (F := Ideal) (iblk m c 0 ⟨n, hn⟩) (iblk m c 1 ⟨n, hn⟩) (iblk m c 2 ⟨n, hn⟩) (iblk m c 3 ⟨n, hn⟩)
      (iblk m c 4 ⟨n, hn⟩) (ix3 0 0 o)) (rowVal m c o) ?_ ?_ ?_ z t.val t.isLt h31
  · intro n hn h0
    refine (congrFun (outsAt0_A m c ⟨n, hn⟩ h0 (by show ¬1 ≤ n % 32; omega)) _).trans ?_
    rw [out_A]
  · intro n hn h0
    refine (congrFun (outsAt0_B m c ⟨n, hn⟩ h0 (by show 1 ≤ n % 32; omega)) _).trans ?_
    rw [out_B, pay2_at]
  · intro n hn z
    refine (pay1_le _ _ _ _ _ o z).trans ?_
    simp only [blk0, blk1, blk2, blk3, blk4]

/-- Every row of the result is in the block of one member. -/
theorem covered (i : S4x1x128.Idx) : ∃ t : Fin cfg0.N, (cfg0.win 5).flush t = true ∧ i ∈ ((cfg0.win 5).blk t).view.set := by
  obtain ⟨b, o, rfl⟩ : ∃ (b : Fin 4) (o : Fin 128), i = ix3 b 0 o := by
    refine ⟨i 0, i 2, ?_⟩
    funext a; apply Fin.ext
    match a with
    | ⟨0, _⟩ => rfl
    | ⟨1, _⟩ => have := (i 1).isLt; have h : (i 1).val < 1 := this; show (i 1).val = 0; omega
    | ⟨2, _⟩ => rfl
  have hb := b.isLt
  refine ⟨(⟨b.val * 32 + 31, show b.val * 32 + 31 < 128 by omega⟩ : Fin cfg0.N), (flush0_5 _).mpr ?_, ?_⟩
  · show (b.val * 32 + 31) % 32 = 31
    omega
  have h := ((cfg0.win 5).blk (⟨b.val * 32 + 31, show b.val * 32 + 31 < 128 by omega⟩ : Fin cfg0.N)).view.emb_mem_set
    (ix3 0 0 o : S1x1x128.Idx)
  rw [emb5] at h
  have he : mem (⟨b.val * 32 + 31, show b.val * 32 + 31 < 128 by omega⟩ : Fin cfg0.N) = b :=
    Fin.ext (by show (b.val * 32 + 31) / 32 = b.val; omega)
  rwa [he] at h

end Kernel

section Reference
open Cert.TransformMaxReferenceIdeal Cert.TransformMaxReferenceIdeal.Gen

/-- The rows by channel. -/
abbrev chan (g : FVec Ideal S131072x128 .f32) : FVec Ideal S4x128x512x64 .f32 :=
  transpose S4x128x512x64 [0, 3, 1, 2] (shapeCast S4x512x64x128 g shapeCasts_S131072x128_S4x512x64x128) transposes_S4x512x64x128_S4x128x512x64_0_3_1_2

/-- The first layer. -/
abbrev layer1 (x : FVec Ideal S4x128x512x64 .f32) (w1 : FVec Ideal S64x128 .f32) (b1 : FVec Ideal S64 .f32) :
    FVec Ideal S4x64x512x64 .f32 :=
  maximumf (addf (transpose S4x64x512x64 [0, 3, 1, 2] (Host.dotGeneral dot_S4x128x512x64_S64x128_S4x512x64x64_1_1_023_0_n_n none x w1 : FVec Ideal S4x512x64x64 .f32) transposes_S4x512x64x64_S4x64x512x64_0_3_1_2) (broadcastInDim S4x64x512x64 ![0, 1, 2, 3] bcast_S1x64x1x1_S4x64x512x64_0_1_2_3 (broadcastInDim S1x64x1x1 ![1] bcast_S64_S1x64x1x1_1 b1))) (broadcastInDim S4x64x512x64 ![] bcast_S_S4x64x512x64 (constant S_ .f32 0x00000000#32))

/-- The second layer. -/
abbrev layer2 (x : FVec Ideal S4x64x512x64 .f32) (w2 : FVec Ideal S128x64 .f32) (b2 : FVec Ideal S128 .f32) :
    FVec Ideal S4x128x512x64 .f32 :=
  maximumf (addf (transpose S4x128x512x64 [0, 3, 1, 2] (Host.dotGeneral dot_S4x64x512x64_S128x64_S4x512x64x128_1_1_023_0_n_n none x w2 : FVec Ideal S4x512x64x128 .f32) transposes_S4x512x64x128_S4x128x512x64_0_3_1_2) (broadcastInDim S4x128x512x64 ![0, 1, 2, 3] bcast_S1x128x1x1_S4x128x512x64_0_1_2_3 (broadcastInDim S1x128x1x1 ![1] bcast_S128_S1x128x1x1_1 b2))) (broadcastInDim S4x128x512x64 ![] bcast_S_S4x128x512x64 (constant S_ .f32 0x00000000#32))

/-- The stated result. -/
abbrev ref (g : FVec Ideal S131072x128 .f32) (w1 : FVec Ideal S64x128 .f32) (b1 : FVec Ideal S64 .f32)
    (w2 : FVec Ideal S128x64 .f32) (b2 : FVec Ideal S128 .f32) : FVec Ideal S4x1x128 .f32 :=
  broadcastInDim S4x1x128 ![0, 2] bcast_S4x128_S4x1x128_0_2 (Host.reduce FloatOps.maximumf (layer2 (layer1 (chan g) w1 b1) w2 b2) (constant S_ .f32 0xFF800000#32) reducesTo_S4x128x512x64_S4x128_d2_3 h_S_)

theorem ref_le (g : FVec Ideal S131072x128 .f32) (w1 : FVec Ideal S64x128 .f32) (b1 : FVec Ideal S64 .f32)
    (w2 : FVec Ideal S128x64 .f32) (b2 : FVec Ideal S128 .f32) (b : Fin 4) (o : Fin 128) (z : EReal) :
    ref g w1 b1 w2 b2 (ix3 b 0 o) ≤ z
      ↔ ∀ r : Fin 131072, r.val / 32768 = b.val → chanOf (fun y => g (ix2 r y)) (fun x y => w1 (ix2 x y)) (fun x => b1 (ix1 x))
          (fun x => w2 (ix2 o x)) (b2 (ix1 o)) ≤ z := by
  pointwise [ref, layer2, layer1, chan]
  rw [RowMax.fold_le]
  exact RowMax.forall_member b fun r => chanOf (fun y => g (ix2 r y)) (fun x y => w1 (ix2 x y)) (fun x => b1 (ix1 x))
    (fun x => w2 (ix2 o x)) (b2 (ix1 o)) ≤ z

end Reference

/-- The kernel's result is the stated one. -/
theorem final (m : (ℓ : Loc Cert.TransformMaxIdeal.nD Cert.TransformMaxIdeal.τ Cert.TransformMaxIdeal.sig) → Buf (Elt Ideal) ℓ)
    (c : Dev Cert.TransformMaxIdeal.nD) :
    (Cert.TransformMaxIdeal.Gen.dats m 0 c).arrAt 5 Cert.TransformMaxIdeal.cfg0.N
      = ref (m ((c.tc : Thread _ Cert.TransformMaxIdeal.τ).loc Cert.TransformMaxIdeal.main_arg0))
          (m ((c.tc : Thread _ Cert.TransformMaxIdeal.τ).loc Cert.TransformMaxIdeal.main_arg1))
          (m ((c.tc : Thread _ Cert.TransformMaxIdeal.τ).loc Cert.TransformMaxIdeal.main_arg2))
          (m ((c.tc : Thread _ Cert.TransformMaxIdeal.τ).loc Cert.TransformMaxIdeal.main_arg3))
          (m ((c.tc : Thread _ Cert.TransformMaxIdeal.τ).loc Cert.TransformMaxIdeal.main_arg4)) := by
  refine (Cert.TransformMaxIdeal.Gen.dats m 0 c).arrAt_eq_of_cover 5 _ (fun t hf => ?_) covered
  have h31 : t.val % 32 = 31 := (Cert.TransformMaxIdeal.Gen.flush0_5 t).mp hf
  rw [Cert.TransformMaxIdeal.Value.flushed5]
  have key := fun o z => last_le m c o z t h31
  generalize Cert.TransformMaxIdeal.Gen.outsAt0 m c t.val t.isLt = X at key ⊢
  funext j
  obtain ⟨o, rfl⟩ := eq_row j
  refine (cut5 t X o).trans ?_
  refine Eq.trans ?_ (read5 t (ref _ _ _ _ _) o).symm
  refine eq_of_forall_ge_iff fun z => ?_
  exact (key o z).trans (ref_le _ _ _ _ _ (mem t) o z).symm

/-- From memories that agree on the arguments, the two programs end with one array. -/
theorem value : Cert.algebraic_TransformMaxIdeal_TransformMaxReferenceIdeal
    (hTransformMaxIdeal := Cert.TransformMaxIdeal.Gen.facts)
    (hTransformMaxReferenceIdeal := Cert.TransformMaxReferenceIdeal.Gen.facts) := by
  intro m g m' g' _ hargs
  refine ⟨_, Cert.TransformMaxIdeal.Value.run_blocks m g, ?_⟩
  refine (θ_run (Cert.TransformMaxReferenceIdeal.defs (F := Ideal)) _ _).mono
    (fun r h c => ⟨(h c).1.trans ?_, (h c).2⟩) (Cert.TransformMaxReferenceIdeal.Value.run m' g')
  rw [(hargs c).1, (hargs c).2.1, (hargs c).2.2.1, (hargs c).2.2.2.1, (hargs c).2.2.2.2]
  exact (final m c).symm

/-- The stated program runs, and its arguments end unchanged. -/
theorem refFrame : Cert.quiescent_TransformMaxReferenceIdeal
    (hTransformMaxReferenceIdeal := Cert.TransformMaxReferenceIdeal.Gen.facts) := fun m g _ =>
  (θ_run (Cert.TransformMaxReferenceIdeal.defs (F := Ideal)) _ _).mono
    (fun _ h => ⟨fun c => (h c).2, sem_eq_zero_of_no_sems rfl _⟩) (Cert.TransformMaxReferenceIdeal.Value.run m g)

end Cert.TMax

end
-- ==== Proof.Eye.lean ====
/-
  The word that tells a diagonal place of a square matrix, from the place's number in row-major order.
-/
module

public import Idealize.ShloMosaic.Lib.Pointwise

@[expose] public section

namespace Cert.Eye

open Idealize.ShloMosaic

/-- Whether the quotient of `w` by `k`, rounded down, is its remainder, rounded down too. -/
abbrev bit (k w : BitVec 32) : BitVec 1 :=
  IntOp.cmpi CmpIPredicate.eq
    (Scalar.select
      (IntOp.andi
        (IntOp.cmpi CmpIPredicate.ne
          (IntOp.subi (BitVec.setWidth 32 (IntOp.cmpi CmpIPredicate.sgt w 0#32))
            (BitVec.setWidth 32 (IntOp.cmpi CmpIPredicate.slt w 0#32)))
          (Scalar.subi (Scalar.extui (Scalar.cmpi CmpIPredicate.sgt k 0#32))
            (Scalar.extui (Scalar.cmpi CmpIPredicate.slt k 0#32))))
        (IntOp.cmpi CmpIPredicate.ne (IntOp.remsi ArithUnit.vector w k) 0#32))
      (IntOp.subi (IntOp.divsi ArithUnit.vector w k) 1#32)
      (IntOp.divsi ArithUnit.vector w k))
    (Scalar.select
      (IntOp.andi
        (IntOp.xori
          (IntOp.cmpi CmpIPredicate.slt
            (IntOp.remsi ArithUnit.vector w (Scalar.select (Scalar.cmpi CmpIPredicate.eq k 0#32) 1#32 k)) 0#32)
          (Scalar.cmpi CmpIPredicate.slt (Scalar.select (Scalar.cmpi CmpIPredicate.eq k 0#32) 1#32 k) 0#32))
        (IntOp.cmpi CmpIPredicate.ne
          (IntOp.remsi ArithUnit.vector w (Scalar.select (Scalar.cmpi CmpIPredicate.eq k 0#32) 1#32 k)) 0#32))
      (IntOp.addi
        (IntOp.remsi ArithUnit.vector w (Scalar.select (Scalar.cmpi CmpIPredicate.eq k 0#32) 1#32 k))
        (Scalar.select (Scalar.cmpi CmpIPredicate.eq k 0#32) 1#32 k))
      (IntOp.remsi ArithUnit.vector w (Scalar.select (Scalar.cmpi CmpIPredicate.eq k 0#32) 1#32 k)))

/-- At row `p` and column `q` of a matrix of 128 columns: whether the two are one number. -/
theorem bit_128 : ∀ p q : Fin 128, bit 128#32 (BitVec.ofNat 32 (p.val * 128 + q.val))
    = IntOp.cmpi CmpIPredicate.eq (IntOp.addi (BitVec.ofNat 32 p.val) 0#32) (BitVec.ofNat 32 q.val) := by
  decide +kernel

/-- At row `p` and column `q` of a matrix of 64 columns. -/
theorem bit_64 : ∀ p q : Fin 64, bit 64#32 (BitVec.ofNat 32 (p.val * 64 + q.val))
    = IntOp.cmpi CmpIPredicate.eq (IntOp.addi (BitVec.ofNat 32 p.val) 0#32) (BitVec.ofNat 32 q.val) := by
  decide +kernel

/-- The same by the place's number. -/
theorem diag_128 (c : ℕ) (hc : c < 128 * 128) : bit 128#32 (BitVec.ofNat 32 c)
    = IntOp.cmpi CmpIPredicate.eq (IntOp.addi (BitVec.ofNat 32 (c / 128)) 0#32) (BitVec.ofNat 32 (c % 128)) := by
  have h := bit_128 ⟨c / 128, Nat.div_lt_of_lt_mul hc⟩ ⟨c % 128, Nat.mod_lt c (by decide)⟩
  rwa [show c / 128 * 128 + c % 128 = c from Nat.div_add_mod' c 128] at h

/-- The same by the place's number, of 64 columns. -/
theorem diag_64 (c : ℕ) (hc : c < 64 * 64) : bit 64#32 (BitVec.ofNat 32 c)
    = IntOp.cmpi CmpIPredicate.eq (IntOp.addi (BitVec.ofNat 32 (c / 64)) 0#32) (BitVec.ofNat 32 (c % 64)) := by
  have h := bit_64 ⟨c / 64, Nat.div_lt_of_lt_mul hc⟩ ⟨c % 64, Nat.mod_lt c (by decide)⟩
  rwa [show c / 64 * 64 + c % 64 = c from Nat.div_add_mod' c 64] at h

/-- A truth value read as a number is one where it holds and zero elsewhere. -/
theorem uitofp_bit (b : BitVec 1) : (FloatOps.uitofp (F := Ideal) .f32 b : Ideal .f32) = Scalar.select b (1 : Ideal .f32) 0 := by
  have hb : b = 0#1 ∨ b = 1#1 := by revert b; decide
  rcases hb with rfl | rfl
  · show ((((0#1 : BitVec 1).toNat : ℝ)) : EReal) = 0
    simp
  · show ((((1#1 : BitVec 1).toNat : ℝ)) : EReal) = 1
    simp

end Cert.Eye
-- ==== Proof.InT.lean ====
/-
  The input transform's last layer: one product with the bias and the identity added, against the same over the square
  matrices.
-/
module

public import proofs.«01_k».proof.Proof.Eye
public import proofs.«01_k».proof.Defs
public import proofs.«01_k».proof.Proof.Gen.InputTransformIdeal.Value
public import Idealize.ShloMosaic.Lib.Quiescent
public import Idealize.ShloMosaic.Adequacy
public import Idealize.ShloMosaic.Init
public import proofs.«01_k».proof.Proof.Gen.InputTransformReferenceIdeal.Run

@[expose] public section

noncomputable section

namespace Cert.InT

open Idealize.ShloMosaic Idealize.ShloMosaic.Tactic Idealize.SL.Sem

section Kernel
open Cert.InputTransformIdeal Cert.InputTransformIdeal.Gen Cert.InputTransformIdeal.Value

theorem g_at (a0 : Vec Ideal S4x128 .f32) (a1 : Vec Ideal S128x16384 .f32) (a2 : Vec Ideal S16384 .f32)
    (b : Fin 4) (c : Fin 16384) :
    G3 (F := Ideal) a0 a1 a2 (ix2 b c)
      = (∑ k : Fin 128, a0 (ix2 b k) * a1 (ix2 k c)) + a2 (ix1 c)
        + Scalar.select (Eye.bit 128#32 (BitVec.ofNat 32 c.val)) (1 : Ideal .f32) 0 := by
  pointwise [G3, k0_pay1, k0_pay2, k0_pay3, k0_pay4, k0_pay5, k0_pay6]

end Kernel

section Reference
open Cert.InputTransformReferenceIdeal Cert.InputTransformReferenceIdeal.Gen

/-- The product with the bias. -/
abbrev lin (a0 : FVec Ideal S4x128 .f32) (a1 : FVec Ideal S128x16384 .f32) (a2 : FVec Ideal S16384 .f32) :
    FVec Ideal S4x16384 .f32 :=
  addf (Host.dotGeneral dot_S4x128_S128x16384_S4x16384_1_0_0_1_n_n none a0 a1) (broadcastInDim S4x16384 ![0, 1] bcast_S1x16384_S4x16384_0_1 (broadcastInDim S1x16384 ![1] bcast_S16384_S1x16384_1 a2))

/-- The identity matrix. -/
abbrev eye : FVec Ideal S128x128 .f32 :=
  uitofp .f32 (cmpi .eq (addi (iotaInDim S128x128 32 0) (broadcastInDim S128x128 ![] bcast_S_S128x128 (constantI S_ 32 0#32))) (iotaInDim S128x128 32 1))

/-- The stated result. -/
abbrev ref (a0 : FVec Ideal S4x128 .f32) (a1 : FVec Ideal S128x16384 .f32) (a2 : FVec Ideal S16384 .f32) :
    FVec Ideal S4x16384 .f32 :=
  shapeCast S4x16384 (addf (F := Ideal) (s := S4x128x128) (φ := .f32) (shapeCast S4x128x128 (lin a0 a1 a2) shapeCasts_S4x16384_S4x128x128) (broadcastInDim S4x128x128 ![0, 1, 2] bcast_S1x128x128_S4x128x128_0_1_2 (broadcastInDim S1x128x128 ![1, 2] bcast_S128x128_S1x128x128_1_2 eye))) shapeCasts_S4x128x128_S4x16384

theorem ref_at (a0 : FVec Ideal S4x128 .f32) (a1 : FVec Ideal S128x16384 .f32) (a2 : FVec Ideal S16384 .f32)
    (b : Fin 4) (c : Fin 16384) :
    ref a0 a1 a2 (ix2 b c)
      = (∑ k : Fin 128, a0 (ix2 b k) * a1 (ix2 k c)) + a2 (ix1 c)
        + Scalar.select (Eye.bit 128#32 (BitVec.ofNat 32 c.val)) (1 : Ideal .f32) 0 := by
  pointwise [ref, lin, eye]
  rw [Eye.diag_128 c.val c.isLt, Eye.uitofp_bit]

end Reference

/-- The two programs' results are one array. -/
theorem eq (a0 : FVec Ideal Cert.InputTransformIdeal.S4x128 .f32) (a1 : FVec Ideal Cert.InputTransformIdeal.S128x16384 .f32)
    (a2 : FVec Ideal Cert.InputTransformIdeal.S16384 .f32) :
    Cert.InputTransformIdeal.Value.G3 (F := Ideal) a0 a1 a2 = ref a0 a1 a2 := by
  funext j
  obtain ⟨b, c, rfl⟩ : ∃ (b : Fin 4) (c : Fin 16384), j = ix2 b c := ⟨j 0, j 1, ValueIdx.eq_ix2 j⟩
  exact (g_at a0 a1 a2 b c).trans (ref_at a0 a1 a2 b c).symm

/-- From memories that agree on the arguments, the two programs end with one array. -/
theorem value : Cert.algebraic_InputTransformIdeal_InputTransformReferenceIdeal
    (hInputTransformIdeal := Cert.InputTransformIdeal.Gen.facts)
    (hInputTransformReferenceIdeal := Cert.InputTransformReferenceIdeal.Gen.facts) := by
  intro m g m' g' _ hargs
  refine ⟨_, Cert.InputTransformIdeal.Value.run m g, ?_⟩
  refine (θ_run (Cert.InputTransformReferenceIdeal.defs (F := Ideal)) _ _).mono
    (fun r h c => ⟨(h c).1.trans ?_, (h c).2⟩) (Cert.InputTransformReferenceIdeal.Value.run m' g')
  rw [(hargs c).1, (hargs c).2.1, (hargs c).2.2]
  exact (eq _ _ _).symm

/-- The stated program runs, and its arguments end unchanged. -/
theorem refFrame : Cert.quiescent_InputTransformReferenceIdeal
    (hInputTransformReferenceIdeal := Cert.InputTransformReferenceIdeal.Gen.facts) := fun m g _ =>
  (θ_run (Cert.InputTransformReferenceIdeal.defs (F := Ideal)) _ _).mono
    (fun _ h => ⟨fun c => (h c).2, sem_eq_zero_of_no_sems rfl _⟩) (Cert.InputTransformReferenceIdeal.Value.run m g)

end Cert.InT

end
-- ==== Proof.Feat.lean ====
/-
  The features of the middle call and the maximum for the feature transform: each row turned by the matrix of its member of
  the stack, one layer, which is kept, then two more layers, and the greatest value of each channel over the rows of one
  member, which the kernel keeps up across the blocks of rows.
-/
module

public import proofs.«01_k».proof.Defs
public import proofs.«01_k».proof.Proof.RowMax
public import proofs.«01_k».proof.Proof.Gen.FeaturesIdeal.Value
public import proofs.«01_k».proof.Proof.Gen.FeaturesReferenceIdeal.Run
public import Idealize.ShloMosaic.Lib.Pointwise
public import Idealize.ShloMosaic.Lib.Quiescent
public import Idealize.ShloMosaic.Adequacy
public import Idealize.ShloMosaic.Init

@[expose] public section

noncomputable section

namespace Cert.Feat

open Idealize.ShloMosaic Idealize.ShloMosaic.TcCoe Idealize.ShloMosaic.Tactic Idealize.SL.Sem

/-- One feature of one row: the row turned by `T`, and a layer with bias, cut off at zero. -/
abbrev featOf (g : Fin 128 → EReal) (T : Fin 128 → Fin 128 → EReal) (w1 : Fin 128 → EReal) (b1 : EReal) : EReal :=
  max ((∑ y, (∑ z, g z * T y z) * w1 y) + b1) 0

/-- One channel of one row: two more layers with bias, each cut off at zero. -/
abbrev chanOf (h : Fin 64 → EReal) (w1 : Fin 64 → Fin 64 → EReal) (b1 : Fin 64 → EReal) (w2 : Fin 64 → EReal) (b2 : EReal) : EReal :=
  max ((∑ x, max ((∑ y, h y * w1 x y) + b1 x) 0 * w2 x) + b2) 0

section Kernel
open Cert.FeaturesIdeal Cert.FeaturesIdeal.Gen Cert.FeaturesIdeal.Value

theorem pay2_at (g : Vec Ideal S1024x128 .f32) (T : Vec Ideal S1x128x128 .f32) (w1 : Vec Ideal S64x128 .f32)
    (b1 : Vec Ideal S64 .f32) (r : Fin 1024) (o : Fin 64) :
    k0_pay2 (F := Ideal) g T w1 b1 (ix2 r o)
      = featOf (fun z => g (ix2 r z)) (fun y z => T (ix3 0 y z)) (fun y => w1 (ix2 o y)) (b1 (ix1 o)) := by
  pointwise [k0_pay2]

theorem pay3_le (g : Vec Ideal S1024x128 .f32) (T : Vec Ideal S1x128x128 .f32) (w1 : Vec Ideal S64x128 .f32)
    (b1 : Vec Ideal S64 .f32) (w2 : Vec Ideal S64x64 .f32) (b2 : Vec Ideal S64 .f32) (w3 : Vec Ideal S128x64 .f32)
    (b3 : Vec Ideal S128 .f32) (o : Fin 128) (z : EReal) :
    k0_pay3 (F := Ideal) g T w1 b1 w2 b2 w3 b3 (ix3 0 0 o) ≤ z
      ↔ ∀ r : Fin 1024, chanOf (fun x => featOf (fun z => g (ix2 r z)) (fun y z => T (ix3 0 y z)) (fun y => w1 (ix2 x y)) (b1 (ix1 x)))
          (fun x y => w2 (ix2 x y)) (fun x => b2 (ix1 x)) (fun x => w3 (ix2 o x)) (b3 (ix1 o)) ≤ z := by
  pointwise [k0_pay3, k0_pay2]
  exact RowMax.fold_le _ z

theorem pay1_at (v x : Vec Ideal S1x1x128 .f32) (j : S1x1x128.Idx) :
    k0_pay1 (F := Ideal) v x j = max (x j) (v j) := by
  unfold k0_pay1
  rw [shapeCast_self]
  rfl

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

section Body
variable {F : FTy → Type} [FloatOps F]
variable (c : Dev nD) (i : grid0.Coords) (a2 : Memref sig .tc .vmem S1024x128 .f32) (h2 : a2.IsWhole)
  (a3 : Memref sig .tc .vmem S1x128x128 .f32) (h3 : a3.IsWhole) (a4 : Memref sig .tc .vmem S64x128 .f32) (h4 : a4.IsWhole)
  (a5 : Memref sig .tc .vmem S64 .f32) (h5 : a5.IsWhole) (a6 : Memref sig .tc .vmem S64x64 .f32) (h6 : a6.IsWhole)
  (a7 : Memref sig .tc .vmem S64 .f32) (h7 : a7.IsWhole) (a8 : Memref sig .tc .vmem S128x64 .f32) (h8 : a8.IsWhole)
  (a9 : Memref sig .tc .vmem S128 .f32) (h9 : a9.IsWhole) (a10 : Memref sig .tc .vmem S1024x64 .f32) (h10 : a10.IsWhole)
  (a11 : Memref sig .tc .vmem S1x1x128 .f32) (h11 : a11.IsWhole)
  (x0 : Vec F S1024x128 .f32) (x1 : Vec F S1x128x128 .f32) (x2 : Vec F S64x128 .f32) (x3 : Vec F S64 .f32)
  (x4 : Vec F S64x64 .f32) (x5 : Vec F S64 .f32) (x6 : Vec F S128x64 .f32) (x7 : Vec F S128 .f32) (xo : Vec F S1x1x128 .f32)

/-- The features that the body leaves, at the first block of a member of the stack. -/
theorem out8_A (hc0 : cond0_0 i) (hc1 : ¬cond0_1 i) :
    out0_A_8 c i a2 h2 a3 h3 a4 h4 a5 h5 a6 h6 a7 h7 a8 h8 a9 h9 a10 h10 a11 h11 hc0 hc1 x0 x1 x2 x3 x4 x5 x6 x7
      = k0_pay2 x0 x1 x2 x3 := by
  unfold out0_A_8
  rw [View.read_writes_eq_canon _ _ _ (cover0_A_8 c i a2 h2 a3 h3 a4 h4 a5 h5 a6 h6 a7 h7 a8 h8 a9 h9 a10 h10 a11 h11 hc0 hc1
    x0 x1 x2 x3 x4 x5 x6 x7)]
  unfold kernelRun0_A
  dsimp only
  rw [View.canon_unit_zero hz2]
  simp only [View.readAt_eq_ld, h2.read_unread, h3.read_unread, h4.read_unread, h5.read_unread,
    View.ld_unit_zero (S := S1024x128) hz2, View.ld_unit_zero (S := S1x128x128) hz3, View.ld_unit_zero (S := S64x128) hz2,
    View.ld_unit_zero (S := S64) hz1]

/-- The features that the body leaves, at a later block. -/
theorem out8_B (hc0 : ¬cond0_0 i) (hc1 : cond0_1 i) :
    out0_B_8 c i a2 h2 a3 h3 a4 h4 a5 h5 a6 h6 a7 h7 a8 h8 a9 h9 a10 h10 a11 h11 hc0 hc1 x0 x1 x2 x3 x4 x5 x6 x7 xo
      = k0_pay2 x0 x1 x2 x3 := by
  unfold out0_B_8
  rw [View.read_writes_eq_canon _ _ _ (cover0_B_8 c i a2 h2 a3 h3 a4 h4 a5 h5 a6 h6 a7 h7 a8 h8 a9 h9 a10 h10 a11 h11 hc0 hc1
    x0 x1 x2 x3 x4 x5 x6 x7 xo)]
  unfold kernelRun0_B
  dsimp only
  rw [View.canon_unit_zero hz2]
  simp only [View.readAt_eq_ld, h2.read_unread, h3.read_unread, h4.read_unread, h5.read_unread,
    View.ld_unit_zero (S := S1024x128) hz2, View.ld_unit_zero (S := S1x128x128) hz3, View.ld_unit_zero (S := S64x128) hz2,
    View.ld_unit_zero (S := S64) hz1]

/-- The maximum that the body leaves at the first block of a member of the stack. -/
theorem out9_A (hc0 : cond0_0 i) (hc1 : ¬cond0_1 i) :
    out0_A_9 c i a2 h2 a3 h3 a4 h4 a5 h5 a6 h6 a7 h7 a8 h8 a9 h9 a10 h10 a11 h11 hc0 hc1 x0 x1 x2 x3 x4 x5 x6 x7
      = k0_pay3 x0 x1 x2 x3 x4 x5 x6 x7 := by
  unfold out0_A_9
  rw [View.read_writes_eq_canon _ _ _ (cover0_A_9 c i a2 h2 a3 h3 a4 h4 a5 h5 a6 h6 a7 h7 a8 h8 a9 h9 a10 h10 a11 h11 hc0 hc1
    x0 x1 x2 x3 x4 x5 x6 x7)]
  unfold kernelRun0_A
  dsimp only
  sl_unfold_words
  rw [View.canon_unit_zero hz3]
  simp only [View.readAt_eq_ld, h2.read_unread, h3.read_unread, h4.read_unread, h5.read_unread, h6.read_unread, h7.read_unread,
    h8.read_unread, h9.read_unread,
    View.ld_unit_zero (S := S1024x128) hz2, View.ld_unit_zero (S := S1x128x128) hz3, View.ld_unit_zero (S := S64x128) hz2,
    View.ld_unit_zero (S := S64) hz1, View.ld_unit_zero (S := S64x64) hz2, View.ld_unit_zero (S := S128x64) hz2,
    View.ld_unit_zero (S := S128) hz1]

/-- The maximum that the body leaves at a later block: the greater of what it found and the block's own. -/
theorem out9_B (hc0 : ¬cond0_0 i) (hc1 : cond0_1 i) :
    out0_B_9 c i a2 h2 a3 h3 a4 h4 a5 h5 a6 h6 a7 h7 a8 h8 a9 h9 a10 h10 a11 h11 hc0 hc1 x0 x1 x2 x3 x4 x5 x6 x7 xo
      = k0_pay1 (k0_pay3 x0 x1 x2 x3 x4 x5 x6 x7) xo := by
  unfold out0_B_9
  rw [View.read_writes_eq_canon _ _ _ (cover0_B_9 c i a2 h2 a3 h3 a4 h4 a5 h5 a6 h6 a7 h7 a8 h8 a9 h9 a10 h10 a11 h11 hc0 hc1
    x0 x1 x2 x3 x4 x5 x6 x7 xo)]
  unfold kernelRun0_B
  dsimp only
  sl_unfold_words
  rw [View.canon_unit_zero hz3]
  simp only [View.readAt_eq_ld, h2.read_unread, h3.read_unread, h4.read_unread, h5.read_unread, h6.read_unread, h7.read_unread,
    h8.read_unread, h9.read_unread, h11.read_unread,
    View.ld_unit_zero (S := S1024x128) hz2, View.ld_unit_zero (S := S1x128x128) hz3, View.ld_unit_zero (S := S64x128) hz2,
    View.ld_unit_zero (S := S64) hz1, View.ld_unit_zero (S := S64x64) hz2, View.ld_unit_zero (S := S128x64) hz2,
    View.ld_unit_zero (S := S128) hz1, View.ld_unit_zero (S := S1x1x128) hz3]

end Body

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = t.val / 32 ∧ win0_1.index t (1 : Fin 3) = 0
    ∧ win0_1.index t (2 : Fin 3) = 0 := (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 1) = 0 := (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 1) = 0 := (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 1) = 0 := (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 3) = t.val / 32 ∧ win0_9.index t (1 : Fin 3) = 0
    ∧ win0_9.index t (2 : Fin 3) = 0 := (by decide +kernel : ∀ t : Fin grid0.N, _)

/-- The member of the stack that block `t` belongs to. -/
abbrev mem (t : Fin cfg0.N) : Fin 4 := ⟨t.val / 32, by have h := t.isLt; have h' : t.val < 128 := h; omega⟩

theorem emb0 (t : Fin cfg0.N) (r : Fin 1024) (z : Fin 128) :
    ((cfg0.win 0).blk t).view.emb (ix2 r z : S1024x128.Idx) = (ix2 (RowMax.row t.val t.isLt r) z : S131072x128.Idx) := by
  obtain ⟨e0, e1⟩ := idx0 t
  funext a; apply Fin.ext
  match a with
  | ⟨0, _⟩ => show win0_0.index t (0 : Fin 2) * 1024 + 1 * r.val = t.val * 1024 + r.val; omega
  | ⟨1, _⟩ => show win0_0.index t (1 : Fin 2) * 128 + 1 * z.val = z.val; omega
theorem emb1 (t : Fin cfg0.N) (p q : Fin 128) :
    ((cfg0.win 1).blk t).view.emb (ix3 0 p q : S1x128x128.Idx) = (ix3 (mem t) p q : S4x128x128.Idx) := by
  obtain ⟨e0, e1, e2⟩ := idx1 t
  funext a; apply Fin.ext
  match a with
  | ⟨0, _⟩ => show win0_1.index t (0 : Fin 3) * 1 + 1 * 0 = t.val / 32; omega
  | ⟨1, _⟩ => show win0_1.index t (1 : Fin 3) * 128 + 1 * p.val = p.val; omega
  | ⟨2, _⟩ => show win0_1.index t (2 : Fin 3) * 128 + 1 * q.val = q.val; omega
theorem emb2 (t : Fin cfg0.N) (j : S64x128.Idx) : ((cfg0.win 2).blk t).view.emb j = j := by
  obtain ⟨e0, e1⟩ := idx2 t
  funext a; apply Fin.ext
  match a with
  | ⟨0, _⟩ => show win0_2.index t (0 : Fin 2) * 64 + 1 * (j 0).val = (j 0).val; omega
  | ⟨1, _⟩ => show win0_2.index t (1 : Fin 2) * 128 + 1 * (j 1).val = (j 1).val; omega
theorem emb3 (t : Fin cfg0.N) (j : S64.Idx) : ((cfg0.win 3).blk t).view.emb j = j := by
  have e0 := idx3 t
  funext a; apply Fin.ext
  match a with
  | ⟨0, _⟩ => show win0_3.index t (0 : Fin 1) * 64 + 1 * (j 0).val = (j 0).val; omega
theorem emb4 (t : Fin cfg0.N) (j : S64x64.Idx) : ((cfg0.win 4).blk t).view.emb j = j := by
  obtain ⟨e0, e1⟩ := idx4 t
  funext a; apply Fin.ext
  match a with
  | ⟨0, _⟩ => show win0_4.index t (0 : Fin 2) * 64 + 1 * (j 0).val = (j 0).val; omega
  | ⟨1, _⟩ => show win0_4.index t (1 : Fin 2) * 64 + 1 * (j 1).val = (j 1).val; omega
theorem emb5 (t : Fin cfg0.N) (j : S64.Idx) : ((cfg0.win 5).blk t).view.emb j = j := by
  have e0 := idx5 t
  funext a; apply Fin.ext
  match a with
  | ⟨0, _⟩ => show win0_5.index t (0 : Fin 1) * 64 + 1 * (j 0).val = (j 0).val; omega
theorem emb6 (t : Fin cfg0.N) (j : S128x64.Idx) : ((cfg0.win 6).blk t).view.emb j = j := by
  obtain ⟨e0, e1⟩ := idx6 t
  funext a; apply Fin.ext
  match a with
  | ⟨0, _⟩ => show win0_6.index t (0 : Fin 2) * 128 + 1 * (j 0).val = (j 0).val; omega
  | ⟨1, _⟩ => show win0_6.index t (1 : Fin 2) * 64 + 1 * (j 1).val = (j 1).val; omega
theorem emb7 (t : Fin cfg0.N) (j : S128.Idx) : ((cfg0.win 7).blk t).view.emb j = j := by
  have e0 := idx7 t
  funext a; apply Fin.ext
  match a with
  | ⟨0, _⟩ => show win0_7.index t (0 : Fin 1) * 128 + 1 * (j 0).val = (j 0).val; omega
theorem emb8 (t : Fin cfg0.N) (r : Fin 1024) (o : Fin 64) :
    ((cfg0.win 8).blk t).view.emb (ix2 r o : S1024x64.Idx) = (ix2 (RowMax.row t.val t.isLt r) o : S131072x64.Idx) := by
  obtain ⟨e0, e1⟩ := idx8 t
  funext a; apply Fin.ext
  match a with
  | ⟨0, _⟩ => show win0_8.index t (0 : Fin 2) * 1024 + 1 * r.val = t.val * 1024 + r.val; omega
  | ⟨1, _⟩ => show win0_8.index t (1 : Fin 2) * 64 + 1 * o.val = o.val; omega
theorem emb9 (t : Fin cfg0.N) (o : Fin 128) :
    ((cfg0.win 9).blk t).view.emb (ix3 0 0 o : S1x1x128.Idx) = (ix3 (mem t) 0 o : S4x1x128.Idx) := by
  obtain ⟨e0, e1, e2⟩ := idx9 t
  funext a; apply Fin.ext
  match a with
  | ⟨0, _⟩ => show win0_9.index t (0 : Fin 3) * 1 + 1 * 0 = t.val / 32; omega
  | ⟨1, _⟩ => show win0_9.index t (1 : Fin 3) * 1 + 1 * 0 = 0; omega
  | ⟨2, _⟩ => show win0_9.index t (2 : Fin 3) * 128 + 1 * o.val = o.val; omega

/-- A block of either result is written whole. -/
theorem cut8 (t : Fin cfg0.N) (x : Vec Ideal S1024x64 .f32) (r : Fin 1024) (o : Fin 64) :
    ((cfg0.win 8).cut (grid0.coords t) x : Vec Ideal S1024x64 .f32) (ix2 r o) = x (ix2 r o) := rfl
theorem cut9 (t : Fin cfg0.N) (x : Vec Ideal S1x1x128 .f32) (o : Fin 128) :
    ((cfg0.win 9).cut (grid0.coords t) x : Vec Ideal S1x1x128 .f32) (ix3 0 0 o) = x (ix3 0 0 o) := rfl

theorem read8 (t : Fin cfg0.N) (G : Vec Ideal S131072x64 .f32) (r : Fin 1024) (o : Fin 64) :
    (((cfg0.win 8).blk t).view.read (Elt Ideal) G : Vec Ideal S1024x64 .f32) (ix2 r o) = G (ix2 (RowMax.row t.val t.isLt r) o) := by
  show G (((cfg0.win 8).blk t).view.emb (ix2 r o : S1024x64.Idx)) = _
  rw [emb8]
theorem read9 (t : Fin cfg0.N) (G : Vec Ideal S4x1x128 .f32) (o : Fin 128) :
    (((cfg0.win 9).blk t).view.read (Elt Ideal) G : Vec Ideal S1x1x128 .f32) (ix3 0 0 o) = G (ix3 (mem t) 0 o) := by
  show G (((cfg0.win 9).blk t).view.emb (ix3 0 0 o : S1x1x128.Idx)) = _
  rw [emb9]

/-- The one row of a block of the maximum. -/
theorem eq_row (j : S1x1x128.Idx) : ∃ o : Fin 128, j = ix3 0 0 o := by
  refine ⟨j 2, ?_⟩
  funext a; apply Fin.ext
  match a with
  | ⟨0, _⟩ => have := (j 0).isLt; have h : (j 0).val < 1 := this; show (j 0).val = 0; omega
  | ⟨1, _⟩ => have := (j 1).isLt; have h : (j 1).val < 1 := this; show (j 1).val = 0; omega
  | ⟨2, _⟩ => rfl

variable (m : (ℓ : Loc nD τ sig) → Buf (Elt Ideal) ℓ)

theorem blk0 (c : Dev nD) (t : Fin cfg0.N) (r : Fin 1024) (z : Fin 128) :
    (iblk m c 0 t : Vec Ideal S1024x128 .f32) (ix2 r z)
      = m ((c : Thread nD τ).loc main_arg0) (ix2 (RowMax.row t.val t.isLt r) z : S131072x128.Idx) := by
  show V m c main_arg0 (((cfg0.win 0).blk t).view.emb (ix2 r z : S1024x128.Idx)) = _
  rw [emb0, V_main_arg0]
theorem blk1 (c : Dev nD) (t : Fin cfg0.N) (p q : Fin 128) :
    (iblk m c 1 t : Vec Ideal S1x128x128 .f32) (ix3 0 p q) = m ((c : Thread nD τ).loc main_arg1) (ix3 (mem t) p q : S4x128x128.Idx) := by
  show V m c main_arg1 (((cfg0.win 1).blk t).view.emb (ix3 0 p q : S1x128x128.Idx)) = _
  rw [emb1, V_main_arg1]
theorem blk2 (c : Dev nD) (t : Fin cfg0.N) : (iblk m c 2 t : Vec Ideal S64x128 .f32) = m ((c : Thread nD τ).loc main_arg2) := by
  funext j; show V m c main_arg2 (((cfg0.win 2).blk t).view.emb j) = _; rw [emb2, V_main_arg2]
theorem blk3 (c : Dev nD) (t : Fin cfg0.N) : (iblk m c 3 t : Vec Ideal S64 .f32) = m ((c : Thread nD τ).loc main_arg3) := by
  funext j; show V m c main_arg3 (((cfg0.win 3).blk t).view.emb j) = _; rw [emb3, V_main_arg3]
theorem blk4 (c : Dev nD) (t : Fin cfg0.N) : (iblk m c 4 t : Vec Ideal S64x64 .f32) = m ((c : Thread nD τ).loc main_arg4) := by
  funext j; show V m c main_arg4 (((cfg0.win 4).blk t).view.emb j) = _; rw [emb4, V_main_arg4]
theorem blk5 (c : Dev nD) (t : Fin cfg0.N) : (iblk m c 5 t : Vec Ideal S64 .f32) = m ((c : Thread nD τ).loc main_arg5) := by
  funext j; show V m c main_arg5 (((cfg0.win 5).blk t).view.emb j) = _; rw [emb5, V_main_arg5]
theorem blk6 (c : Dev nD) (t : Fin cfg0.N) : (iblk m c 6 t : Vec Ideal S128x64 .f32) = m ((c : Thread nD τ).loc main_arg6) := by
  funext j; show V m c main_arg6 (((cfg0.win 6).blk t).view.emb j) = _; rw [emb6, V_main_arg6]
theorem blk7 (c : Dev nD) (t : Fin cfg0.N) : (iblk m c 7 t : Vec Ideal S128 .f32) = m ((c : Thread nD τ).loc main_arg7) := by
  funext j; show V m c main_arg7 (((cfg0.win 7).blk t).view.emb j) = _; rw [emb7, V_main_arg7]

/-- One feature of one row of the array, the row in member `b` of the stack. -/
abbrev rowFeat (c : Dev nD) (b : Fin 4) (r : Fin 131072) (x : Fin 64) : EReal :=
  featOf (fun z => m ((c : Thread nD τ).loc main_arg0) (ix2 r z : S131072x128.Idx))
    (fun y z => m ((c : Thread nD τ).loc main_arg1) (ix3 b y z : S4x128x128.Idx))
    (fun y => m ((c : Thread nD τ).loc main_arg2) (ix2 x y : S64x128.Idx)) (m ((c : Thread nD τ).loc main_arg3) (ix1 x : S64.Idx))

/-- The member of the stack that a row belongs to. -/
abbrev memRow (r : Fin 131072) : Fin 4 := ⟨r.val / 32768, by have := r.isLt; omega⟩

/-- One channel of one row of the array. -/
abbrev rowVal (c : Dev nD) (o : Fin 128) (r : Fin 131072) : EReal :=
  chanOf (rowFeat m c (memRow r) r) (fun x y => m ((c : Thread nD τ).loc main_arg4) (ix2 x y : S64x64.Idx))
    (fun x => m ((c : Thread nD τ).loc main_arg5) (ix1 x : S64.Idx))
    (fun x => m ((c : Thread nD τ).loc main_arg6) (ix2 o x : S128x64.Idx)) (m ((c : Thread nD τ).loc main_arg7) (ix1 o : S128.Idx))

theorem mem_row (t : Fin cfg0.N) (r : Fin 1024) : memRow (RowMax.row t.val t.isLt r) = mem t :=
  Fin.ext (by show (t.val * 1024 + r.val) / 32768 = t.val / 32; have := r.isLt; omega)

theorem not_later (n : Nat) (h : n % 32 = 0) : ¬1 ≤ n % 32 := by omega
theorem later (n : Nat) (h : ¬n % 32 = 0) : 1 ≤ n % 32 := by omega

/-- The features that the body leaves after block `t`. -/
theorem feat_at (c : Dev nD) (t : Fin cfg0.N) (r : Fin 1024) (o : Fin 64) :
    (outsAt0 m c t.val t.isLt).1 (ix2 r o) = rowFeat m c (mem t) (RowMax.row t.val t.isLt r) o := by
  have e : (outsAt0 m c t.val t.isLt).1 = k0_pay2 (F := Ideal) (iblk m c 0 t) (iblk m c 1 t) (iblk m c 2 t) (iblk m c 3 t) := by
    by_cases h0 : t.val % 32 = 0
    · refine (congrArg Prod.fst (outsAt0_A m c t h0 (not_later _ h0))).trans ?_
      dsimp only
      rw [out8_A]
    · refine (congrArg Prod.fst (outsAt0_B m c t h0 (later _ h0))).trans ?_
      dsimp only
      rw [out8_B]
  rw [e]
  refine (pay2_at _ _ _ _ r o).trans ?_
  simp only [blk0, blk1, blk2, blk3]

/-- The maximum that the body leaves after the last block of a member of the stack. -/
theorem last_le (c : Dev nD) (o : Fin 128) (z : EReal) (t : Fin cfg0.N) (h31 : t.val % 32 = 31) :
    (outsAt0 m c t.val t.isLt).2 (ix3 0 0 o) ≤ z
      ↔ ∀ r : Fin 131072, r.val / 32768 = t.val / 32 → rowVal m c o r ≤ z := by
  refine RowMax.last_le (fun n hn => (outsAt0 m c n hn).2 (ix3 0 0 o))
    (fun n hn => k0_pay3 (F := Ideal) (iblk m c 0 ⟨n, hn⟩) (iblk m c 1 ⟨n, hn⟩) (iblk m c 2 ⟨n, hn⟩) (iblk m c 3 ⟨n, hn⟩)
      (iblk m c 4 ⟨n, hn⟩) (iblk m c 5 ⟨n, hn⟩) (iblk m c 6 ⟨n, hn⟩) (iblk m c 7 ⟨n, hn⟩) (ix3 0 0 o)) (rowVal m c o) ?_ ?_ ?_
      z t.val t.isLt h31
  · intro n hn h0
    refine (congrFun (congrArg Prod.snd (outsAt0_A m c ⟨n, hn⟩ h0 (not_later n h0))) _).trans ?_
    dsimp only
    rw [out9_A]
  · intro n hn h0
    refine (congrFun (congrArg Prod.snd (outsAt0_B m c ⟨n, hn⟩ h0 (later n h0))) _).trans ?_
    dsimp only
    rw [out9_B, pay1_at]
  · intro n hn z
    refine (pay3_le _ _ _ _ _ _ _ _ o z).trans ?_
    refine forall_congr' fun r => ?_
    have e : memRow (RowMax.row n hn r) = mem ⟨n, hn⟩ := mem_row ⟨n, hn⟩ r
    unfold rowVal
    rw [e]
    simp only [blk0, blk1, blk2, blk3, blk4, blk5, blk6, blk7]

/-- Every row of the features is in one block. -/
theorem covered8 (i : S131072x64.Idx) : ∃ t : Fin cfg0.N, (cfg0.win 8).flush t = true ∧ i ∈ ((cfg0.win 8).blk t).view.set := by
  obtain ⟨r, o, rfl⟩ : ∃ (r : Fin 131072) (o : Fin 64), i = ix2 r o := ⟨i 0, i 1, ValueIdx.eq_ix2 i⟩
  have hr := r.isLt
  refine ⟨(⟨r.val / 1024, show r.val / 1024 < 128 by omega⟩ : Fin cfg0.N), flush0_8 _, ?_⟩
  have h := ((cfg0.win 8).blk (⟨r.val / 1024, show r.val / 1024 < 128 by omega⟩ : Fin cfg0.N)).view.emb_mem_set
    (ix2 (⟨r.val % 1024, by omega⟩ : Fin 1024) o : S1024x64.Idx)
  rw [emb8] at h
  have he : RowMax.row (r.val / 1024) (by omega) ⟨r.val % 1024, by omega⟩ = r :=
    Fin.ext (by show r.val / 1024 * 1024 + r.val % 1024 = r.val; omega)
  rwa [he] at h

/-- Every row of the maximum is in the block of one member. -/
theorem covered9 (i : S4x1x128.Idx) : ∃ t : Fin cfg0.N, (cfg0.win 9).flush t = true ∧ i ∈ ((cfg0.win 9).blk t).view.set := by
  obtain ⟨b, o, rfl⟩ : ∃ (b : Fin 4) (o : Fin 128), i = ix3 b 0 o := by
    refine ⟨i 0, i 2, ?_⟩
    funext a; apply Fin.ext
    match a with
    | ⟨0, _⟩ => rfl
    | ⟨1, _⟩ => have := (i 1).isLt; have h : (i 1).val < 1 := this; show (i 1).val = 0; omega
    | ⟨2, _⟩ => rfl
  have hb := b.isLt
  refine ⟨(⟨b.val * 32 + 31, show b.val * 32 + 31 < 128 by omega⟩ : Fin cfg0.N), (flush0_9 _).mpr ?_, ?_⟩
  · show (b.val * 32 + 31) % 32 = 31
    omega
  have h := ((cfg0.win 9).blk (⟨b.val * 32 + 31, show b.val * 32 + 31 < 128 by omega⟩ : Fin cfg0.N)).view.emb_mem_set
    (ix3 0 0 o : S1x1x128.Idx)
  rw [emb9] at h
  have he : mem (⟨b.val * 32 + 31, show b.val * 32 + 31 < 128 by omega⟩ : Fin cfg0.N) = b :=
    Fin.ext (by show (b.val * 32 + 31) / 32 = b.val; omega)
  rwa [he] at h

end Kernel

section Reference
open Cert.FeaturesReferenceIdeal Cert.FeaturesReferenceIdeal.Gen

/-- The rows by channel, turned by the matrices. -/
abbrev turned (g : FVec Ideal S131072x128 .f32) (T : FVec Ideal S4x128x128 .f32) : FVec Ideal S4x128x512x64 .f32 :=
  Host.dotGeneral dot_S4x128x128_S4x128x512x64_S4x128x512x64_2_1_1_23_0_0 none T (transpose S4x128x512x64 [0, 3, 1, 2] (shapeCast S4x512x64x128 g shapeCasts_S131072x128_S4x512x64x128) transposes_S4x512x64x128_S4x128x512x64_0_3_1_2)

/-- The first layer. -/
abbrev layer1 (x : FVec Ideal S4x128x512x64 .f32) (w1 : FVec Ideal S64x128 .f32) (b1 : FVec Ideal S64 .f32) :
    FVec Ideal S4x64x512x64 .f32 :=
  maximumf (addf (transpose S4x64x512x64 [0, 3, 1, 2] (Host.dotGeneral dot_S4x128x512x64_S64x128_S4x512x64x64_1_1_023_0_n_n none x w1 : FVec Ideal S4x512x64x64 .f32) transposes_S4x512x64x64_S4x64x512x64_0_3_1_2) (broadcastInDim S4x64x512x64 ![0, 1, 2, 3] bcast_S1x64x1x1_S4x64x512x64_0_1_2_3 (broadcastInDim S1x64x1x1 ![1] bcast_S64_S1x64x1x1_1 b1))) (broadcastInDim S4x64x512x64 ![] bcast_S_S4x64x512x64 (constant S_ .f32 0x00000000#32))

/-- The second layer. -/
abbrev layer2 (x : FVec Ideal S4x64x512x64 .f32) (w2 : FVec Ideal S64x64 .f32) (b2 : FVec Ideal S64 .f32) :
    FVec Ideal S4x64x512x64 .f32 :=
  maximumf (addf (transpose S4x64x512x64 [0, 3, 1, 2] (Host.dotGeneral dot_S4x64x512x64_S64x64_S4x512x64x64_1_1_023_0_n_n none x w2 : FVec Ideal S4x512x64x64 .f32) transposes_S4x512x64x64_S4x64x512x64_0_3_1_2) (broadcastInDim S4x64x512x64 ![0, 1, 2, 3] bcast_S1x64x1x1_S4x64x512x64_0_1_2_3 (broadcastInDim S1x64x1x1 ![1] bcast_S64_S1x64x1x1_1 b2))) (broadcastInDim S4x64x512x64 ![] bcast_S_S4x64x512x64 (constant S_ .f32 0x00000000#32))

/-- The third layer. -/
abbrev layer3 (x : FVec Ideal S4x64x512x64 .f32) (w3 : FVec Ideal S128x64 .f32) (b3 : FVec Ideal S128 .f32) :
    FVec Ideal S4x128x512x64 .f32 :=
  maximumf (addf (transpose S4x128x512x64 [0, 3, 1, 2] (Host.dotGeneral dot_S4x64x512x64_S128x64_S4x512x64x128_1_1_023_0_n_n none x w3 : FVec Ideal S4x512x64x128 .f32) transposes_S4x512x64x128_S4x128x512x64_0_3_1_2) (broadcastInDim S4x128x512x64 ![0, 1, 2, 3] bcast_S1x128x1x1_S4x128x512x64_0_1_2_3 (broadcastInDim S1x128x1x1 ![1] bcast_S128_S1x128x1x1_1 b3))) (broadcastInDim S4x128x512x64 ![] bcast_S_S4x128x512x64 (constant S_ .f32 0x00000000#32))

/-- The stated features, by rows. -/
abbrev refFeat (g : FVec Ideal S131072x128 .f32) (T : FVec Ideal S4x128x128 .f32) (w1 : FVec Ideal S64x128 .f32)
    (b1 : FVec Ideal S64 .f32) : FVec Ideal S131072x64 .f32 :=
  shapeCast S131072x64 (transpose S4x512x64x64 [0, 2, 3, 1] (layer1 (turned g T) w1 b1) transposes_S4x64x512x64_S4x512x64x64_0_2_3_1) shapeCasts_S4x512x64x64_S131072x64

/-- The stated maximum. -/
abbrev refMax (g : FVec Ideal S131072x128 .f32) (T : FVec Ideal S4x128x128 .f32) (w1 : FVec Ideal S64x128 .f32)
    (b1 : FVec Ideal S64 .f32) (w2 : FVec Ideal S64x64 .f32) (b2 : FVec Ideal S64 .f32) (w3 : FVec Ideal S128x64 .f32)
    (b3 : FVec Ideal S128 .f32) : FVec Ideal S4x1x128 .f32 :=
  broadcastInDim S4x1x128 ![0, 2] bcast_S4x128_S4x1x128_0_2 (Host.reduce FloatOps.maximumf (layer3 (layer2 (layer1 (turned g T) w1 b1) w2 b2) w3 b3) (constant S_ .f32 0xFF800000#32) reducesTo_S4x128x512x64_S4x128_d2_3 h_S_)

theorem refFeat_at (g : FVec Ideal S131072x128 .f32) (T : FVec Ideal S4x128x128 .f32) (w1 : FVec Ideal S64x128 .f32)
    (b1 : FVec Ideal S64 .f32) (r : Fin 131072) (o : Fin 64) (b : Fin 4) (hb : r.val / 32768 = b.val) :
    refFeat g T w1 b1 (ix2 r o)
      = featOf (fun z => g (ix2 r z)) (fun y z => T (ix3 b y z)) (fun y => w1 (ix2 o y)) (b1 (ix1 o)) := by
  obtain ⟨b, hlt⟩ := b
  obtain rfl : r.val / 32768 = b := hb
  pointwise [refFeat, layer1, turned]
  simp only [mul_comm (T _)]

theorem refMax_le (g : FVec Ideal S131072x128 .f32) (T : FVec Ideal S4x128x128 .f32) (w1 : FVec Ideal S64x128 .f32)
    (b1 : FVec Ideal S64 .f32) (w2 : FVec Ideal S64x64 .f32) (b2 : FVec Ideal S64 .f32) (w3 : FVec Ideal S128x64 .f32)
    (b3 : FVec Ideal S128 .f32) (b : Fin 4) (o : Fin 128) (z : EReal) :
    refMax g T w1 b1 w2 b2 w3 b3 (ix3 b 0 o) ≤ z
      ↔ ∀ r : Fin 131072, r.val / 32768 = b.val →
          chanOf (fun x => featOf (fun z => g (ix2 r z)) (fun y z => T (ix3 b y z)) (fun y => w1 (ix2 x y)) (b1 (ix1 x)))
            (fun x y => w2 (ix2 x y)) (fun x => b2 (ix1 x)) (fun x => w3 (ix2 o x)) (b3 (ix1 o)) ≤ z := by
  pointwise [refMax, layer3, layer2, layer1, turned]
  simp only [mul_comm (T _)]
  rw [RowMax.fold_le]
  exact RowMax.forall_member b fun r => chanOf (fun x => featOf (fun z => g (ix2 r z)) (fun y z => T (ix3 b y z)) (fun y => w1 (ix2 x y))
    (b1 (ix1 x))) (fun x y => w2 (ix2 x y)) (fun x => b2 (ix1 x)) (fun x => w3 (ix2 o x)) (b3 (ix1 o)) ≤ z

end Reference

section Claims
variable (m : (ℓ : Loc Cert.FeaturesIdeal.nD Cert.FeaturesIdeal.τ Cert.FeaturesIdeal.sig) → Buf (Elt Ideal) ℓ)
  (c : Dev Cert.FeaturesIdeal.nD)

/-- The kernel's features are the stated ones. -/
theorem final8 :
    (Cert.FeaturesIdeal.Gen.dats m 0 c).arrAt 8 Cert.FeaturesIdeal.cfg0.N
      = refFeat (m ((c.tc : Thread _ Cert.FeaturesIdeal.τ).loc Cert.FeaturesIdeal.main_arg0))
          (m ((c.tc : Thread _ Cert.FeaturesIdeal.τ).loc Cert.FeaturesIdeal.main_arg1))
          (m ((c.tc : Thread _ Cert.FeaturesIdeal.τ).loc Cert.FeaturesIdeal.main_arg2))
          (m ((c.tc : Thread _ Cert.FeaturesIdeal.τ).loc Cert.FeaturesIdeal.main_arg3)) := by
  refine (Cert.FeaturesIdeal.Gen.dats m 0 c).arrAt_eq_of_cover 8 _ (fun t _ => ?_) covered8
  rw [Cert.FeaturesIdeal.Value.flushed8]
  have key := fun r o => feat_at m c t r o
  generalize (Cert.FeaturesIdeal.Gen.outsAt0 m c t.val t.isLt).1 = X at key ⊢
  funext j
  obtain ⟨r, o, rfl⟩ : ∃ (r : Fin 1024) (o : Fin 64), j = ix2 r o := ⟨j 0, j 1, ValueIdx.eq_ix2 j⟩
  refine (cut8 t X r o).trans ?_
  refine Eq.trans ?_ (read8 t (refFeat _ _ _ _) r o).symm
  refine (key r o).trans (refFeat_at _ _ _ _ _ o (mem t) ?_).symm
  exact congrArg Fin.val (mem_row t r)

/-- The kernel's maximum is the stated one. -/
theorem final9 :
    (Cert.FeaturesIdeal.Gen.dats m 0 c).arrAt 9 Cert.FeaturesIdeal.cfg0.N
      = refMax (m ((c.tc : Thread _ Cert.FeaturesIdeal.τ).loc Cert.FeaturesIdeal.main_arg0))
          (m ((c.tc : Thread _ Cert.FeaturesIdeal.τ).loc Cert.FeaturesIdeal.main_arg1))
          (m ((c.tc : Thread _ Cert.FeaturesIdeal.τ).loc Cert.FeaturesIdeal.main_arg2))
          (m ((c.tc : Thread _ Cert.FeaturesIdeal.τ).loc Cert.FeaturesIdeal.main_arg3))
          (m ((c.tc : Thread _ Cert.FeaturesIdeal.τ).loc Cert.FeaturesIdeal.main_arg4))
          (m ((c.tc : Thread _ Cert.FeaturesIdeal.τ).loc Cert.FeaturesIdeal.main_arg5))
          (m ((c.tc : Thread _ Cert.FeaturesIdeal.τ).loc Cert.FeaturesIdeal.main_arg6))
          (m ((c.tc : Thread _ Cert.FeaturesIdeal.τ).loc Cert.FeaturesIdeal.main_arg7)) := by
  refine (Cert.FeaturesIdeal.Gen.dats m 0 c).arrAt_eq_of_cover 9 _ (fun t hf => ?_) covered9
  have h31 : t.val % 32 = 31 := (Cert.FeaturesIdeal.Gen.flush0_9 t).mp hf
  rw [Cert.FeaturesIdeal.Value.flushed9]
  have key := fun o z => last_le m c o z t h31
  generalize (Cert.FeaturesIdeal.Gen.outsAt0 m c t.val t.isLt).2 = X at key ⊢
  funext j
  obtain ⟨o, rfl⟩ := eq_row j
  refine (cut9 t X o).trans ?_
  refine Eq.trans ?_ (read9 t (refMax _ _ _ _ _ _ _ _) o).symm
  refine eq_of_forall_ge_iff fun z => ?_
  refine (key o z).trans (Iff.trans ?_ (refMax_le _ _ _ _ _ _ _ _ (mem t) o z).symm)
  refine forall_congr' fun r => forall_congr' fun hr => ?_
  have e : memRow r = mem t := Fin.ext hr
  unfold rowVal
  rw [e]

end Claims

/-- From memories that agree on the arguments, the two programs end with the same two arrays. -/
theorem value : Cert.algebraic_FeaturesIdeal_FeaturesReferenceIdeal
    (hFeaturesIdeal := Cert.FeaturesIdeal.Gen.facts)
    (hFeaturesReferenceIdeal := Cert.FeaturesReferenceIdeal.Gen.facts) := by
  intro m g m' g' _ hargs
  refine ⟨_, _, Cert.FeaturesIdeal.Value.run_blocks m g, ?_⟩
  refine (θ_run (Cert.FeaturesReferenceIdeal.defs (F := Ideal)) _ _).mono
    (fun r h c => ⟨(h c).1.trans ?_, (h c).2.1.trans ?_, (h c).2.2⟩) (Cert.FeaturesReferenceIdeal.Value.run m' g')
  · rw [(hargs c).1, (hargs c).2.1, (hargs c).2.2.1, (hargs c).2.2.2.1]
    exact (final8 m c).symm
  · rw [(hargs c).1, (hargs c).2.1, (hargs c).2.2.1, (hargs c).2.2.2.1, (hargs c).2.2.2.2.1, (hargs c).2.2.2.2.2.1,
      (hargs c).2.2.2.2.2.2.1, (hargs c).2.2.2.2.2.2.2]
    exact (final9 m c).symm

/-- The stated program runs, and its arguments end unchanged. -/
theorem refFrame : Cert.quiescent_FeaturesReferenceIdeal
    (hFeaturesReferenceIdeal := Cert.FeaturesReferenceIdeal.Gen.facts) := fun m g _ =>
  (θ_run (Cert.FeaturesReferenceIdeal.defs (F := Ideal)) _ _).mono
    (fun _ h => ⟨fun c => (h c).2.2, sem_eq_zero_of_no_sems rfl _⟩) (Cert.FeaturesReferenceIdeal.Value.run m g)

end Cert.Feat

end
-- ==== Proof.FeT.lean ====
/-
  The feature transform's last layer: one product with the bias and the identity added, against the same over the square
  matrices.
-/
module

public import proofs.«01_k».proof.Proof.Eye
public import proofs.«01_k».proof.Defs
public import proofs.«01_k».proof.Proof.Gen.FeatureTransformIdeal.Value
public import Idealize.ShloMosaic.Lib.Quiescent
public import Idealize.ShloMosaic.Adequacy
public import Idealize.ShloMosaic.Init
public import proofs.«01_k».proof.Proof.Gen.FeatureTransformReferenceIdeal.Run

@[expose] public section

noncomputable section

namespace Cert.FeT

open Idealize.ShloMosaic Idealize.ShloMosaic.Tactic Idealize.SL.Sem

section Kernel
open Cert.FeatureTransformIdeal Cert.FeatureTransformIdeal.Gen Cert.FeatureTransformIdeal.Value

theorem g_at (a0 : Vec Ideal S4x128 .f32) (a1 : Vec Ideal S128x4096 .f32) (a2 : Vec Ideal S4096 .f32)
    (b : Fin 4) (c : Fin 4096) :
    G3 (F := Ideal) a0 a1 a2 (ix2 b c)
      = (∑ k : Fin 128, a0 (ix2 b k) * a1 (ix2 k c)) + a2 (ix1 c)
        + Scalar.select (Eye.bit 64#32 (BitVec.ofNat 32 c.val)) (1 : Ideal .f32) 0 := by
  pointwise [G3, k0_pay1, k0_pay2, k0_pay3, k0_pay4, k0_pay5, k0_pay6]

end Kernel

section Reference
open Cert.FeatureTransformReferenceIdeal Cert.FeatureTransformReferenceIdeal.Gen

/-- The product with the bias. -/
abbrev lin (a0 : FVec Ideal S4x128 .f32) (a1 : FVec Ideal S128x4096 .f32) (a2 : FVec Ideal S4096 .f32) :
    FVec Ideal S4x4096 .f32 :=
  addf (Host.dotGeneral dot_S4x128_S128x4096_S4x4096_1_0_0_1_n_n none a0 a1) (broadcastInDim S4x4096 ![0, 1] bcast_S1x4096_S4x4096_0_1 (broadcastInDim S1x4096 ![1] bcast_S4096_S1x4096_1 a2))

/-- The identity matrix. -/
abbrev eye : FVec Ideal S64x64 .f32 :=
  uitofp .f32 (cmpi .eq (addi (iotaInDim S64x64 32 0) (broadcastInDim S64x64 ![] bcast_S_S64x64 (constantI S_ 32 0#32))) (iotaInDim S64x64 32 1))

/-- The stated result. -/
abbrev ref (a0 : FVec Ideal S4x128 .f32) (a1 : FVec Ideal S128x4096 .f32) (a2 : FVec Ideal S4096 .f32) :
    FVec Ideal S4x4096 .f32 :=
  shapeCast S4x4096 (addf (F := Ideal) (s := S4x64x64) (φ := .f32) (shapeCast S4x64x64 (lin a0 a1 a2) shapeCasts_S4x4096_S4x64x64) (broadcastInDim S4x64x64 ![0, 1, 2] bcast_S1x64x64_S4x64x64_0_1_2 (broadcastInDim S1x64x64 ![1, 2] bcast_S64x64_S1x64x64_1_2 eye))) shapeCasts_S4x64x64_S4x4096

theorem ref_at (a0 : FVec Ideal S4x128 .f32) (a1 : FVec Ideal S128x4096 .f32) (a2 : FVec Ideal S4096 .f32)
    (b : Fin 4) (c : Fin 4096) :
    ref a0 a1 a2 (ix2 b c)
      = (∑ k : Fin 128, a0 (ix2 b k) * a1 (ix2 k c)) + a2 (ix1 c)
        + Scalar.select (Eye.bit 64#32 (BitVec.ofNat 32 c.val)) (1 : Ideal .f32) 0 := by
  pointwise [ref, lin, eye]
  rw [Eye.diag_64 c.val c.isLt, Eye.uitofp_bit]

end Reference

/-- The two programs' results are one array. -/
theorem eq (a0 : FVec Ideal Cert.FeatureTransformIdeal.S4x128 .f32) (a1 : FVec Ideal Cert.FeatureTransformIdeal.S128x4096 .f32)
    (a2 : FVec Ideal Cert.FeatureTransformIdeal.S4096 .f32) :
    Cert.FeatureTransformIdeal.Value.G3 (F := Ideal) a0 a1 a2 = ref a0 a1 a2 := by
  funext j
  obtain ⟨b, c, rfl⟩ : ∃ (b : Fin 4) (c : Fin 4096), j = ix2 b c := ⟨j 0, j 1, ValueIdx.eq_ix2 j⟩
  exact (g_at a0 a1 a2 b c).trans (ref_at a0 a1 a2 b c).symm

/-- From memories that agree on the arguments, the two programs end with one array. -/
theorem value : Cert.algebraic_FeatureTransformIdeal_FeatureTransformReferenceIdeal
    (hFeatureTransformIdeal := Cert.FeatureTransformIdeal.Gen.facts)
    (hFeatureTransformReferenceIdeal := Cert.FeatureTransformReferenceIdeal.Gen.facts) := by
  intro m g m' g' _ hargs
  refine ⟨_, Cert.FeatureTransformIdeal.Value.run m g, ?_⟩
  refine (θ_run (Cert.FeatureTransformReferenceIdeal.defs (F := Ideal)) _ _).mono
    (fun r h c => ⟨(h c).1.trans ?_, (h c).2⟩) (Cert.FeatureTransformReferenceIdeal.Value.run m' g')
  rw [(hargs c).1, (hargs c).2.1, (hargs c).2.2]
  exact (eq _ _ _).symm

/-- The stated program runs, and its arguments end unchanged. -/
theorem refFrame : Cert.quiescent_FeatureTransformReferenceIdeal
    (hFeatureTransformReferenceIdeal := Cert.FeatureTransformReferenceIdeal.Gen.facts) := fun m g _ =>
  (θ_run (Cert.FeatureTransformReferenceIdeal.defs (F := Ideal)) _ _).mono
    (fun _ h => ⟨fun c => (h c).2, sem_eq_zero_of_no_sems rfl _⟩) (Cert.FeatureTransformReferenceIdeal.Value.run m g)

end Cert.FeT

end
-- ==== Proof.OutF.lean ====
/-
  The last layers of the features: three products in a row for each sample, read off the kernel's blocks of rows and off
  the stated arrays of channels.
-/
module

public import proofs.«01_k».proof.Defs
public import proofs.«01_k».proof.Proof.Gen.OutputFeaturesIdeal.Value
public import proofs.«01_k».proof.Proof.Gen.OutputFeaturesReferenceIdeal.Run
public import Idealize.ShloMosaic.Lib.Pointwise
public import Idealize.ShloMosaic.Lib.Quiescent
public import Idealize.ShloMosaic.Adequacy
public import Idealize.ShloMosaic.Init

@[expose] public section

noncomputable section

namespace Cert.OutF

open Idealize.ShloMosaic Idealize.ShloMosaic.TcCoe Idealize.ShloMosaic.Tactic Idealize.SL.Sem

/-- One feature of one sample: the sample turned by `T`, and two layers with bias, each cut off at zero. -/
abbrev feat (h : Fin 64 → EReal) (T : Fin 64 → Fin 64 → EReal) (w2 : Fin 128 → Fin 64 → EReal) (b2 : Fin 128 → EReal)
    (w3 : Fin 128 → EReal) (b3 : EReal) : EReal :=
  max ((∑ x, max ((∑ y, (∑ z, h z * T y z) * w2 x y) + b2 x) 0 * w3 x) + b3) 0

section Kernel
open Cert.OutputFeaturesIdeal Cert.OutputFeaturesIdeal.Gen Cert.OutputFeaturesIdeal.Value

theorem pay_at (h : Vec Ideal S1024x64 .f32) (T : Vec Ideal S1x64x64 .f32) (w2 : Vec Ideal S128x64 .f32)
    (b2 : Vec Ideal S128 .f32) (w3 : Vec Ideal S256x128 .f32) (b3 : Vec Ideal S256 .f32) (r : Fin 1024) (o : Fin 256) :
    k0_pay1 (F := Ideal) h T w2 b2 w3 b3 (ix2 r o)
      = feat (fun z => h (ix2 r z)) (fun y z => T (ix3 0 y z)) (fun x y => w2 (ix2 x y)) (fun x => b2 (ix1 x))
          (fun x => w3 (ix2 o x)) (b3 (ix1 o)) := by
  pointwise [k0_pay1]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves is the value it stores. -/
theorem out_eq (x0 : Vec Ideal S1024x64 .f32) (x1 : Vec Ideal S1x64x64 .f32) (x2 : Vec Ideal S128x64 .f32)
    (x3 : Vec Ideal S128 .f32) (x4 : Vec Ideal S256x128 .f32) (x5 : Vec Ideal S256 .f32) :
    out0_6 x0 x1 x2 x3 x4 x5 = k0_pay1 x0 x1 x2 x3 x4 x5 := by
  unfold out0_6
  rw [View.canon_unit_zero hz2, View.ld_unit_zero (S := S1024x64) hz2 _ x0, View.ld_unit_zero (S := S1x64x64) hz3 _ x1,
    View.ld_unit_zero (S := S128x64) hz2 _ x2, View.ld_unit_zero (S := S128) hz1 _ x3,
    View.ld_unit_zero (S := S256x128) hz2 _ x4, View.ld_unit_zero (S := S256) hz1 _ x5]

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = t.val / 32 ∧ win0_1.index t (1 : Fin 3) = 0
    ∧ win0_1.index t (2 : Fin 3) = 0 := (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 1) = 0 := (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 1) = 0 := (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)

/-- The row of the array that is row `r` of block `t`. -/
abbrev row (t : Fin cfg0.N) (r : Fin 1024) : Fin 131072 :=
  ⟨t.val * 1024 + r.val, by have h := t.isLt; have h' : t.val < 128 := h; omega⟩

/-- The member of the stack that block `t` belongs to. -/
abbrev mem (t : Fin cfg0.N) : Fin 4 := ⟨t.val / 32, by have h := t.isLt; have h' : t.val < 128 := h; omega⟩

theorem emb0 (t : Fin cfg0.N) (r : Fin 1024) (z : Fin 64) :
    ((cfg0.win 0).blk t).view.emb (ix2 r z : S1024x64.Idx) = (ix2 (row t r) z : S131072x64.Idx) := by
  obtain ⟨e0, e1⟩ := idx0 t
  funext a; apply Fin.ext
  match a with
  | ⟨0, _⟩ => show win0_0.index t (0 : Fin 2) * 1024 + 1 * r.val = t.val * 1024 + r.val; omega
  | ⟨1, _⟩ => show win0_0.index t (1 : Fin 2) * 64 + 1 * z.val = z.val; omega
theorem emb1 (t : Fin cfg0.N) (p q : Fin 64) :
    ((cfg0.win 1).blk t).view.emb (ix3 0 p q : S1x64x64.Idx) = (ix3 (mem t) p q : S4x64x64.Idx) := by
  obtain ⟨e0, e1, e2⟩ := idx1 t
  funext a; apply Fin.ext
  match a with
  | ⟨0, _⟩ => show win0_1.index t (0 : Fin 3) * 1 + 1 * 0 = t.val / 32; omega
  | ⟨1, _⟩ => show win0_1.index t (1 : Fin 3) * 64 + 1 * p.val = p.val; omega
  | ⟨2, _⟩ => show win0_1.index t (2 : Fin 3) * 64 + 1 * q.val = q.val; omega
theorem emb2 (t : Fin cfg0.N) (j : S128x64.Idx) : ((cfg0.win 2).blk t).view.emb j = j := by
  obtain ⟨e0, e1⟩ := idx2 t
  funext a; apply Fin.ext
  match a with
  | ⟨0, _⟩ => show win0_2.index t (0 : Fin 2) * 128 + 1 * (j 0).val = (j 0).val; omega
  | ⟨1, _⟩ => show win0_2.index t (1 : Fin 2) * 64 + 1 * (j 1).val = (j 1).val; omega
theorem emb3 (t : Fin cfg0.N) (j : S128.Idx) : ((cfg0.win 3).blk t).view.emb j = j := by
  have e0 := idx3 t
  funext a; apply Fin.ext
  match a with
  | ⟨0, _⟩ => show win0_3.index t (0 : Fin 1) * 128 + 1 * (j 0).val = (j 0).val; omega
theorem emb4 (t : Fin cfg0.N) (j : S256x128.Idx) : ((cfg0.win 4).blk t).view.emb j = j := by
  obtain ⟨e0, e1⟩ := idx4 t
  funext a; apply Fin.ext
  match a with
  | ⟨0, _⟩ => show win0_4.index t (0 : Fin 2) * 256 + 1 * (j 0).val = (j 0).val; omega
  | ⟨1, _⟩ => show win0_4.index t (1 : Fin 2) * 128 + 1 * (j 1).val = (j 1).val; omega
theorem emb5 (t : Fin cfg0.N) (j : S256.Idx) : ((cfg0.win 5).blk t).view.emb j = j := by
  have e0 := idx5 t
  funext a; apply Fin.ext
  match a with
  | ⟨0, _⟩ => show win0_5.index t (0 : Fin 1) * 256 + 1 * (j 0).val = (j 0).val; omega
theorem emb6 (t : Fin cfg0.N) (r : Fin 1024) (o : Fin 256) :
    ((cfg0.win 6).blk t).view.emb (ix2 r o : S1024x256.Idx) = (ix2 (row t r) o : S131072x256.Idx) := by
  obtain ⟨e0, e1⟩ := idx6 t
  funext a; apply Fin.ext
  match a with
  | ⟨0, _⟩ => show win0_6.index t (0 : Fin 2) * 1024 + 1 * r.val = t.val * 1024 + r.val; omega
  | ⟨1, _⟩ => show win0_6.index t (1 : Fin 2) * 256 + 1 * o.val = o.val; omega

variable (m : (ℓ : Loc nD τ sig) → Buf (Elt Ideal) ℓ)

theorem blk0 (c : Dev nD) (t : Fin cfg0.N) (r : Fin 1024) (z : Fin 64) :
    (iblk m c 0 t : Vec Ideal S1024x64 .f32) (ix2 r z) = m ((c : Thread nD τ).loc main_arg0) (ix2 (row t r) z : S131072x64.Idx) := by
  show V m c main_arg0 (((cfg0.win 0).blk t).view.emb (ix2 r z : S1024x64.Idx)) = _
  rw [emb0, V_main_arg0]
theorem blk1 (c : Dev nD) (t : Fin cfg0.N) (p q : Fin 64) :
    (iblk m c 1 t : Vec Ideal S1x64x64 .f32) (ix3 0 p q) = m ((c : Thread nD τ).loc main_arg1) (ix3 (mem t) p q : S4x64x64.Idx) := by
  show V m c main_arg1 (((cfg0.win 1).blk t).view.emb (ix3 0 p q : S1x64x64.Idx)) = _
  rw [emb1, V_main_arg1]
theorem blk2 (c : Dev nD) (t : Fin cfg0.N) : (iblk m c 2 t : Vec Ideal S128x64 .f32) = m ((c : Thread nD τ).loc main_arg2) := by
  funext j; show V m c main_arg2 (((cfg0.win 2).blk t).view.emb j) = _; rw [emb2, V_main_arg2]
theorem blk3 (c : Dev nD) (t : Fin cfg0.N) : (iblk m c 3 t : Vec Ideal S128 .f32) = m ((c : Thread nD τ).loc main_arg3) := by
  funext j; show V m c main_arg3 (((cfg0.win 3).blk t).view.emb j) = _; rw [emb3, V_main_arg3]
theorem blk4 (c : Dev nD) (t : Fin cfg0.N) : (iblk m c 4 t : Vec Ideal S256x128 .f32) = m ((c : Thread nD τ).loc main_arg4) := by
  funext j; show V m c main_arg4 (((cfg0.win 4).blk t).view.emb j) = _; rw [emb4, V_main_arg4]
theorem blk5 (c : Dev nD) (t : Fin cfg0.N) : (iblk m c 5 t : Vec Ideal S256 .f32) = m ((c : Thread nD τ).loc main_arg5) := by
  funext j; show V m c main_arg5 (((cfg0.win 5).blk t).view.emb j) = _; rw [emb5, V_main_arg5]

/-- Every row is in one block. -/
theorem covered (i : S131072x256.Idx) : ∃ t : Fin cfg0.N, (cfg0.win 6).flush t = true ∧ i ∈ ((cfg0.win 6).blk t).view.set := by
  obtain ⟨r, o, rfl⟩ : ∃ (r : Fin 131072) (o : Fin 256), i = ix2 r o := ⟨i 0, i 1, ValueIdx.eq_ix2 i⟩
  have hr := r.isLt
  refine ⟨(⟨r.val / 1024, show r.val / 1024 < 128 by omega⟩ : Fin cfg0.N), flush0_6 _, ?_⟩
  have h := ((cfg0.win 6).blk (⟨r.val / 1024, show r.val / 1024 < 128 by omega⟩ : Fin cfg0.N)).view.emb_mem_set
    (ix2 (⟨r.val % 1024, by omega⟩ : Fin 1024) o : S1024x256.Idx)
  rw [emb6] at h
  have he : row (⟨r.val / 1024, show r.val / 1024 < 128 by omega⟩ : Fin cfg0.N) ⟨r.val % 1024, by omega⟩ = r :=
    Fin.ext (by show r.val / 1024 * 1024 + r.val % 1024 = r.val; omega)
  rwa [he] at h

end Kernel

section Reference
open Cert.OutputFeaturesReferenceIdeal Cert.OutputFeaturesReferenceIdeal.Gen

/-- The samples by channel. -/
abbrev chan (h : FVec Ideal S131072x64 .f32) : FVec Ideal S4x64x512x64 .f32 :=
  transpose S4x64x512x64 [0, 3, 1, 2] (shapeCast S4x512x64x64 h shapeCasts_S131072x64_S4x512x64x64) transposes_S4x512x64x64_S4x64x512x64_0_3_1_2

/-- The samples transformed. -/
abbrev turned (h : FVec Ideal S131072x64 .f32) (T : FVec Ideal S4x64x64 .f32) : FVec Ideal S4x64x512x64 .f32 :=
  Host.dotGeneral dot_S4x64x64_S4x64x512x64_S4x64x512x64_2_1_1_23_0_0 none T (chan h)

/-- The first layer. -/
abbrev layer2 (x : FVec Ideal S4x64x512x64 .f32) (w2 : FVec Ideal S128x64 .f32) (b2 : FVec Ideal S128 .f32) :
    FVec Ideal S4x128x512x64 .f32 :=
  maximumf (addf (transpose S4x128x512x64 [0, 3, 1, 2] (Host.dotGeneral dot_S4x64x512x64_S128x64_S4x512x64x128_1_1_023_0_n_n none x w2 : FVec Ideal S4x512x64x128 .f32) transposes_S4x512x64x128_S4x128x512x64_0_3_1_2) (broadcastInDim S4x128x512x64 ![0, 1, 2, 3] bcast_S1x128x1x1_S4x128x512x64_0_1_2_3 (broadcastInDim S1x128x1x1 ![1] bcast_S128_S1x128x1x1_1 b2))) (broadcastInDim S4x128x512x64 ![] bcast_S_S4x128x512x64 (constant S_ .f32 0x00000000#32))

/-- The second layer. -/
abbrev layer3 (x : FVec Ideal S4x128x512x64 .f32) (w3 : FVec Ideal S256x128 .f32) (b3 : FVec Ideal S256 .f32) :
    FVec Ideal S4x256x512x64 .f32 :=
  maximumf (addf (transpose S4x256x512x64 [0, 3, 1, 2] (Host.dotGeneral dot_S4x128x512x64_S256x128_S4x512x64x256_1_1_023_0_n_n none x w3 : FVec Ideal S4x512x64x256 .f32) transposes_S4x512x64x256_S4x256x512x64_0_3_1_2) (broadcastInDim S4x256x512x64 ![0, 1, 2, 3] bcast_S1x256x1x1_S4x256x512x64_0_1_2_3 (broadcastInDim S1x256x1x1 ![1] bcast_S256_S1x256x1x1_1 b3))) (broadcastInDim S4x256x512x64 ![] bcast_S_S4x256x512x64 (constant S_ .f32 0x00000000#32))

/-- The stated result, by rows. -/
abbrev ref (h : FVec Ideal S131072x64 .f32) (T : FVec Ideal S4x64x64 .f32) (w2 : FVec Ideal S128x64 .f32)
    (b2 : FVec Ideal S128 .f32) (w3 : FVec Ideal S256x128 .f32) (b3 : FVec Ideal S256 .f32) : FVec Ideal S131072x256 .f32 :=
  shapeCast S131072x256 (transpose S4x512x64x256 [0, 2, 3, 1] (layer3 (layer2 (turned h T) w2 b2) w3 b3) transposes_S4x256x512x64_S4x512x64x256_0_2_3_1) shapeCasts_S4x512x64x256_S131072x256

theorem ref_at (h : FVec Ideal S131072x64 .f32) (T : FVec Ideal S4x64x64 .f32) (w2 : FVec Ideal S128x64 .f32)
    (b2 : FVec Ideal S128 .f32) (w3 : FVec Ideal S256x128 .f32) (b3 : FVec Ideal S256 .f32) (r : Fin 131072) (o : Fin 256)
    (b : Fin 4) (hb : r.val / 32768 = b.val) :
    ref h T w2 b2 w3 b3 (ix2 r o)
      = feat (fun z => h (ix2 r z)) (fun y z => T (ix3 b y z)) (fun x y => w2 (ix2 x y)) (fun x => b2 (ix1 x))
          (fun x => w3 (ix2 o x)) (b3 (ix1 o)) := by
  obtain ⟨b, hlt⟩ := b
  obtain rfl : r.val / 32768 = b := hb
  pointwise [ref, layer3, layer2, turned, chan]
  simp only [mul_comm (T _)]

end Reference

/-- The kernel's result is the stated one. -/
theorem final (m : (ℓ : Loc Cert.OutputFeaturesIdeal.nD Cert.OutputFeaturesIdeal.τ Cert.OutputFeaturesIdeal.sig) → Buf (Elt Ideal) ℓ)
    (c : Dev Cert.OutputFeaturesIdeal.nD) :
    (Cert.OutputFeaturesIdeal.Gen.dats m 0 c).arrAt 6 Cert.OutputFeaturesIdeal.cfg0.N
      = ref (m ((c.tc : Thread _ Cert.OutputFeaturesIdeal.τ).loc Cert.OutputFeaturesIdeal.main_arg0))
          (m ((c.tc : Thread _ Cert.OutputFeaturesIdeal.τ).loc Cert.OutputFeaturesIdeal.main_arg1))
          (m ((c.tc : Thread _ Cert.OutputFeaturesIdeal.τ).loc Cert.OutputFeaturesIdeal.main_arg2))
          (m ((c.tc : Thread _ Cert.OutputFeaturesIdeal.τ).loc Cert.OutputFeaturesIdeal.main_arg3))
          (m ((c.tc : Thread _ Cert.OutputFeaturesIdeal.τ).loc Cert.OutputFeaturesIdeal.main_arg4))
          (m ((c.tc : Thread _ Cert.OutputFeaturesIdeal.τ).loc Cert.OutputFeaturesIdeal.main_arg5)) := by
  refine (Cert.OutputFeaturesIdeal.Gen.dats m 0 c).arrAt_eq_of_cover 6 _ (fun t _ => ?_) covered
  rw [Cert.OutputFeaturesIdeal.Value.flushed6, out_eq]
  funext j
  obtain ⟨r, o, rfl⟩ : ∃ (r : Fin 1024) (o : Fin 256), j = ix2 r o := ⟨j 0, j 1, ValueIdx.eq_ix2 j⟩
  refine (pay_at _ _ _ _ _ _ r o).trans ?_
  show _ = ref _ _ _ _ _ _ (((Cert.OutputFeaturesIdeal.cfg0.win 6).blk t).view.emb (ix2 r o : Cert.OutputFeaturesIdeal.S1024x256.Idx))
  rw [emb6]
  have ht : t.val < 128 := t.isLt
  refine Eq.trans ?_ (ref_at _ _ _ _ _ _ (row t r) o (mem t) (by
    show (t.val * 1024 + r.val) / 32768 = t.val / 32
    have hr := r.isLt
    omega)).symm
  simp only [blk0, blk1, blk2, blk3, blk4, blk5]

/-- From memories that agree on the arguments, the two programs end with one array. -/
theorem value : Cert.algebraic_OutputFeaturesIdeal_OutputFeaturesReferenceIdeal
    (hOutputFeaturesIdeal := Cert.OutputFeaturesIdeal.Gen.facts)
    (hOutputFeaturesReferenceIdeal := Cert.OutputFeaturesReferenceIdeal.Gen.facts) := by
  intro m g m' g' _ hargs
  refine ⟨_, Cert.OutputFeaturesIdeal.Value.run_blocks m g, ?_⟩
  refine (θ_run (Cert.OutputFeaturesReferenceIdeal.defs (F := Ideal)) _ _).mono
    (fun r h c => ⟨(h c).1.trans ?_, (h c).2⟩) (Cert.OutputFeaturesReferenceIdeal.Value.run m' g')
  rw [(hargs c).1, (hargs c).2.1, (hargs c).2.2.1, (hargs c).2.2.2.1, (hargs c).2.2.2.2.1, (hargs c).2.2.2.2.2]
  exact (final m c).symm

/-- The stated program runs, and its arguments end unchanged. -/
theorem refFrame : Cert.quiescent_OutputFeaturesReferenceIdeal
    (hOutputFeaturesReferenceIdeal := Cert.OutputFeaturesReferenceIdeal.Gen.facts) := fun m g _ =>
  (θ_run (Cert.OutputFeaturesReferenceIdeal.defs (F := Ideal)) _ _).mono
    (fun _ h => ⟨fun c => (h c).2, sem_eq_zero_of_no_sems rfl _⟩) (Cert.OutputFeaturesReferenceIdeal.Value.run m g)

end Cert.OutF

end
-- ==== Proof.ISam.lean ====
/-
  The kernel that samples the farthest points, run once: its loop is a fold over 512 trips that touches no memory, and its
  four outputs are what the fold carries, two members of the stack to a grid point.
-/
module

public import proofs.«01_k».proof.Defs
public import proofs.«01_k».proof.Proof.Gen.SamplingIdeal.Frame
public import proofs.«01_k».proof.Proof.Gen.SamplingIdeal.Skeleton
public import Idealize.ShloMosaic.Lib.WordCmp
public import Idealize.ShloMosaic.Lib.Tactic
public import Idealize.ShloMosaic.Lib.Ring
public import Idealize.ShloMosaic.Lib.Claim
public import Idealize.ShloMosaic.Lib.Pipeline.FrameBody

@[expose] public section

set_option maxRecDepth 16384

noncomputable section

namespace Cert.SamplingIdeal.Far

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SamplingIdeal Cert.SamplingIdeal.Gen

variable {F : FTy → Type} [FloatOps F]

local notation "𝕄" => MT nD τ sig Unit (Elt F) ℕ (UR sig nD τ) ℕ

/-- What a trip hands on for one member: the chosen indices and points so far, the distances, the next index. -/
abbrev Carry (F : FTy → Type) := IVec S1x512 32 × FVec F S1x512 .f32 × FVec F S1x512 .f32 × FVec F S1x512 .f32
  × IVec S1x512 32 × FVec F S1x512 .f32 × FVec F S1x512 .f32 × FVec F S1x512 .f32
  × FVec F S32x128 .f32 × FVec F S32x128 .f32 × BitVec 32 × BitVec 32

/-- The lane numbers. -/
abbrev lanes : IVec S1x512 32 := iota .tc S1x512 32 [1] iota_S1x512_d1_w32

/-- One trip on both members of a grid point: `x`, `y`, `z` the coordinates of the first, `x'`, `y'`, `z'` of the second. -/
def trip (v4 : IVec S32x128 32) (v5 : IVec S1x512 32) (x y z x' y' z' : FVec F S32x128 .f32) (k : Fin k0_t1_loop.trips) : Carry F → Carry F :=
  fun (a9, a10, a11, a12, a13, a14, a15, a16, a17, a18, a19, a20) =>
    (k0_pay7 v5 0#32 1#32 k a9 a19, k0_pay8 v4 v5 x 0#32 1#32 k a10 a19,
      k0_pay9 v4 v5 y 0#32 1#32 k a11 a19, k0_pay10 v4 v5 z 0#32 1#32 k a12 a19,
      k0_pay19 v5 a13 a20 (Scf.iv 0#32 1#32 k), k0_pay20 v4 v5 x' a14 a20 (Scf.iv 0#32 1#32 k),
      k0_pay21 v4 v5 y' a15 a20 (Scf.iv 0#32 1#32 k), k0_pay22 v4 v5 z' a16 a20 (Scf.iv 0#32 1#32 k),
      k0_pay11 v4 x y z a17 a19, k0_pay23 v4 x' y' z' a18 a20,
      extractAt ![0, 0, 0] (k0_pay13 (k0_pay12 v4 x y z a17 a19)) inpos_S1x1x1_p0_0_0,
      extractAt ![0, 0, 0] (k0_pay42 v4 (k0_pay24 v4 x' y' z' a18 a20) 4096#32) inpos_S1x1x1_p0_0_0)

/-- Before the first trip: nothing chosen, every distance at its start, index zero next. -/
def start : Carry F := (k0_pay32, k0_pay33, k0_pay34, k0_pay35, k0_pay36, k0_pay37, k0_pay38, k0_pay39, k0_pay40, k0_pay41, 0#32, 0#32)

/-- The first and the second member in a block of one coordinate. -/
abbrev lo : Rect S2x32x128 := Rect.unit (s := S2x32x128) ![0, 0, 0] S1x32x128.size inb_S2x32x128_S1x32x128_0_0_0
abbrev hi : Rect S2x32x128 := Rect.unit (s := S2x32x128) ![1, 0, 0] S1x32x128.size inb_S2x32x128_S1x32x128_1_0_0

/-- What the 512 trips end with, on the blocks of coordinates of a grid point. -/
def last (x y z : Vec F S2x32x128 .f32) : Carry F :=
  Scf.fold (trip k0_pay25 lanes (k0_pay26 (View.ld x lo)) (k0_pay28 (View.ld y lo)) (k0_pay30 (View.ld z lo))
    (k0_pay27 (View.ld x hi)) (k0_pay29 (View.ld y hi)) (k0_pay31 (View.ld z hi))) start

/-- The first and the second member in a block of an output. -/
abbrev top : Rect S1x2x512 := Rect.unit (s := S1x2x512) ![0, 0, 0] S1x1x512.size inb_S1x2x512_S1x1x512_0_0_0
abbrev bot : Rect S1x2x512 := Rect.unit (s := S1x2x512) ![0, 1, 0] S1x1x512.size inb_S1x2x512_S1x1x512_0_1_0

/-- The four outputs' buffers after the body, each two stores. -/
def out3 (c : Carry F) : Vec F S1x2x512 .i32 :=
  View.canon [⟨bot, k0_pay47 (c.2.2.2.2.1)⟩, ⟨top, k0_pay43 c.1⟩]
def out4 (c : Carry F) : Vec F S1x2x512 .f32 :=
  View.canon [⟨bot, k0_pay48 (c.2.2.2.2.2.1)⟩, ⟨top, k0_pay44 c.2.1⟩]
def out5 (c : Carry F) : Vec F S1x2x512 .f32 :=
  View.canon [⟨bot, k0_pay49 (c.2.2.2.2.2.2.1)⟩, ⟨top, k0_pay45 c.2.2.1⟩]
def out6 (c : Carry F) : Vec F S1x2x512 .f32 :=
  View.canon [⟨bot, k0_pay1 (c.2.2.2.2.2.2.2.1)⟩, ⟨top, k0_pay46 c.2.2.2.1⟩]

theorem cover {e : EltTy} (p q : Vec F S1x1x512 e) (y : S1x2x512.Idx) :
    ∃ pc ∈ ([⟨bot, p⟩, ⟨top, q⟩] : List (View.Piece (Elt F) S1x2x512 e)), y ∈ pc.1.set :=
  View.cover_of_tiled [⟨bot, p⟩, ⟨top, q⟩] S1x1x512.size (by rfl) y

section Loop
variable (i : grid0.Coords) (arg1 : Memref sig .tc .vmem S2x32x128 .f32) (harg1 : arg1.IsWhole) (arg2 : Memref sig .tc .vmem S2x32x128 .f32) (harg2 : arg2.IsWhole) (arg3 : Memref sig .tc .vmem S2x32x128 .f32) (harg3 : arg3.IsWhole) (arg4 : Memref sig .tc .vmem S1x2x512 .i32) (harg4 : arg4.IsWhole) (arg5 : Memref sig .tc .vmem S1x2x512 .f32) (harg5 : arg5.IsWhole) (arg6 : Memref sig .tc .vmem S1x2x512 .f32) (harg6 : arg6.IsWhole) (arg7 : Memref sig .tc .vmem S1x2x512 .f32) (harg7 : arg7.IsWhole)
  (v4 : IVec S32x128 32) (v5 : IVec S1x512 32) (x y z x' y' z' : FVec F S32x128 .f32) (v18 : IVec S1x512 32) (v19 v20 v21 : FVec F S1x512 .f32) (v22 : IVec S1x512 32)
  (v23 v24 v25 : FVec F S1x512 .f32) (v26 v27 : FVec F S32x128 .f32) (v v' : BitVec 32)

/-- The loop's region touches no memory: it returns the trip. -/
theorem body_eq : k0_t1_body i arg1 harg1 arg2 harg2 arg3 harg3 arg4 harg4 arg5 harg5 arg6 harg6 arg7 harg7 v4 v5 x x' y y' z z' v18 v19 v20 v21 v22 v23 v24 v25 v26 v27 v v'
    = fun k a => .ret (trip v4 v5 x y z x' y' z' k a) := by
  funext k ⟨a9, a10, a11, a12, a13, a14, a15, a16, a17, a18, a19, a20⟩
  unfold k0_t1_body
  dsimp only
  simp only [k0_part1_eq_skeleton, k0_part2_eq_skeleton]
  unfold k0_part1_skel k0_part2_skel trip
  rw [pure_bind]
  dsimp only
  rw [pure_bind]
  dsimp only
  rfl

/-- A loop whose region returns `g` at every trip is the fold of `g`. -/
theorem loop_eq (a : Carry F) (g : Fin k0_t1_loop.trips → Carry F → Carry F) :
    (Scf.Loop.for k0_t1_loop k0_t1_ok a fun k a => (.ret (g k a) : Prog (TpuEff nD τ sig (Elt F) Λ₀ .tc) (Carry F))) = .ret (Scf.fold g a) :=
  Scf.for_pure _ _ _ _ _ _ g fun _ _ => rfl

end Loop

set_option maxHeartbeats 4000000 in
/-- The body on whole buffers: the inputs' as they were, each output's what the trips end with. -/
theorem sound_kernel (c : Dev nD) (E : Set ℕ) (i : grid0.Coords) (arg1 : Memref sig .tc .vmem S2x32x128 .f32) (harg1 : arg1.IsWhole) (arg2 : Memref sig .tc .vmem S2x32x128 .f32) (harg2 : arg2.IsWhole) (arg3 : Memref sig .tc .vmem S2x32x128 .f32) (harg3 : arg3.IsWhole) (arg4 : Memref sig .tc .vmem S1x2x512 .i32) (harg4 : arg4.IsWhole) (arg5 : Memref sig .tc .vmem S1x2x512 .f32) (harg5 : arg5.IsWhole) (arg6 : Memref sig .tc .vmem S1x2x512 .f32) (harg6 : arg6.IsWhole) (arg7 : Memref sig .tc .vmem S1x2x512 .f32) (harg7 : arg7.IsWhole)
    (x0 x1 x2 : Vec F S2x32x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3 (last x0 x1 x2)) ∗ owns (c : Thread nD τ) arg5 fullShare (out4 (last x0 x1 x2)) ∗ owns (c : Thread nD τ) arg6 fullShare (out5 (last x0 x1 x2)) ∗ owns (c : Thread nD τ) arg7 fullShare (out6 (last x0 x1 x2))) -∗ K ⟨⟩))
      ⊢ wp frame (wpE (defs₀ (F := F)) Variants.none c none) E (cc0__fps_body i arg1 harg1 arg2 harg2 arg3 harg3 arg4 harg4 arg5 harg5 arg6 harg6 arg7 harg7) K := by
  simp only [cc0__fps_body_eq_skeleton]; unfold cc0__fps_body_skel
  simp only [k0_part4_eq_skeleton]; unfold k0_part4_skel
  simp only [body_eq, loop_eq]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0 hf1 hf2
  sl_exec
  sl_step
  iapply Hk
  isplitl [H0]
  · iexists _; isplitr; swap; iexact H0; ipureintro; rfl
  isplitl [H1]
  · iexists _; isplitr; swap; iexact H1; ipureintro; rfl
  isplitl [H2]
  · iexists _; isplitr; swap; iexact H2; ipureintro; rfl
  isplitl [H3]
  · iexists _; isplitr; swap; iexact H3; ipureintro; exact View.read_writes_eq_canon _ _ _ (cover _ _)
  isplitl [H4]
  · iexists _; isplitr; swap; iexact H4; ipureintro; exact View.read_writes_eq_canon _ _ _ (cover _ _)
  isplitl [H5]
  · iexists _; isplitr; swap; iexact H5; ipureintro; exact View.read_writes_eq_canon _ _ _ (cover _ _)
  · iexists _; isplitr; swap; iexact H6; ipureintro; exact View.read_writes_eq_canon _ _ _ (cover _ _)

variable (m : (ℓ : Loc nD τ sig) → Buf (Elt F) ℓ) (ρ : Dev nD → PrngReg)

/-- What the trips of grid point `t` end with. -/
def lastAt (c : Dev nD) (t : Fin cfg0.N) : Carry F := last (iblk m c 0 t) (iblk m c 1 t) (iblk m c 2 t)

/-- The pipeline's data: the arrays as the region finds them, each input's buffer its block, each output's as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (lastAt m c t)
    | ⟨4, _⟩ => out4 (lastAt m c t)
    | ⟨5, _⟩ => out5 (lastAt m c t)
    | ⟨6, _⟩ => out6 (lastAt m c t)
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = out3 (lastAt m c t) := by dsimp only [dats]
theorem after4 (c : Dev nD) (t : Fin cfg0.N) : (dats m 0 c).after 4 t = out4 (lastAt m c t) := by dsimp only [dats]
theorem after5 (c : Dev nD) (t : Fin cfg0.N) : (dats m 0 c).after 5 t = out5 (lastAt m c t) := by dsimp only [dats]
theorem after6 (c : Dev nD) (t : Fin cfg0.N) : (dats m 0 c).after 6 t = out6 (lastAt m c t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- What the body is called with at point `t`, window by window. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    pre m c t ⊢ wp frame (wpE (defs₀ (F := F)) Variants.none c none) Set.univ (bodyAt0 t) (fun _ => post m c t) := by
  unfold pre post bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the launch theorem's implicit arguments are found by unifying its conclusion with this one
set_option backward.isDefEq.respectTransparency.types false in
set_option maxHeartbeats 800000 in
/-- The whole program's run: the arrays as the pipeline's data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument ends as it was, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ)) ((θ_run defs _ _).mono (fun _ h => h.2) (run_main_quiescent m ρ))

end Cert.SamplingIdeal.Far

end
-- ==== Proof.Far.lean ====
/-
  Farthest point sampling, written plainly: every point keeps its distance to the nearest point chosen so far, and the next
  choice is the point of the greatest distance, the first of them where there are several.
-/
module

public import proofs.«01_k».proof.Proof.RowMax
public import proofs.«01_k».proof.Proof.Words
public import Idealize.ShloMosaic.Lib.WordCmp
public import Idealize.ShloMosaic.PureOps.Reduce

@[expose] public section

noncomputable section

namespace Cert.Fps

open Idealize.ShloMosaic

/-- `i` is the first place at which `d` is greatest. -/
def IsFirstMax (d : Fin 4096 → EReal) (i : Fin 4096) : Prop := (∀ j, d j ≤ d i) ∧ ∀ j, (∀ k, d k ≤ d j) → i ≤ j

theorem exists_firstMax (d : Fin 4096 → EReal) : ∃ i, IsFirstMax d i := by
  classical
  obtain ⟨a, -, ha⟩ := Finset.exists_max_image Finset.univ d ⟨0, Finset.mem_univ _⟩
  have hne : (Finset.univ.filter fun i => ∀ j, d j ≤ d i).Nonempty :=
    ⟨a, Finset.mem_filter.mpr ⟨Finset.mem_univ _, fun j => ha j (Finset.mem_univ _)⟩⟩
  exact ⟨_, (Finset.mem_filter.mp (Finset.min'_mem _ hne)).2,
    fun j hj => Finset.min'_le _ _ (Finset.mem_filter.mpr ⟨Finset.mem_univ _, hj⟩)⟩

/-- The first place at which `d` is greatest. -/
def firstMax (d : Fin 4096 → EReal) : Fin 4096 := (exists_firstMax d).choose

theorem firstMax_spec (d : Fin 4096 → EReal) : IsFirstMax d (firstMax d) := (exists_firstMax d).choose_spec

theorem firstMax_eq {d : Fin 4096 → EReal} {i : Fin 4096} (h : IsFirstMax d i) : firstMax d = i :=
  le_antisymm ((firstMax_spec d).2 i h.1) (h.2 _ (firstMax_spec d).1)

section State
variable (e : EReal) (x y z : Fin 4096 → EReal)

/-- Each point's distance to the nearest chosen point, once `f` is chosen too. -/
def near (f : Fin 4096) (d : Fin 4096 → EReal) (n : Fin 4096) : EReal :=
  min (d n) ((x n - x f) * (x n - x f) + (y n - y f) * (y n - y f) + (z n - z f) * (z n - z f))

/-- The next choice and the distances before it, after `k` choices: the first choice is point zero. -/
def state : ℕ → Fin 4096 × (Fin 4096 → EReal)
  | 0 => (0, fun _ => e)
  | k + 1 => (firstMax (near x y z (state k).1 (state k).2), near x y z (state k).1 (state k).2)

/-- Choice number `k`. -/
def choice (k : ℕ) : Fin 4096 := (state e x y z k).1

/-- The distances after `k` choices. -/
def dist (k : ℕ) : Fin 4096 → EReal := (state e x y z k).2

theorem dist_succ (k : ℕ) : dist e x y z (k + 1) = near x y z (choice e x y z k) (dist e x y z k) := rfl
theorem choice_succ (k : ℕ) : choice e x y z (k + 1) = firstMax (dist e x y z (k + 1)) := rfl

end State

/-- A point's number from its row and lane. -/
def pos (r : Fin 32) (l : Fin 128) : Fin 4096 := ⟨128 * r.val + l.val, by omega⟩

theorem pos_surj (n : Fin 4096) : ∃ r l, pos r l = n :=
  ⟨⟨n.val / 128, by omega⟩, ⟨n.val % 128, by omega⟩, Fin.ext (by simp only [pos]; omega)⟩

theorem pos_inj {r r' : Fin 32} {l l' : Fin 128} (h : pos r l = pos r' l') : r = r' ∧ l = l' := by
  have := congrArg Fin.val h
  simp only [pos] at this
  exact ⟨Fin.ext (by omega), Fin.ext (by omega)⟩

theorem minsi_ofNat (a b : ℕ) (ha : a < 2 ^ 31) (hb : b < 2 ^ 31) :
    IntOp.minsi (BitVec.ofNat 32 a) (BitVec.ofNat 32 b) = BitVec.ofNat 32 (min a b) := by
  unfold IntOp.minsi
  rw [Ball.slt_ofNat a b ha hb]
  by_cases h : a < b
  · simp [h, Nat.min_eq_left h.le]
  · simp [h, Nat.min_eq_right (not_lt.mp h)]

theorem fold_minsi {α : Type} (s : Finset α) (v : α → ℕ) (hv : ∀ a, v a < 2 ^ 31) :
    s.fold IntOp.minsi 2147483647#32 (fun a => BitVec.ofNat 32 (v a)) = BitVec.ofNat 32 (s.fold min 2147483647 v)
      ∧ s.fold min 2147483647 v < 2 ^ 31 := by
  classical
  induction s using Finset.induction_on with
  | empty => simp
  | insert a s ha ih =>
    rw [Finset.fold_insert ha, Finset.fold_insert ha, ih.1, minsi_ofNat _ _ (hv a) ih.2]
    exact ⟨rfl, lt_of_le_of_lt (min_le_left _ _) (hv a)⟩

/-- The kernel's way to the first greatest: the least number among the points whose distance is the maximum. -/
theorem fold_first (d : Fin 4096 → EReal) (g : Fin 32 × Fin 128 → EReal) (hg : ∀ p, g p = d (pos p.1 p.2)) :
    Finset.fold IntOp.minsi 2147483647#32
      (fun p : Fin 32 × Fin 128 => if g p = Finset.fold max (Ideal.ofBits FTy.f32 4286578688#32) g Finset.univ
        then BitVec.ofNat 32 (pos p.1 p.2).val else 4096#32) Finset.univ
      = BitVec.ofNat 32 (firstMax d).val := by
  classical
  have hmax : ∀ p, g p = Finset.fold max (Ideal.ofBits FTy.f32 4286578688#32) g Finset.univ ↔ ∀ n, d n ≤ d (pos p.1 p.2) := by
    intro p
    have hz := RowMax.fold_le g
    constructor
    · intro h n
      obtain ⟨r, l, rfl⟩ := pos_surj n
      have := (hz _).mp le_rfl (r, l)
      rw [← h, hg, hg] at this
      exact this
    · intro h
      exact le_antisymm ((hz _).mp le_rfl p) ((hz _).mpr fun q => by rw [hg, hg]; exact h _)
  have hv : (fun p : Fin 32 × Fin 128 => if g p = Finset.fold max (Ideal.ofBits FTy.f32 4286578688#32) g Finset.univ
        then BitVec.ofNat 32 (pos p.1 p.2).val else 4096#32)
      = fun p => BitVec.ofNat 32 (if ∀ n, d n ≤ d (pos p.1 p.2) then (pos p.1 p.2).val else 4096) := by
    funext p
    by_cases h : ∀ n, d n ≤ d (pos p.1 p.2)
    · rw [if_pos ((hmax p).mpr h), if_pos h]
    · rw [if_neg (fun h' => h ((hmax p).mp h')), if_neg h]
  rw [hv, (fold_minsi _ _ fun p => by split <;> omega).1]
  refine congrArg (BitVec.ofNat 32) ?_
  have hs := firstMax_spec d
  apply le_antisymm
  · rw [Finset.fold_min_le]
    obtain ⟨r, l, hrl⟩ := pos_surj (firstMax d)
    refine Or.inr ⟨(r, l), Finset.mem_univ _, ?_⟩
    rw [if_pos (by rw [hrl]; exact hs.1), hrl]
  · rw [Finset.le_fold_min]
    refine ⟨by omega, fun p _ => ?_⟩
    split
    · next h => exact hs.2 _ h
    · omega

/-- The kernel's way to a coordinate of a point: the sum over all points, zero away from that one. -/
theorem sum_one (X : Fin 4096 → EReal) (f : Fin 4096) :
    ∑ r : Fin 32, ∑ l : Fin 128, Scalar.select (IntOp.cmpi CmpIPredicate.eq (BitVec.ofNat 32 (pos r l).val) (BitVec.ofNat 32 f.val))
      (X (pos r l)) 0 = X f := by
  have hc : ∀ r l, Scalar.select (IntOp.cmpi CmpIPredicate.eq (BitVec.ofNat 32 (pos r l).val) (BitVec.ofNat 32 f.val))
      (X (pos r l)) (0 : EReal) = if pos r l = f then X f else 0 := by
    intro r l
    unfold Scalar.select
    by_cases h : pos r l = f
    · rw [if_pos h, h]
      exact if_pos ((WordCmp.cmpi_eq_ofNat_eq_one_iff (w := 32) (by omega) (by omega)).mpr rfl)
    · rw [if_neg h, if_neg]
      intro h'
      exact h (Fin.ext ((WordCmp.cmpi_eq_ofNat_eq_one_iff (w := 32) (by omega) (by omega)).mp h'))
  simp only [hc]
  obtain ⟨r, l, rfl⟩ := pos_surj f
  rw [Finset.sum_eq_single r, Finset.sum_eq_single l, if_pos rfl]
  · intro l' _ h; exact if_neg fun h' => h (pos_inj h').2
  · intro h; exact absurd (Finset.mem_univ _) h
  · intro r' _ h; exact Finset.sum_eq_zero fun l' _ => if_neg fun h' => h (pos_inj h').1
  · intro h; exact absurd (Finset.mem_univ _) h

end Cert.Fps

end
-- ==== Proof.FarK.lean ====
/-
  What the kernel that samples the farthest points computes: trip by trip, each of its two members of the stack makes the
  choices of farthest point sampling.
-/
module

public import proofs.«01_k».proof.Proof.ISam
public import proofs.«01_k».proof.Proof.Far
public import Idealize.ShloMosaic.Lib.Pointwise

@[expose] public section

noncomputable section

namespace Cert.Fps

open Idealize.ShloMosaic Idealize.ShloMosaic.TcCoe Idealize.ShloMosaic.Tactic Idealize.SL.Sem
open Cert.SamplingIdeal Cert.SamplingIdeal.Gen Cert.SamplingIdeal.Far

theorem pos_at (r : Fin 32) (l : Fin 128) : k0_pay25 (ix2 r l) = BitVec.ofNat 32 (pos r l).val := by
  pointwise [k0_pay25]
  unfold IntOp.addi IntOp.muli
  apply BitVec.eq_of_toNat_eq
  simp only [BitVec.toNat_add, BitVec.toNat_mul, BitVec.toNat_ofNat, pos]
  omega

theorem iv_eq (k : Fin k0_t1_loop.trips) : Scf.iv 0#32 1#32 k.val = BitVec.ofNat 32 k.val := by
  simp [Scf.iv]

theorem trips_eq : k0_t1_loop.trips = 512 := by decide

/-- A plane of 32 rows of 128 lanes holds the function `X` of the point's number. -/
def Holds (x : FVec Ideal S32x128 .f32) (X : Fin 4096 → EReal) : Prop := ∀ r l, x (ix2 r l) = X (pos r l)

theorem coord {x : FVec Ideal S32x128 .f32} {X : Fin 4096 → EReal} (hx : Holds x X) (f : Fin 4096) :
    k0_pay3 k0_pay25 x (BitVec.ofNat 32 f.val) = X f := by
  pointwise [k0_pay3, k0_pay2]
  simp only [pos_at, hx _ _]
  exact sum_one X f

/-- A lane's choice between the new value, at the trip's own lane, and the old. -/
theorem pick {α : Type} (i : Fin 512) (k : Fin k0_t1_loop.trips) (a b : α) :
    Scalar.select (IntOp.cmpi .eq (BitVec.ofNat 32 i.val) (Scf.iv 0#32 1#32 k.val)) a b = if i.val = k.val then a else b := by
  have hk : k.val < 512 := lt_of_lt_of_eq k.isLt trips_eq
  rw [iv_eq]
  unfold Scalar.select
  by_cases h : i.val = k.val
  · rw [if_pos h]
    exact if_pos ((WordCmp.cmpi_eq_ofNat_eq_one_iff (w := 32) (by omega) (by omega)).mpr h)
  · rw [if_neg h]
    exact if_neg fun h' => h ((WordCmp.cmpi_eq_ofNat_eq_one_iff (w := 32) (by omega) (by omega)).mp h')

section Member
variable (e : EReal) (X Y Z : Fin 4096 → EReal)

/-- One member after `k` trips: its first `k` choices and their points, the distances, the next choice. -/
structure Member (k : ℕ) (idx : IVec S1x512 32) (cx cy cz : FVec Ideal S1x512 .f32) (d : FVec Ideal S32x128 .f32)
    (f : BitVec 32) : Prop where
  idx : ∀ i : Fin 512, i.val < k → idx (ix2 0 i) = BitVec.ofNat 32 (choice e X Y Z i.val).val
  cx : ∀ i : Fin 512, i.val < k → cx (ix2 0 i) = X (choice e X Y Z i.val)
  cy : ∀ i : Fin 512, i.val < k → cy (ix2 0 i) = Y (choice e X Y Z i.val)
  cz : ∀ i : Fin 512, i.val < k → cz (ix2 0 i) = Z (choice e X Y Z i.val)
  d : Holds d (dist e X Y Z k)
  f : f = BitVec.ofNat 32 (choice e X Y Z k).val

variable {e X Y Z}
variable {x y z : FVec Ideal S32x128 .f32} (hx : Holds x X) (hy : Holds y Y) (hz : Holds z Z)
  {k : Fin k0_t1_loop.trips} {idx : IVec S1x512 32} {cx cy cz : FVec Ideal S1x512 .f32} {d : FVec Ideal S32x128 .f32}
  {f : BitVec 32} (h : Member e X Y Z k.val idx cx cy cz d f)

include hx hy hz h in
theorem near_at : Holds (k0_pay11 k0_pay25 x y z d f) (dist e X Y Z (k.val + 1)) := by
  intro r l
  have hf := h.f
  subst hf
  pointwise [k0_pay11]
  rw [dist_succ, near, ← hx r l, ← hy r l, ← hz r l, ← h.d r l, coord hx,
    show k0_pay4 k0_pay25 y (BitVec.ofNat 32 (choice e X Y Z k.val).val) = _ from coord hy _,
    show k0_pay5 k0_pay25 z (BitVec.ofNat 32 (choice e X Y Z k.val).val) = _ from coord hz _]

include hx hy hz h in
theorem next_at : extractAt ![0, 0, 0] (k0_pay13 (k0_pay12 k0_pay25 x y z d f)) inpos_S1x1x1_p0_0_0
    = BitVec.ofNat 32 (choice e X Y Z (k.val + 1)).val := by
  have hd := near_at hx hy hz h
  pointwise [k0_pay13, k0_pay12]
  simp only [pos_at]
  rw [choice_succ]
  exact fold_first _ (fun p => k0_pay11 k0_pay25 x y z d f (ix2 p.1 p.2)) fun p => hd p.1 p.2

theorem lane_idx (i : Fin 512) : k0_pay7 lanes 0#32 1#32 k idx f (ix2 0 i) = if i.val = k.val then f else idx (ix2 0 i) := by
  pointwise [k0_pay7, k0_pay6]
  exact pick i k _ _

theorem lane_c {x : FVec Ideal S32x128 .f32} {c : FVec Ideal S1x512 .f32} (i : Fin 512) :
    k0_pay8 k0_pay25 lanes x 0#32 1#32 k c f (ix2 0 i) = if i.val = k.val then k0_pay3 k0_pay25 x f else c (ix2 0 i) := by
  pointwise [k0_pay8, k0_pay6]
  exact pick i k _ _

/-- A row of points that held the first `k` choices holds one more after a trip. -/
theorem row_step {x : FVec Ideal S32x128 .f32} {W : Fin 4096 → EReal} (hx : Holds x W) {c : FVec Ideal S1x512 .f32}
    (hf : f = BitVec.ofNat 32 (choice e X Y Z k.val).val)
    (hc : ∀ i : Fin 512, i.val < k.val → c (ix2 0 i) = W (choice e X Y Z i.val)) (i : Fin 512) (hi : i.val < k.val + 1) :
    k0_pay8 k0_pay25 lanes x 0#32 1#32 k c f (ix2 0 i) = W (choice e X Y Z i.val) := by
  rw [lane_c]
  split
  · next hik => rw [hf, coord hx, hik]
  · next hik => exact hc i (by omega)

include hx hy hz h in
theorem member_step : Member e X Y Z (k.val + 1) (k0_pay7 lanes 0#32 1#32 k idx f) (k0_pay8 k0_pay25 lanes x 0#32 1#32 k cx f)
    (k0_pay9 k0_pay25 lanes y 0#32 1#32 k cy f) (k0_pay10 k0_pay25 lanes z 0#32 1#32 k cz f)
    (k0_pay11 k0_pay25 x y z d f) (extractAt ![0, 0, 0] (k0_pay13 (k0_pay12 k0_pay25 x y z d f)) inpos_S1x1x1_p0_0_0) where
  idx i hi := by
    rw [lane_idx]
    split
    · next hik => rw [h.f, hik]
    · next hik => exact h.idx i (by omega)
  cx := row_step hx h.f h.cx
  cy := row_step hy h.f h.cy
  cz := row_step hz h.f h.cz
  d := near_at hx hy hz h
  f := next_at hx hy hz h

include hx hy hz h in
theorem member_step' : Member e X Y Z (k.val + 1) (k0_pay19 lanes idx f (Scf.iv 0#32 1#32 k))
    (k0_pay20 k0_pay25 lanes x cx f (Scf.iv 0#32 1#32 k)) (k0_pay21 k0_pay25 lanes y cy f (Scf.iv 0#32 1#32 k))
    (k0_pay22 k0_pay25 lanes z cz f (Scf.iv 0#32 1#32 k)) (k0_pay23 k0_pay25 x y z d f)
    (extractAt ![0, 0, 0] (k0_pay42 k0_pay25 (k0_pay24 k0_pay25 x y z d f) 4096#32) inpos_S1x1x1_p0_0_0) :=
  member_step hx hy hz h

end Member

/-- The distance that every point starts with. -/
abbrev far0 : EReal := Ideal.ofBits .f32 0x501502F9#32

theorem member_zero (X Y Z : Fin 4096 → EReal) : Member far0 X Y Z 0 k0_pay32 k0_pay33 k0_pay34 k0_pay35 k0_pay40 0#32 where
  idx i hi := absurd hi (by omega)
  cx i hi := absurd hi (by omega)
  cy i hi := absurd hi (by omega)
  cz i hi := absurd hi (by omega)
  d r l := rfl
  f := rfl

/-- What both members hold after `k` trips, read off what the trips carry. -/
def Both (X Y Z X' Y' Z' : Fin 4096 → EReal) (k : ℕ) : Carry Ideal → Prop :=
  fun (idx, cx, cy, cz, idx', cx', cy', cz', d, d', f, f') =>
    Member far0 X Y Z k idx cx cy cz d f ∧ Member far0 X' Y' Z' k idx' cx' cy' cz' d' f'

section Trips
variable {x y z x' y' z' : FVec Ideal S32x128 .f32} {X Y Z X' Y' Z' : Fin 4096 → EReal} (hx : Holds x X)
    (hy : Holds y Y) (hz : Holds z Z) (hx' : Holds x' X') (hy' : Holds y' Y') (hz' : Holds z' Z')

include hx hy hz hx' hy' hz' in
theorem both_step (k : Fin k0_t1_loop.trips) (a : Carry Ideal) (h : Both X Y Z X' Y' Z' k.val a) :
    Both X Y Z X' Y' Z' (k.val + 1) (trip k0_pay25 lanes x y z x' y' z' k a) := by
  obtain ⟨a9, a10, a11, a12, a13, a14, a15, a16, a17, a18, a19, a20⟩ := a
  unfold Both at h
  dsimp only at h
  unfold trip Both
  dsimp only
  exact ⟨member_step hx hy hz h.1, member_step' hx' hy' hz' h.2⟩

include hx hy hz hx' hy' hz' in
/-- Both members of a grid point after the first `n` trips. -/
theorem both_take (n : ℕ) (hn : n ≤ k0_t1_loop.trips) :
    Both X Y Z X' Y' Z' n (((List.finRange k0_t1_loop.trips).take n).foldl (fun a k => trip k0_pay25 lanes x y z x' y' z' k a) start) := by
  induction n with
  | zero => exact ⟨member_zero X Y Z, member_zero X' Y' Z'⟩
  | succ n ih =>
    have ht : (List.finRange k0_t1_loop.trips).take (n + 1)
        = (List.finRange k0_t1_loop.trips).take n ++ [⟨n, by omega⟩] := by
      rw [List.take_add_one, List.getElem?_eq_getElem (by rw [List.length_finRange]; omega), List.getElem_finRange]
      rfl
    rw [ht, List.foldl_append, List.foldl_cons, List.foldl_nil]
    exact both_step hx hy hz hx' hy' hz' ⟨n, by omega⟩ _ (ih (by omega))

include hx hy hz hx' hy' hz' in
/-- Both members of a grid point after all the trips. -/
theorem both_fold : Both X Y Z X' Y' Z' 512 (Scf.fold (trip k0_pay25 lanes x y z x' y' z') start) := by
  have h := both_take hx hy hz hx' hy' hz' 512 trips_eq.ge
  rw [List.take_of_length_le (by rw [List.length_finRange]; exact trips_eq.le)] at h
  rw [Scf.fold_eq]
  exact h

end Trips

end Cert.Fps

end
-- ==== Proof.FarV.lean ====
/-
  The arrays that the kernel that samples the farthest points leaves: at member `b` of the stack and place `i` the choice
  number `i` for that member, and the three coordinates of the point chosen.
-/
module

public import proofs.«01_k».proof.Proof.FarK

@[expose] public section

noncomputable section

namespace Cert.Fps

open Idealize.ShloMosaic Idealize.ShloMosaic.TcCoe Idealize.ShloMosaic.Tactic Idealize.SL.Sem
open Cert.SamplingIdeal Cert.SamplingIdeal.Gen Cert.SamplingIdeal.Far

/-- A coordinate of member `b`'s points, by the point's number. -/
abbrev cloud (P : FVec Ideal S4x4096x3 .f32) (b : Fin 4) (q : Fin 3) : Fin 4096 → EReal := fun n => P (ix3 b n q)

/-- Choice number `i` for member `b`. -/
abbrev pick4 (P : FVec Ideal S4x4096x3 .f32) (b : Fin 4) (i : Fin 512) : Fin 4096 :=
  choice far0 (cloud P b 0) (cloud P b 1) (cloud P b 2) i.val

/-- The member of the stack in row `p` of grid point `t`. -/
abbrev mem (t p : Fin 2) : Fin 4 := ⟨t.val * 2 + p.val, by omega⟩

/-- The choices, as the kernel lays them out. -/
abbrev wantI (P : FVec Ideal S4x4096x3 .f32) : IVec S2x2x512 32 := fun j => BitVec.ofNat 32 (pick4 P (mem (j 0) (j 1)) (j 2)).val

/-- A coordinate of the points chosen, as the kernel lays them out. -/
abbrev wantC (P : FVec Ideal S4x4096x3 .f32) (q : Fin 3) : FVec Ideal S2x2x512 .f32 :=
  fun j => cloud P (mem (j 0) (j 1)) q (pick4 P (mem (j 0) (j 1)) (j 2))

theorem emb_top (a b : Fin 1) (i : Fin 512) : top.emb (ix3 a b i : S1x1x512.Idx) = (ix3 0 0 i : S1x2x512.Idx) := by
  funext d; apply Fin.ext
  match d with
  | ⟨0, _⟩ => show 0 + 1 * a.val = 0; omega
  | ⟨1, _⟩ => show 0 + 1 * b.val = 0; omega
  | ⟨2, _⟩ => show 0 + 1 * i.val = i.val; omega

theorem emb_bot (a b : Fin 1) (i : Fin 512) : bot.emb (ix3 a b i : S1x1x512.Idx) = (ix3 0 1 i : S1x2x512.Idx) := by
  funext d; apply Fin.ext
  match d with
  | ⟨0, _⟩ => show 0 + 1 * a.val = 0; omega
  | ⟨1, _⟩ => show 1 + 1 * b.val = 1; omega
  | ⟨2, _⟩ => show 0 + 1 * i.val = i.val; omega

theorem lane_at {e : EltTy} (v : Vec Ideal S1x512 e) (a b : Fin 1) (i : Fin 512) :
    shapeCast S1x1x512 v shapeCasts_S1x512_S1x1x512 (ix3 a b i) = v (ix2 0 i) := by
  obtain rfl : a = 0 := Subsingleton.elim _ _
  obtain rfl : b = 0 := Subsingleton.elim _ _
  pointwise

/-- Two stores, one of each row, leave the two rows. -/
theorem rows_at {e : EltTy} (u v : Vec Ideal S1x512 e) (G : Vec Ideal S1x2x512 e) (hu : ∀ i, u (ix2 0 i) = G (ix3 0 0 i))
    (hv : ∀ i, v (ix2 0 i) = G (ix3 0 1 i)) :
    (View.canon [⟨bot, shapeCast S1x1x512 v shapeCasts_S1x512_S1x1x512⟩, ⟨top, shapeCast S1x1x512 u shapeCasts_S1x512_S1x1x512⟩]
        : Vec Ideal S1x2x512 e) = G := by
  funext j
  refine View.canon_apply_of_pieces G _ ?_ j (cover _ _ _)
  intro pc hpc x
  simp only [List.mem_cons, List.not_mem_nil, or_false] at hpc
  rcases hpc with rfl | rfl
  · obtain ⟨a, b, i, rfl⟩ : ∃ (a b : Fin 1) (i : Fin 512), x = (ix3 a b i : S1x1x512.Idx) := ⟨x 0, x 1, x 2, ValueIdx.eq_ix3 x⟩
    exact (lane_at v a b i).trans ((hv i).trans (congrArg G (emb_bot a b i)).symm)
  · obtain ⟨a, b, i, rfl⟩ : ∃ (a b : Fin 1) (i : Fin 512), x = (ix3 a b i : S1x1x512.Idx) := ⟨x 0, x 1, x 2, ValueIdx.eq_ix3 x⟩
    exact (lane_at u a b i).trans ((hu i).trans (congrArg G (emb_top a b i)).symm)

variable (m : (ℓ : Loc nD τ sig) → Buf (Elt Ideal) ℓ) (c : Dev nD)

/-- The points that the program is given. -/
abbrev pts : FVec Ideal S4x4096x3 .f32 := m ((c : Thread nD τ).loc main_arg0)

theorem pos_comm (r : Fin 32) (l : Fin 128) (h : r.val * 128 + l.val < 4096) : (⟨r.val * 128 + l.val, h⟩ : Fin 4096) = pos r l :=
  Fin.ext (by show r.val * 128 + l.val = 128 * r.val + l.val; omega)

theorem V_x (b : Fin 4) (r : Fin 32) (l : Fin 128) :
    (V m c main_v2 : FVec Ideal S4x32x128 .f32) (ix3 b r l) = cloud (pts m c) b 0 (pos r l) := by
  rw [show (V m c main_v2 : FVec Ideal S4x32x128 .f32) = shapeCast S4x32x128 (shapeCast S4x4096 (extractStridedSlice S4x4096x1 ![0, 0, 0]
    (pts m c) slices_S4x4096x3_S4x4096x1_0_0_0) shapeCasts_S4x4096x1_S4x4096) shapeCasts_S4x4096_S4x32x128 from by
      unfold V hostOps0
      after_results_simp
      rfl]
  pointwise
  rw [pos_comm]

theorem V_y (b : Fin 4) (r : Fin 32) (l : Fin 128) :
    (V m c main_v5 : FVec Ideal S4x32x128 .f32) (ix3 b r l) = cloud (pts m c) b 1 (pos r l) := by
  rw [show (V m c main_v5 : FVec Ideal S4x32x128 .f32) = shapeCast S4x32x128 (shapeCast S4x4096 (extractStridedSlice S4x4096x1 ![0, 0, 1]
    (pts m c) slices_S4x4096x3_S4x4096x1_0_0_1) shapeCasts_S4x4096x1_S4x4096) shapeCasts_S4x4096_S4x32x128 from by
      unfold V hostOps0
      after_results_simp
      rfl]
  pointwise
  rw [pos_comm]

theorem V_z (b : Fin 4) (r : Fin 32) (l : Fin 128) :
    (V m c main_v8 : FVec Ideal S4x32x128 .f32) (ix3 b r l) = cloud (pts m c) b 2 (pos r l) := by
  rw [show (V m c main_v8 : FVec Ideal S4x32x128 .f32) = shapeCast S4x32x128 (shapeCast S4x4096 (extractStridedSlice S4x4096x1 ![0, 0, 2]
    (pts m c) slices_S4x4096x3_S4x4096x1_0_0_2) shapeCasts_S4x4096x1_S4x4096) shapeCasts_S4x4096_S4x32x128 from by
      unfold V hostOps0
      after_results_simp
      rfl]
  pointwise
  rw [pos_comm]

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t = win0_0.index t := (by decide +kernel : ∀ t : Fin grid0.N, _)
theorem idx2 : ∀ t : Fin cfg0.N, win0_2.index t = win0_0.index t := (by decide +kernel : ∀ t : Fin grid0.N, _)
theorem idx3 : ∀ t : Fin cfg0.N, win0_3.index t = win0_0.index t := (by decide +kernel : ∀ t : Fin grid0.N, _)
theorem idx4 : ∀ t : Fin cfg0.N, win0_4.index t = win0_0.index t := (by decide +kernel : ∀ t : Fin grid0.N, _)
theorem idx5 : ∀ t : Fin cfg0.N, win0_5.index t = win0_0.index t := (by decide +kernel : ∀ t : Fin grid0.N, _)
theorem idx6 : ∀ t : Fin cfg0.N, win0_6.index t = win0_0.index t := (by decide +kernel : ∀ t : Fin grid0.N, _)

theorem emb0 (t : Fin cfg0.N) (p : Fin 2) (r : Fin 32) (l : Fin 128) :
    ((cfg0.win 0).blk t).view.emb (ix3 p r l : S2x32x128.Idx) = (ix3 (mem t p) r l : S4x32x128.Idx) := by
  obtain ⟨e0, e1, e2⟩ := idx0 t
  funext a; apply Fin.ext
  match a with
  | ⟨0, _⟩ => show win0_0.index t (0 : Fin 3) * 2 + 1 * p.val = t.val * 2 + p.val; omega
  | ⟨1, _⟩ => show win0_0.index t (1 : Fin 3) * 32 + 1 * r.val = r.val; omega
  | ⟨2, _⟩ => show win0_0.index t (2 : Fin 3) * 128 + 1 * l.val = l.val; omega

theorem emb1 (t : Fin cfg0.N) (j : S2x32x128.Idx) : ((cfg0.win 1).blk t).view.emb j = ((cfg0.win 0).blk t).view.emb j :=
  funext fun a => Fin.ext (congrArg (fun f : Fin 3 → ℕ => f a * S2x32x128.size a + 1 * (j a).val) (idx1 t))
theorem emb2 (t : Fin cfg0.N) (j : S2x32x128.Idx) : ((cfg0.win 2).blk t).view.emb j = ((cfg0.win 0).blk t).view.emb j :=
  funext fun a => Fin.ext (congrArg (fun f : Fin 3 → ℕ => f a * S2x32x128.size a + 1 * (j a).val) (idx2 t))

theorem blk0 (t : Fin cfg0.N) (p : Fin 2) (r : Fin 32) (l : Fin 128) :
    (iblk m c 0 t : Vec Ideal S2x32x128 .f32) (ix3 p r l) = cloud (pts m c) (mem t p) 0 (pos r l) :=
  (congrArg (V m c main_v2 : FVec Ideal S4x32x128 .f32) (emb0 t p r l)).trans (V_x m c _ r l)
theorem blk1 (t : Fin cfg0.N) (p : Fin 2) (r : Fin 32) (l : Fin 128) :
    (iblk m c 1 t : Vec Ideal S2x32x128 .f32) (ix3 p r l) = cloud (pts m c) (mem t p) 1 (pos r l) :=
  (congrArg (V m c main_v5 : FVec Ideal S4x32x128 .f32) ((emb1 t _).trans (emb0 t p r l))).trans (V_y m c _ r l)
theorem blk2 (t : Fin cfg0.N) (p : Fin 2) (r : Fin 32) (l : Fin 128) :
    (iblk m c 2 t : Vec Ideal S2x32x128 .f32) (ix3 p r l) = cloud (pts m c) (mem t p) 2 (pos r l) :=
  (congrArg (V m c main_v8 : FVec Ideal S4x32x128 .f32) ((emb2 t _).trans (emb0 t p r l))).trans (V_z m c _ r l)

/-- The first and the second member of a block, as planes of rows and lanes. -/
theorem holds_lo (x : Vec Ideal S2x32x128 .f32) (X : Fin 4096 → EReal) (h : ∀ r l, x (ix3 0 r l) = X (pos r l)) :
    Holds (k0_pay26 (View.ld x lo)) X := by
  intro r l
  rw [← h r l]
  pointwise [k0_pay26]
theorem holds_hi (x : Vec Ideal S2x32x128 .f32) (X : Fin 4096 → EReal) (h : ∀ r l, x (ix3 1 r l) = X (pos r l)) :
    Holds (k0_pay27 (View.ld x hi)) X := by
  intro r l
  rw [← h r l]
  pointwise [k0_pay27]

/-- Both members of grid point `t` after all the trips. -/
theorem both_at (t : Fin cfg0.N) :
    Both (cloud (pts m c) (mem t 0) 0) (cloud (pts m c) (mem t 0) 1) (cloud (pts m c) (mem t 0) 2)
      (cloud (pts m c) (mem t 1) 0) (cloud (pts m c) (mem t 1) 1) (cloud (pts m c) (mem t 1) 2) 512 (lastAt m c t) :=
  both_fold (holds_lo _ _ (blk0 m c t 0)) (holds_lo _ _ (blk1 m c t 0)) (holds_lo _ _ (blk2 m c t 0))
    (holds_hi _ _ (blk0 m c t 1)) (holds_hi _ _ (blk1 m c t 1)) (holds_hi _ _ (blk2 m c t 1))

/-- A block of the choices, and a block of a coordinate of the points chosen. -/
abbrev partI (t : Fin 2) : IVec S1x2x512 32 := fun j => wantI (pts m c) (ix3 t (j 1) (j 2))
abbrev partC (q : Fin 3) (t : Fin 2) : FVec Ideal S1x2x512 .f32 := fun j => wantC (pts m c) q (ix3 t (j 1) (j 2))

theorem outs_at (t : Fin cfg0.N) : out3 (lastAt m c t) = partI m c t ∧ out4 (lastAt m c t) = partC m c 0 t
    ∧ out5 (lastAt m c t) = partC m c 1 t ∧ out6 (lastAt m c t) = partC m c 2 t := by
  have h := both_at m c t
  revert h
  generalize lastAt m c t = a
  obtain ⟨a9, a10, a11, a12, a13, a14, a15, a16, a17, a18, a19, a20⟩ := a
  unfold Both out3 out4 out5 out6
  dsimp only
  rintro ⟨h, h'⟩
  exact ⟨rows_at _ _ _ (fun i => h.idx i i.isLt) (fun i => h'.idx i i.isLt),
    rows_at _ _ _ (fun i => h.cx i i.isLt) (fun i => h'.cx i i.isLt),
    rows_at _ _ _ (fun i => h.cy i i.isLt) (fun i => h'.cy i i.isLt),
    rows_at _ _ _ (fun i => h.cz i i.isLt) (fun i => h'.cz i i.isLt)⟩

/-- Where a block of an output lies. -/
theorem emb3 (t : Fin cfg0.N) (p : Fin 2) (i : Fin 512) :
    ((cfg0.win 3).blk t).view.emb (ix3 0 p i : S1x2x512.Idx) = (ix3 (t : Fin 2) p i : S2x2x512.Idx) := by
  obtain ⟨e0, e1, e2⟩ := idx0 t
  rw [← idx3 t] at e0 e1 e2
  funext a; apply Fin.ext
  match a with
  | ⟨0, _⟩ => show win0_3.index t (0 : Fin 3) * 1 + 1 * 0 = t.val; omega
  | ⟨1, _⟩ => show win0_3.index t (1 : Fin 3) * 2 + 1 * p.val = p.val; omega
  | ⟨2, _⟩ => show win0_3.index t (2 : Fin 3) * 512 + 1 * i.val = i.val; omega
theorem emb4 (t : Fin cfg0.N) (j : S1x2x512.Idx) : ((cfg0.win 4).blk t).view.emb j = ((cfg0.win 3).blk t).view.emb j :=
  funext fun a => Fin.ext (congrArg (fun f : Fin 3 → ℕ => f a * S1x2x512.size a + 1 * (j a).val) ((idx4 t).trans (idx3 t).symm))
theorem emb5 (t : Fin cfg0.N) (j : S1x2x512.Idx) : ((cfg0.win 5).blk t).view.emb j = ((cfg0.win 3).blk t).view.emb j :=
  funext fun a => Fin.ext (congrArg (fun f : Fin 3 → ℕ => f a * S1x2x512.size a + 1 * (j a).val) ((idx5 t).trans (idx3 t).symm))
theorem emb6 (t : Fin cfg0.N) (j : S1x2x512.Idx) : ((cfg0.win 6).blk t).view.emb j = ((cfg0.win 3).blk t).view.emb j :=
  funext fun a => Fin.ext (congrArg (fun f : Fin 3 → ℕ => f a * S1x2x512.size a + 1 * (j a).val) ((idx6 t).trans (idx3 t).symm))

theorem split_out (j : S1x2x512.Idx) : ∃ (p : Fin 2) (i : Fin 512), j = (ix3 0 p i : S1x2x512.Idx) := by
  obtain ⟨a, p, i, rfl⟩ : ∃ (a : Fin 1) (p : Fin 2) (i : Fin 512), j = (ix3 a p i : S1x2x512.Idx) := ⟨j 0, j 1, j 2, ValueIdx.eq_ix3 j⟩
  obtain rfl : a = 0 := Subsingleton.elim _ _
  exact ⟨p, i, rfl⟩

theorem covered3 (i : S2x2x512.Idx) : ∃ t : Fin cfg0.N, (cfg0.win 3).flush t = true ∧ i ∈ ((cfg0.win 3).blk t).view.set := by
  obtain ⟨t, p, k, rfl⟩ : ∃ (t p : Fin 2) (k : Fin 512), i = (ix3 t p k : S2x2x512.Idx) := ⟨i 0, i 1, i 2, ValueIdx.eq_ix3 i⟩
  exact ⟨t, flush0_3 t, (emb3 t p k : _ = (ix3 t p k : S2x2x512.Idx)) ▸ ((cfg0.win 3).blk t).view.emb_mem_set (ix3 0 p k : S1x2x512.Idx)⟩
theorem covered4 (i : S2x2x512.Idx) : ∃ t : Fin cfg0.N, (cfg0.win 4).flush t = true ∧ i ∈ ((cfg0.win 4).blk t).view.set := by
  obtain ⟨t, p, k, rfl⟩ : ∃ (t p : Fin 2) (k : Fin 512), i = (ix3 t p k : S2x2x512.Idx) := ⟨i 0, i 1, i 2, ValueIdx.eq_ix3 i⟩
  exact ⟨t, flush0_4 t, ((emb4 t _).trans (emb3 t p k) : _ = (ix3 t p k : S2x2x512.Idx)) ▸ ((cfg0.win 4).blk t).view.emb_mem_set (ix3 0 p k : S1x2x512.Idx)⟩
theorem covered5 (i : S2x2x512.Idx) : ∃ t : Fin cfg0.N, (cfg0.win 5).flush t = true ∧ i ∈ ((cfg0.win 5).blk t).view.set := by
  obtain ⟨t, p, k, rfl⟩ : ∃ (t p : Fin 2) (k : Fin 512), i = (ix3 t p k : S2x2x512.Idx) := ⟨i 0, i 1, i 2, ValueIdx.eq_ix3 i⟩
  exact ⟨t, flush0_5 t, ((emb5 t _).trans (emb3 t p k) : _ = (ix3 t p k : S2x2x512.Idx)) ▸ ((cfg0.win 5).blk t).view.emb_mem_set (ix3 0 p k : S1x2x512.Idx)⟩
theorem covered6 (i : S2x2x512.Idx) : ∃ t : Fin cfg0.N, (cfg0.win 6).flush t = true ∧ i ∈ ((cfg0.win 6).blk t).view.set := by
  obtain ⟨t, p, k, rfl⟩ : ∃ (t p : Fin 2) (k : Fin 512), i = (ix3 t p k : S2x2x512.Idx) := ⟨i 0, i 1, i 2, ValueIdx.eq_ix3 i⟩
  exact ⟨t, flush0_6 t, ((emb6 t _).trans (emb3 t p k) : _ = (ix3 t p k : S2x2x512.Idx)) ▸ ((cfg0.win 6).blk t).view.emb_mem_set (ix3 0 p k : S1x2x512.Idx)⟩

theorem final3 : (dats m 0 c).arrAt 3 cfg0.N = wantI (pts m c) := by
  refine (dats m 0 c).arrAt_eq_of_cover 3 _ (fun t _ => ?_) covered3
  show (cfg0.win 3).cut (grid0.coords t) ((dats m 0 c).after 3 t) = _
  rw [after3, (outs_at m c t).1]
  funext j
  obtain ⟨p, i, rfl⟩ := split_out j
  exact (congrArg (wantI (pts m c)) (emb3 t p i)).symm
theorem final4 : (dats m 0 c).arrAt 4 cfg0.N = wantC (pts m c) 0 := by
  refine (dats m 0 c).arrAt_eq_of_cover 4 _ (fun t _ => ?_) covered4
  show (cfg0.win 4).cut (grid0.coords t) ((dats m 0 c).after 4 t) = _
  rw [after4, (outs_at m c t).2.1]
  funext j
  obtain ⟨p, i, rfl⟩ := split_out j
  exact (congrArg (wantC (pts m c) 0) ((emb4 t _).trans (emb3 t p i))).symm
theorem final5 : (dats m 0 c).arrAt 5 cfg0.N = wantC (pts m c) 1 := by
  refine (dats m 0 c).arrAt_eq_of_cover 5 _ (fun t _ => ?_) covered5
  show (cfg0.win 5).cut (grid0.coords t) ((dats m 0 c).after 5 t) = _
  rw [after5, (outs_at m c t).2.2.1]
  funext j
  obtain ⟨p, i, rfl⟩ := split_out j
  exact (congrArg (wantC (pts m c) 1) ((emb5 t _).trans (emb3 t p i))).symm
theorem final6 : (dats m 0 c).arrAt 6 cfg0.N = wantC (pts m c) 2 := by
  refine (dats m 0 c).arrAt_eq_of_cover 6 _ (fun t _ => ?_) covered6
  show (cfg0.win 6).cut (grid0.coords t) ((dats m 0 c).after 6 t) = _
  rw [after6, (outs_at m c t).2.2.2]
  funext j
  obtain ⟨p, i, rfl⟩ := split_out j
  exact (congrArg (wantC (pts m c) 2) ((emb6 t _).trans (emb3 t p i))).symm

/-- The program ends with the choices, the points chosen, and its argument as it was. -/
theorem run_far (ρ : Dev nD → PrngReg) : θ_run defs (onTc (τ := τ) (main (F := Ideal))) ⟨m, fun _ => 0, ρ⟩ (fun r => ∀ c : Dev nD,
      r.2.mem ((c.tc : Thread nD τ).loc main_v9_0) = wantI (pts m c)
      ∧ r.2.mem ((c.tc : Thread nD τ).loc main_v9_1) = wantC (pts m c) 0
      ∧ r.2.mem ((c.tc : Thread nD τ).loc main_v9_2) = wantC (pts m c) 1
      ∧ r.2.mem ((c.tc : Thread nD τ).loc main_v9_3) = wantC (pts m c) 2
      ∧ r.2.mem ((c.tc : Thread nD τ).loc main_arg0) = m ((c.tc : Thread nD τ).loc main_arg0)) :=
  (θ_run defs _ _).mono (fun r h c => ⟨((h c).1 3).trans (final3 m c), ((h c).1 4).trans (final4 m c),
    ((h c).1 5).trans (final5 m c), ((h c).1 6).trans (final6 m c),
    ((h c).2 main_arg0 (Pipeline.mem_restRefs_of main_arg0 (by decide) (by decide))).trans (V_main_arg0 m c)⟩) (run_main m ρ)

end Cert.Fps

end
-- ==== Proof.FarR.lean ====
/-
  The stated sampling, trip by trip: at every trip it writes down the choice it holds, lowers the distances to that choice,
  and takes the first greatest.
-/
module

public import proofs.«01_k».proof.Proof.FarV
public import proofs.«01_k».proof.Proof.RefTake
public import proofs.«01_k».proof.Proof.Gen.SamplingReferenceIdeal.Run
public import Idealize.ShloMosaic.Lib.Pointwise
public import Idealize.ShloMosaic.Lib.SortFacts
public import Idealize.ShloMosaic.Lib.Routing.OpsOne
public import Idealize.ShloMosaic.Lib.Quiescent
public import Idealize.ShloMosaic.Adequacy
public import Idealize.ShloMosaic.Init

@[expose] public section

noncomputable section

namespace Cert.Fps

open Idealize.ShloMosaic Idealize.ShloMosaic.TcCoe Idealize.ShloMosaic.Tactic Idealize.SL.Sem

section Order
variable (d : Fin 4096 → EReal)

/-- The first of the positions in order of falling `d` is the first greatest of them. -/
theorem head_stableSort (l : List (Fin 4096)) (hl : l.Pairwise (· < ·)) (hne : l ≠ []) :
    ∃ h t, stableSort (fun k k' => decide (d k' < d k)) l = h :: t ∧ ∀ x ∈ l, d x ≤ d h ∧ (d h ≤ d x → h ≤ x) := by
  induction l with
  | nil => exact absurd rfl hne
  | cons a l ih =>
    obtain ⟨ha, hl⟩ := List.pairwise_cons.mp hl
    unfold stableSort
    rcases eq_or_ne l [] with rfl | hn
    · refine ⟨a, [], rfl, fun x hx => ?_⟩
      obtain rfl := List.mem_singleton.mp hx
      exact ⟨le_rfl, fun _ => le_rfl⟩
    · obtain ⟨h, t, e, hs⟩ := ih hl hn
      rw [e]
      unfold insertBefore
      by_cases hlt : d a < d h
      · rw [if_pos (decide_eq_true hlt)]
        refine ⟨h, _, rfl, fun x hx => ?_⟩
        rcases List.mem_cons.mp hx with rfl | hx
        · exact ⟨hlt.le, fun h' => absurd hlt (not_lt.mpr h')⟩
        · exact hs x hx
      · rw [if_neg (by simpa using hlt)]
        refine ⟨a, _, rfl, fun x hx => ?_⟩
        rcases List.mem_cons.mp hx with rfl | hx
        · exact ⟨le_rfl, fun _ => le_rfl⟩
        · exact ⟨(hs x hx).1.trans (not_lt.mp hlt), fun _ => (ha x hx).le⟩

theorem sortedFrom_first : sortedFrom (fun k k' : Fin 4096 => decide (d k' < d k)) 0 = firstMax d := by
  have hl := List.pairwise_lt_finRange 4096
  have hm : ∀ x, x ∈ List.finRange 4096 := fun x => List.mem_finRange x
  have hne : List.finRange 4096 ≠ [] := List.ne_nil_of_mem (hm 0)
  obtain ⟨h, t, e, hs⟩ := head_stableSort d (List.finRange 4096) hl hne
  have first : ∀ (l : List (Fin 4096)) (n : 4096 = l.length), l = h :: t → l.get (Fin.cast n 0) = h := by
    rintro _ _ rfl
    rfl
  refine (first (sortPositions 4096 _) (length_sortPositions 4096 _).symm e).trans ?_
  exact (firstMax_eq ⟨fun j => (hs j (hm j)).1, fun j hj => (hs j (hm j)).2 (hj h)⟩).symm

end Order

open Idealize.ShloMosaic.StableHlo
open Cert.SamplingReferenceIdeal Cert.SamplingReferenceIdeal.Gen Cert.SamplingReferenceIdeal.Value

theorem along2_at (b : Fin 4) (i k : Fin 4096) : Shape.Idx.along (s := S4x4096) (ix2 b i) (1 : Fin 2) k = ix2 b k := by
  funext a
  match a with
  | ⟨0, _⟩ => rfl
  | ⟨1, _⟩ => rfl

theorem top_at (x : FVec Ideal S4x4096 .f32) (b : Fin 4) :
    (Host.topK S4x1 1 (FloatOps.cmpfTotal .gt) x sliceFits_S4x4096_S4x1).2 (ix2 b 0)
      = BitVec.ofNat 32 (firstMax fun n => x (ix2 b n)).val := by
  have e0 : (Host.topK S4x1 1 (FloatOps.cmpfTotal .gt) x sliceFits_S4x4096_S4x1).2 (ix2 b 0)
      = BitVec.ofNat 32 (sortedFrom (fun k k' : Fin 4096 => FloatOps.cmpfTotal .gt
          (x (Shape.Idx.along (s := S4x4096) (ix2 b 0) (1 : Fin 2) k)) (x (Shape.Idx.along (s := S4x4096) (ix2 b 0) (1 : Fin 2) k')) == 1#1) 0).val := by
    have e1 : (Host.topK S4x1 1 (FloatOps.cmpfTotal .gt) x sliceFits_S4x4096_S4x1).2 (ix2 b 0)
        = (Host.sort2 S4x4096 1 (fun l r : Ideal .f32 × BitVec 32 => FloatOps.cmpfTotal .gt l.1 r.1) x
            (fun i => iotaInDim S4x4096 32 ⟨1, by decide⟩ i)).2 (ix2 b 0) := by
      unfold Host.topK
      refine congrArg (Host.sort2 S4x4096 1 (fun l r : Ideal .f32 × BitVec 32 => FloatOps.cmpfTotal .gt l.1 r.1) x
            (fun i => iotaInDim S4x4096 32 ⟨1, by decide⟩ i)).2 ?_
      funext a
      match a with
      | ⟨0, _⟩ => exact Fin.ext (by simp)
      | ⟨1, _⟩ => rfl
    rw [e1]
    unfold Host.sort2
    rw [dif_pos (show 1 < S4x4096.rank by decide)]
    have key : ∀ z : Fin 4096, iotaInDim S4x4096 32 ⟨1, by decide⟩ (Shape.Idx.along (s := S4x4096) (ix2 b 0) (1 : Fin 2) z)
        = BitVec.ofNat 32 z.val := fun z => rfl
    exact key _
  rw [e0, ← sortedFrom_first]
  have eB : (fun k k' : Fin 4096 => FloatOps.cmpfTotal .gt
          (x (Shape.Idx.along (s := S4x4096) (ix2 b 0) (1 : Fin 2) k)) (x (Shape.Idx.along (s := S4x4096) (ix2 b 0) (1 : Fin 2) k')) == 1#1)
      = fun k k' : Fin 4096 => decide (x (ix2 b k') < x (ix2 b k)) := by
    funext k k'
    rw [along2_at, along2_at, Ideal.cmpfTotal_def]
    show (BitVec.ofBool (decide (x (ix2 b k') < x (ix2 b k))) == 1#1) = _
    generalize decide (x (ix2 b k') < x (ix2 b k)) = t
    cases t <;> rfl
  rw [eB]

/-- A word below 4096 is its own wrapped index. -/
theorem wrap_at (n : Fin 4096) : Scalar.select (IntOp.cmpi .slt (BitVec.ofNat 32 n.val) 0#32)
    (IntOp.addi (BitVec.ofNat 32 n.val) 4096#32) (BitVec.ofNat 32 n.val) = BitVec.ofNat 32 n.val := by
  rw [(Cert.ReferenceIdeal.Ball.word_facts n).1]
  rfl

/-- A word below 4096 is within the range, so that what is taken there is kept. -/
theorem keep_at {α : Type} (n : Fin 4096) (a b : α) :
    Scalar.select (Finset.fold IntOp.andi (1#1) (fun _ : Fin 1 => IntOp.andi (IntOp.cmpi .sge (BitVec.ofNat 32 n.val) 0#32)
      (IntOp.cmpi .sle (BitVec.ofNat 32 n.val) 4095#32)) Finset.univ) a b = a := by
  rw [(Cert.ReferenceIdeal.Ball.word_facts n).2.1, (Cert.ReferenceIdeal.Ball.word_facts n).2.2.1, Cert.ReferenceIdeal.Ball.fold_one]
  rfl

/-- Conditions that all hold, hold together. -/
theorem fold_all {ι : Type} (s : Finset ι) (f : ι → BitVec 1) (hf : ∀ x, f x = 1#1) : Finset.fold IntOp.andi (1#1) f s = 1#1 := by
  classical
  induction s using Finset.induction_on with
  | empty => rfl
  | insert a s ha ih =>
    rw [Finset.fold_insert ha, ih, hf a]
    rfl

/-- What the stated loop holds after `k` trips. -/
structure Inv (P : FVec Ideal S4x4096x3 .f32) (k : ℕ) (W : Valuation τ sig (Elt Ideal)) : Prop where
  pts : (W (Proc.devRef .tc main_v3_0) : FVec Ideal S4x4096x3 .f32) = P
  num : (W (Proc.devRef .tc main_v3_2) : IVec S_ 32) = fun _ => BitVec.ofNat 32 k
  idx : ∀ (b : Fin 4) (i : Fin 512), i.val < k → (W (Proc.devRef .tc main_v3_3) : IVec S4x512 32) (ix2 b i) = BitVec.ofNat 32 (pick4 P b i).val
  dst : ∀ (b : Fin 4) (n : Fin 4096), (W (Proc.devRef .tc main_v3_4) : FVec Ideal S4x4096 .f32) (ix2 b n)
    = dist far0 (cloud P b 0) (cloud P b 1) (cloud P b 2) k n
  nxt : ∀ b : Fin 4, (W (Proc.devRef .tc main_v3_5) : IVec S4 32) (ix1 b)
    = BitVec.ofNat 32 (choice far0 (cloud P b 0) (cloud P b 1) (cloud P b 2) k).val

section Step
variable {P : FVec Ideal S4x4096x3 .f32} {k : ℕ} {W : Valuation τ sig (Elt Ideal)} (h : Inv P k W)

include h in
theorem diff_at (b : Fin 4) (n : Fin 4096) (q : Fin 3) :
    (res_main_while0b_v28 W : FVec Ideal S4x4096x3 .f32) (ix3 b n q)
      = cloud P b q n - cloud P b q (choice far0 (cloud P b 0) (cloud P b 1) (cloud P b 2) k) := by
  unfold res_main_while0b_v28 res_main_while0b_call0_v5 res_main_while0b_v25
  rw [h.pts]
  pointwise
  rw [fold_all _ _ fun x => by
    rw [h.nxt (x 0), wrap_at, (Cert.ReferenceIdeal.Ball.word_facts _).2.1, (Cert.ReferenceIdeal.Ball.word_facts _).2.2.1]
    rfl, Cert.ReferenceIdeal.Ball.select_one]
  refine congrArg (P (ix3 b n q) - ·) (Cert.ReferenceIdeal.Ball.gather_at gather_S4x4096x3_S4x1x3x1_S4x1x3_n_1_02_02_1_3_111 rfl rfl rfl rfl rfl rfl
    P _ b 0 q _ ?_)
  pointwise
  rw [h.nxt b, wrap_at]
  exact (Cert.ReferenceIdeal.Ball.word_facts _).2.2.2

include h in
theorem dst_at (b : Fin 4) (n : Fin 4096) : (res_main_while0b_v31 W : FVec Ideal S4x4096 .f32) (ix2 b n)
    = dist far0 (cloud P b 0) (cloud P b 1) (cloud P b 2) (k + 1) n := by
  have hd := diff_at h b n
  unfold res_main_while0b_v31
  pointwise
  rw [dist_succ, near, ← h.dst b n, Fin.sum_univ_three, hd 0, hd 1, hd 2]

include h in
theorem inv_step (hk : k < 512) : Inv P (k + 1) (STEP W) where
  pts := (STEP_main_v3_0 W).trans h.pts
  num := by
    rw [STEP_main_v3_2]
    unfold step_main_v3_2
    rw [h.num]
    funext j
    show BitVec.ofNat 32 k + BitVec.ofNat 32 1 = BitVec.ofNat 32 (k + 1)
    exact (BitVec.ofNat_add ..).symm
  idx b i hi := by
    rw [STEP_main_v3_3]
    unfold step_main_v3_3
    rw [h.num, id_eq]
    have hw : (broadcastInDim S1 ![] bcast_S_S1 (id (select (cmpi .slt (fun _ => BitVec.ofNat 32 k) (constantI S_ 32 0#32))
        (addi (fun _ => BitVec.ofNat 32 k) (constantI S_ 32 512#32)) (fun _ => BitVec.ofNat 32 k))) : IVec S1 32) (ix1 0)
        = BitVec.ofNat 32 k := by
      rw [id_eq]
      pointwise
      rw [(Cert.ReferenceIdeal.Ball.word_facts ⟨k, by omega⟩).1]
      rfl
    refine (Routing.scatter_col_signed scatter_S4x512_S1_S4_0_1_1_0 rfl rfl _ _ _ ⟨k, hk⟩ ?_ b i).trans ?_
    · exact (congrArg BitVec.toInt hw).trans (Ball.toInt_ofNat_lt _ (by omega))
    · split
      · next e => exact (h.nxt b).trans (by rw [e])
      · next e => exact h.idx b i (by
          have : i.val ≠ k := fun e' => e (Fin.ext e')
          omega)
  dst b n := by
    rw [STEP_main_v3_4]
    exact dst_at h b n
  nxt b := by
    rw [STEP_main_v3_5]
    unfold step_main_v3_5
    rw [id_eq]
    pointwise
    rw [top_at, choice_succ]
    exact congrArg (fun f => BitVec.ofNat 32 (firstMax f).val) (funext fun n => dst_at h b n)

end Step

variable (m : (ℓ : Loc nD τ sig) → Buf (Elt Ideal) ℓ) (c : Dev nD)

theorem inv_zero : Inv (m ((c.tc : Thread nD τ).loc main_arg0)) 0 (entryContents preI m c) where
  pts := by
    simp only [entryContents, afterL_cons, afterL_nil]
    after_reads_simp
    rfl
  num := by
    simp only [entryContents, afterL_cons, afterL_nil]
    after_reads_simp
    rfl
  idx b i hi := absurd hi (by omega)
  dst b n := by
    simp only [entryContents, afterL_cons, afterL_nil]
    after_reads_simp
    rfl
  nxt b := by
    simp only [entryContents, afterL_cons, afterL_nil]
    after_reads_simp
    rfl

/-- What the stated loop ends with. -/
theorem inv_all : ∀ k, k ≤ 512 → Inv (m ((c.tc : Thread nD τ).loc main_arg0)) k (STEP^[k] (entryContents preI m c))
  | 0, _ => inv_zero m c
  | k + 1, hk => by
    rw [Function.iterate_succ_apply']
    exact inv_step (inv_all k (by omega)) (by omega)

section Out
variable {P : FVec Ideal S4x4096x3 .f32} {W : Valuation τ sig (Elt Ideal)} (h : Inv P 512 W)
  (hP : (W (Proc.devRef .tc main_arg0) : FVec Ideal S4x4096x3 .f32) = P)

include h in
theorem out_idx : out_main_v13 W = wantI P := by
  funext j
  obtain ⟨t, p, i, rfl⟩ : ∃ (t p : Fin 2) (i : Fin 512), j = (ix3 t p i : S2x2x512.Idx) := ⟨j 0, j 1, j 2, ValueIdx.eq_ix3 j⟩
  unfold out_main_v13
  pointwise
  exact h.idx (mem t p) i i.isLt

include h hP in
/-- The points chosen, all coordinates together. -/
theorem taken_at (b : Fin 4) (i : Fin 512) (q : Fin 3) :
    Host.gather gather_S4x4096x3_S4x512x3x1_S4x512x3_n_1_02_02_1_3_111 (W (Proc.devRef .tc main_arg0) : FVec Ideal S4x4096x3 .f32)
      (shapeCast S4x512x3x1 (select (cmpi .slt (broadcastInDim S4x512x3 ![0, 1, 2] bcast_S4x512x1_S4x512x3_0_1_2 (broadcastInDim S4x512x1 ![0, 1] bcast_S4x512_S4x512x1_0_1 (W (Proc.devRef .tc main_v3_3)))) (broadcastInDim S4x512x3 ![] bcast_S_S4x512x3 (constantI S_ 32 0#32))) (addi (broadcastInDim S4x512x3 ![0, 1, 2] bcast_S4x512x1_S4x512x3_0_1_2 (broadcastInDim S4x512x1 ![0, 1] bcast_S4x512_S4x512x1_0_1 (W (Proc.devRef .tc main_v3_3)))) (broadcastInDim S4x512x3 ![] bcast_S_S4x512x3 (constantI S_ 32 4096#32))) (broadcastInDim S4x512x3 ![0, 1, 2] bcast_S4x512x1_S4x512x3_0_1_2 (broadcastInDim S4x512x1 ![0, 1] bcast_S4x512_S4x512x1_0_1 (W (Proc.devRef .tc main_v3_3))))) shapeCasts_S4x512x3_S4x512x3x1)
      (ix3 b i q) = cloud P b q (pick4 P b i) := by
  rw [hP]
  refine Cert.ReferenceIdeal.Ball.gather_at gather_S4x4096x3_S4x512x3x1_S4x512x3_n_1_02_02_1_3_111 rfl rfl rfl rfl rfl rfl P _ b i q _ ?_
  pointwise
  rw [h.idx b i i.isLt, wrap_at]
  exact (Cert.ReferenceIdeal.Ball.word_facts _).2.2.2

include h hP in
theorem out_x : out_main_v14 W = wantC P 0 := by
  funext j
  obtain ⟨t, p, i, rfl⟩ : ∃ (t p : Fin 2) (i : Fin 512), j = (ix3 t p i : S2x2x512.Idx) := ⟨j 0, j 1, j 2, ValueIdx.eq_ix3 j⟩
  unfold out_main_v14
  pointwise
  rw [h.idx (mem t p) i i.isLt, wrap_at, keep_at]
  exact taken_at h hP (mem t p) i 0
include h hP in
theorem out_y : out_main_v15 W = wantC P 1 := by
  funext j
  obtain ⟨t, p, i, rfl⟩ : ∃ (t p : Fin 2) (i : Fin 512), j = (ix3 t p i : S2x2x512.Idx) := ⟨j 0, j 1, j 2, ValueIdx.eq_ix3 j⟩
  unfold out_main_v15
  pointwise
  rw [h.idx (mem t p) i i.isLt, wrap_at, keep_at]
  exact taken_at h hP (mem t p) i 1
include h hP in
theorem out_z : out_main_v16 W = wantC P 2 := by
  funext j
  obtain ⟨t, p, i, rfl⟩ : ∃ (t p : Fin 2) (i : Fin 512), j = (ix3 t p i : S2x2x512.Idx) := ⟨j 0, j 1, j 2, ValueIdx.eq_ix3 j⟩
  unfold out_main_v16
  pointwise
  rw [h.idx (mem t p) i i.isLt, wrap_at, keep_at]
  exact taken_at h hP (mem t p) i 2

end Out

/-- From memories that agree on the points, the two programs end with the same choices and the same points chosen. -/
theorem value : Cert.algebraic_SamplingIdeal_SamplingReferenceIdeal
    (hSamplingIdeal := Cert.SamplingIdeal.Gen.facts) (hSamplingReferenceIdeal := Cert.SamplingReferenceIdeal.Gen.facts) := by
  intro m g m' g' _ hargs
  refine ⟨_, _, _, _, run_far m g, ?_⟩
  refine (θ_run (Cert.SamplingReferenceIdeal.defs (F := Ideal)) _ _).mono (fun r h c => ?_) (Cert.SamplingReferenceIdeal.Value.run m' g')
  have hi := inv_all m' c 512 le_rfl
  have hP := iter_main_arg0 m' c 512
  have ha := hargs c
  obtain ⟨h0, h1, h2, h3, h4⟩ := h c
  exact ⟨h0.trans ((out_idx hi).trans (congrArg wantI ha)), h1.trans ((out_x hi hP).trans (congrArg (wantC · 0) ha)),
    h2.trans ((out_y hi hP).trans (congrArg (wantC · 1) ha)), h3.trans ((out_z hi hP).trans (congrArg (wantC · 2) ha)), h4⟩

/-- The stated program runs, and its argument ends unchanged. -/
theorem refFrame : Cert.quiescent_SamplingReferenceIdeal
    (hSamplingReferenceIdeal := Cert.SamplingReferenceIdeal.Gen.facts) := fun m g _ =>
  (θ_run (Cert.SamplingReferenceIdeal.defs (F := Ideal)) _ _).mono
    (fun _ h => ⟨fun c => (h c).2.2.2.2, sem_eq_zero_of_no_sems rfl _⟩) (Cert.SamplingReferenceIdeal.Value.run m g)

end Cert.Fps

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_balls_nonempty
public import proofs.«01_k».proof.Proof.Gen.TransformMax
public import proofs.«01_k».proof.Proof.Gen.TransformMaxIdeal
public import proofs.«01_k».proof.Proof.Gen.TransformMaxReferenceIdeal
public import proofs.«01_k».proof.Proof.Gen.TransformMax.Frame
public import proofs.«01_k».proof.Proof.Gen.TransformMaxIdeal.Frame
public import proofs.«01_k».proof.Proof.Gen.TransformMaxIdeal.Value
public import proofs.«01_k».proof.Proof.Gen.TransformMaxReferenceIdeal.Run
public import proofs.«01_k».proof.Proof.Gen.Features
public import proofs.«01_k».proof.Proof.Gen.FeaturesIdeal
public import proofs.«01_k».proof.Proof.Gen.FeaturesReferenceIdeal
public import proofs.«01_k».proof.Proof.Gen.Features.Frame
public import proofs.«01_k».proof.Proof.Gen.FeaturesIdeal.Frame
public import proofs.«01_k».proof.Proof.Gen.FeaturesIdeal.Value
public import proofs.«01_k».proof.Proof.Gen.FeaturesReferenceIdeal.Run
public import proofs.«01_k».proof.Proof.Gen.InputTransform
public import proofs.«01_k».proof.Proof.Gen.InputTransformIdeal
public import proofs.«01_k».proof.Proof.Gen.InputTransformReferenceIdeal
public import proofs.«01_k».proof.Proof.Gen.InputTransform.Frame
public import proofs.«01_k».proof.Proof.Gen.InputTransformIdeal.Frame
public import proofs.«01_k».proof.Proof.Gen.InputTransformIdeal.Value
public import proofs.«01_k».proof.Proof.Gen.InputTransformReferenceIdeal.Run
public import proofs.«01_k».proof.Proof.Gen.FeatureTransform
public import proofs.«01_k».proof.Proof.Gen.FeatureTransformIdeal
public import proofs.«01_k».proof.Proof.Gen.FeatureTransformReferenceIdeal
public import proofs.«01_k».proof.Proof.Gen.FeatureTransform.Frame
public import proofs.«01_k».proof.Proof.Gen.FeatureTransformIdeal.Frame
public import proofs.«01_k».proof.Proof.Gen.FeatureTransformIdeal.Value
public import proofs.«01_k».proof.Proof.Gen.FeatureTransformReferenceIdeal.Run
public import proofs.«01_k».proof.Proof.Gen.Sampling
public import proofs.«01_k».proof.Proof.Gen.SamplingIdeal
public import proofs.«01_k».proof.Proof.Gen.SamplingReferenceIdeal
public import proofs.«01_k».proof.Proof.Gen.Sampling.Frame
public import proofs.«01_k».proof.Proof.Gen.SamplingIdeal.Frame
public import proofs.«01_k».proof.Proof.Gen.Sampling.Skeleton
public import proofs.«01_k».proof.Proof.Gen.SamplingIdeal.Skeleton
public import proofs.«01_k».proof.Proof.Gen.SamplingReferenceIdeal.Run
public import proofs.«01_k».proof.Proof.Gen.OutputFeatures
public import proofs.«01_k».proof.Proof.Gen.OutputFeaturesIdeal
public import proofs.«01_k».proof.Proof.Gen.OutputFeaturesReferenceIdeal
public import proofs.«01_k».proof.Proof.Gen.OutputFeatures.Frame
public import proofs.«01_k».proof.Proof.Gen.OutputFeaturesIdeal.Frame
public import proofs.«01_k».proof.Proof.Gen.OutputFeaturesIdeal.Value
public import proofs.«01_k».proof.Proof.Gen.OutputFeaturesReferenceIdeal.Run
public import proofs.«01_k».proof.Proof.KFrame
public import proofs.«01_k».proof.Proof.IFrame
public import proofs.«01_k».proof.Proof.RefValue
public import proofs.«01_k».proof.Proof.TMax
public import proofs.«01_k».proof.Proof.InT
public import proofs.«01_k».proof.Proof.Feat
public import proofs.«01_k».proof.Proof.FeT
public import proofs.«01_k».proof.Proof.OutF
public import proofs.«01_k».proof.Proof.KSam
public import proofs.«01_k».proof.Proof.FarR
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, its arguments end unchanged, and its machine has no semaphore. -/
theorem refFrame : Cert.quiescent_ReferenceIdeal (hReferenceIdeal := Cert.ReferenceIdeal.Gen.facts)
    (hPre_balls_nonempty := Cert.Pre_balls_nonempty.Gen.facts) := fun m g _ =>
  (θ_run (Cert.ReferenceIdeal.defs (F := Ideal)) (onTc (τ := Cert.ReferenceIdeal.τ) (Cert.ReferenceIdeal.main (F := Ideal))) _).mono
    (fun _ h => ⟨fun c => (h c).2.2, sem_eq_zero_of_no_sems rfl _⟩) (Cert.ReferenceIdeal.Value.run m g)

/-- From memories that agree on the arguments, kernel and reference end with the same two arrays. -/
theorem value : Cert.algebraic_KernelIdeal_ReferenceIdeal (hKernelIdeal := Cert.KernelIdeal.Gen.facts)
    (hReferenceIdeal := Cert.ReferenceIdeal.Gen.facts) (hPre_balls_nonempty := Cert.Pre_balls_nonempty.Gen.facts) := by
  intro m g m' g' hpre hargs
  have hne : Cert.KernelIdeal.Ball.PreOK m := fun d => Cert.KernelIdeal.Ball.nonempty_of_pre _ _ _ (hpre d)
  refine ⟨fun c => Cert.KernelIdeal.Ball.Om m c, fun c => Cert.KernelIdeal.Ball.xyzOf (Cert.KernelIdeal.Ball.Om m c), ?_, ?_⟩
  · exact (θ_run (Cert.KernelIdeal.defs (F := Ideal)) (Cert.KernelIdeal.threads (F := Ideal)) _).mono (fun _ h c => h.1 c)
      (Cert.KernelIdeal.Ball.run_main (F := Ideal) m g hne)
  · refine (θ_run (Cert.ReferenceIdeal.defs (F := Ideal)) (onTc (τ := Cert.ReferenceIdeal.τ) (Cert.ReferenceIdeal.main (F := Ideal))) _).mono
      (fun r h c => ⟨(h c).1.trans ?_, (h c).2.1.trans ?_, (h c).2.2⟩) (Cert.ReferenceIdeal.Value.run m' g')
    · rw [Cert.ReferenceIdeal.Ball.res31, (hargs c).1, (hargs c).2.1, (hargs c).2.2]
      exact Cert.ReferenceIdeal.Ball.out_eq _ _ _ (hne c)
    · rw [Cert.ReferenceIdeal.Ball.res32, (hargs c).2.1, (hargs c).2.2]
      exact Cert.ReferenceIdeal.Ball.xyz_eq (m ((c.tc : Thread Cert.KernelIdeal.nD Cert.KernelIdeal.τ).loc Cert.KernelIdeal.main_arg0)) _ _ (hne c)

theorem claim : Cert.Claim := ⟨Cert.Kernel.Gen.facts, Cert.KernelIdeal.Gen.facts, Cert.ReferenceIdeal.Gen.facts,
  Cert.TransformMax.Gen.facts, Cert.TransformMaxIdeal.Gen.facts, Cert.TransformMaxReferenceIdeal.Gen.facts,
  Cert.InputTransform.Gen.facts, Cert.InputTransformIdeal.Gen.facts, Cert.InputTransformReferenceIdeal.Gen.facts,
  Cert.Features.Gen.facts, Cert.FeaturesIdeal.Gen.facts, Cert.FeaturesReferenceIdeal.Gen.facts,
  Cert.FeatureTransform.Gen.facts, Cert.FeatureTransformIdeal.Gen.facts, Cert.FeatureTransformReferenceIdeal.Gen.facts,
  Cert.OutputFeatures.Gen.facts, Cert.OutputFeaturesIdeal.Gen.facts, Cert.OutputFeaturesReferenceIdeal.Gen.facts,
  Cert.Sampling.Gen.facts, Cert.SamplingIdeal.Gen.facts, Cert.SamplingReferenceIdeal.Gen.facts,
  Cert.Pre_balls_nonempty.Gen.facts,
  Cert.Kernel.Ball.frame, Cert.KernelIdeal.Ball.frame, refFrame,
  fun m ρ _ => Cert.TransformMax.Gen.frame m ρ, fun m ρ _ => Cert.TransformMaxIdeal.Gen.frame m ρ, Cert.TMax.refFrame,
  fun m ρ _ => Cert.InputTransform.Gen.frame m ρ, fun m ρ _ => Cert.InputTransformIdeal.Gen.frame m ρ, Cert.InT.refFrame,
  fun m ρ _ => Cert.Features.Gen.frame m ρ, fun m ρ _ => Cert.FeaturesIdeal.Gen.frame m ρ, Cert.Feat.refFrame,
  fun m ρ _ => Cert.FeatureTransform.Gen.frame m ρ, fun m ρ _ => Cert.FeatureTransformIdeal.Gen.frame m ρ, Cert.FeT.refFrame,
  fun m ρ _ => Cert.OutputFeatures.Gen.frame m ρ, fun m ρ _ => Cert.OutputFeaturesIdeal.Gen.frame m ρ, Cert.OutF.refFrame,
  fun m ρ _ => Cert.Sampling.Far.frame m ρ, fun m ρ _ => Cert.SamplingIdeal.Far.frame m ρ, Cert.Fps.refFrame,
  trivial, value, trivial, Cert.TMax.value, trivial, Cert.InT.value, trivial, Cert.Feat.value, trivial, Cert.FeT.value, trivial, Cert.OutF.value,
  trivial, Cert.Fps.value⟩

end Cert.Proof

end
